-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def preserves_Attn_AttnIdeal : Prop :=
  IdealRules.named_const.Statement Cert.AttnIdeal.κ "score_scale" .f32 0x3E38AA3B#32 (((1 / 8) * (Real.log 2)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v18)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v18) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v89) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)) →
    ∃ (v0 : (c : Dev Cert.FfnInIdeal.nD) → Buf (Elt Ideal) ((c.tc : Thread Cert.FfnInIdeal.nD Cert.FfnInIdeal.τ).loc Cert.FfnInIdeal.main_v1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v1) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v32) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v11) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hPle : Cert.Ple.Facts) (hPleIdeal : Cert.PleIdeal.Facts) (hPleRefIdeal : Cert.PleRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Ple (hPle := hPle)
    ∧ quiescent_PleIdeal (hPleIdeal := hPleIdeal)
    ∧ quiescent_PleRefIdeal (hPleRefIdeal := hPleRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Ple_PleIdeal
    ∧ algebraic_PleIdeal_PleRefIdeal (hPleIdeal := hPleIdeal) (hPleRefIdeal := hPleRefIdeal)
-- ==== Pre_finite.lean ====
abbrev S4x4096x20480 : Shape := ⟨3, ![4, 4096, 20480]⟩
abbrev S64 : Shape := ⟨1, ![64]⟩
abbrev S128 : Shape := ⟨1, ![128]⟩
abbrev S4x4096x6144 : Shape := ⟨3, ![4, 4096, 6144]⟩
abbrev S_ : Shape := ⟨0, ![]⟩

class Facts : Prop where
  slices_S4x4096x20480_S4x4096x6144_0_0_6144 : S4x4096x20480.Slices ![0, 0, 6144] S4x4096x6144
  bcast_S_S4x4096x6144 : S_.BroadcastsInDim S4x4096x6144 (![] : Fin 0 → Fin S4x4096x6144.rank)
  bcast_S_S64 : S_.BroadcastsInDim S64 (![] : Fin 0 → Fin S64.rank)

variable [Facts]

def fn_part2 {F : FTy → Type} [FloatOps F] (main_arg6 : FVec F S64 .f32) (main_v5 : IVec S4x4096x6144 1) (main_v10 : IVec S64 1) (main_v15 : IVec S64 1) (main_v20 : IVec S64 1) (main_v25 : IVec S64 1) (main_v30 : IVec S64 1) (main_v32 : IVec S64 1) (main_v33 : FVec F S64 .f32) : IVec S4x4096x6144 1 × IVec S64 1 × IVec S64 1 × IVec S64 1 × IVec S64 1 × IVec S64 1 × IVec S64 1 :=
  let main_v34 : IVec S64 1 := cmpf .olt main_arg6 main_v33
  let main_v35 : IVec S64 1 := andi main_v32 main_v34
  (main_v5, main_v10, main_v15, main_v20, main_v25, main_v30, main_v35)

def fn_part1 {F : FTy → Type} [FloatOps F] (main_arg3 : FVec F S64 .f32) (main_arg4 : FVec F S64 .f32) (main_arg5 : FVec F S64 .f32) (main_arg6 : FVec F S64 .f32) (main_v5 : IVec S4x4096x6144 1) (main_v10 : IVec S64 1) (main_v15 : IVec S64 1) (main_v16 : FVec F S64 .f32) : IVec S4x4096x6144 1 × IVec S64 1 × IVec S64 1 × IVec S64 1 × IVec S64 1 × IVec S64 1 × IVec S64 1 :=
  let main_v17 : IVec S64 1 := cmpf .ogt main_arg3 main_v16
  let main_cst_6 : FVec F S_ .f32 := constant S_ .f32 0x7F800000#32
  let main_v18 : FVec F S64 .f32 := broadcastInDim S64 ![] bcast_S_S64 main_cst_6
  let main_v19 : IVec S64 1 := cmpf .olt main_arg3 main_v18
  let main_v20 : IVec S64 1 := andi main_v17 main_v19
  let main_cst_7 : FVec F S_ .f32 := constant S_ .f32 0xFF800000#32
  let main_v21 : FVec F S64 .f32 := broadcastInDim S64 ![] bcast_S_S64 main_cst_7
  let main_v22 : IVec S64 1 := cmpf .ogt main_arg4 main_v21
  let main_cst_8 : FVec F S_ .f32 := constant S_ .f32 0x7F800000#32
  let main_v23 : FVec F S64 .f32 := broadcastInDim S64 ![] bcast_S_S64 main_cst_8
  let main_v24 : IVec S64 1 := cmpf .olt main_arg4 main_v23
  let main_v25 : IVec S64 1 := andi main_v22 main_v24
  let main_cst_9 : FVec F S_ .f32 := constant S_ .f32 0xFF800000#32
  let main_v26 : FVec F S64 .f32 := broadcastInDim S64 ![] bcast_S_S64 main_cst_9
  let main_v27 : IVec S64 1 := cmpf .ogt main_arg5 main_v26
  let main_cst_10 : FVec F S_ .f32 := constant S_ .f32 0x7F800000#32
  let main_v28 : FVec F S64 .f32 := broadcastInDim S64 ![] bcast_S_S64 main_cst_10
  let main_v29 : IVec S64 1 := cmpf .olt main_arg5 main_v28
  let main_v30 : IVec S64 1 := andi main_v27 main_v29
  let main_cst_11 : FVec F S_ .f32 := constant S_ .f32 0xFF800000#32
  let main_v31 : FVec F S64 .f32 := broadcastInDim S64 ![] bcast_S_S64 main_cst_11
  let main_v32 : IVec S64 1 := cmpf .ogt main_arg6 main_v31
  let main_cst_12 : FVec F S_ .f32 := constant S_ .f32 0x7F800000#32
  let main_v33 : FVec F S64 .f32 := broadcastInDim S64 ![] bcast_S_S64 main_cst_12
  fn_part2 (F := F) main_arg6 main_v5 main_v10 main_v15 main_v20 main_v25 main_v30 main_v32 main_v33

def fn {F : FTy → Type} [FloatOps F] (main_arg0 : FVec F S4x4096x20480 .f32) (main_arg1 : FVec F S64 .f32) (main_arg2 : FVec F S64 .f32) (main_arg3 : FVec F S64 .f32) (main_arg4 : FVec F S64 .f32) (main_arg5 : FVec F S64 .f32) (main_arg6 : FVec F S64 .f32) (main_arg7 : FVec F S128 .f32) : IVec S4x4096x6144 1 × IVec S64 1 × IVec S64 1 × IVec S64 1 × IVec S64 1 × IVec S64 1 × IVec S64 1 :=
  let main_v0 : FVec F S4x4096x6144 .f32 := (extractStridedSlice S4x4096x6144 ![0, 0, 6144] · slices_S4x4096x20480_S4x4096x6144_0_0_6144) main_arg0
  let main_cst : FVec F S_ .f32 := constant S_ .f32 0xFF800000#32
  let main_v1 : FVec F S4x4096x6144 .f32 := broadcastInDim S4x4096x6144 ![] bcast_S_S4x4096x6144 main_cst
  let main_v2 : IVec S4x4096x6144 1 := cmpf .ogt main_v0 main_v1
  let main_cst_0 : FVec F S_ .f32 := constant S_ .f32 0x7F800000#32
  let main_v3 : FVec F S4x4096x6144 .f32 := broadcastInDim S4x4096x6144 ![] bcast_S_S4x4096x6144 main_cst_0
  let main_v4 : IVec S4x4096x6144 1 := cmpf .olt main_v0 main_v3
  let main_v5 : IVec S4x4096x6144 1 := andi main_v2 main_v4
  let main_cst_1 : FVec F S_ .f32 := constant S_ .f32 0xFF800000#32
  let main_v6 : FVec F S64 .f32 := broadcastInDim S64 ![] bcast_S_S64 main_cst_1
  let main_v7 : IVec S64 1 := cmpf .ogt main_arg1 main_v6
  let main_cst_2 : FVec F S_ .f32 := constant S_ .f32 0x7F800000#32
  let main_v8 : FVec F S64 .f32 := broadcastInDim S64 ![] bcast_S_S64 main_cst_2
  let main_v9 : IVec S64 1 := cmpf .olt main_arg1 main_v8
  let main_v10 : IVec S64 1 := andi main_v7 main_v9
  let main_cst_3 : FVec F S_ .f32 := constant S_ .f32 0xFF800000#32
  let main_v11 : FVec F S64 .f32 := broadcastInDim S64 ![] bcast_S_S64 main_cst_3
  let main_v12 : IVec S64 1 := cmpf .ogt main_arg2 main_v11
  let main_cst_4 : FVec F S_ .f32 := constant S_ .f32 0x7F800000#32
  let main_v13 : FVec F S64 .f32 := broadcastInDim S64 ![] bcast_S_S64 main_cst_4
  let main_v14 : IVec S64 1 := cmpf .olt main_arg2 main_v13
  let main_v15 : IVec S64 1 := andi main_v12 main_v14
  let main_cst_5 : FVec F S_ .f32 := constant S_ .f32 0xFF800000#32
  let main_v16 : FVec F S64 .f32 := broadcastInDim S64 ![] bcast_S_S64 main_cst_5
  fn_part1 (F := F) main_arg3 main_arg4 main_arg5 main_arg6 main_v5 main_v10 main_v15 main_v16
-- ==== Attn.lean ====
abbrev S4x4096x20480 : Shape := ⟨3, ![4, 4096, 20480]⟩
abbrev S64 : Shape := ⟨1, ![64]⟩
abbrev S128 : Shape := ⟨1, ![128]⟩
abbrev S_ : Shape := ⟨0, ![]⟩
abbrev S1 : Shape := ⟨1, ![1]⟩
abbrev S1x64 : Shape := ⟨2, ![1, 64]⟩
abbrev S2x64 : Shape := ⟨2, ![2, 64]⟩
abbrev S1x128 : Shape := ⟨2, ![1, 128]⟩
abbrev S4x4096x2048 : Shape := ⟨3, ![4, 4096, 2048]⟩
abbrev S1x512x128 : Shape := ⟨3, ![1, 512, 128]⟩
abbrev S1x4096x128 : Shape := ⟨3, ![1, 4096, 128]⟩
abbrev S4096x128 : Shape := ⟨2, ![4096, 128]⟩
abbrev S8x144x512 : Shape := ⟨3, ![8, 144, 512]⟩
abbrev S1024x128 : Shape := ⟨2, ![1024, 128]⟩
abbrev S1x1024 : Shape := ⟨2, ![1, 1024]⟩
abbrev S144x1024 : Shape := ⟨2, ![144, 1024]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S256x128 : Shape := ⟨2, ![256, 128]⟩
abbrev S1x144x512 : Shape := ⟨3, ![1, 144, 512]⟩
abbrev S144x512 : Shape := ⟨2, ![144, 512]⟩
abbrev S512x512 : Shape := ⟨2, ![512, 512]⟩
abbrev S1x512 : Shape := ⟨2, ![1, 512]⟩
abbrev S512 : Shape := ⟨1, ![512]⟩
abbrev S256x512 : Shape := ⟨2, ![256, 512]⟩
abbrev S144x256 : Shape := ⟨2, ![144, 256]⟩
abbrev S128x1024 : Shape := ⟨2, ![128, 1024]⟩
abbrev S128x256 : Shape := ⟨2, ![128, 256]⟩
abbrev S512x1 : Shape := ⟨2, ![512, 1]⟩

abbrev nBuf : Space → Nat
  | .hbm => 30
  | .vmem => 16
  | .smem => 1
  | _ => 0

abbrev bufTy : (tb : Table) → Fin (tcTables nBuf tb) → BufTy
  | .hbm, ⟨0, _⟩ => ⟨S4x4096x20480, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1x64, .f32⟩
  | .hbm, ⟨21, _⟩ => ⟨S2x64, .f32⟩
  | .hbm, ⟨22, _⟩ => ⟨S128, .f32⟩
  | .hbm, ⟨23, _⟩ => ⟨S1x128, .f32⟩
  | .hbm, ⟨24, _⟩ => ⟨S1x64, .f32⟩
  | .hbm, ⟨25, _⟩ => ⟨S2x64, .f32⟩
  | .hbm, ⟨26, _⟩ => ⟨S128, .f32⟩
  | .hbm, ⟨27, _⟩ => ⟨S1x128, .f32⟩
  | .hbm, ⟨28, _⟩ => ⟨S1x128, .f32⟩
  | .hbm, ⟨29, _⟩ => ⟨S4x4096x2048, .bf16⟩
  | .local _ .vmem, ⟨0, _⟩ => ⟨S1x512x128, .f32⟩
  | .local _ .vmem, ⟨1, _⟩ => ⟨S1x512x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x512x128, .bf16⟩
  | .local _ .vmem, ⟨10, _⟩ => ⟨S1x512x128, .bf16⟩
  | .local _ .vmem, ⟨11, _⟩ => ⟨S4096x128, .bf16⟩
  | .local _ .vmem, ⟨12, _⟩ => ⟨S8x144x512, .bf16⟩
  | .local _ .vmem, ⟨13, _⟩ => ⟨S1024x128, .bf16⟩
  | .local _ .vmem, ⟨14, _⟩ => ⟨S1x1024, .f32⟩
  | .local _ .vmem, ⟨15, _⟩ => ⟨S144x1024, .f32⟩
  | .local _ .smem, ⟨0, _⟩ => ⟨S1, .f32⟩
  | _, _ => ⟨S4x4096x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 16, 8], ![false, false, false]⟩

@[reducible] def k0_t1_loop (i : grid0.Coords) : Scf.Loop 32 :=
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_44 : BitVec 32 := 1#32
  ⟨c0_i32_42, v133, c1_i32_44⟩
def k0_mult1 (i : grid0.Coords) (k0_t1 : Fin (k0_t1_loop i).trips) : BitVec 32 :=
  let c8_i32_126 : BitVec 32 := 8#32
  let c0_i32_42 : BitVec 32 := 0#32
  let c1_i32_44 : BitVec 32 := 1#32
  let arg16 : BitVec 32 := Scf.iv c0_i32_42 c1_i32_44 k0_t1
  let v294 : BitVec 32 := Scalar.muli c8_i32_126 arg16
  let c0_i32_127 : BitVec 32 := 0#32
  let v295 : BitVec 32 := Scalar.addi v294 c0_i32_127
  let c512_i32 : BitVec 32 := 512#32
  let v310 : BitVec 32 := Scalar.muli v295 c512_i32
  v310
def k0_off1 (i : grid0.Coords) (k0_t1 : Fin (k0_t1_loop i).trips) (c0_i32_127 : BitVec 32) : Fin 2 → Nat :=
  let c8_i32_126 : BitVec 32 := 8#32
  let c0_i32_42 : BitVec 32 := 0#32
  let c1_i32_44 : BitVec 32 := 1#32
  let arg16 : BitVec 32 := Scf.iv c0_i32_42 c1_i32_44 k0_t1
  let v294 : BitVec 32 := Scalar.muli c8_i32_126 arg16
  let v295 : BitVec 32 := Scalar.addi v294 c0_i32_127
  let c512_i32 : BitVec 32 := 512#32
  let v310 : BitVec 32 := Scalar.muli v295 c512_i32
  let v311 : BitVec 32 := v310
  let v312 : Index := Scalar.indexCast v311
  let c0_142 : Index := 0#32
  ![v312.toNat, 0]
def k0_mult2 (i : grid0.Coords) (k0_t1 : Fin (k0_t1_loop i).trips) : BitVec 32 :=
  let c8_i32_128 : BitVec 32 := 8#32
  let c0_i32_42 : BitVec 32 := 0#32
  let c1_i32_44 : BitVec 32 := 1#32
  let arg16 : BitVec 32 := Scf.iv c0_i32_42 c1_i32_44 k0_t1
  let v296 : BitVec 32 := Scalar.muli c8_i32_128 arg16
  let c1_i32_129 : BitVec 32 := 1#32
  let v297 : BitVec 32 := Scalar.addi v296 c1_i32_129
  let c512_i32_143 : BitVec 32 := 512#32
  let v314 : BitVec 32 := Scalar.muli v297 c512_i32_143
  v314
def k0_mult3 (i : grid0.Coords) (k0_t1 : Fin (k0_t1_loop i).trips) : BitVec 32 :=
  let c8_i32_130 : BitVec 32 := 8#32
  let c0_i32_42 : BitVec 32 := 0#32
  let c1_i32_44 : BitVec 32 := 1#32
  let arg16 : BitVec 32 := Scf.iv c0_i32_42 c1_i32_44 k0_t1
  let v298 : BitVec 32 := Scalar.muli c8_i32_130 arg16
  let c2_i32_131 : BitVec 32 := 2#32
  let v299 : BitVec 32 := Scalar.addi v298 c2_i32_131
  let c512_i32_145 : BitVec 32 := 512#32
  let v318 : BitVec 32 := Scalar.muli v299 c512_i32_145
  v318
def k0_mult4 (i : grid0.Coords) (k0_t1 : Fin (k0_t1_loop i).trips) : BitVec 32 :=
  let c8_i32_132 : BitVec 32 := 8#32
  let c0_i32_42 : BitVec 32 := 0#32
  let c1_i32_44 : BitVec 32 := 1#32
  let arg16 : BitVec 32 := Scf.iv c0_i32_42 c1_i32_44 k0_t1
  let v300 : BitVec 32 := Scalar.muli c8_i32_132 arg16
  let c3_i32_133 : BitVec 32 := 3#32
  let v301 : BitVec 32 := Scalar.addi v300 c3_i32_133
  let c512_i32_147 : BitVec 32 := 512#32
  let v322 : BitVec 32 := Scalar.muli v301 c512_i32_147
  v322
def k0_mult5 (i : grid0.Coords) (k0_t1 : Fin (k0_t1_loop i).trips) : BitVec 32 :=
  let c8_i32_134 : BitVec 32 := 8#32
  let c0_i32_42 : BitVec 32 := 0#32
  let c1_i32_44 : BitVec 32 := 1#32
  let arg16 : BitVec 32 := Scf.iv c0_i32_42 c1_i32_44 k0_t1
  let v302 : BitVec 32 := Scalar.muli c8_i32_134 arg16
  let c4_i32_135 : BitVec 32 := 4#32
  let v303 : BitVec 32 := Scalar.addi v302 c4_i32_135
  let c512_i32_149 : BitVec 32 := 512#32
  let v326 : BitVec 32 := Scalar.muli v303 c512_i32_149
  v326
def k0_mult6 (i : grid0.Coords) (k0_t1 : Fin (k0_t1_loop i).trips) : BitVec 32 :=
  let c8_i32_136 : BitVec 32 := 8#32
  let c0_i32_42 : BitVec 32 := 0#32
  let c1_i32_44 : BitVec 32 := 1#32
  let arg16 : BitVec 32 := Scf.iv c0_i32_42 c1_i32_44 k0_t1
  let v304 : BitVec 32 := Scalar.muli c8_i32_136 arg16
  let c5_i32_137 : BitVec 32 := 5#32
  let v305 : BitVec 32 := Scalar.addi v304 c5_i32_137
  let c512_i32_151 : BitVec 32 := 512#32
  let v330 : BitVec 32 := Scalar.muli v305 c512_i32_151
  v330
def k0_mult7 (i : grid0.Coords) (k0_t1 : Fin (k0_t1_loop i).trips) : BitVec 32 :=
  let c8_i32_138 : BitVec 32 := 8#32
  let c0_i32_42 : BitVec 32 := 0#32
  let c1_i32_44 : BitVec 32 := 1#32
  let arg16 : BitVec 32 := Scf.iv c0_i32_42 c1_i32_44 k0_t1
  let v306 : BitVec 32 := Scalar.muli c8_i32_138 arg16
  let c6_i32_139 : BitVec 32 := 6#32
  let v307 : BitVec 32 := Scalar.addi v306 c6_i32_139
  let c512_i32_153 : BitVec 32 := 512#32
  let v334 : BitVec 32 := Scalar.muli v307 c512_i32_153
  v334
def k0_mult8 (i : grid0.Coords) (k0_t1 : Fin (k0_t1_loop i).trips) : BitVec 32 :=
  let c8_i32_140 : BitVec 32 := 8#32
  let c0_i32_42 : BitVec 32 := 0#32
  let c1_i32_44 : BitVec 32 := 1#32
  let arg16 : BitVec 32 := Scf.iv c0_i32_42 c1_i32_44 k0_t1
  let v308 : BitVec 32 := Scalar.muli c8_i32_140 arg16
  let c7_i32_141 : BitVec 32 := 7#32
  let v309 : BitVec 32 := Scalar.addi v308 c7_i32_141
  let c512_i32_155 : BitVec 32 := 512#32
  let v338 : BitVec 32 := Scalar.muli v309 c512_i32_155
  v338
def k0_off2 (i : grid0.Coords) (k0_t1 : Fin (k0_t1_loop i).trips) (c0_i32_127 : BitVec 32) : Fin 3 → Nat :=
  let c8_i32_126 : BitVec 32 := 8#32
  let c0_i32_42 : BitVec 32 := 0#32
  let c1_i32_44 : BitVec 32 := 1#32
  let arg16 : BitVec 32 := Scf.iv c0_i32_42 c1_i32_44 k0_t1
  let v294 : BitVec 32 := Scalar.muli c8_i32_126 arg16
  let v295 : BitVec 32 := Scalar.addi v294 c0_i32_127
  let v342 : Index := Scalar.indexCast v295
  let c0_157 : Index := 0#32
  let c0_158 : Index := 0#32
  ![v342.toNat, 0, 0]
@[reducible] def k0_t2_loop (i : grid0.Coords) : Scf.Loop 32 :=
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let v130 : BitVec 32 := Scalar.addi c0_i32_42 v129
  let c1_i32_45 : BitVec 32 := 1#32
  ⟨v133, v130, c1_i32_45⟩
def k0_mult9 (i : grid0.Coords) (k0_t2 : Fin (k0_t2_loop i).trips) : BitVec 32 :=
  let c8_i32_126 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v294 : BitVec 32 := Scalar.muli c8_i32_126 arg16
  let c0_i32_127 : BitVec 32 := 0#32
  let v295 : BitVec 32 := Scalar.addi v294 c0_i32_127
  let c512_i32 : BitVec 32 := 512#32
  let v310 : BitVec 32 := Scalar.muli v295 c512_i32
  v310
def k0_off3 (i : grid0.Coords) (k0_t2 : Fin (k0_t2_loop i).trips) (c0_i32_127 : BitVec 32) : Fin 2 → Nat :=
  let c8_i32_126 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v294 : BitVec 32 := Scalar.muli c8_i32_126 arg16
  let v295 : BitVec 32 := Scalar.addi v294 c0_i32_127
  let c512_i32 : BitVec 32 := 512#32
  let v310 : BitVec 32 := Scalar.muli v295 c512_i32
  let v311 : BitVec 32 := v310
  let v312 : Index := Scalar.indexCast v311
  let c0_142 : Index := 0#32
  ![v312.toNat, 0]
def k0_mult10 (i : grid0.Coords) (k0_t2 : Fin (k0_t2_loop i).trips) : BitVec 32 :=
  let c8_i32_128 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v296 : BitVec 32 := Scalar.muli c8_i32_128 arg16
  let c1_i32_129 : BitVec 32 := 1#32
  let v297 : BitVec 32 := Scalar.addi v296 c1_i32_129
  let c512_i32_143 : BitVec 32 := 512#32
  let v314 : BitVec 32 := Scalar.muli v297 c512_i32_143
  v314
def k0_mult11 (i : grid0.Coords) (k0_t2 : Fin (k0_t2_loop i).trips) : BitVec 32 :=
  let c8_i32_130 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v298 : BitVec 32 := Scalar.muli c8_i32_130 arg16
  let c2_i32_131 : BitVec 32 := 2#32
  let v299 : BitVec 32 := Scalar.addi v298 c2_i32_131
  let c512_i32_145 : BitVec 32 := 512#32
  let v318 : BitVec 32 := Scalar.muli v299 c512_i32_145
  v318
def k0_mult12 (i : grid0.Coords) (k0_t2 : Fin (k0_t2_loop i).trips) : BitVec 32 :=
  let c8_i32_132 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v300 : BitVec 32 := Scalar.muli c8_i32_132 arg16
  let c3_i32_133 : BitVec 32 := 3#32
  let v301 : BitVec 32 := Scalar.addi v300 c3_i32_133
  let c512_i32_147 : BitVec 32 := 512#32
  let v322 : BitVec 32 := Scalar.muli v301 c512_i32_147
  v322
def k0_mult13 (i : grid0.Coords) (k0_t2 : Fin (k0_t2_loop i).trips) : BitVec 32 :=
  let c8_i32_134 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v302 : BitVec 32 := Scalar.muli c8_i32_134 arg16
  let c4_i32_135 : BitVec 32 := 4#32
  let v303 : BitVec 32 := Scalar.addi v302 c4_i32_135
  let c512_i32_149 : BitVec 32 := 512#32
  let v326 : BitVec 32 := Scalar.muli v303 c512_i32_149
  v326
def k0_mult14 (i : grid0.Coords) (k0_t2 : Fin (k0_t2_loop i).trips) : BitVec 32 :=
  let c8_i32_136 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v304 : BitVec 32 := Scalar.muli c8_i32_136 arg16
  let c5_i32_137 : BitVec 32 := 5#32
  let v305 : BitVec 32 := Scalar.addi v304 c5_i32_137
  let c512_i32_151 : BitVec 32 := 512#32
  let v330 : BitVec 32 := Scalar.muli v305 c512_i32_151
  v330
def k0_mult15 (i : grid0.Coords) (k0_t2 : Fin (k0_t2_loop i).trips) : BitVec 32 :=
  let c8_i32_138 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v306 : BitVec 32 := Scalar.muli c8_i32_138 arg16
  let c6_i32_139 : BitVec 32 := 6#32
  let v307 : BitVec 32 := Scalar.addi v306 c6_i32_139
  let c512_i32_153 : BitVec 32 := 512#32
  let v334 : BitVec 32 := Scalar.muli v307 c512_i32_153
  v334
def k0_mult16 (i : grid0.Coords) (k0_t2 : Fin (k0_t2_loop i).trips) : BitVec 32 :=
  let c8_i32_140 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v308 : BitVec 32 := Scalar.muli c8_i32_140 arg16
  let c7_i32_141 : BitVec 32 := 7#32
  let v309 : BitVec 32 := Scalar.addi v308 c7_i32_141
  let c512_i32_155 : BitVec 32 := 512#32
  let v338 : BitVec 32 := Scalar.muli v309 c512_i32_155
  v338
def k0_off4 (i : grid0.Coords) (k0_t2 : Fin (k0_t2_loop i).trips) (c0_i32_127 : BitVec 32) : Fin 3 → Nat :=
  let c8_i32_126 : BitVec 32 := 8#32
  let c0_i32_42 : BitVec 32 := 0#32
  let arg2 : BitVec 32 := BitVec.ofNat 32 (i 2).val
  let c0_i32_35 : BitVec 32 := 0#32
  let v113 : BitVec 1 := Scalar.cmpi .sgt arg2 c0_i32_35
  let v114 : BitVec 32 := Scalar.extui v113
  let c0_i32_36 : BitVec 32 := 0#32
  let v115 : BitVec 1 := Scalar.cmpi .slt arg2 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi arg2 c8_i32
  let c0_i32_39 : BitVec 32 := 0#32
  let v125 : BitVec 1 := Scalar.cmpi .ne v124 c0_i32_39
  let v126 : BitVec 1 := Scalar.andi v123 v125
  let v112 : BitVec 32 := Scalar.divsi arg2 c8_i32
  let c1_i32_40 : BitVec 32 := 1#32
  let v127 : BitVec 32 := Scalar.subi v112 c1_i32_40
  let v128 : BitVec 32 := Scalar.select v126 v127 v112
  let v129 : BitVec 32 := Scalar.subi v128 c0_i32_42
  let c1_i32_43 : BitVec 32 := 1#32
  let v131 : BitVec 32 := Scalar.divsi v129 c1_i32_43
  let v132 : BitVec 32 := Scalar.muli v131 c1_i32_43
  let v133 : BitVec 32 := Scalar.addi c0_i32_42 v132
  let c1_i32_45 : BitVec 32 := 1#32
  let arg16 : BitVec 32 := Scf.iv v133 c1_i32_45 k0_t2
  let v294 : BitVec 32 := Scalar.muli c8_i32_126 arg16
  let v295 : BitVec 32 := Scalar.addi v294 c0_i32_127
  let v342 : Index := Scalar.indexCast v295
  let c0_157 : Index := 0#32
  let c0_158 : Index := 0#32
  ![v342.toNat, 0, 0]
def k0_cond2 (i : grid0.Coords) : BitVec 1 :=
  let arg2 : BitVec 32 := BitVec.ofNat 32 (i 2).val
  let c8_i32_54 : BitVec 32 := 8#32
  let c0_i32_55 : BitVec 32 := 0#32
  let v152 : BitVec 1 := Scalar.cmpi .eq c8_i32_54 c0_i32_55
  let c1_i32_56 : BitVec 32 := 1#32
  let v153 : BitVec 32 := Scalar.select v152 c1_i32_56 c8_i32_54
  let v154 : BitVec 32 := Scalar.remsi arg2 v153
  let c0_i32_58 : BitVec 32 := 0#32
  let v156 : BitVec 1 := Scalar.cmpi .slt v154 c0_i32_58
  let c0_i32_59 : BitVec 32 := 0#32
  let v157 : BitVec 1 := Scalar.cmpi .slt v153 c0_i32_59
  let v158 : BitVec 1 := Scalar.xori v156 v157
  let c0_i32_57 : BitVec 32 := 0#32
  let v155 : BitVec 1 := Scalar.cmpi .ne v154 c0_i32_57
  let v159 : BitVec 1 := Scalar.andi v158 v155
  let v160 : BitVec 32 := Scalar.addi v154 v153
  let v161 : BitVec 32 := Scalar.select v159 v160 v154
  let c0_i32_60 : BitVec 32 := 0#32
  let v162 : BitVec 1 := Scalar.cmpi .eq v161 c0_i32_60
  let v163 : BitVec 32 := Scalar.extui v162
  let c0_i32_61 : BitVec 32 := 0#32
  let v164 : BitVec 1 := Scalar.cmpi .ne v163 c0_i32_61
  v164

def k0_mult17 (i : grid0.Coords) : BitVec 32 :=
  let arg2 : BitVec 32 := BitVec.ofNat 32 (i 2).val
  let c512_i32 : BitVec 32 := 512#32
  let v294 : BitVec 32 := Scalar.muli arg2 c512_i32
  v294
def k0_off5 (i : grid0.Coords) : Fin 2 → Nat :=
  let arg2 : BitVec 32 := BitVec.ofNat 32 (i 2).val
  let c512_i32 : BitVec 32 := 512#32
  let v294 : BitVec 32 := Scalar.muli arg2 c512_i32
  let v295 : BitVec 32 := v294
  let v296 : Index := Scalar.indexCast v295
  let c0_126 : Index := 0#32
  ![v296.toNat, 0]
def k0_off6 (i : grid0.Coords) : Fin 3 → Nat :=
  let arg2 : BitVec 32 := BitVec.ofNat 32 (i 2).val
  let v298 : Index := Scalar.indexCast arg2
  let c0_127 : Index := 0#32
  let c0_128 : Index := 0#32
  ![v298.toNat, 0, 0]
def k0_cond3 (i : grid0.Coords) : BitVec 1 :=
  let arg2 : BitVec 32 := BitVec.ofNat 32 (i 2).val
  let c8_i32_62 : BitVec 32 := 8#32
  let c0_i32_63 : BitVec 32 := 0#32
  let v165 : BitVec 1 := Scalar.cmpi .eq c8_i32_62 c0_i32_63
  let c1_i32_64 : BitVec 32 := 1#32
  let v166 : BitVec 32 := Scalar.select v165 c1_i32_64 c8_i32_62
  let v167 : BitVec 32 := Scalar.remsi arg2 v166
  let c0_i32_66 : BitVec 32 := 0#32
  let v169 : BitVec 1 := Scalar.cmpi .slt v167 c0_i32_66
  let c0_i32_67 : BitVec 32 := 0#32
  let v170 : BitVec 1 := Scalar.cmpi .slt v166 c0_i32_67
  let v171 : BitVec 1 := Scalar.xori v169 v170
  let c0_i32_65 : BitVec 32 := 0#32
  let v168 : BitVec 1 := Scalar.cmpi .ne v167 c0_i32_65
  let v172 : BitVec 1 := Scalar.andi v171 v168
  let v173 : BitVec 32 := Scalar.addi v167 v166
  let v174 : BitVec 32 := Scalar.select v172 v173 v167
  let c1_i32_68 : BitVec 32 := 1#32
  let v175 : BitVec 1 := Scalar.cmpi .eq v174 c1_i32_68
  let v176 : BitVec 32 := Scalar.extui v175
  let c0_i32_69 : BitVec 32 := 0#32
  let v177 : BitVec 1 := Scalar.cmpi .ne v176 c0_i32_69
  v177

def k0_mult18 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let c512_i32 : BitVec 32 := 512#32
  let v295 : BitVec 32 := Scalar.muli v294 c512_i32
  v295
def k0_off7 (i : grid0.Coords) : Fin 2 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let c512_i32 : BitVec 32 := 512#32
  let v295 : BitVec 32 := Scalar.muli v294 c512_i32
  let v296 : BitVec 32 := v295
  let v297 : Index := Scalar.indexCast v296
  let c0_127 : Index := 0#32
  ![v297.toNat, 0]
def k0_mult19 (i : grid0.Coords) : BitVec 32 :=
  let arg2 : BitVec 32 := BitVec.ofNat 32 (i 2).val
  let c512_i32_128 : BitVec 32 := 512#32
  let v299 : BitVec 32 := Scalar.muli arg2 c512_i32_128
  v299
def k0_off8 (i : grid0.Coords) : Fin 2 → Nat :=
  let arg2 : BitVec 32 := BitVec.ofNat 32 (i 2).val
  let c512_i32_128 : BitVec 32 := 512#32
  let v299 : BitVec 32 := Scalar.muli arg2 c512_i32_128
  let v300 : BitVec 32 := v299
  let v301 : Index := Scalar.indexCast v300
  let c0_129 : Index := 0#32
  ![v301.toNat, 0]
def k0_off9 (i : grid0.Coords) : Fin 3 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let v303 : Index := Scalar.indexCast v294
  let c0_130 : Index := 0#32
  let c0_131 : Index := 0#32
  ![v303.toNat, 0, 0]
def k0_off10 (i : grid0.Coords) : Fin 3 → Nat :=
  let arg2 : BitVec 32 := BitVec.ofNat 32 (i 2).val
  let v306 : Index := Scalar.indexCast arg2
  let c0_132 : Index := 0#32
  let c0_133 : Index := 0#32
  ![v306.toNat, 0, 0]
def k0_cond4 (i : grid0.Coords) : BitVec 1 :=
  let arg2 : BitVec 32 := BitVec.ofNat 32 (i 2).val
  let c8_i32_70 : BitVec 32 := 8#32
  let c0_i32_71 : BitVec 32 := 0#32
  let v178 : BitVec 1 := Scalar.cmpi .eq c8_i32_70 c0_i32_71
  let c1_i32_72 : BitVec 32 := 1#32
  let v179 : BitVec 32 := Scalar.select v178 c1_i32_72 c8_i32_70
  let v180 : BitVec 32 := Scalar.remsi arg2 v179
  let c0_i32_74 : BitVec 32 := 0#32
  let v182 : BitVec 1 := Scalar.cmpi .slt v180 c0_i32_74
  let c0_i32_75 : BitVec 32 := 0#32
  let v183 : BitVec 1 := Scalar.cmpi .slt v179 c0_i32_75
  let v184 : BitVec 1 := Scalar.xori v182 v183
  let c0_i32_73 : BitVec 32 := 0#32
  let v181 : BitVec 1 := Scalar.cmpi .ne v180 c0_i32_73
  let v185 : BitVec 1 := Scalar.andi v184 v181
  let v186 : BitVec 32 := Scalar.addi v180 v179
  let v187 : BitVec 32 := Scalar.select v185 v186 v180
  let c2_i32 : BitVec 32 := 2#32
  let v188 : BitVec 1 := Scalar.cmpi .eq v187 c2_i32
  let v189 : BitVec 32 := Scalar.extui v188
  let c0_i32_76 : BitVec 32 := 0#32
  let v190 : BitVec 1 := Scalar.cmpi .ne v189 c0_i32_76
  v190

def k0_mult20 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let c512_i32 : BitVec 32 := 512#32
  let v296 : BitVec 32 := Scalar.muli v294 c512_i32
  v296
def k0_off11 (i : grid0.Coords) (c0_i32_126 : BitVec 32) : Fin 2 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let c512_i32 : BitVec 32 := 512#32
  let v296 : BitVec 32 := Scalar.muli v294 c512_i32
  let v297 : BitVec 32 := v296
  let v298 : Index := Scalar.indexCast v297
  let c0_128 : Index := 0#32
  ![v298.toNat, 0]
def k0_mult21 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c1_i32_127 : BitVec 32 := 1#32
  let v295 : BitVec 32 := Scalar.addi v151 c1_i32_127
  let c512_i32_129 : BitVec 32 := 512#32
  let v300 : BitVec 32 := Scalar.muli v295 c512_i32_129
  v300
def k0_mult22 (i : grid0.Coords) : BitVec 32 :=
  let arg2 : BitVec 32 := BitVec.ofNat 32 (i 2).val
  let c512_i32_131 : BitVec 32 := 512#32
  let v304 : BitVec 32 := Scalar.muli arg2 c512_i32_131
  v304
def k0_off12 (i : grid0.Coords) : Fin 2 → Nat :=
  let arg2 : BitVec 32 := BitVec.ofNat 32 (i 2).val
  let c512_i32_131 : BitVec 32 := 512#32
  let v304 : BitVec 32 := Scalar.muli arg2 c512_i32_131
  let v305 : BitVec 32 := v304
  let v306 : Index := Scalar.indexCast v305
  let c0_132 : Index := 0#32
  ![v306.toNat, 0]
def k0_off13 (i : grid0.Coords) (c0_i32_126 : BitVec 32) : Fin 3 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let v308 : Index := Scalar.indexCast v294
  let c0_133 : Index := 0#32
  let c0_134 : Index := 0#32
  ![v308.toNat, 0, 0]
def k0_off14 (i : grid0.Coords) : Fin 3 → Nat :=
  let arg2 : BitVec 32 := BitVec.ofNat 32 (i 2).val
  let v314 : Index := Scalar.indexCast arg2
  let c0_137 : Index := 0#32
  let c0_138 : Index := 0#32
  ![v314.toNat, 0, 0]
def k0_cond5 (i : grid0.Coords) : BitVec 1 :=
  let arg2 : BitVec 32 := BitVec.ofNat 32 (i 2).val
  let c8_i32_77 : BitVec 32 := 8#32
  let c0_i32_78 : BitVec 32 := 0#32
  let v191 : BitVec 1 := Scalar.cmpi .eq c8_i32_77 c0_i32_78
  let c1_i32_79 : BitVec 32 := 1#32
  let v192 : BitVec 32 := Scalar.select v191 c1_i32_79 c8_i32_77
  let v193 : BitVec 32 := Scalar.remsi arg2 v192
  let c0_i32_81 : BitVec 32 := 0#32
  let v195 : BitVec 1 := Scalar.cmpi .slt v193 c0_i32_81
  let c0_i32_82 : BitVec 32 := 0#32
  let v196 : BitVec 1 := Scalar.cmpi .slt v192 c0_i32_82
  let v197 : BitVec 1 := Scalar.xori v195 v196
  let c0_i32_80 : BitVec 32 := 0#32
  let v194 : BitVec 1 := Scalar.cmpi .ne v193 c0_i32_80
  let v198 : BitVec 1 := Scalar.andi v197 v194
  let v199 : BitVec 32 := Scalar.addi v193 v192
  let v200 : BitVec 32 := Scalar.select v198 v199 v193
  let c3_i32 : BitVec 32 := 3#32
  let v201 : BitVec 1 := Scalar.cmpi .eq v200 c3_i32
  let v202 : BitVec 32 := Scalar.extui v201
  let c0_i32_83 : BitVec 32 := 0#32
  let v203 : BitVec 1 := Scalar.cmpi .ne v202 c0_i32_83
  v203

def k0_mult23 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let c512_i32 : BitVec 32 := 512#32
  let v297 : BitVec 32 := Scalar.muli v294 c512_i32
  v297
def k0_off15 (i : grid0.Coords) (c0_i32_126 : BitVec 32) : Fin 2 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let c512_i32 : BitVec 32 := 512#32
  let v297 : BitVec 32 := Scalar.muli v294 c512_i32
  let v298 : BitVec 32 := v297
  let v299 : Index := Scalar.indexCast v298
  let c0_129 : Index := 0#32
  ![v299.toNat, 0]
def k0_mult24 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c1_i32_127 : BitVec 32 := 1#32
  let v295 : BitVec 32 := Scalar.addi v151 c1_i32_127
  let c512_i32_130 : BitVec 32 := 512#32
  let v301 : BitVec 32 := Scalar.muli v295 c512_i32_130
  v301
def k0_mult25 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c2_i32_128 : BitVec 32 := 2#32
  let v296 : BitVec 32 := Scalar.addi v151 c2_i32_128
  let c512_i32_132 : BitVec 32 := 512#32
  let v305 : BitVec 32 := Scalar.muli v296 c512_i32_132
  v305
def k0_mult26 (i : grid0.Coords) : BitVec 32 :=
  let arg2 : BitVec 32 := BitVec.ofNat 32 (i 2).val
  let c512_i32_134 : BitVec 32 := 512#32
  let v309 : BitVec 32 := Scalar.muli arg2 c512_i32_134
  v309
def k0_off16 (i : grid0.Coords) : Fin 2 → Nat :=
  let arg2 : BitVec 32 := BitVec.ofNat 32 (i 2).val
  let c512_i32_134 : BitVec 32 := 512#32
  let v309 : BitVec 32 := Scalar.muli arg2 c512_i32_134
  let v310 : BitVec 32 := v309
  let v311 : Index := Scalar.indexCast v310
  let c0_135 : Index := 0#32
  ![v311.toNat, 0]
def k0_off17 (i : grid0.Coords) (c0_i32_126 : BitVec 32) : Fin 3 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let v313 : Index := Scalar.indexCast v294
  let c0_136 : Index := 0#32
  let c0_137 : Index := 0#32
  ![v313.toNat, 0, 0]
def k0_off18 (i : grid0.Coords) : Fin 3 → Nat :=
  let arg2 : BitVec 32 := BitVec.ofNat 32 (i 2).val
  let v322 : Index := Scalar.indexCast arg2
  let c0_142 : Index := 0#32
  let c0_143 : Index := 0#32
  ![v322.toNat, 0, 0]
def k0_cond6 (i : grid0.Coords) : BitVec 1 :=
  let arg2 : BitVec 32 := BitVec.ofNat 32 (i 2).val
  let c8_i32_84 : BitVec 32 := 8#32
  let c0_i32_85 : BitVec 32 := 0#32
  let v204 : BitVec 1 := Scalar.cmpi .eq c8_i32_84 c0_i32_85
  let c1_i32_86 : BitVec 32 := 1#32
  let v205 : BitVec 32 := Scalar.select v204 c1_i32_86 c8_i32_84
  let v206 : BitVec 32 := Scalar.remsi arg2 v205
  let c0_i32_88 : BitVec 32 := 0#32
  let v208 : BitVec 1 := Scalar.cmpi .slt v206 c0_i32_88
  let c0_i32_89 : BitVec 32 := 0#32
  let v209 : BitVec 1 := Scalar.cmpi .slt v205 c0_i32_89
  let v210 : BitVec 1 := Scalar.xori v208 v209
  let c0_i32_87 : BitVec 32 := 0#32
  let v207 : BitVec 1 := Scalar.cmpi .ne v206 c0_i32_87
  let v211 : BitVec 1 := Scalar.andi v210 v207
  let v212 : BitVec 32 := Scalar.addi v206 v205
  let v213 : BitVec 32 := Scalar.select v211 v212 v206
  let c4_i32 : BitVec 32 := 4#32
  let v214 : BitVec 1 := Scalar.cmpi .eq v213 c4_i32
  let v215 : BitVec 32 := Scalar.extui v214
  let c0_i32_90 : BitVec 32 := 0#32
  let v216 : BitVec 1 := Scalar.cmpi .ne v215 c0_i32_90
  v216

def k0_mult27 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let c512_i32 : BitVec 32 := 512#32
  let v298 : BitVec 32 := Scalar.muli v294 c512_i32
  v298
def k0_off19 (i : grid0.Coords) (c0_i32_126 : BitVec 32) : Fin 2 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let c512_i32 : BitVec 32 := 512#32
  let v298 : BitVec 32 := Scalar.muli v294 c512_i32
  let v299 : BitVec 32 := v298
  let v300 : Index := Scalar.indexCast v299
  let c0_130 : Index := 0#32
  ![v300.toNat, 0]
def k0_mult28 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c1_i32_127 : BitVec 32 := 1#32
  let v295 : BitVec 32 := Scalar.addi v151 c1_i32_127
  let c512_i32_131 : BitVec 32 := 512#32
  let v302 : BitVec 32 := Scalar.muli v295 c512_i32_131
  v302
def k0_mult29 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c2_i32_128 : BitVec 32 := 2#32
  let v296 : BitVec 32 := Scalar.addi v151 c2_i32_128
  let c512_i32_133 : BitVec 32 := 512#32
  let v306 : BitVec 32 := Scalar.muli v296 c512_i32_133
  v306
def k0_mult30 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c3_i32_129 : BitVec 32 := 3#32
  let v297 : BitVec 32 := Scalar.addi v151 c3_i32_129
  let c512_i32_135 : BitVec 32 := 512#32
  let v310 : BitVec 32 := Scalar.muli v297 c512_i32_135
  v310
def k0_mult31 (i : grid0.Coords) : BitVec 32 :=
  let arg2 : BitVec 32 := BitVec.ofNat 32 (i 2).val
  let c512_i32_137 : BitVec 32 := 512#32
  let v314 : BitVec 32 := Scalar.muli arg2 c512_i32_137
  v314
def k0_off20 (i : grid0.Coords) : Fin 2 → Nat :=
  let arg2 : BitVec 32 := BitVec.ofNat 32 (i 2).val
  let c512_i32_137 : BitVec 32 := 512#32
  let v314 : BitVec 32 := Scalar.muli arg2 c512_i32_137
  let v315 : BitVec 32 := v314
  let v316 : Index := Scalar.indexCast v315
  let c0_138 : Index := 0#32
  ![v316.toNat, 0]
def k0_off21 (i : grid0.Coords) (c0_i32_126 : BitVec 32) : Fin 3 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let v318 : Index := Scalar.indexCast v294
  let c0_139 : Index := 0#32
  let c0_140 : Index := 0#32
  ![v318.toNat, 0, 0]
def k0_off22 (i : grid0.Coords) : Fin 3 → Nat :=
  let arg2 : BitVec 32 := BitVec.ofNat 32 (i 2).val
  let v330 : Index := Scalar.indexCast arg2
  let c0_147 : Index := 0#32
  let c0_148 : Index := 0#32
  ![v330.toNat, 0, 0]
def k0_cond7 (i : grid0.Coords) : BitVec 1 :=
  let arg2 : BitVec 32 := BitVec.ofNat 32 (i 2).val
  let c8_i32_91 : BitVec 32 := 8#32
  let c0_i32_92 : BitVec 32 := 0#32
  let v217 : BitVec 1 := Scalar.cmpi .eq c8_i32_91 c0_i32_92
  let c1_i32_93 : BitVec 32 := 1#32
  let v218 : BitVec 32 := Scalar.select v217 c1_i32_93 c8_i32_91
  let v219 : BitVec 32 := Scalar.remsi arg2 v218
  let c0_i32_95 : BitVec 32 := 0#32
  let v221 : BitVec 1 := Scalar.cmpi .slt v219 c0_i32_95
  let c0_i32_96 : BitVec 32 := 0#32
  let v222 : BitVec 1 := Scalar.cmpi .slt v218 c0_i32_96
  let v223 : BitVec 1 := Scalar.xori v221 v222
  let c0_i32_94 : BitVec 32 := 0#32
  let v220 : BitVec 1 := Scalar.cmpi .ne v219 c0_i32_94
  let v224 : BitVec 1 := Scalar.andi v223 v220
  let v225 : BitVec 32 := Scalar.addi v219 v218
  let v226 : BitVec 32 := Scalar.select v224 v225 v219
  let c5_i32 : BitVec 32 := 5#32
  let v227 : BitVec 1 := Scalar.cmpi .eq v226 c5_i32
  let v228 : BitVec 32 := Scalar.extui v227
  let c0_i32_97 : BitVec 32 := 0#32
  let v229 : BitVec 1 := Scalar.cmpi .ne v228 c0_i32_97
  v229

def k0_mult32 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let c512_i32 : BitVec 32 := 512#32
  let v299 : BitVec 32 := Scalar.muli v294 c512_i32
  v299
def k0_off23 (i : grid0.Coords) (c0_i32_126 : BitVec 32) : Fin 2 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let c512_i32 : BitVec 32 := 512#32
  let v299 : BitVec 32 := Scalar.muli v294 c512_i32
  let v300 : BitVec 32 := v299
  let v301 : Index := Scalar.indexCast v300
  let c0_131 : Index := 0#32
  ![v301.toNat, 0]
def k0_mult33 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c1_i32_127 : BitVec 32 := 1#32
  let v295 : BitVec 32 := Scalar.addi v151 c1_i32_127
  let c512_i32_132 : BitVec 32 := 512#32
  let v303 : BitVec 32 := Scalar.muli v295 c512_i32_132
  v303
def k0_mult34 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c2_i32_128 : BitVec 32 := 2#32
  let v296 : BitVec 32 := Scalar.addi v151 c2_i32_128
  let c512_i32_134 : BitVec 32 := 512#32
  let v307 : BitVec 32 := Scalar.muli v296 c512_i32_134
  v307
def k0_mult35 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c3_i32_129 : BitVec 32 := 3#32
  let v297 : BitVec 32 := Scalar.addi v151 c3_i32_129
  let c512_i32_136 : BitVec 32 := 512#32
  let v311 : BitVec 32 := Scalar.muli v297 c512_i32_136
  v311
def k0_mult36 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c4_i32_130 : BitVec 32 := 4#32
  let v298 : BitVec 32 := Scalar.addi v151 c4_i32_130
  let c512_i32_138 : BitVec 32 := 512#32
  let v315 : BitVec 32 := Scalar.muli v298 c512_i32_138
  v315
def k0_mult37 (i : grid0.Coords) : BitVec 32 :=
  let arg2 : BitVec 32 := BitVec.ofNat 32 (i 2).val
  let c512_i32_140 : BitVec 32 := 512#32
  let v319 : BitVec 32 := Scalar.muli arg2 c512_i32_140
  v319
def k0_off24 (i : grid0.Coords) : Fin 2 → Nat :=
  let arg2 : BitVec 32 := BitVec.ofNat 32 (i 2).val
  let c512_i32_140 : BitVec 32 := 512#32
  let v319 : BitVec 32 := Scalar.muli arg2 c512_i32_140
  let v320 : BitVec 32 := v319
  let v321 : Index := Scalar.indexCast v320
  let c0_141 : Index := 0#32
  ![v321.toNat, 0]
def k0_off25 (i : grid0.Coords) (c0_i32_126 : BitVec 32) : Fin 3 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let v323 : Index := Scalar.indexCast v294
  let c0_142 : Index := 0#32
  let c0_143 : Index := 0#32
  ![v323.toNat, 0, 0]
def k0_off26 (i : grid0.Coords) : Fin 3 → Nat :=
  let arg2 : BitVec 32 := BitVec.ofNat 32 (i 2).val
  let v338 : Index := Scalar.indexCast arg2
  let c0_152 : Index := 0#32
  let c0_153 : Index := 0#32
  ![v338.toNat, 0, 0]
def k0_cond8 (i : grid0.Coords) : BitVec 1 :=
  let arg2 : BitVec 32 := BitVec.ofNat 32 (i 2).val
  let c8_i32_98 : BitVec 32 := 8#32
  let c0_i32_99 : BitVec 32 := 0#32
  let v230 : BitVec 1 := Scalar.cmpi .eq c8_i32_98 c0_i32_99
  let c1_i32_100 : BitVec 32 := 1#32
  let v231 : BitVec 32 := Scalar.select v230 c1_i32_100 c8_i32_98
  let v232 : BitVec 32 := Scalar.remsi arg2 v231
  let c0_i32_102 : BitVec 32 := 0#32
  let v234 : BitVec 1 := Scalar.cmpi .slt v232 c0_i32_102
  let c0_i32_103 : BitVec 32 := 0#32
  let v235 : BitVec 1 := Scalar.cmpi .slt v231 c0_i32_103
  let v236 : BitVec 1 := Scalar.xori v234 v235
  let c0_i32_101 : BitVec 32 := 0#32
  let v233 : BitVec 1 := Scalar.cmpi .ne v232 c0_i32_101
  let v237 : BitVec 1 := Scalar.andi v236 v233
  let v238 : BitVec 32 := Scalar.addi v232 v231
  let v239 : BitVec 32 := Scalar.select v237 v238 v232
  let c6_i32 : BitVec 32 := 6#32
  let v240 : BitVec 1 := Scalar.cmpi .eq v239 c6_i32
  let v241 : BitVec 32 := Scalar.extui v240
  let c0_i32_104 : BitVec 32 := 0#32
  let v242 : BitVec 1 := Scalar.cmpi .ne v241 c0_i32_104
  v242

def k0_mult38 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let c512_i32 : BitVec 32 := 512#32
  let v300 : BitVec 32 := Scalar.muli v294 c512_i32
  v300
def k0_off27 (i : grid0.Coords) (c0_i32_126 : BitVec 32) : Fin 2 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let c512_i32 : BitVec 32 := 512#32
  let v300 : BitVec 32 := Scalar.muli v294 c512_i32
  let v301 : BitVec 32 := v300
  let v302 : Index := Scalar.indexCast v301
  let c0_132 : Index := 0#32
  ![v302.toNat, 0]
def k0_mult39 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c1_i32_127 : BitVec 32 := 1#32
  let v295 : BitVec 32 := Scalar.addi v151 c1_i32_127
  let c512_i32_133 : BitVec 32 := 512#32
  let v304 : BitVec 32 := Scalar.muli v295 c512_i32_133
  v304
def k0_mult40 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c2_i32_128 : BitVec 32 := 2#32
  let v296 : BitVec 32 := Scalar.addi v151 c2_i32_128
  let c512_i32_135 : BitVec 32 := 512#32
  let v308 : BitVec 32 := Scalar.muli v296 c512_i32_135
  v308
def k0_mult41 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c3_i32_129 : BitVec 32 := 3#32
  let v297 : BitVec 32 := Scalar.addi v151 c3_i32_129
  let c512_i32_137 : BitVec 32 := 512#32
  let v312 : BitVec 32 := Scalar.muli v297 c512_i32_137
  v312
def k0_mult42 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c4_i32_130 : BitVec 32 := 4#32
  let v298 : BitVec 32 := Scalar.addi v151 c4_i32_130
  let c512_i32_139 : BitVec 32 := 512#32
  let v316 : BitVec 32 := Scalar.muli v298 c512_i32_139
  v316
def k0_mult43 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c5_i32_131 : BitVec 32 := 5#32
  let v299 : BitVec 32 := Scalar.addi v151 c5_i32_131
  let c512_i32_141 : BitVec 32 := 512#32
  let v320 : BitVec 32 := Scalar.muli v299 c512_i32_141
  v320
def k0_mult44 (i : grid0.Coords) : BitVec 32 :=
  let arg2 : BitVec 32 := BitVec.ofNat 32 (i 2).val
  let c512_i32_143 : BitVec 32 := 512#32
  let v324 : BitVec 32 := Scalar.muli arg2 c512_i32_143
  v324
def k0_off28 (i : grid0.Coords) : Fin 2 → Nat :=
  let arg2 : BitVec 32 := BitVec.ofNat 32 (i 2).val
  let c512_i32_143 : BitVec 32 := 512#32
  let v324 : BitVec 32 := Scalar.muli arg2 c512_i32_143
  let v325 : BitVec 32 := v324
  let v326 : Index := Scalar.indexCast v325
  let c0_144 : Index := 0#32
  ![v326.toNat, 0]
def k0_off29 (i : grid0.Coords) (c0_i32_126 : BitVec 32) : Fin 3 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let v328 : Index := Scalar.indexCast v294
  let c0_145 : Index := 0#32
  let c0_146 : Index := 0#32
  ![v328.toNat, 0, 0]
def k0_off30 (i : grid0.Coords) : Fin 3 → Nat :=
  let arg2 : BitVec 32 := BitVec.ofNat 32 (i 2).val
  let v346 : Index := Scalar.indexCast arg2
  let c0_157 : Index := 0#32
  let c0_158 : Index := 0#32
  ![v346.toNat, 0, 0]
def k0_cond9 (i : grid0.Coords) : BitVec 1 :=
  let arg2 : BitVec 32 := BitVec.ofNat 32 (i 2).val
  let c8_i32_105 : BitVec 32 := 8#32
  let c0_i32_106 : BitVec 32 := 0#32
  let v243 : BitVec 1 := Scalar.cmpi .eq c8_i32_105 c0_i32_106
  let c1_i32_107 : BitVec 32 := 1#32
  let v244 : BitVec 32 := Scalar.select v243 c1_i32_107 c8_i32_105
  let v245 : BitVec 32 := Scalar.remsi arg2 v244
  let c0_i32_109 : BitVec 32 := 0#32
  let v247 : BitVec 1 := Scalar.cmpi .slt v245 c0_i32_109
  let c0_i32_110 : BitVec 32 := 0#32
  let v248 : BitVec 1 := Scalar.cmpi .slt v244 c0_i32_110
  let v249 : BitVec 1 := Scalar.xori v247 v248
  let c0_i32_108 : BitVec 32 := 0#32
  let v246 : BitVec 1 := Scalar.cmpi .ne v245 c0_i32_108
  let v250 : BitVec 1 := Scalar.andi v249 v246
  let v251 : BitVec 32 := Scalar.addi v245 v244
  let v252 : BitVec 32 := Scalar.select v250 v251 v245
  let c7_i32 : BitVec 32 := 7#32
  let v253 : BitVec 1 := Scalar.cmpi .eq v252 c7_i32
  let v254 : BitVec 32 := Scalar.extui v253
  let c0_i32_111 : BitVec 32 := 0#32
  let v255 : BitVec 1 := Scalar.cmpi .ne v254 c0_i32_111
  v255

def k0_mult45 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c0_i32_126 : BitVec 32 := 0#32
  let v294 : BitVec 32 := Scalar.addi v151 c0_i32_126
  let c512_i32 : BitVec 32 := 512#32
  let v301 : BitVec 32 := Scalar.muli v294 c512_i32
  v301
def k0_off31 (i : grid0.Coords) (c0_i32_126 : BitVec 32) : Fin 2 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let c512_i32 : BitVec 32 := 512#32
  let v301 : BitVec 32 := Scalar.muli v294 c512_i32
  let v302 : BitVec 32 := v301
  let v303 : Index := Scalar.indexCast v302
  let c0_133 : Index := 0#32
  ![v303.toNat, 0]
def k0_mult46 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c1_i32_127 : BitVec 32 := 1#32
  let v295 : BitVec 32 := Scalar.addi v151 c1_i32_127
  let c512_i32_134 : BitVec 32 := 512#32
  let v305 : BitVec 32 := Scalar.muli v295 c512_i32_134
  v305
def k0_mult47 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c2_i32_128 : BitVec 32 := 2#32
  let v296 : BitVec 32 := Scalar.addi v151 c2_i32_128
  let c512_i32_136 : BitVec 32 := 512#32
  let v309 : BitVec 32 := Scalar.muli v296 c512_i32_136
  v309
def k0_mult48 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c3_i32_129 : BitVec 32 := 3#32
  let v297 : BitVec 32 := Scalar.addi v151 c3_i32_129
  let c512_i32_138 : BitVec 32 := 512#32
  let v313 : BitVec 32 := Scalar.muli v297 c512_i32_138
  v313
def k0_mult49 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c4_i32_130 : BitVec 32 := 4#32
  let v298 : BitVec 32 := Scalar.addi v151 c4_i32_130
  let c512_i32_140 : BitVec 32 := 512#32
  let v317 : BitVec 32 := Scalar.muli v298 c512_i32_140
  v317
def k0_mult50 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c5_i32_131 : BitVec 32 := 5#32
  let v299 : BitVec 32 := Scalar.addi v151 c5_i32_131
  let c512_i32_142 : BitVec 32 := 512#32
  let v321 : BitVec 32 := Scalar.muli v299 c512_i32_142
  v321
def k0_mult51 (i : grid0.Coords) : BitVec 32 :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let c6_i32_132 : BitVec 32 := 6#32
  let v300 : BitVec 32 := Scalar.addi v151 c6_i32_132
  let c512_i32_144 : BitVec 32 := 512#32
  let v325 : BitVec 32 := Scalar.muli v300 c512_i32_144
  v325
def k0_mult52 (i : grid0.Coords) : BitVec 32 :=
  let arg2 : BitVec 32 := BitVec.ofNat 32 (i 2).val
  let c512_i32_146 : BitVec 32 := 512#32
  let v329 : BitVec 32 := Scalar.muli arg2 c512_i32_146
  v329
def k0_off32 (i : grid0.Coords) : Fin 2 → Nat :=
  let arg2 : BitVec 32 := BitVec.ofNat 32 (i 2).val
  let c512_i32_146 : BitVec 32 := 512#32
  let v329 : BitVec 32 := Scalar.muli arg2 c512_i32_146
  let v330 : BitVec 32 := v329
  let v331 : Index := Scalar.indexCast v330
  let c0_147 : Index := 0#32
  ![v331.toNat, 0]
def k0_off33 (i : grid0.Coords) (c0_i32_126 : BitVec 32) : Fin 3 → Nat :=
  let arg2 : BitVec 32 := BitVec.ofNat 32 (i 2).val
  let c0_i32_47 : BitVec 32 := 0#32
  let v135 : BitVec 1 := Scalar.cmpi .sgt arg2 c0_i32_47
  let v136 : BitVec 32 := Scalar.extui v135
  let c0_i32_48 : BitVec 32 := 0#32
  let v137 : BitVec 1 := Scalar.cmpi .slt arg2 c0_i32_48
  let v138 : BitVec 32 := Scalar.extui v137
  let v139 : BitVec 32 := Scalar.subi v136 v138
  let c8_i32_46 : BitVec 32 := 8#32
  let c0_i32_49 : BitVec 32 := 0#32
  let v140 : BitVec 1 := Scalar.cmpi .sgt c8_i32_46 c0_i32_49
  let v141 : BitVec 32 := Scalar.extui v140
  let c0_i32_50 : BitVec 32 := 0#32
  let v142 : BitVec 1 := Scalar.cmpi .slt c8_i32_46 c0_i32_50
  let v143 : BitVec 32 := Scalar.extui v142
  let v144 : BitVec 32 := Scalar.subi v141 v143
  let v145 : BitVec 1 := Scalar.cmpi .ne v139 v144
  let v146 : BitVec 32 := Scalar.remsi arg2 c8_i32_46
  let c0_i32_51 : BitVec 32 := 0#32
  let v147 : BitVec 1 := Scalar.cmpi .ne v146 c0_i32_51
  let v148 : BitVec 1 := Scalar.andi v145 v147
  let v134 : BitVec 32 := Scalar.divsi arg2 c8_i32_46
  let c1_i32_52 : BitVec 32 := 1#32
  let v149 : BitVec 32 := Scalar.subi v134 c1_i32_52
  let v150 : BitVec 32 := Scalar.select v148 v149 v134
  let c8_i32_53 : BitVec 32 := 8#32
  let v151 : BitVec 32 := Scalar.muli v150 c8_i32_53
  let v294 : BitVec 32 := Scalar.addi v151 c0_i32_126
  let v333 : Index := Scalar.indexCast v294
  let c0_148 : Index := 0#32
  let c0_149 : Index := 0#32
  ![v333.toNat, 0, 0]
def k0_off34 (i : grid0.Coords) : Fin 3 → Nat :=
  let arg2 : BitVec 32 := BitVec.ofNat 32 (i 2).val
  let v354 : Index := Scalar.indexCast arg2
  let c0_162 : Index := 0#32
  let c0_163 : Index := 0#32
  ![v354.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnIdeal.lean ====
variable {F : FTy → Type} [FloatOps F] [Named F]
def κ : String → Option EReal := fun
  | "score_scale" => some (((1 / 8) * (Real.log 2)⁻¹ : ℝ) : EReal)
  | _ => none
-- ==== AttnRefIdeal.lean ====
abbrev S4x4096x20480 : Shape := ⟨3, ![4, 4096, 20480]⟩
abbrev S64 : Shape := ⟨1, ![64]⟩
abbrev S128 : Shape := ⟨1, ![128]⟩
abbrev S4x4096x6144 : Shape := ⟨3, ![4, 4096, 6144]⟩
abbrev S4x4096x2048 : Shape := ⟨3, ![4, 4096, 2048]⟩
abbrev S4x4096x16x2x64 : Shape := ⟨5, ![4, 4096, 16, 2, 64]⟩
abbrev S_ : Shape := ⟨0, ![]⟩
abbrev S4x4096x16x2 : Shape := ⟨4, ![4, 4096, 16, 2]⟩
abbrev S4x4096x16x2x1 : Shape := ⟨5, ![4, 4096, 16, 2, 1]⟩
abbrev S1x1x1x1x64 : Shape := ⟨5, ![1, 1, 1, 1, 64]⟩
abbrev S4x4096x16x128 : Shape := ⟨4, ![4, 4096, 16, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x2x4096x4096 : Shape := ⟨5, ![4, 16, 2, 4096, 4096]⟩
abbrev S4x16x2x4096 : Shape := ⟨4, ![4, 16, 2, 4096]⟩
abbrev S4x16x2x4096x1 : Shape := ⟨5, ![4, 16, 2, 4096, 1]⟩
abbrev S4x16x1x4096x4096 : Shape := ⟨5, ![4, 16, 1, 4096, 4096]⟩
abbrev S4x16x4096x4096 : Shape := ⟨4, ![4, 16, 4096, 4096]⟩
abbrev S4x16x128x4096 : Shape := ⟨4, ![4, 16, 128, 4096]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x20480, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4x4096x6144, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x16x2x64, .f32⟩
  | .hbm, ⟨13, _⟩ => ⟨S4x4096x16x2x64, .f32⟩
  | .hbm, ⟨14, _⟩ => ⟨S_, .f32⟩
  | .hbm, ⟨15, _⟩ => ⟨S4x4096x16x2, .f32⟩
  | .hbm, ⟨16, _⟩ => ⟨S4x4096x16x2x1, .f32⟩
  | .hbm, ⟨17, _⟩ => ⟨S_, .f32⟩
  | .hbm, ⟨18, _⟩ => ⟨S4x4096x16x2x1, .f32⟩
  | .hbm, ⟨19, _⟩ => ⟨S4x4096x16x2x1, .f32⟩
  | .hbm, ⟨20, _⟩ => ⟨S_, .f32⟩
  | .hbm, ⟨21, _⟩ => ⟨S4x4096x16x2x1, .f32⟩
  | .hbm, ⟨22, _⟩ => ⟨S4x4096x16x2x1, .f32⟩
  | .hbm, ⟨23, _⟩ => ⟨S4x4096x16x2x1, .f32⟩
  | .hbm, ⟨24, _⟩ => ⟨S4x4096x16x2x64, .f32⟩
  | .hbm, ⟨25, _⟩ => ⟨S4x4096x16x2x64, .f32⟩
  | .hbm, ⟨26, _⟩ => ⟨S1x1x1x1x64, .f32⟩
  | .hbm, ⟨27, _⟩ => ⟨S4x4096x16x2x64, .f32⟩
  | .hbm, ⟨28, _⟩ => ⟨S4x4096x16x2x64, .f32⟩
  | .hbm, ⟨29, _⟩ => ⟨S4x4096x16x2x64, .f32⟩
  | .hbm, ⟨30, _⟩ => ⟨S4x4096x16x2x64, .f32⟩
  | .hbm, ⟨31, _⟩ => ⟨S_, .f32⟩
  | .hbm, ⟨32, _⟩ => ⟨S4x4096x16x2, .f32⟩
  | .hbm, ⟨33, _⟩ => ⟨S4x4096x16x2x1, .f32⟩
  | .hbm, ⟨34, _⟩ => ⟨S_, .f32⟩
  | .hbm, ⟨35, _⟩ => ⟨S4x4096x16x2x1, .f32⟩
  | .hbm, ⟨36, _⟩ => ⟨S4x4096x16x2x1, .f32⟩
  | .hbm, ⟨37, _⟩ => ⟨S_, .f32⟩
  | .hbm, ⟨38, _⟩ => ⟨S4x4096x16x2x1, .f32⟩
  | .hbm, ⟨39, _⟩ => ⟨S4x4096x16x2x1, .f32⟩
  | .hbm, ⟨40, _⟩ => ⟨S4x4096x16x2x1, .f32⟩
  | .hbm, ⟨41, _⟩ => ⟨S4x4096x16x2x64, .f32⟩
  | .hbm, ⟨42, _⟩ => ⟨S4x4096x16x2x64, .f32⟩
  | .hbm, ⟨43, _⟩ => ⟨S1x1x1x1x64, .f32⟩
  | .hbm, ⟨44, _⟩ => ⟨S4x4096x16x2x64, .f32⟩
  | .hbm, ⟨45, _⟩ => ⟨S4x4096x16x2x64, .f32⟩
  | .hbm, ⟨46, _⟩ => ⟨S4x4096x16x128, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S1x4096, .i32⟩
  | .hbm, ⟨63, _⟩ => ⟨S4096x1, .i32⟩
  | .hbm, ⟨64, _⟩ => ⟨S4096x4096, .i32⟩
  | .hbm, ⟨65, _⟩ => ⟨S4096x4096, .i32⟩
  | .hbm, ⟨66, _⟩ => ⟨S4096x4096, .i1⟩
  | .hbm, ⟨67, _⟩ => ⟨S4x16x2x4096x4096, .f32⟩
  | .hbm, ⟨68, _⟩ => ⟨S_, .f32⟩
  | .hbm, ⟨69, _⟩ => ⟨S4x16x2x4096x4096, .f32⟩
  | .hbm, ⟨70, _⟩ => ⟨S4x16x2x4096x4096, .f32⟩
  | .hbm, ⟨71, _⟩ => ⟨S_, .f32⟩
  | .hbm, ⟨72, _⟩ => ⟨S_, .f32⟩
  | .hbm, ⟨73, _⟩ => ⟨S4x16x2x4096x4096, .i1⟩
  | .hbm, ⟨74, _⟩ => ⟨S4x16x2x4096x4096, .f32⟩
  | .hbm, ⟨75, _⟩ => ⟨S4x16x2x4096x4096, .f32⟩
  | .hbm, ⟨76, _⟩ => ⟨S_, .f32⟩
  | .hbm, ⟨77, _⟩ => ⟨S4x16x2x4096, .f32⟩
  | .hbm, ⟨78, _⟩ => ⟨S_, .f32⟩
  | .hbm, ⟨79, _⟩ => ⟨S4x16x2x4096, .f32⟩
  | .hbm, ⟨80, _⟩ => ⟨S4x16x2x4096, .f32⟩
  | .hbm, ⟨81, _⟩ => ⟨S4x16x2x4096x1, .f32⟩
  | .hbm, ⟨82, _⟩ => ⟨S4x16x2x4096x4096, .f32⟩
  | .hbm, ⟨83, _⟩ => ⟨S4x16x2x4096x4096, .f32⟩
  | .hbm, ⟨84, _⟩ => ⟨S4x16x2x4096x4096, .f32⟩
  | .hbm, ⟨85, _⟩ => ⟨S_, .f32⟩
  | .hbm, ⟨86, _⟩ => ⟨S4x16x2x4096, .f32⟩
  | .hbm, ⟨87, _⟩ => ⟨S4x16x2x4096x1, .f32⟩
  | .hbm, ⟨88, _⟩ => ⟨S4x16x2x4096x4096, .f32⟩
  | .hbm, ⟨89, _⟩ => ⟨S4x16x2x4096x4096, .f32⟩
  | .hbm, ⟨90, _⟩ => ⟨S4x16x1x4096x4096, .f32⟩
  | .hbm, ⟨91, _⟩ => ⟨S4x16x4096x4096, .f32⟩
  | .hbm, ⟨92, _⟩ => ⟨S4x16x1x4096x4096, .f32⟩
  | .hbm, ⟨93, _⟩ => ⟨S4x16x4096x4096, .f32⟩
  | .hbm, ⟨94, _⟩ => ⟨S4x16x4096x4096, .f32⟩
  | .hbm, ⟨95, _⟩ => ⟨S4x16x4096x4096, .f32⟩
  | .hbm, ⟨96, _⟩ => ⟨S4x16x4096x4096, .f32⟩
  | .hbm, ⟨97, _⟩ => ⟨S4x16x128x4096, .f32⟩
  | .hbm, ⟨98, _⟩ => ⟨S4x4096x16x128, .f32⟩
  | .hbm, ⟨99, _⟩ => ⟨S4x4096x16x128, .f32⟩
  | .hbm, ⟨100, _⟩ => ⟨S_, .f32⟩
  | .hbm, ⟨101, _⟩ => ⟨S4x4096x16, .f32⟩
  | .hbm, ⟨102, _⟩ => ⟨S4x4096x16x1, .f32⟩
  | .hbm, ⟨103, _⟩ => ⟨S_, .f32⟩
  | .hbm, ⟨104, _⟩ => ⟨S4x4096x16x1, .f32⟩
  | .hbm, ⟨105, _⟩ => ⟨S4x4096x16x1, .f32⟩
  | .hbm, ⟨106, _⟩ => ⟨S_, .f32⟩
  | .hbm, ⟨107, _⟩ => ⟨S4x4096x16x1, .f32⟩
  | .hbm, ⟨108, _⟩ => ⟨S4x4096x16x1, .f32⟩
  | .hbm, ⟨109, _⟩ => ⟨S4x4096x16x1, .f32⟩
  | .hbm, ⟨110, _⟩ => ⟨S4x4096x16x128, .f32⟩
  | .hbm, ⟨111, _⟩ => ⟨S4x4096x16x128, .f32⟩
  | .hbm, ⟨112, _⟩ => ⟨S1x1x1x128, .f32⟩
  | .hbm, ⟨113, _⟩ => ⟨S4x4096x16x128, .f32⟩
  | .hbm, ⟨114, _⟩ => ⟨S4x4096x16x128, .f32⟩
  | .hbm, ⟨115, _⟩ => ⟨S_, .f32⟩
  | .hbm, ⟨116, _⟩ => ⟨S4x4096x16x128, .f32⟩
  | .hbm, ⟨117, _⟩ => ⟨S4x4096x16x128, .f32⟩
  | .hbm, ⟨118, _⟩ => ⟨S4x4096x2048, .f32⟩
  | .hbm, ⟨119, _⟩ => ⟨S4x4096x2048, .bf16⟩
  | _, _ => ⟨S4x4096x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_c : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]
-- ==== InProj.lean ====
abbrev S16384x4096 : Shape := ⟨2, ![16384, 4096]⟩
abbrev S4096x20960 : Shape := ⟨2, ![4096, 20960]⟩
abbrev S20960x4096 : Shape := ⟨2, ![20960, 4096]⟩
abbrev S16384x20480 : Shape := ⟨2, ![16384, 20480]⟩
abbrev S1024x4096 : Shape := ⟨2, ![1024, 4096]⟩
abbrev S512x4096 : Shape := ⟨2, ![512, 4096]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x20960, .f32⟩
  | .hbm, ⟨2, _⟩ => ⟨S20960x4096, .f32⟩
  | .hbm, ⟨3, _⟩ => ⟨S16384x20480, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![40, 16], ![false, false]⟩

def k0_mult1 (i : grid0.Coords) : BitVec 32 :=
  let arg0 : BitVec 32 := BitVec.ofNat 32 (i 0).val
  let c12_i32 : BitVec 32 := 12#32
  let v0 : BitVec 1 := Scalar.cmpi .slt arg0 c12_i32
  let c512_i32 : BitVec 32 := 512#32
  let v1 : BitVec 32 := Scalar.muli arg0 c512_i32
  let c512_i32_0 : BitVec 32 := 512#32
  let v2 : BitVec 32 := Scalar.muli arg0 c512_i32_0
  let c480_i32 : BitVec 32 := 480#32
  let v3 : BitVec 32 := Scalar.addi v2 c480_i32
  let v4 : BitVec 32 := Scalar.select v0 v1 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .slt arg0 c12_i32
  let c512_i32 : BitVec 32 := 512#32
  let v1 : BitVec 32 := Scalar.muli arg0 c512_i32
  let c512_i32_0 : BitVec 32 := 512#32
  let v2 : BitVec 32 := Scalar.muli arg0 c512_i32_0
  let c480_i32 : BitVec 32 := 480#32
  let v3 : BitVec 32 := Scalar.addi v2 c480_i32
  let v4 : BitVec 32 := Scalar.select v0 v1 v3
  let v5 : BitVec 32 := v4
  let c0_i32 : BitVec 32 := 0#32
  let c0_i32_1 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x4096 : Shape := ⟨2, ![16384, 4096]⟩
abbrev S4096x20960 : Shape := ⟨2, ![4096, 20960]⟩
abbrev S16384x20960 : Shape := ⟨2, ![16384, 20960]⟩
abbrev S16384x6144 : Shape := ⟨2, ![16384, 6144]⟩
abbrev S16384x14336 : Shape := ⟨2, ![16384, 14336]⟩
abbrev S16384x20480 : Shape := ⟨2, ![16384, 20480]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x20960, .f32⟩
  | .hbm, ⟨2, _⟩ => ⟨S16384x4096, .f32⟩
  | .hbm, ⟨3, _⟩ => ⟨S16384x20960, .f32⟩
  | .hbm, ⟨4, _⟩ => ⟨S16384x6144, .f32⟩
  | .hbm, ⟨5, _⟩ => ⟨S16384x14336, .f32⟩
  | .hbm, ⟨6, _⟩ => ⟨S16384x20480, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S16384x2048 : Shape := ⟨2, ![16384, 2048]⟩
abbrev S2048x4096 : Shape := ⟨2, ![2048, 4096]⟩
abbrev S16384x20480 : Shape := ⟨2, ![16384, 20480]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩
abbrev S2x1024x512 : Shape := ⟨3, ![2, 1024, 512]⟩
abbrev S1x1024x512 : Shape := ⟨3, ![1, 1024, 512]⟩
abbrev S64x512 : Shape := ⟨2, ![64, 512]⟩
abbrev S1x64x512 : Shape := ⟨3, ![1, 64, 512]⟩

abbrev nBuf : Space → Nat
  | .hbm => 6
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .bf16⟩
  | .hbm, ⟨3, _⟩ => ⟨S2048x4096, .f32⟩
  | .hbm, ⟨4, _⟩ => ⟨S16384x20480, .f32⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | .local _ .vmem, ⟨16, _⟩ => ⟨S2x1024x512, .f32⟩
  | .local _ .vmem, ⟨17, _⟩ => ⟨S2x1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![129], ![false]⟩

def k0_cond3 (i : grid0.Coords) : BitVec 1 :=
  let arg0 : BitVec 32 := BitVec.ofNat 32 (i 0).val
  let c2_i32 : BitVec 32 := 2#32
  let c0_i32_7 : BitVec 32 := 0#32
  let v16 : BitVec 1 := Scalar.cmpi .eq c2_i32 c0_i32_7
  let c1_i32_8 : BitVec 32 := 1#32
  let v17 : BitVec 32 := Scalar.select v16 c1_i32_8 c2_i32
  let v18 : BitVec 32 := Scalar.remsi arg0 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_12 : BitVec 32 := 0#32
  let v26 : BitVec 1 := Scalar.cmpi .eq v25 c0_i32_12
  let v27 : BitVec 32 := Scalar.extui v26
  let c0_i32_13 : BitVec 32 := 0#32
  let v28 : BitVec 1 := Scalar.cmpi .ne v27 c0_i32_13
  v28

def k0_cond4 (i : grid0.Coords) : BitVec 1 :=
  let arg0 : BitVec 32 := BitVec.ofNat 32 (i 0).val
  let c2_i32_14 : BitVec 32 := 2#32
  let c0_i32_15 : BitVec 32 := 0#32
  let v29 : BitVec 1 := Scalar.cmpi .eq c2_i32_14 c0_i32_15
  let c1_i32_16 : BitVec 32 := 1#32
  let v30 : BitVec 32 := Scalar.select v29 c1_i32_16 c2_i32_14
  let v31 : BitVec 32 := Scalar.remsi arg0 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_20 : BitVec 32 := 1#32
  let v39 : BitVec 1 := Scalar.cmpi .eq v38 c1_i32_20
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c24_i32 : BitVec 32 := 24#32
  let v31 : BitVec 32 := Scalar.addi v30 c24_i32
  let c0_i32_14 : BitVec 32 := 0#32
  ![v11.toNat, v31.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c32_i32 : BitVec 32 := 32#32
  let v31 : BitVec 32 := Scalar.addi v30 c32_i32
  let c0_i32_14 : BitVec 32 := 0#32
  ![v11.toNat, v31.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S16384x2048 : Shape := ⟨2, ![16384, 2048]⟩
abbrev S2048x4096 : Shape := ⟨2, ![2048, 4096]⟩
abbrev S16384x20480 : Shape := ⟨2, ![16384, 20480]⟩
abbrev S16384x8192 : Shape := ⟨2, ![16384, 8192]⟩
abbrev S_ : Shape := ⟨0, ![]⟩
abbrev S16384x4096 : Shape := ⟨2, ![16384, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .bf16⟩
  | .hbm, ⟨3, _⟩ => ⟨S2048x4096, .f32⟩
  | .hbm, ⟨4, _⟩ => ⟨S16384x20480, .f32⟩
  | .hbm, ⟨5, _⟩ => ⟨S16384x8192, .f32⟩
  | .hbm, ⟨6, _⟩ => ⟨S16384x8192, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S_, .f32⟩
  | .hbm, ⟨12, _⟩ => ⟨S16384x8192, .f32⟩
  | .hbm, ⟨13, _⟩ => ⟨S16384x8192, .f32⟩
  | .hbm, ⟨14, _⟩ => ⟨S16384x4096, .f32⟩
  | .hbm, ⟨15, _⟩ => ⟨S16384x4096, .f32⟩
  | .hbm, ⟨16, _⟩ => ⟨S16384x2048, .f32⟩
  | .hbm, ⟨17, _⟩ => ⟨S16384x4096, .f32⟩
  | .hbm, ⟨18, _⟩ => ⟨S16384x4096, .f32⟩
  | .hbm, ⟨19, _⟩ => ⟨S16384x2048, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutProj.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnIn.lean ====
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S1x22016 : Shape := ⟨2, ![1, 22016]⟩
abbrev S16384x11008 : Shape := ⟨2, ![16384, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S2x8x256 : Shape := ⟨3, ![2, 8, 256]⟩
abbrev S4096x512 : Shape := ⟨2, ![4096, 512]⟩
abbrev S1024x512 : Shape := ⟨2, ![1024, 512]⟩
abbrev S64x1 : Shape := ⟨2, ![64, 1]⟩
abbrev S64x256 : Shape := ⟨2, ![64, 256]⟩
abbrev S1x8x256 : Shape := ⟨3, ![1, 8, 256]⟩
abbrev S8x256 : Shape := ⟨2, ![8, 256]⟩

abbrev nBuf : Space → Nat
  | .hbm => 6
  | .vmem => 20
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S1x22016, .f32⟩
  | .hbm, ⟨5, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1024x256, .bf16⟩
  | .local _ .vmem, ⟨15, _⟩ => ⟨S1024x256, .bf16⟩
  | .local _ .vmem, ⟨16, _⟩ => ⟨S2x8x256, .f32⟩
  | .local _ .vmem, ⟨17, _⟩ => ⟨S4096x512, .bf16⟩
  | .local _ .vmem, ⟨18, _⟩ => ⟨S1024x512, .f32⟩
  | .local _ .vmem, ⟨19, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![689], ![false]⟩

def k0_cond4 (i : grid0.Coords) : BitVec 1 :=
  let arg0 : BitVec 32 := BitVec.ofNat 32 (i 0).val
  let c2_i32 : BitVec 32 := 2#32
  let c0_i32_22 : BitVec 32 := 0#32
  let v42 : BitVec 1 := Scalar.cmpi .eq c2_i32 c0_i32_22
  let c1_i32_23 : BitVec 32 := 1#32
  let v43 : BitVec 32 := Scalar.select v42 c1_i32_23 c2_i32
  let v44 : BitVec 32 := Scalar.remsi arg0 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c0_i32_27 : BitVec 32 := 0#32
  let v52 : BitVec 1 := Scalar.cmpi .eq v51 c0_i32_27
  let v53 : BitVec 32 := Scalar.extui v52
  let c0_i32_28 : BitVec 32 := 0#32
  let v54 : BitVec 1 := Scalar.cmpi .ne v53 c0_i32_28
  v54

def k0_cond5 (i : grid0.Coords) : BitVec 1 :=
  let arg0 : BitVec 32 := BitVec.ofNat 32 (i 0).val
  let c2_i32_29 : BitVec 32 := 2#32
  let c0_i32_30 : BitVec 32 := 0#32
  let v55 : BitVec 1 := Scalar.cmpi .eq c2_i32_29 c0_i32_30
  let c1_i32_31 : BitVec 32 := 1#32
  let v56 : BitVec 32 := Scalar.select v55 c1_i32_31 c2_i32_29
  let v57 : BitVec 32 := Scalar.remsi arg0 v56
  let c0_i32_33 : BitVec 32 := 0#32
  let v59 : BitVec 1 := Scalar.cmpi .slt v57 c0_i32_33
  let c0_i32_34 : BitVec 32 := 0#32
  let v60 : BitVec 1 := Scalar.cmpi .slt v56 c0_i32_34
  let v61 : BitVec 1 := Scalar.xori v59 v60
  let c0_i32_32 : BitVec 32 := 0#32
  let v58 : BitVec 1 := Scalar.cmpi .ne v57 c0_i32_32
  let v62 : BitVec 1 := Scalar.andi v61 v58
  let v63 : BitVec 32 := Scalar.addi v57 v56
  let v64 : BitVec 32 := Scalar.select v62 v63 v57
  let c1_i32_35 : BitVec 32 := 1#32
  let v65 : BitVec 1 := Scalar.cmpi .eq v64 c1_i32_35
  let v66 : BitVec 32 := Scalar.extui v65
  let c0_i32_36 : BitVec 32 := 0#32
  let v67 : BitVec 1 := Scalar.cmpi .ne v66 c0_i32_36
  v67

def cc0_transform_0 (i : grid0.Coords) : Fin 2 → Nat :=
  let arg0 : BitVec 32 := BitVec.ofNat 32 (i 0).val
  let c687_i32 : BitVec 32 := 687#32
  let v0 : BitVec 32 := Scalar.minsi arg0 c687_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c687_i32 : BitVec 32 := 687#32
  let v0 : BitVec 32 := Scalar.minsi arg0 c687_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let c687_i32 : BitVec 32 := 687#32
  let v0 : BitVec 32 := Scalar.minsi arg0 c687_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32 : BitVec 32 := 43#32
  let v18 : BitVec 32 := Scalar.addi v17 c43_i32
  let c0_i32_4 : BitVec 32 := 0#32
  let c0_i32_5 : BitVec 32 := 0#32
  ![c0_i32_4.toNat, v18.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32 : BitVec 32 := 43#32
  let v19 : BitVec 32 := Scalar.addi v18 c43_i32
  let c0_i32_6 : BitVec 32 := 0#32
  let c0_i32_7 : BitVec 32 := 0#32
  ![c0_i32_6.toNat, v19.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32 : BitVec 32 := 43#32
  let v19 : BitVec 32 := Scalar.addi v18 c43_i32
  let c0_i32_6 : BitVec 32 := 0#32
  let c0_i32_7 : BitVec 32 := 0#32
  ![c0_i32_6.toNat, v19.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnInRefIdeal.lean ====
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S16384x22016 : Shape := ⟨2, ![16384, 22016]⟩
abbrev S4x4096x22016 : Shape := ⟨3, ![4, 4096, 22016]⟩
abbrev S_ : Shape := ⟨0, ![]⟩
abbrev S4x4098x22016 : Shape := ⟨3, ![4, 4098, 22016]⟩
abbrev S1x22016 : Shape := ⟨2, ![1, 22016]⟩
abbrev S1x1x22016 : Shape := ⟨3, ![1, 1, 22016]⟩
abbrev S4x4096x11008 : Shape := ⟨3, ![4, 4096, 11008]⟩
abbrev S16384x11008 : Shape := ⟨2, ![16384, 11008]⟩

abbrev nBuf : Space → Nat
  | .hbm => 47
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S16384x4096, .f32⟩
  | .hbm, ⟨5, _⟩ => ⟨S16384x22016, .f32⟩
  | .hbm, ⟨6, _⟩ => ⟨S4x4096x22016, .f32⟩
  | .hbm, ⟨7, _⟩ => ⟨S_, .i32⟩
  | .hbm, ⟨8, _⟩ => ⟨S_, .f32⟩
  | .hbm, ⟨9, _⟩ => ⟨S4x4098x22016, .f32⟩
  | .hbm, ⟨10, _⟩ => ⟨S4x4096x22016, .f32⟩
  | .hbm, ⟨11, _⟩ => ⟨S1x22016, .f32⟩
  | .hbm, ⟨12, _⟩ => ⟨S22016, .f32⟩
  | .hbm, ⟨13, _⟩ => ⟨S1x1x22016, .f32⟩
  | .hbm, ⟨14, _⟩ => ⟨S4x4096x22016, .f32⟩
  | .hbm, ⟨15, _⟩ => ⟨S4x4096x22016, .f32⟩
  | .hbm, ⟨16, _⟩ => ⟨S1x1x22016, .f32⟩
  | .hbm, ⟨17, _⟩ => ⟨S4x4096x22016, .f32⟩
  | .hbm, ⟨18, _⟩ => ⟨S4x4096x22016, .f32⟩
  | .hbm, ⟨19, _⟩ => ⟨S4x4096x22016, .f32⟩
  | .hbm, ⟨20, _⟩ => ⟨S1x22016, .f32⟩
  | .hbm, ⟨21, _⟩ => ⟨S22016, .f32⟩
  | .hbm, ⟨22, _⟩ => ⟨S1x1x22016, .f32⟩
  | .hbm, ⟨23, _⟩ => ⟨S4x4096x22016, .f32⟩
  | .hbm, ⟨24, _⟩ => ⟨S4x4096x22016, .f32⟩
  | .hbm, ⟨25, _⟩ => ⟨S4x4096x22016, .f32⟩
  | .hbm, ⟨26, _⟩ => ⟨S4x4096x22016, .f32⟩
  | .hbm, ⟨27, _⟩ => ⟨S1x22016, .f32⟩
  | .hbm, ⟨28, _⟩ => ⟨S22016, .f32⟩
  | .hbm, ⟨29, _⟩ => ⟨S1x1x22016, .f32⟩
  | .hbm, ⟨30, _⟩ => ⟨S4x4096x22016, .f32⟩
  | .hbm, ⟨31, _⟩ => ⟨S4x4096x22016, .f32⟩
  | .hbm, ⟨32, _⟩ => ⟨S4x4096x22016, .f32⟩
  | .hbm, ⟨33, _⟩ => ⟨S4x4096x11008, .f32⟩
  | .hbm, ⟨34, _⟩ => ⟨S4x4096x11008, .f32⟩
  | .hbm, ⟨35, _⟩ => ⟨S4x4096x11008, .f32⟩
  | .hbm, ⟨36, _⟩ => ⟨S4x4096x11008, .f32⟩
  | .hbm, ⟨37, _⟩ => ⟨S_, .f32⟩
  | .hbm, ⟨38, _⟩ => ⟨S4x4096x11008, .f32⟩
  | .hbm, ⟨39, _⟩ => ⟨S4x4096x11008, .f32⟩
  | .hbm, ⟨40, _⟩ => ⟨S_, .f32⟩
  | .hbm, ⟨41, _⟩ => ⟨S4x4096x11008, .f32⟩
  | .hbm, ⟨42, _⟩ => ⟨S4x4096x11008, .f32⟩
  | .hbm, ⟨43, _⟩ => ⟨S4x4096x11008, .f32⟩
  | .hbm, ⟨44, _⟩ => ⟨S4x4096x11008, .f32⟩
  | .hbm, ⟨45, _⟩ => ⟨S16384x11008, .f32⟩
  | .hbm, ⟨46, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== FfnOut.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutRefIdeal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x11008, .f32⟩
  | .hbm, ⟨4, _⟩ => ⟨S16384x4096, .f32⟩
  | .hbm, ⟨5, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S16384x4096 : Shape := ⟨2, ![16384, 4096]⟩
abbrev S4096x4096 : Shape := ⟨2, ![4096, 4096]⟩
abbrev S4x4096x256 : Shape := ⟨3, ![4, 4096, 256]⟩
abbrev S256x4096 : Shape := ⟨2, ![256, 4096]⟩
abbrev S16384x256 : Shape := ⟨2, ![16384, 256]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4x4096x256, .f32⟩
  | .hbm, ⟨3, _⟩ => ⟨S256x4096, .f32⟩
  | .hbm, ⟨4, _⟩ => ⟨S16384x4096, .f32⟩
  | .hbm, ⟨5, _⟩ => ⟨S16384x256, .f32⟩
  | .hbm, ⟨6, _⟩ => ⟨S16384x256, .bf16⟩
  | .hbm, ⟨7, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x256, .bf16⟩
  | .local _ .vmem, ⟨5, _⟩ => ⟨S1024x256, .bf16⟩
  | .local _ .vmem, ⟨6, _⟩ => ⟨S256x512, .f32⟩
  | .local _ .vmem, ⟨7, _⟩ => ⟨S256x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | .local _ .vmem, ⟨13, _⟩ => ⟨S256x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S16384x4096 : Shape := ⟨2, ![16384, 4096]⟩
abbrev S4096x4096 : Shape := ⟨2, ![4096, 4096]⟩
abbrev S4x4096x256 : Shape := ⟨3, ![4, 4096, 256]⟩
abbrev S256x4096 : Shape := ⟨2, ![256, 4096]⟩
abbrev S_ : Shape := ⟨0, ![]⟩
abbrev S16384x256 : Shape := ⟨2, ![16384, 256]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4x4096x256, .f32⟩
  | .hbm, ⟨3, _⟩ => ⟨S256x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x256, .f32⟩
  | .hbm, ⟨16, _⟩ => ⟨S16384x4096, .f32⟩
  | .hbm, ⟨17, _⟩ => ⟨S16384x4096, .f32⟩
  | .hbm, ⟨18, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.FfnInFrame.Conditions.lean ====
/- The first feed-forward matrix: where over the points each branch of the body is taken. -/
module

public import proofs.«01_k».proof.Proof.Gen.FfnIn.Frame
public import proofs.«01_k».proof.Proof.Gen.FfnIn.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIn.Hand

open Cert.FfnIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 689 = 0 :=
  (fun t => by
    have ht : t.val < 689 := Nat.lt_of_lt_of_eq t.isLt N_0
    have e0 : (grid0.coords t 0).val = t.val / 1 % 689 := Pipeline.Grid.coords_val t 0 (by decide) rfl
    simp only [cond0_0, e0]
    word_cmp
   : ∀ t : Fin grid0.N, cond0_0 (grid0.coords t) ↔ t.val % 689 = 0)

abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)) 0#32) = 1#1
theorem hcond0_1 : ∀ t : Fin cfg0.N, cond0_1 (grid0.coords t) ↔ t.val % 16 = 0 :=
  (by decide +kernel : ∀ t : Fin grid0.N, cond0_1 (grid0.coords t) ↔ t.val % 16 = 0)

abbrev cond0_2 (i : grid0.Coords) : Prop := (Scalar.cmpi .ne (Scalar.extui (Scalar.cmpi .eq (Scalar.select (Scalar.andi (Scalar.xori (Scalar.cmpi .slt (Scalar.remsi (Scalar.select (Scalar.andi (Scalar.xori (Scalar.cmpi .slt (Scalar.remsi (Scalar.maxsi (Scalar.subi (BitVec.ofNat 32 (i 0).val) 1#32) 0#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.maxsi (Scalar.subi (BitVec.ofNat 32 (i 0).val) 1#32) 0#32) (Scalar.select (Scalar.cmpi .eq 16#32 0#32) 1#32 16#32)) 0#32)) (Scalar.addi (Scalar.remsi (Scalar.maxsi (Scalar.subi (BitVec.ofNat 32 (i 0).val) 1#32) 0#32) (Scalar.select (Scalar.cmpi .eq 16#32 0#32) 1#32 16#32)) (Scalar.select (Scalar.cmpi .eq 16#32 0#32) 1#32 16#32)) (Scalar.remsi (Scalar.maxsi (Scalar.subi (BitVec.ofNat 32 (i 0).val) 1#32) 0#32) (Scalar.select (Scalar.cmpi .eq 16#32 0#32) 1#32 16#32))) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.select (Scalar.andi (Scalar.xori (Scalar.cmpi .slt (Scalar.remsi (Scalar.maxsi (Scalar.subi (BitVec.ofNat 32 (i 0).val) 1#32) 0#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.maxsi (Scalar.subi (BitVec.ofNat 32 (i 0).val) 1#32) 0#32) (Scalar.select (Scalar.cmpi .eq 16#32 0#32) 1#32 16#32)) 0#32)) (Scalar.addi (Scalar.remsi (Scalar.maxsi (Scalar.subi (BitVec.ofNat 32 (i 0).val) 1#32) 0#32) (Scalar.select (Scalar.cmpi .eq 16#32 0#32) 1#32 16#32)) (Scalar.select (Scalar.cmpi .eq 16#32 0#32) 1#32 16#32)) (Scalar.remsi (Scalar.maxsi (Scalar.subi (BitVec.ofNat 32 (i 0).val) 1#32) 0#32) (Scalar.select (Scalar.cmpi .eq 16#32 0#32) 1#32 16#32))) (Scalar.select (Scalar.cmpi .eq 4#32 0#32) 1#32 4#32)) 0#32)) (Scalar.addi (Scalar.remsi (Scalar.select (Scalar.andi (Scalar.xori (Scalar.cmpi .slt (Scalar.remsi (Scalar.maxsi (Scalar.subi (BitVec.ofNat 32 (i 0).val) 1#32) 0#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.maxsi (Scalar.subi (BitVec.ofNat 32 (i 0).val) 1#32) 0#32) (Scalar.select (Scalar.cmpi .eq 16#32 0#32) 1#32 16#32)) 0#32)) (Scalar.addi (Scalar.remsi (Scalar.maxsi (Scalar.subi (BitVec.ofNat 32 (i 0).val) 1#32) 0#32) (Scalar.select (Scalar.cmpi .eq 16#32 0#32) 1#32 16#32)) (Scalar.select (Scalar.cmpi .eq 16#32 0#32) 1#32 16#32)) (Scalar.remsi (Scalar.maxsi (Scalar.subi (BitVec.ofNat 32 (i 0).val) 1#32) 0#32) (Scalar.select (Scalar.cmpi .eq 16#32 0#32) 1#32 16#32))) (Scalar.select (Scalar.cmpi .eq 4#32 0#32) 1#32 4#32)) (Scalar.select (Scalar.cmpi .eq 4#32 0#32) 1#32 4#32)) (Scalar.remsi (Scalar.select (Scalar.andi (Scalar.xori (Scalar.cmpi .slt (Scalar.remsi (Scalar.maxsi (Scalar.subi (BitVec.ofNat 32 (i 0).val) 1#32) 0#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.maxsi (Scalar.subi (BitVec.ofNat 32 (i 0).val) 1#32) 0#32) (Scalar.select (Scalar.cmpi .eq 16#32 0#32) 1#32 16#32)) 0#32)) (Scalar.addi (Scalar.remsi (Scalar.maxsi (Scalar.subi (BitVec.ofNat 32 (i 0).val) 1#32) 0#32) (Scalar.select (Scalar.cmpi .eq 16#32 0#32) 1#32 16#32)) (Scalar.select (Scalar.cmpi .eq 16#32 0#32) 1#32 16#32)) (Scalar.remsi (Scalar.maxsi (Scalar.subi (BitVec.ofNat 32 (i 0).val) 1#32) 0#32) (Scalar.select (Scalar.cmpi .eq 16#32 0#32) 1#32 16#32))) (Scalar.select (Scalar.cmpi .eq 4#32 0#32) 1#32 4#32))) 0#32)) 0#32) = 1#1
theorem hcond0_2 : ∀ t : Fin cfg0.N, cond0_2 (grid0.coords t) ↔ (t.val % 689 = 0 ∨ t.val % 4 = 1) :=
  (by decide +kernel : ∀ t : Fin grid0.N, cond0_2 (grid0.coords t) ↔ (t.val % 689 = 0 ∨ t.val % 4 = 1))

abbrev cond0_3 (i : grid0.Coords) : Prop := k0_cond4 i = 1#1
theorem hcond0_3 : ∀ t : Fin cfg0.N, cond0_3 (grid0.coords t) ↔ t.val % 2 = 0 :=
  (by decide +kernel : ∀ t : Fin grid0.N, cond0_3 (grid0.coords t) ↔ t.val % 2 = 0)

abbrev cond0_4 (i : grid0.Coords) : Prop := k0_cond5 i = 1#1
theorem hcond0_4 : ∀ t : Fin cfg0.N, cond0_4 (grid0.coords t) ↔ t.val % 2 = 1 :=
  (by decide +kernel : ∀ t : Fin grid0.N, cond0_4 (grid0.coords t) ↔ t.val % 2 = 1)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
abbrev scM0_0 : Memref sig .tc .vmem S2x8x256 .f32 := Memref.whole cc0_scratch0
abbrev scM0_1 : Memref sig .tc .vmem S4096x512 .bf16 := Memref.whole cc0_scratch1
abbrev scM0_2 : Memref sig .tc .vmem S1024x512 .f32 := Memref.whole cc0_scratch2
abbrev scM0_3 : Memref sig .tc .vmem S1024x512 .f32 := Memref.whole cc0_scratch3
abbrev VS0_1 : View sig .tc .vmem S4096x512 .bf16 := scM0_1.view
abbrev VS0_2 : View sig .tc .vmem S1024x512 .f32 := scM0_2.view
abbrev VS0_3 : View sig .tc .vmem S1024x512 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.FfnIn.Hand

end
-- ==== Proof.FfnInFrame.RunA.lean ====
/- The first feed-forward matrix: the run of the body in case A. -/
module

public import proofs.«01_k».proof.Proof.FfnInFrame.Conditions

@[expose] public section

set_option maxRecDepth 16384

noncomputable section

namespace Cert.FfnIn.Hand

open Cert.FfnIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_A (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : cond0_1 i) (hc2 : cond0_2 i) (hc3 : cond0_3 i) (hc4 : ¬cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) :
    Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_ffn_in_conv_gate_eq_skeleton]; unfold cc0_ffn_in_conv_gate_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _, _; isplitr; swap; · iexact HS0
      ipureintro; rfl
    isplitl [HS1]; · iexists _; iexact HS1
    isplitl [HS2]; · iexists _; iexact HS2
    iexists _; iexact HS3

end Cert.FfnIn.Hand

end
-- ==== Proof.FfnInFrame.RunB.lean ====
/- The first feed-forward matrix: the run of the body in case B. -/
module

public import proofs.«01_k».proof.Proof.FfnInFrame.Conditions

@[expose] public section

set_option maxRecDepth 16384

noncomputable section

namespace Cert.FfnIn.Hand

open Cert.FfnIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_B (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i) (hc2 : cond0_2 i) (hc3 : ¬cond0_3 i) (hc4 : cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs2 : Vec F S1024x512 .f32) :
    Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ f, arg12.view.loc (c : Thread nD τ) ↦[arg12.view.set]{fullShare} arg12.view.writes (Elt F) f LS3)) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨[], [], ?_, fun E K => ?run⟩
  case run =>
    simp only [cc0_ffn_in_conv_gate_eq_skeleton]; unfold cc0_ffn_in_conv_gate_skel
    rw [k0_part69_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs1; obtain rfl := harg11.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]
    · iexists _; isplitr; · ipureintro; exact harg11.read_unread _
      iexact HS2
    iexists _; iexact HS3

end Cert.FfnIn.Hand

end
-- ==== Proof.FfnInFrame.RunC.lean ====
/- The first feed-forward matrix: the run of the body in case C. -/
module

public import proofs.«01_k».proof.Proof.FfnInFrame.Conditions

@[expose] public section

set_option maxRecDepth 16384

noncomputable section

namespace Cert.FfnIn.Hand

open Cert.FfnIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_C (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i) (hc2 : ¬cond0_2 i) (hc3 : cond0_3 i) (hc4 : ¬cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs3 : Vec F S1024x512 .f32) :
    Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨[], ?_, [], fun E K => ?run⟩
  case run =>
    simp only [cc0_ffn_in_conv_gate_eq_skeleton]; unfold cc0_ffn_in_conv_gate_skel
    rw [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs1; obtain rfl := harg12.eq_unread hfs3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]; · iexists _; iexact HS2
    iexists _; isplitr; · ipureintro; exact harg12.read_unread _
    iexact HS3

end Cert.FfnIn.Hand

end
-- ==== Proof.FfnInFrame.RunD.lean ====
/- The first feed-forward matrix: the run of the body in case D. -/
module

public import proofs.«01_k».proof.Proof.FfnInFrame.Conditions

@[expose] public section

set_option maxRecDepth 16384

noncomputable section

namespace Cert.FfnIn.Hand

open Cert.FfnIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_D (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i) (hc2 : ¬cond0_2 i) (hc3 : ¬cond0_3 i) (hc4 : cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs2 : Vec F S1024x512 .f32) :
    Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ f, arg12.view.loc (c : Thread nD τ) ↦[arg12.view.set]{fullShare} arg12.view.writes (Elt F) f LS3)) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨[], [], ?_, fun E K => ?run⟩
  case run =>
    simp only [cc0_ffn_in_conv_gate_eq_skeleton]; unfold cc0_ffn_in_conv_gate_skel
    rw [k0_part69_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs1; obtain rfl := harg11.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]
    · iexists _; isplitr; · ipureintro; exact harg11.read_unread _
      iexact HS2
    iexists _; iexact HS3

end Cert.FfnIn.Hand

end
-- ==== Proof.FfnInFrame.RunE.lean ====
/- The first feed-forward matrix: the run of the body in case E. -/
module

public import proofs.«01_k».proof.Proof.FfnInFrame.Conditions

@[expose] public section

set_option maxRecDepth 16384

noncomputable section

namespace Cert.FfnIn.Hand

open Cert.FfnIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_E (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i) (hc2 : ¬cond0_2 i) (hc3 : cond0_3 i) (hc4 : ¬cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs3 : Vec F S1024x512 .f32) :
    Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨?_, ?_, [], fun E K => ?run⟩
  case run =>
    simp only [cc0_ffn_in_conv_gate_eq_skeleton]; unfold cc0_ffn_in_conv_gate_skel
    rw [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _, _; isplitr; swap; · iexact HS0
      ipureintro; rfl
    isplitl [HS1]; · iexists _; iexact HS1
    isplitl [HS2]; · iexists _; iexact HS2
    iexists _; isplitr; · ipureintro; exact harg12.read_unread _
    iexact HS3

end Cert.FfnIn.Hand

end
-- ==== Proof.FfnInFrame.Frame.lean ====
/- The first feed-forward matrix: what the buffers hold after each point, the body at any point, and the frame. -/
module

public import proofs.«01_k».proof.Proof.FfnInFrame.RunA
public import proofs.«01_k».proof.Proof.FfnInFrame.RunB
public import proofs.«01_k».proof.Proof.FfnInFrame.RunC
public import proofs.«01_k».proof.Proof.FfnInFrame.RunD
public import proofs.«01_k».proof.Proof.FfnInFrame.RunE
public import Idealize.ShloMosaic.Lib.Claim

@[expose] public section

set_option maxRecDepth 16384

noncomputable section

namespace Cert.FfnIn.Hand

open Cert.FfnIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : cond0_0 i) (hc1 : cond0_1 i) (hc2 : cond0_2 i) (hc3 : cond0_3 i) (hc4 : ¬cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32)

theorem scover0_A_1 (y : S4096x512.Idx) :
    ∃ pc ∈ (kernelRun0_A c i a1 w1 a2 w2 a3 w3 a4 w4 a5 w5 a6 w6 a7 w7 a8 w8 a9 w9 a10 w10 a11 w11 a12 w12 hc0 hc1 hc2 hc3 hc4 x0 x1 x2 x3 x4 x5 x6).1, y ∈ pc.1.set :=
  View.cover_of_tiledL (kernelRun0_A c i a1 w1 a2 w2 a3 w3 a4 w4 a5 w5 a6 w6 a7 w7 a8 w8 a9 w9 a10 w10 a11 w11 a12 w12 hc0 hc1 hc2 hc3 hc4 x0 x1 x2 x3 x4 x5 x6).1 S4096x256.size (by sl_kernel_rfl) y

def sout0_A_1 : Vec F S4096x512 .bf16 :=
  VS0_1.read (Elt F) (VS0_1.writes (Elt F) VS0_1.junk (kernelRun0_A c i a1 w1 a2 w2 a3 w3 a4 w4 a5 w5 a6 w6 a7 w7 a8 w8 a9 w9 a10 w10 a11 w11 a12 w12 hc0 hc1 hc2 hc3 hc4 x0 x1 x2 x3 x4 x5 x6).1)

theorem scover0_A_2 (y : S1024x512.Idx) :
    ∃ pc ∈ (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.1, y ∈ pc.1.set :=
  View.cover_of_tiledL (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.1 S1024x512.size (by sl_kernel_rfl) y

def sout0_A_2 : Vec F S1024x512 .f32 :=
  VS0_2.read (Elt F) (VS0_2.writes (Elt F) VS0_2.junk (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.1)

theorem scover0_A_3 (y : S1024x512.Idx) :
    ∃ pc ∈ (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.1, y ∈ pc.1.set :=
  View.cover_of_tiledL (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.1 S1024x512.size (by sl_kernel_rfl) y

def sout0_A_3 : Vec F S1024x512 .f32 :=
  VS0_3.read (Elt F) (VS0_3.writes (Elt F) VS0_3.junk (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.1)

end

def sout0_B_1 (xs1 : Vec F S4096x512 .bf16) : Vec F S4096x512 .bf16 := xs1

def sout0_B_2 (xs2 : Vec F S1024x512 .f32) : Vec F S1024x512 .f32 := xs2

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : cond0_2 i) (hc3 : ¬cond0_3 i) (hc4 : cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs2 : Vec F S1024x512 .f32)

theorem scover0_B_3 (y : S1024x512.Idx) :
    ∃ pc ∈ (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.1, y ∈ pc.1.set :=
  View.cover_of_tiledL (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.1 S1024x512.size (by sl_kernel_rfl) y

def sout0_B_3 : Vec F S1024x512 .f32 :=
  VS0_3.read (Elt F) (VS0_3.writes (Elt F) VS0_3.junk (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.1)

end

def sout0_C_1 (xs1 : Vec F S4096x512 .bf16) : Vec F S4096x512 .bf16 := xs1

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : ¬cond0_2 i) (hc3 : cond0_3 i) (hc4 : ¬cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs3 : Vec F S1024x512 .f32)

theorem scover0_C_2 (y : S1024x512.Idx) :
    ∃ pc ∈ (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs1 xs3).2.1, y ∈ pc.1.set :=
  View.cover_of_tiledL (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs1 xs3).2.1 S1024x512.size (by sl_kernel_rfl) y

def sout0_C_2 : Vec F S1024x512 .f32 :=
  VS0_2.read (Elt F) (VS0_2.writes (Elt F) VS0_2.junk (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs1 xs3).2.1)

end

def sout0_C_3 (xs3 : Vec F S1024x512 .f32) : Vec F S1024x512 .f32 := xs3

def sout0_D_1 (xs1 : Vec F S4096x512 .bf16) : Vec F S4096x512 .bf16 := xs1

def sout0_D_2 (xs2 : Vec F S1024x512 .f32) : Vec F S1024x512 .f32 := xs2

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : ¬cond0_2 i) (hc3 : ¬cond0_3 i) (hc4 : cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs2 : Vec F S1024x512 .f32)

theorem scover0_D_3 (y : S1024x512.Idx) :
    ∃ pc ∈ (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.1, y ∈ pc.1.set :=
  View.cover_of_tiledL (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.1 S1024x512.size (by sl_kernel_rfl) y

def sout0_D_3 : Vec F S1024x512 .f32 :=
  VS0_3.read (Elt F) (VS0_3.writes (Elt F) VS0_3.junk (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.1)

end

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : cond0_1 i) (hc2 : ¬cond0_2 i) (hc3 : cond0_3 i) (hc4 : ¬cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs3 : Vec F S1024x512 .f32)

theorem scover0_E_1 (y : S4096x512.Idx) :
    ∃ pc ∈ (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs3).1, y ∈ pc.1.set :=
  View.cover_of_tiledL (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs3).1 S4096x256.size (by sl_kernel_rfl) y

def sout0_E_1 : Vec F S4096x512 .bf16 :=
  VS0_1.read (Elt F) (VS0_1.writes (Elt F) VS0_1.junk (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs3).1)

theorem scover0_E_2 (y : S1024x512.Idx) :
    ∃ pc ∈ (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs3).2.1, y ∈ pc.1.set :=
  View.cover_of_tiledL (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs3).2.1 S1024x512.size (by sl_kernel_rfl) y

def sout0_E_2 : Vec F S1024x512 .f32 :=
  VS0_2.read (Elt F) (VS0_2.writes (Elt F) VS0_2.junk (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs3).2.1)

end

def sout0_E_3 (xs3 : Vec F S1024x512 .f32) : Vec F S1024x512 .f32 := xs3

/-- What the buffers hold after each point. -/
def outsAt0 (c : Dev nD) : (n : ℕ) → n < cfg0.N → Vec F S4096x512 .bf16 × Vec F S1024x512 .f32 × Vec F S1024x512 .f32
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 689 = 0 then
      if h1 : (n + 1) % 16 = 0 then
        if h2 : ((n + 1) % 689 = 0 ∨ (n + 1) % 4 = 1) then
          if h3 : (n + 1) % 2 = 0 then
            if h4 : (n + 1) % 2 = 1 then
              False.elim (by have hN : n + 1 < 689 := lt_of_lt_of_eq hn (show cfg0.N = 689 from N_0); omega)
            else
              (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
          else
            False.elim (by have hN : n + 1 < 689 := lt_of_lt_of_eq hn (show cfg0.N = 689 from N_0); omega)
        else
          False.elim (by have hN : n + 1 < 689 := lt_of_lt_of_eq hn (show cfg0.N = 689 from N_0); omega)
      else
        False.elim (by have hN : n + 1 < 689 := lt_of_lt_of_eq hn (show cfg0.N = 689 from N_0); omega)
    else
      if h1 : (n + 1) % 16 = 0 then
        if h2 : ((n + 1) % 689 = 0 ∨ (n + 1) % 4 = 1) then
          False.elim (by have hN : n + 1 < 689 := lt_of_lt_of_eq hn (show cfg0.N = 689 from N_0); omega)
        else
          if h3 : (n + 1) % 2 = 0 then
            if h4 : (n + 1) % 2 = 1 then
              False.elim (by have hN : n + 1 < 689 := lt_of_lt_of_eq hn (show cfg0.N = 689 from N_0); omega)
            else
              (sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2, sout0_E_3 (outsAt0 c n (Nat.lt_of_succ_lt hn)).2.2)
          else
            False.elim (by have hN : n + 1 < 689 := lt_of_lt_of_eq hn (show cfg0.N = 689 from N_0); omega)
      else
        if h2 : ((n + 1) % 689 = 0 ∨ (n + 1) % 4 = 1) then
          if h3 : (n + 1) % 2 = 0 then
            False.elim (by have hN : n + 1 < 689 := lt_of_lt_of_eq hn (show cfg0.N = 689 from N_0); omega)
          else
            if h4 : (n + 1) % 2 = 1 then
              (sout0_B_1 (outsAt0 c n (Nat.lt_of_succ_lt hn)).1, sout0_B_2 (outsAt0 c n (Nat.lt_of_succ_lt hn)).2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1)
            else
              False.elim (by have hN : n + 1 < 689 := lt_of_lt_of_eq hn (show cfg0.N = 689 from N_0); omega)
        else
          if h3 : (n + 1) % 2 = 0 then
            if h4 : (n + 1) % 2 = 1 then
              False.elim (by have hN : n + 1 < 689 := lt_of_lt_of_eq hn (show cfg0.N = 689 from N_0); omega)
            else
              (sout0_C_1 (outsAt0 c n (Nat.lt_of_succ_lt hn)).1, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2, sout0_C_3 (outsAt0 c n (Nat.lt_of_succ_lt hn)).2.2)
          else
            if h4 : (n + 1) % 2 = 1 then
              (sout0_D_1 (outsAt0 c n (Nat.lt_of_succ_lt hn)).1, sout0_D_2 (outsAt0 c n (Nat.lt_of_succ_lt hn)).2.1, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1)
            else
              False.elim (by have hN : n + 1 < 689 := lt_of_lt_of_eq hn (show cfg0.N = 689 from N_0); omega)

theorem outsAt0_A (c : Dev nD) (t : Fin cfg0.N) (h0 : t.val % 689 = 0) (h1 : t.val % 16 = 0) (h2 : (t.val % 689 = 0 ∨ t.val % 4 = 1)) (h3 : t.val % 2 = 0) (h4 : ¬t.val % 2 = 1) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_pos h2).trans ((dif_pos h3).trans ((dif_neg h4).trans rfl))))

theorem outsAt0_B (c : Dev nD) (t : Fin cfg0.N) (h0 : ¬t.val % 689 = 0) (h1 : ¬t.val % 16 = 0) (h2 : (t.val % 689 = 0 ∨ t.val % 4 = 1)) (h3 : ¬t.val % 2 = 0) (h4 : t.val % 2 = 1) :
    outsAt0 m c t.val t.isLt = (sout0_B_1 (outsAt0 m c (t.val - 1) (Nat.lt_of_le_of_lt (Nat.sub_le _ _) t.isLt)).1, sout0_B_2 (outsAt0 m c (t.val - 1) (Nat.lt_of_le_of_lt (Nat.sub_le _ _) t.isLt)).2.1, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans rfl))))

theorem outsAt0_C (c : Dev nD) (t : Fin cfg0.N) (h0 : ¬t.val % 689 = 0) (h1 : ¬t.val % 16 = 0) (h2 : ¬(t.val % 689 = 0 ∨ t.val % 4 = 1)) (h3 : t.val % 2 = 0) (h4 : ¬t.val % 2 = 1) :
    outsAt0 m c t.val t.isLt = (sout0_C_1 (outsAt0 m c (t.val - 1) (Nat.lt_of_le_of_lt (Nat.sub_le _ _) t.isLt)).1, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2, sout0_C_3 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

theorem outsAt0_D (c : Dev nD) (t : Fin cfg0.N) (h0 : ¬t.val % 689 = 0) (h1 : ¬t.val % 16 = 0) (h2 : ¬(t.val % 689 = 0 ∨ t.val % 4 = 1)) (h3 : ¬t.val % 2 = 0) (h4 : t.val % 2 = 1) :
    outsAt0 m c t.val t.isLt = (sout0_D_1 (outsAt0 m c (t.val - 1) (Nat.lt_of_le_of_lt (Nat.sub_le _ _) t.isLt)).1, sout0_D_2 (outsAt0 m c (t.val - 1) (Nat.lt_of_le_of_lt (Nat.sub_le _ _) t.isLt)).2.1, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

theorem outsAt0_E (c : Dev nD) (t : Fin cfg0.N) (h0 : ¬t.val % 689 = 0) (h1 : t.val % 16 = 0) (h2 : ¬(t.val % 689 = 0 ∨ t.val % 4 = 1)) (h3 : t.val % 2 = 0) (h4 : ¬t.val % 2 = 1) :
    outsAt0 m c t.val t.isLt = (sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2, sout0_E_3 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans rfl))))

/-- The scratch buffers before a point. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ owns (c : Thread nD τ) scM0_2 fullShare ((outsAt0 m c n hn).2.1) ∗ owns (c : Thread nD τ) scM0_3 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ owns (c : Thread nD τ) scM0_2 fullShare ((outsAt0 m c n hn).2.1) ∗ owns (c : Thread nD τ) scM0_3 fullShare ((outsAt0 m c n hn).2.2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ owns (c : Thread nD τ) scM0_2 fullShare ((outsAt0 m c (n - 1) (by omega)).2.1) ∗ owns (c : Thread nD τ) scM0_3 fullShare ((outsAt0 m c (n - 1) (by omega)).2.2)) ∗ (∃ r, prngReg c r)) := by
  cases n with
  | zero => exact absurd rfl hz
  | succ n => rfl

def forgets0 : Fin 8 → Bool := fun w => w.val == 7

/-- The data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 24000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 689 := lt_of_lt_of_eq t.isLt (show cfg0.N = 689 from N_0)
  by_cases h0 : t.val % 689 = 0
  · by_cases h1 : t.val % 16 = 0
    · by_cases h2 : (t.val % 689 = 0 ∨ t.val % 4 = 1)
      · by_cases h3 : t.val % 2 = 0
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · rw [PhiS_castSucc m c t, PhiS_zero m c _ _ hz, PhiA0_eq]
              rw [outsAt0_A m c t h0 h1 h2 h3 h4]
              unfold sout0_A_1 sout0_A_2 sout0_A_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_A c (grid0.coords t) _ _ _ _ _ _ _ _ _ _ _ _ _ _ _ _ _ _ _ _ _ _ _ _ ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t)).2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexact HS1
              isplitl [HS2]; · iexact HS2
              isplitl [HS3]; · iexact HS3
              iintro ⟨H0, H1, H2, H3, H4, H5, H6, H7, HS0, ⟨%es1, HS1⟩, ⟨%es2, HS2⟩, ⟨%es3, HS3⟩⟩
              isplitl [HS0 HS1 HS2 HS3 Hg]
              · isplitl [HS0 HS1 HS2 HS3]
                · isplitl [HS0]
                  · iexact HS0
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _ _ _ _ _ _ _ _)
                  isplitl [HS2]
                  · unfold owns; iexists _; isplitr
                    swap; · iexact HS2
                    ipureintro; exact View.read_writes_of_cover _ _ _ _ _ (scover0_A_2 c _ _ _ _ _ _ _ _ _ _ _ _ _ _ _ _ _ _ _ _ _ _ _ _ _ _ _ _ _ _ _ _ _ _ _ _ _)
                  unfold owns; iexists _; isplitr
                  swap; · iexact HS3
                  ipureintro; exact View.read_writes_of_cover _ _ _ _ _ (scover0_A_3 c _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
            · exfalso; have hN : t.val < 689 := lt_of_lt_of_eq t.isLt (show cfg0.N = 689 from N_0); omega
        · exfalso; omega
      · exfalso; omega
    · exfalso; omega
  · by_cases h1 : t.val % 16 = 0
    · by_cases h2 : (t.val % 689 = 0 ∨ t.val % 4 = 1)
      · exfalso; omega
      · by_cases h3 : t.val % 2 = 0
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 689 := lt_of_lt_of_eq t.isLt (show cfg0.N = 689 from N_0); omega
            · rw [PhiS_castSucc m c t, PhiS_pos m c _ _ hz]
              rw [outsAt0_E m c t h0 h1 h2 h3 h4]
              unfold sout0_E_1 sout0_E_2 sout0_E_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_E c (grid0.coords t) _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) _).2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexists _; iexact HS1
              isplitl [HS2]; · iexists _; iexact HS2
              isplitl [HS3]; · iexact HS3
              iintro ⟨H0, H1, H2, H3, H4, H5, H6, H7, HS0, ⟨%es1, HS1⟩, ⟨%es2, HS2⟩, HS3⟩
              isplitl [HS0 HS1 HS2 HS3 Hg]
              · isplitl [HS0 HS1 HS2 HS3]
                · isplitl [HS0]
                  · iexact HS0
                  isplitl [HS1]
                  · unfold owns; iexists _; isplitr
                    swap; · iexact HS1
                    ipureintro; exact View.read_writes_of_cover _ _ _ _ _ (scover0_E_1 c _ _ _ _ _ _ _ _ _ _ _ _ _ _ _ _ _ _ _ _ _ _ _ _ _ _ _ _ _ _ _ _ _ _ _ _ _ _)
                  isplitl [HS2]
                  · unfold owns; iexists _; isplitr
                    swap; · iexact HS2
                    ipureintro; exact View.read_writes_of_cover _ _ _ _ _ (scover0_E_2 c _ _ _ _ _ _ _ _ _ _ _ _ _ _ _ _ _ _ _ _ _ _ _ _ _ _ _ _ _ _ _ _ _ _ _ _ _ _)
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
        · exfalso; omega
    · by_cases h2 : (t.val % 689 = 0 ∨ t.val % 4 = 1)
      · by_cases h3 : t.val % 2 = 0
        · exfalso; omega
        · by_cases h4 : t.val % 2 = 1
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 689 := lt_of_lt_of_eq t.isLt (show cfg0.N = 689 from N_0); omega
            · rw [PhiS_castSucc m c t, PhiS_pos m c _ _ hz]
              rw [outsAt0_B m c t h0 h1 h2 h3 h4]
              unfold sout0_B_1 sout0_B_2 sout0_B_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_B c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (iblk m c 4 t) (iblk m c 5 t) (iblk m c 6 t) _ _).2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexact HS1
              isplitl [HS2]; · iexact HS2
              isplitl [HS3]; · iexists _; iexact HS3
              iintro ⟨H0, H1, H2, H3, H4, H5, H6, H7, HS0, HS1, HS2, ⟨%es3, HS3⟩⟩
              isplitl [HS0 HS1 HS2 HS3 Hg]
              · isplitl [HS0 HS1 HS2 HS3]
                · isplitl [HS0]
                  · iexact HS0
                  isplitl [HS1]
                  · iexact HS1
                  isplitl [HS2]
                  · iexact HS2
                  unfold owns; iexists _; isplitr
                  swap; · iexact HS3
                  ipureintro; exact View.read_writes_of_cover _ _ _ _ _ (scover0_B_3 c _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
          · exfalso; omega
      · by_cases h3 : t.val % 2 = 0
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 689 := lt_of_lt_of_eq t.isLt (show cfg0.N = 689 from N_0); omega
            · rw [PhiS_castSucc m c t, PhiS_pos m c _ _ hz]
              rw [outsAt0_C m c t h0 h1 h2 h3 h4]
              unfold sout0_C_1 sout0_C_2 sout0_C_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_C c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) _ _).2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexact HS1
              isplitl [HS2]; · iexists _; iexact HS2
              isplitl [HS3]; · iexact HS3
              iintro ⟨H0, H1, H2, H3, H4, H5, H6, H7, HS0, HS1, ⟨%es2, HS2⟩, HS3⟩
              isplitl [HS0 HS1 HS2 HS3 Hg]
              · isplitl [HS0 HS1 HS2 HS3]
                · isplitl [HS0]
                  · iexact HS0
                  isplitl [HS1]
                  · iexact HS1
                  isplitl [HS2]
                  · unfold owns; iexists _; isplitr
                    swap; · iexact HS2
                    ipureintro; exact View.read_writes_of_cover _ _ _ _ _ (scover0_C_2 c _ _ _ _ _ _ _ _ _ _ _ _ _ _ _ _ _ _ _ _ _ _ _ _ _ _ _ _ _ _ _ _ _ _ _ _ _ _ _)
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
        · by_cases h4 : t.val % 2 = 1
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            by_cases hz : t.val = 0
            · exfalso; have hN : t.val < 689 := lt_of_lt_of_eq t.isLt (show cfg0.N = 689 from N_0); omega
            · rw [PhiS_castSucc m c t, PhiS_pos m c _ _ hz]
              rw [outsAt0_D m c t h0 h1 h2 h3 h4]
              unfold sout0_D_1 sout0_D_2 sout0_D_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) _ _).2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexact HS1
              isplitl [HS2]; · iexact HS2
              isplitl [HS3]; · iexists _; iexact HS3
              iintro ⟨H0, H1, H2, H3, H4, H5, H6, H7, HS0, HS1, HS2, ⟨%es3, HS3⟩⟩
              isplitl [HS0 HS1 HS2 HS3 Hg]
              · isplitl [HS0 HS1 HS2 HS3]
                · isplitl [HS0]
                  · iexact HS0
                  isplitl [HS1]
                  · iexact HS1
                  isplitl [HS2]
                  · iexact HS2
                  unfold owns; iexists _; isplitr
                  swap; · iexact HS3
                  ipureintro; exact View.read_writes_of_cover _ _ _ _ _ (scover0_D_3 c _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
          · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 689 := N_0; omega)

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments are kept. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((A_eq m c 0).trans (V_main_arg0 m c)),
      (Pipeline.RDat.FramePost.arr_in h c 2 rfl).trans ((A_eq m c 2).trans (V_main_arg1 m c)),
      (Pipeline.RDat.FramePost.arr_in h c 4 rfl).trans ((A_eq m c 4).trans (V_main_arg2 m c)),
      ((h c).2 main_arg3 (Pipeline.mem_restRefs_of main_arg3 (by decide) (by decide))).trans (V_main_arg3 m c)⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FfnIn.Hand

end
-- ==== Proof.FfnInIdealFrame.Conditions.lean ====
/- The first feed-forward matrix: where over the points each branch of the body is taken. -/
module

public import proofs.«01_k».proof.Proof.Gen.FfnInIdeal.Frame
public import proofs.«01_k».proof.Proof.Gen.FfnInIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnInIdeal.Hand

open Cert.FfnInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 689 = 0 :=
  (fun t => by
    have ht : t.val < 689 := Nat.lt_of_lt_of_eq t.isLt N_0
    have e0 : (grid0.coords t 0).val = t.val / 1 % 689 := Pipeline.Grid.coords_val t 0 (by decide) rfl
    simp only [cond0_0, e0]
    word_cmp
   : ∀ t : Fin grid0.N, cond0_0 (grid0.coords t) ↔ t.val % 689 = 0)

abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)) 0#32) = 1#1
theorem hcond0_1 : ∀ t : Fin cfg0.N, cond0_1 (grid0.coords t) ↔ t.val % 16 = 0 :=
  (by decide +kernel : ∀ t : Fin grid0.N, cond0_1 (grid0.coords t) ↔ t.val % 16 = 0)

abbrev cond0_2 (i : grid0.Coords) : Prop := (Scalar.cmpi .ne (Scalar.extui (Scalar.cmpi .eq (Scalar.select (Scalar.andi (Scalar.xori (Scalar.cmpi .slt (Scalar.remsi (Scalar.select (Scalar.andi (Scalar.xori (Scalar.cmpi .slt (Scalar.remsi (Scalar.maxsi (Scalar.subi (BitVec.ofNat 32 (i 0).val) 1#32) 0#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.maxsi (Scalar.subi (BitVec.ofNat 32 (i 0).val) 1#32) 0#32) (Scalar.select (Scalar.cmpi .eq 16#32 0#32) 1#32 16#32)) 0#32)) (Scalar.addi (Scalar.remsi (Scalar.maxsi (Scalar.subi (BitVec.ofNat 32 (i 0).val) 1#32) 0#32) (Scalar.select (Scalar.cmpi .eq 16#32 0#32) 1#32 16#32)) (Scalar.select (Scalar.cmpi .eq 16#32 0#32) 1#32 16#32)) (Scalar.remsi (Scalar.maxsi (Scalar.subi (BitVec.ofNat 32 (i 0).val) 1#32) 0#32) (Scalar.select (Scalar.cmpi .eq 16#32 0#32) 1#32 16#32))) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.select (Scalar.andi (Scalar.xori (Scalar.cmpi .slt (Scalar.remsi (Scalar.maxsi (Scalar.subi (BitVec.ofNat 32 (i 0).val) 1#32) 0#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.maxsi (Scalar.subi (BitVec.ofNat 32 (i 0).val) 1#32) 0#32) (Scalar.select (Scalar.cmpi .eq 16#32 0#32) 1#32 16#32)) 0#32)) (Scalar.addi (Scalar.remsi (Scalar.maxsi (Scalar.subi (BitVec.ofNat 32 (i 0).val) 1#32) 0#32) (Scalar.select (Scalar.cmpi .eq 16#32 0#32) 1#32 16#32)) (Scalar.select (Scalar.cmpi .eq 16#32 0#32) 1#32 16#32)) (Scalar.remsi (Scalar.maxsi (Scalar.subi (BitVec.ofNat 32 (i 0).val) 1#32) 0#32) (Scalar.select (Scalar.cmpi .eq 16#32 0#32) 1#32 16#32))) (Scalar.select (Scalar.cmpi .eq 4#32 0#32) 1#32 4#32)) 0#32)) (Scalar.addi (Scalar.remsi (Scalar.select (Scalar.andi (Scalar.xori (Scalar.cmpi .slt (Scalar.remsi (Scalar.maxsi (Scalar.subi (BitVec.ofNat 32 (i 0).val) 1#32) 0#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.maxsi (Scalar.subi (BitVec.ofNat 32 (i 0).val) 1#32) 0#32) (Scalar.select (Scalar.cmpi .eq 16#32 0#32) 1#32 16#32)) 0#32)) (Scalar.addi (Scalar.remsi (Scalar.maxsi (Scalar.subi (BitVec.ofNat 32 (i 0).val) 1#32) 0#32) (Scalar.select (Scalar.cmpi .eq 16#32 0#32) 1#32 16#32)) (Scalar.select (Scalar.cmpi .eq 16#32 0#32) 1#32 16#32)) (Scalar.remsi (Scalar.maxsi (Scalar.subi (BitVec.ofNat 32 (i 0).val) 1#32) 0#32) (Scalar.select (Scalar.cmpi .eq 16#32 0#32) 1#32 16#32))) (Scalar.select (Scalar.cmpi .eq 4#32 0#32) 1#32 4#32)) (Scalar.select (Scalar.cmpi .eq 4#32 0#32) 1#32 4#32)) (Scalar.remsi (Scalar.select (Scalar.andi (Scalar.xori (Scalar.cmpi .slt (Scalar.remsi (Scalar.maxsi (Scalar.subi (BitVec.ofNat 32 (i 0).val) 1#32) 0#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.maxsi (Scalar.subi (BitVec.ofNat 32 (i 0).val) 1#32) 0#32) (Scalar.select (Scalar.cmpi .eq 16#32 0#32) 1#32 16#32)) 0#32)) (Scalar.addi (Scalar.remsi (Scalar.maxsi (Scalar.subi (BitVec.ofNat 32 (i 0).val) 1#32) 0#32) (Scalar.select (Scalar.cmpi .eq 16#32 0#32) 1#32 16#32)) (Scalar.select (Scalar.cmpi .eq 16#32 0#32) 1#32 16#32)) (Scalar.remsi (Scalar.maxsi (Scalar.subi (BitVec.ofNat 32 (i 0).val) 1#32) 0#32) (Scalar.select (Scalar.cmpi .eq 16#32 0#32) 1#32 16#32))) (Scalar.select (Scalar.cmpi .eq 4#32 0#32) 1#32 4#32))) 0#32)) 0#32) = 1#1
theorem hcond0_2 : ∀ t : Fin cfg0.N, cond0_2 (grid0.coords t) ↔ (t.val % 689 = 0 ∨ t.val % 4 = 1) :=
  (by decide +kernel : ∀ t : Fin grid0.N, cond0_2 (grid0.coords t) ↔ (t.val % 689 = 0 ∨ t.val % 4 = 1))

abbrev cond0_3 (i : grid0.Coords) : Prop := k0_cond4 i = 1#1
theorem hcond0_3 : ∀ t : Fin cfg0.N, cond0_3 (grid0.coords t) ↔ t.val % 2 = 0 :=
  (by decide +kernel : ∀ t : Fin grid0.N, cond0_3 (grid0.coords t) ↔ t.val % 2 = 0)

abbrev cond0_4 (i : grid0.Coords) : Prop := k0_cond5 i = 1#1
theorem hcond0_4 : ∀ t : Fin cfg0.N, cond0_4 (grid0.coords t) ↔ t.val % 2 = 1 :=
  (by decide +kernel : ∀ t : Fin grid0.N, cond0_4 (grid0.coords t) ↔ t.val % 2 = 1)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

abbrev conds0_A (i : grid0.Coords) : Prop := cond0_0 i ∧ cond0_1 i ∧ cond0_2 i ∧ cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
abbrev conds0_B (i : grid0.Coords) : Prop := ¬cond0_0 i ∧ ¬cond0_1 i ∧ cond0_2 i ∧ ¬cond0_3 i ∧ cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
abbrev conds0_C (i : grid0.Coords) : Prop := ¬cond0_0 i ∧ ¬cond0_1 i ∧ ¬cond0_2 i ∧ cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
abbrev conds0_D (i : grid0.Coords) : Prop := ¬cond0_0 i ∧ ¬cond0_1 i ∧ ¬cond0_2 i ∧ ¬cond0_3 i ∧ cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
abbrev conds0_E (i : grid0.Coords) : Prop := ¬cond0_0 i ∧ cond0_1 i ∧ ¬cond0_2 i ∧ cond0_3 i ∧ ¬cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
theorem liveAt0_7_A : ∀ t : Fin cfg0.N, cond0_0 (grid0.coords t) → cond0_1 (grid0.coords t) → cond0_2 (grid0.coords t) → cond0_3 (grid0.coords t) → ¬cond0_4 (grid0.coords t) → cfg0.idle 7 (grid0.coords t) = false :=
  fun t h0 h1 h2 h3 h4 => (by decide +kernel : ∀ t : Fin cfg0.N, conds0_A (grid0.coords t) → cfg0.idle 7 (grid0.coords t) = false) t ⟨h0, h1, h2, h3, h4⟩
theorem liveAt0_7_B : ∀ t : Fin cfg0.N, ¬cond0_0 (grid0.coords t) → ¬cond0_1 (grid0.coords t) → cond0_2 (grid0.coords t) → ¬cond0_3 (grid0.coords t) → cond0_4 (grid0.coords t) → cfg0.idle 7 (grid0.coords t) = false :=
  fun t h0 h1 h2 h3 h4 => (by decide +kernel : ∀ t : Fin cfg0.N, conds0_B (grid0.coords t) → cfg0.idle 7 (grid0.coords t) = false) t ⟨h0, h1, h2, h3, h4⟩
theorem liveAt0_7_C : ∀ t : Fin cfg0.N, ¬cond0_0 (grid0.coords t) → ¬cond0_1 (grid0.coords t) → ¬cond0_2 (grid0.coords t) → cond0_3 (grid0.coords t) → ¬cond0_4 (grid0.coords t) → cfg0.idle 7 (grid0.coords t) = false :=
  fun t h0 h1 h2 h3 h4 => (by decide +kernel : ∀ t : Fin cfg0.N, conds0_C (grid0.coords t) → cfg0.idle 7 (grid0.coords t) = false) t ⟨h0, h1, h2, h3, h4⟩
theorem liveAt0_7_D : ∀ t : Fin cfg0.N, ¬cond0_0 (grid0.coords t) → ¬cond0_1 (grid0.coords t) → ¬cond0_2 (grid0.coords t) → ¬cond0_3 (grid0.coords t) → cond0_4 (grid0.coords t) → cfg0.idle 7 (grid0.coords t) = false :=
  fun t h0 h1 h2 h3 h4 => (by decide +kernel : ∀ t : Fin cfg0.N, conds0_D (grid0.coords t) → cfg0.idle 7 (grid0.coords t) = false) t ⟨h0, h1, h2, h3, h4⟩
theorem liveAt0_7_E : ∀ t : Fin cfg0.N, ¬cond0_0 (grid0.coords t) → cond0_1 (grid0.coords t) → ¬cond0_2 (grid0.coords t) → cond0_3 (grid0.coords t) → ¬cond0_4 (grid0.coords t) → cfg0.idle 7 (grid0.coords t) = false :=
  fun t h0 h1 h2 h3 h4 => (by decide +kernel : ∀ t : Fin cfg0.N, conds0_E (grid0.coords t) → cfg0.idle 7 (grid0.coords t) = false) t ⟨h0, h1, h2, h3, h4⟩

abbrev VO0_7 : View sig .tc .vmem S1024x256 .bf16 := (Memref.whole cc0_stg7_0 : Memref sig .tc .vmem S1024x256 .bf16).view
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
abbrev scM0_0 : Memref sig .tc .vmem S2x8x256 .f32 := Memref.whole cc0_scratch0
abbrev scM0_1 : Memref sig .tc .vmem S4096x512 .bf16 := Memref.whole cc0_scratch1
abbrev scM0_2 : Memref sig .tc .vmem S1024x512 .f32 := Memref.whole cc0_scratch2
abbrev scM0_3 : Memref sig .tc .vmem S1024x512 .f32 := Memref.whole cc0_scratch3
abbrev VS0_0 : View sig .tc .vmem S2x8x256 .f32 := scM0_0.view
abbrev VS0_1 : View sig .tc .vmem S4096x512 .bf16 := scM0_1.view
abbrev VS0_2 : View sig .tc .vmem S1024x512 .f32 := scM0_2.view
abbrev VS0_3 : View sig .tc .vmem S1024x512 .f32 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.FfnInIdeal.Hand

end
-- ==== Proof.FfnInIdealFrame.RunA.lean ====
/- The first feed-forward matrix: the run of the body in case A. -/
module

public import proofs.«01_k».proof.Proof.FfnInIdealFrame.Conditions

@[expose] public section

set_option maxRecDepth 16384

noncomputable section

namespace Cert.FfnInIdeal.Hand

open Cert.FfnInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_A (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : cond0_1 i) (hc2 : cond0_2 i) (hc3 : cond0_3 i) (hc4 : ¬cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) :
    Σ' (L7 : List (View.Piece (Elt F) S1024x256 .bf16)), Σ' (LS0 : List (View.Piece (Elt F) S2x8x256 .f32)), Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_ffn_in_conv_gate_eq_skeleton]; unfold cc0_ffn_in_conv_gate_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    isplitl [HS2]; · iexists _; iexact HS2
    iexists _; iexact HS3

end Cert.FfnInIdeal.Hand

end
-- ==== Proof.FfnInIdealFrame.RunB.lean ====
/- The first feed-forward matrix: the run of the body in case B. -/
module

public import proofs.«01_k».proof.Proof.FfnInIdealFrame.Conditions

@[expose] public section

set_option maxRecDepth 16384

noncomputable section

namespace Cert.FfnInIdeal.Hand

open Cert.FfnInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_B (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i) (hc2 : cond0_2 i) (hc3 : ¬cond0_3 i) (hc4 : cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs2 : Vec F S1024x512 .f32) :
    Σ' (L7 : List (View.Piece (Elt F) S1024x256 .bf16)), Σ' (LS0 : List (View.Piece (Elt F) S2x8x256 .f32)), Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ owns (c : Thread nD τ) arg10 fullShare xs1 ∗ owns (c : Thread nD τ) arg11 fullShare xs2 ∗ (∃ f, arg12.view.loc (c : Thread nD τ) ↦[arg12.view.set]{fullShare} arg12.view.writes (Elt F) f LS3)) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨?_, ?_, [], [], ?_, fun E K => ?run⟩
  case run =>
    simp only [cc0_ffn_in_conv_gate_eq_skeleton]; unfold cc0_ffn_in_conv_gate_skel
    rw [k0_part69_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs1; obtain rfl := harg11.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]
    · iexists _; isplitr; · ipureintro; exact harg10.read_unread _
      iexact HS1
    isplitl [HS2]
    · iexists _; isplitr; · ipureintro; exact harg11.read_unread _
      iexact HS2
    iexists _; iexact HS3

end Cert.FfnInIdeal.Hand

end
-- ==== Proof.FfnInIdealFrame.RunC.lean ====
/- The first feed-forward matrix: the run of the body in case C. -/
module

public import proofs.«01_k».proof.Proof.FfnInIdealFrame.Conditions

@[expose] public section

set_option maxRecDepth 16384

noncomputable section

namespace Cert.FfnInIdeal.Hand

open Cert.FfnInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_C (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i) (hc2 : ¬cond0_2 i) (hc3 : cond0_3 i) (hc4 : ¬cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs0 : Vec F S2x8x256 .f32) (xs1 : Vec F S4096x512 .bf16) (xs3 : Vec F S1024x512 .f32) :
    Σ' (L7 : List (View.Piece (Elt F) S1024x256 .bf16)), Σ' (LS0 : List (View.Piece (Elt F) S2x8x256 .f32)), Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ owns (c : Thread nD τ) arg10 fullShare xs1 ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨?_, ?_, [], ?_, [], fun E K => ?run⟩
  case run =>
    simp only [cc0_ffn_in_conv_gate_eq_skeleton]; unfold cc0_ffn_in_conv_gate_skel
    rw [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1; obtain rfl := harg12.eq_unread hfs3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]
    · iexists _; isplitr; · ipureintro; exact harg10.read_unread _
      iexact HS1
    isplitl [HS2]; · iexists _; iexact HS2
    iexists _; isplitr; · ipureintro; exact harg12.read_unread _
    iexact HS3

end Cert.FfnInIdeal.Hand

end
-- ==== Proof.FfnInIdealFrame.RunD.lean ====
/- The first feed-forward matrix: the run of the body in case D. -/
module

public import proofs.«01_k».proof.Proof.FfnInIdealFrame.Conditions

@[expose] public section

set_option maxRecDepth 16384

noncomputable section

namespace Cert.FfnInIdeal.Hand

open Cert.FfnInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_D (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i) (hc2 : ¬cond0_2 i) (hc3 : ¬cond0_3 i) (hc4 : cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs0 : Vec F S2x8x256 .f32) (xs1 : Vec F S4096x512 .bf16) (xs2 : Vec F S1024x512 .f32) :
    Σ' (L7 : List (View.Piece (Elt F) S1024x256 .bf16)), Σ' (LS0 : List (View.Piece (Elt F) S2x8x256 .f32)), Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ owns (c : Thread nD τ) arg10 fullShare xs1 ∗ owns (c : Thread nD τ) arg11 fullShare xs2 ∗ (∃ f, arg12.view.loc (c : Thread nD τ) ↦[arg12.view.set]{fullShare} arg12.view.writes (Elt F) f LS3)) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨?_, ?_, [], [], ?_, fun E K => ?run⟩
  case run =>
    simp only [cc0_ffn_in_conv_gate_eq_skeleton]; unfold cc0_ffn_in_conv_gate_skel
    rw [k0_part69_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1; obtain rfl := harg11.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]
    · iexists _; isplitr; · ipureintro; exact harg10.read_unread _
      iexact HS1
    isplitl [HS2]
    · iexists _; isplitr; · ipureintro; exact harg11.read_unread _
      iexact HS2
    iexists _; iexact HS3

end Cert.FfnInIdeal.Hand

end
-- ==== Proof.FfnInIdealFrame.RunE.lean ====
/- The first feed-forward matrix: the run of the body in case E. -/
module

public import proofs.«01_k».proof.Proof.FfnInIdealFrame.Conditions

@[expose] public section

set_option maxRecDepth 16384

noncomputable section

namespace Cert.FfnInIdeal.Hand

open Cert.FfnInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
noncomputable def kernelRun0_E (c : Dev nD) (i : grid0.Coords) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S2x8x256 .f32) (harg9 : arg9.IsWhole) (arg10 : Memref sig .tc .vmem S4096x512 .bf16) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i) (hc2 : ¬cond0_2 i) (hc3 : cond0_3 i) (hc4 : ¬cond0_4 i)
    (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs0 : Vec F S2x8x256 .f32) (xs3 : Vec F S1024x512 .f32) :
    Σ' (L7 : List (View.Piece (Elt F) S1024x256 .bf16)), Σ' (LS0 : List (View.Piece (Elt F) S2x8x256 .f32)), Σ' (LS1 : List (View.Piece (Elt F) S4096x512 .bf16)), Σ' (LS2 : List (View.Piece (Elt F) S1024x512 .f32)), { LS3 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0_ffn_in_conv_gate i arg1 harg1 arg2 harg2 arg3 harg3 arg4 harg4 arg5 harg5 arg6 harg6 arg7 harg7 arg8 harg8 arg9 harg9 arg10 harg10 arg11 harg11 arg12 harg12) K } := by
  refine ⟨?_, ?_, ?_, ?_, [], fun E K => ?run⟩
  case run =>
    simp only [cc0_ffn_in_conv_gate_eq_skeleton]; unfold cc0_ffn_in_conv_gate_skel
    rw [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg12.eq_unread hfs3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    isplitl [HS1]; · iexists _; iexact HS1
    isplitl [HS2]; · iexists _; iexact HS2
    iexists _; isplitr; · ipureintro; exact harg12.read_unread _
    iexact HS3

end Cert.FfnInIdeal.Hand

end
-- ==== Proof.FfnInIdealFrame.Frame.lean ====
/- The first feed-forward matrix: what the buffers hold after each point, the body at any point, and the frame. -/
module

public import proofs.«01_k».proof.Proof.FfnInIdealFrame.RunA
public import proofs.«01_k».proof.Proof.FfnInIdealFrame.RunB
public import proofs.«01_k».proof.Proof.FfnInIdealFrame.RunC
public import proofs.«01_k».proof.Proof.FfnInIdealFrame.RunD
public import proofs.«01_k».proof.Proof.FfnInIdealFrame.RunE
public import Idealize.ShloMosaic.Lib.Claim

@[expose] public section

set_option maxRecDepth 16384

noncomputable section

namespace Cert.FfnInIdeal.Hand

open Cert.FfnInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : cond0_0 i) (hc1 : cond0_1 i) (hc2 : cond0_2 i) (hc3 : cond0_3 i) (hc4 : ¬cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32)

theorem cover0_A_7 (y : S1024x256.Idx) :
    ∃ pc ∈ (kernelRun0_A c i a1 w1 a2 w2 a3 w3 a4 w4 a5 w5 a6 w6 a7 w7 a8 w8 a9 w9 a10 w10 a11 w11 a12 w12 hc0 hc1 hc2 hc3 hc4 x0 x1 x2 x3 x4 x5 x6).1, y ∈ pc.1.set :=
  View.cover_of_tiledL (kernelRun0_A c i a1 w1 a2 w2 a3 w3 a4 w4 a5 w5 a6 w6 a7 w7 a8 w8 a9 w9 a10 w10 a11 w11 a12 w12 hc0 hc1 hc2 hc3 hc4 x0 x1 x2 x3 x4 x5 x6).1 S64x256.size (by sl_kernel_rfl) y

def out0_A_7 : Vec F S1024x256 .bf16 :=
  VO0_7.read (Elt F) (VO0_7.writes (Elt F) VO0_7.junk (kernelRun0_A c i a1 w1 a2 w2 a3 w3 a4 w4 a5 w5 a6 w6 a7 w7 a8 w8 a9 w9 a10 w10 a11 w11 a12 w12 hc0 hc1 hc2 hc3 hc4 x0 x1 x2 x3 x4 x5 x6).1)

theorem scover0_A_0 (y : S2x8x256.Idx) :
    ∃ pc ∈ (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.1, y ∈ pc.1.set :=
  View.cover_of_wholeMem (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.1 (by sl_whole_mem) y

def sout0_A_0 : Vec F S2x8x256 .f32 :=
  VS0_0.read (Elt F) (VS0_0.writes (Elt F) VS0_0.junk (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.1)

theorem scover0_A_1 (y : S4096x512.Idx) :
    ∃ pc ∈ (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.1, y ∈ pc.1.set :=
  View.cover_of_tiledL (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.1 S4096x256.size (by sl_kernel_rfl) y

def sout0_A_1 : Vec F S4096x512 .bf16 :=
  VS0_1.read (Elt F) (VS0_1.writes (Elt F) VS0_1.junk (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.1)

theorem scover0_A_2 (y : S1024x512.Idx) :
    ∃ pc ∈ (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.2.1, y ∈ pc.1.set :=
  View.cover_of_tiledL (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.2.1 S1024x512.size (by sl_kernel_rfl) y

def sout0_A_2 : Vec F S1024x512 .f32 :=
  VS0_2.read (Elt F) (VS0_2.writes (Elt F) VS0_2.junk (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.2.1)

theorem scover0_A_3 (y : S1024x512.Idx) :
    ∃ pc ∈ (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.2.2.1, y ∈ pc.1.set :=
  View.cover_of_tiledL (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.2.2.1 S1024x512.size (by sl_kernel_rfl) y

def sout0_A_3 : Vec F S1024x512 .f32 :=
  VS0_3.read (Elt F) (VS0_3.writes (Elt F) VS0_3.junk (kernelRun0_A c i a1 w1 a2 w2 a3 w3 a4 w4 a5 w5 a6 w6 a7 w7 a8 w8 a9 w9 a10 w10 a11 w11 a12 w12 hc0 hc1 hc2 hc3 hc4 x0 x1 x2 x3 x4 x5 x6).2.2.2.2.1)

end

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : cond0_2 i) (hc3 : ¬cond0_3 i) (hc4 : cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs2 : Vec F S1024x512 .f32)

theorem cover0_B_7 (y : S1024x256.Idx) :
    ∃ pc ∈ (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).1, y ∈ pc.1.set :=
  View.cover_of_tiledL (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).1 S64x256.size (by sl_kernel_rfl) y

def out0_B_7 : Vec F S1024x256 .bf16 :=
  VO0_7.read (Elt F) (VO0_7.writes (Elt F) VO0_7.junk (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).1)

theorem scover0_B_0 (y : S2x8x256.Idx) :
    ∃ pc ∈ (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.1, y ∈ pc.1.set :=
  View.cover_of_wholeMem (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.1 (by sl_whole_mem) y

def sout0_B_0 : Vec F S2x8x256 .f32 :=
  VS0_0.read (Elt F) (VS0_0.writes (Elt F) VS0_0.junk (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.1)

end

def sout0_B_1 (xs1 : Vec F S4096x512 .bf16) : Vec F S4096x512 .bf16 := xs1

def sout0_B_2 (xs2 : Vec F S1024x512 .f32) : Vec F S1024x512 .f32 := xs2

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : cond0_2 i) (hc3 : ¬cond0_3 i) (hc4 : cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs1 : Vec F S4096x512 .bf16) (xs2 : Vec F S1024x512 .f32)

theorem scover0_B_3 (y : S1024x512.Idx) :
    ∃ pc ∈ (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.2.2.1, y ∈ pc.1.set :=
  View.cover_of_tiledL (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.2.2.1 S1024x512.size (by sl_kernel_rfl) y

def sout0_B_3 : Vec F S1024x512 .f32 :=
  VS0_3.read (Elt F) (VS0_3.writes (Elt F) VS0_3.junk (kernelRun0_B c i a1 w1 a2 w2 a3 w3 a4 w4 a5 w5 a6 w6 a7 w7 a8 w8 a9 w9 a10 w10 a11 w11 a12 w12 hc0 hc1 hc2 hc3 hc4 x0 x1 x2 x3 x4 x5 x6 xs1 xs2).2.2.2.2.1)

end

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : ¬cond0_2 i) (hc3 : cond0_3 i) (hc4 : ¬cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs0 : Vec F S2x8x256 .f32) (xs1 : Vec F S4096x512 .bf16) (xs3 : Vec F S1024x512 .f32)

theorem cover0_C_7 (y : S1024x256.Idx) :
    ∃ pc ∈ (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).1, y ∈ pc.1.set :=
  View.cover_of_tiledL (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).1 S64x256.size (by sl_kernel_rfl) y

def out0_C_7 : Vec F S1024x256 .bf16 :=
  VO0_7.read (Elt F) (VO0_7.writes (Elt F) VO0_7.junk (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).1)

theorem scover0_C_0 (y : S2x8x256.Idx) :
    ∃ pc ∈ (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).2.1, y ∈ pc.1.set :=
  View.cover_of_tiledL (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).2.1 S1x8x256.size (by sl_kernel_rfl) y

def sout0_C_0 : Vec F S2x8x256 .f32 :=
  VS0_0.read (Elt F) (VS0_0.writes (Elt F) VS0_0.junk (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).2.1)

end

def sout0_C_1 (xs1 : Vec F S4096x512 .bf16) : Vec F S4096x512 .bf16 := xs1

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : ¬cond0_2 i) (hc3 : cond0_3 i) (hc4 : ¬cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs0 : Vec F S2x8x256 .f32) (xs1 : Vec F S4096x512 .bf16) (xs3 : Vec F S1024x512 .f32)

theorem scover0_C_2 (y : S1024x512.Idx) :
    ∃ pc ∈ (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).2.2.2.1, y ∈ pc.1.set :=
  View.cover_of_tiledL (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).2.2.2.1 S1024x512.size (by sl_kernel_rfl) y

def sout0_C_2 : Vec F S1024x512 .f32 :=
  VS0_2.read (Elt F) (VS0_2.writes (Elt F) VS0_2.junk (kernelRun0_C c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs3).2.2.2.1)

end

def sout0_C_3 (xs3 : Vec F S1024x512 .f32) : Vec F S1024x512 .f32 := xs3

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : ¬cond0_2 i) (hc3 : ¬cond0_3 i) (hc4 : cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs0 : Vec F S2x8x256 .f32) (xs1 : Vec F S4096x512 .bf16) (xs2 : Vec F S1024x512 .f32)

theorem cover0_D_7 (y : S1024x256.Idx) :
    ∃ pc ∈ (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).1, y ∈ pc.1.set :=
  View.cover_of_tiledL (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).1 S64x256.size (by sl_kernel_rfl) y

def out0_D_7 : Vec F S1024x256 .bf16 :=
  VO0_7.read (Elt F) (VO0_7.writes (Elt F) VO0_7.junk (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).1)

theorem scover0_D_0 (y : S2x8x256.Idx) :
    ∃ pc ∈ (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).2.1, y ∈ pc.1.set :=
  View.cover_of_tiledL (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).2.1 S1x8x256.size (by sl_kernel_rfl) y

def sout0_D_0 : Vec F S2x8x256 .f32 :=
  VS0_0.read (Elt F) (VS0_0.writes (Elt F) VS0_0.junk (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).2.1)

end

def sout0_D_1 (xs1 : Vec F S4096x512 .bf16) : Vec F S4096x512 .bf16 := xs1

def sout0_D_2 (xs2 : Vec F S1024x512 .f32) : Vec F S1024x512 .f32 := xs2

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : ¬cond0_1 i) (hc2 : ¬cond0_2 i) (hc3 : ¬cond0_3 i) (hc4 : cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs0 : Vec F S2x8x256 .f32) (xs1 : Vec F S4096x512 .bf16) (xs2 : Vec F S1024x512 .f32)

theorem scover0_D_3 (y : S1024x512.Idx) :
    ∃ pc ∈ (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).2.2.2.2.1, y ∈ pc.1.set :=
  View.cover_of_tiledL (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).2.2.2.2.1 S1024x512.size (by sl_kernel_rfl) y

def sout0_D_3 : Vec F S1024x512 .f32 :=
  VS0_3.read (Elt F) (VS0_3.writes (Elt F) VS0_3.junk (kernelRun0_D c i a1 w1 a2 w2 a3 w3 a4 w4 a5 w5 a6 w6 a7 w7 a8 w8 a9 w9 a10 w10 a11 w11 a12 w12 hc0 hc1 hc2 hc3 hc4 x0 x1 x2 x3 x4 x5 x6 xs0 xs1 xs2).2.2.2.2.1)

end

section

variable (c : Dev nD) (i : grid0.Coords) (a1 : Memref sig .tc .vmem S1024x4096 .bf16) (w1 : a1.IsWhole) (a2 : Memref sig .tc .vmem S4096x256 .f32) (w2 : a2.IsWhole) (a3 : Memref sig .tc .vmem S4096x256 .f32) (w3 : a3.IsWhole) (a4 : Memref sig .tc .vmem S3x256 .f32) (w4 : a4.IsWhole) (a5 : Memref sig .tc .vmem S3x256 .f32) (w5 : a5.IsWhole) (a6 : Memref sig .tc .vmem S1x256 .f32) (w6 : a6.IsWhole) (a7 : Memref sig .tc .vmem S1x256 .f32) (w7 : a7.IsWhole) (a8 : Memref sig .tc .vmem S1024x256 .bf16) (w8 : a8.IsWhole) (a9 : Memref sig .tc .vmem S2x8x256 .f32) (w9 : a9.IsWhole) (a10 : Memref sig .tc .vmem S4096x512 .bf16) (w10 : a10.IsWhole) (a11 : Memref sig .tc .vmem S1024x512 .f32) (w11 : a11.IsWhole) (a12 : Memref sig .tc .vmem S1024x512 .f32) (w12 : a12.IsWhole) (hc0 : ¬cond0_0 i) (hc1 : cond0_1 i) (hc2 : ¬cond0_2 i) (hc3 : cond0_3 i) (hc4 : ¬cond0_4 i)
  (x0 : Vec F S1024x4096 .bf16) (x1 : Vec F S4096x256 .f32) (x2 : Vec F S4096x256 .f32) (x3 : Vec F S3x256 .f32) (x4 : Vec F S3x256 .f32) (x5 : Vec F S1x256 .f32) (x6 : Vec F S1x256 .f32) (xs0 : Vec F S2x8x256 .f32) (xs3 : Vec F S1024x512 .f32)

theorem cover0_E_7 (y : S1024x256.Idx) :
    ∃ pc ∈ (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).1, y ∈ pc.1.set :=
  View.cover_of_tiledL (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).1 S64x256.size (by sl_kernel_rfl) y

def out0_E_7 : Vec F S1024x256 .bf16 :=
  VO0_7.read (Elt F) (VO0_7.writes (Elt F) VO0_7.junk (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).1)

theorem scover0_E_0 (y : S2x8x256.Idx) :
    ∃ pc ∈ (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.1, y ∈ pc.1.set :=
  View.cover_of_tiledL (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.1 S1x8x256.size (by sl_kernel_rfl) y

def sout0_E_0 : Vec F S2x8x256 .f32 :=
  VS0_0.read (Elt F) (VS0_0.writes (Elt F) VS0_0.junk (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.1)

theorem scover0_E_1 (y : S4096x512.Idx) :
    ∃ pc ∈ (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.2.1, y ∈ pc.1.set :=
  View.cover_of_tiledL (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.2.1 S4096x256.size (by sl_kernel_rfl) y

def sout0_E_1 : Vec F S4096x512 .bf16 :=
  VS0_1.read (Elt F) (VS0_1.writes (Elt F) VS0_1.junk (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.2.1)

theorem scover0_E_2 (y : S1024x512.Idx) :
    ∃ pc ∈ (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.2.2.1, y ∈ pc.1.set :=
  View.cover_of_tiledL (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.2.2.1 S1024x512.size (by sl_kernel_rfl) y

def sout0_E_2 : Vec F S1024x512 .f32 :=
  VS0_2.read (Elt F) (VS0_2.writes (Elt F) VS0_2.junk (kernelRun0_E c i a1 w1 a2 w2 a3 w3 a4 w4 a5 w5 a6 w6 a7 w7 a8 w8 a9 w9 a10 w10 a11 w11 a12 w12 hc0 hc1 hc2 hc3 hc4 x0 x1 x2 x3 x4 x5 x6 xs0 xs3).2.2.2.1)

end

def sout0_E_3 (xs3 : Vec F S1024x512 .f32) : Vec F S1024x512 .f32 := xs3

/-- What the buffers hold after each point. -/
def outsAt0 (c : Dev nD) : (n : ℕ) → n < cfg0.N → Vec F S1024x256 .bf16 × Vec F S2x8x256 .f32 × Vec F S4096x512 .bf16 × Vec F S1024x512 .f32 × Vec F S1024x512 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) ((hcond0_2 ⟨0, hn⟩).mpr (by (try dsimp only); omega)) ((hcond0_3 ⟨0, hn⟩).mpr (Nat.zero_mod _)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 689 = 0 then
      if h1 : (n + 1) % 16 = 0 then
        if h2 : ((n + 1) % 689 = 0 ∨ (n + 1) % 4 = 1) then
          if h3 : (n + 1) % 2 = 0 then
            if h4 : (n + 1) % 2 = 1 then
              False.elim (by have hN : n + 1 < 689 := lt_of_lt_of_eq hn (show cfg0.N = 689 from N_0); omega)
            else
              (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
          else
            False.elim (by have hN : n + 1 < 689 := lt_of_lt_of_eq hn (show cfg0.N = 689 from N_0); omega)
        else
          False.elim (by have hN : n + 1 < 689 := lt_of_lt_of_eq hn (show cfg0.N = 689 from N_0); omega)
      else
        False.elim (by have hN : n + 1 < 689 := lt_of_lt_of_eq hn (show cfg0.N = 689 from N_0); omega)
    else
      if h1 : (n + 1) % 16 = 0 then
        if h2 : ((n + 1) % 689 = 0 ∨ (n + 1) % 4 = 1) then
          False.elim (by have hN : n + 1 < 689 := lt_of_lt_of_eq hn (show cfg0.N = 689 from N_0); omega)
        else
          if h3 : (n + 1) % 2 = 0 then
            if h4 : (n + 1) % 2 = 1 then
              False.elim (by have hN : n + 1 < 689 := lt_of_lt_of_eq hn (show cfg0.N = 689 from N_0); omega)
            else
              (out0_E_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.2.2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.2.2, sout0_E_3 (outsAt0 c n (Nat.lt_of_succ_lt hn)).2.2.2.2)
          else
            False.elim (by have hN : n + 1 < 689 := lt_of_lt_of_eq hn (show cfg0.N = 689 from N_0); omega)
      else
        if h2 : ((n + 1) % 689 = 0 ∨ (n + 1) % 4 = 1) then
          if h3 : (n + 1) % 2 = 0 then
            False.elim (by have hN : n + 1 < 689 := lt_of_lt_of_eq hn (show cfg0.N = 689 from N_0); omega)
          else
            if h4 : (n + 1) % 2 = 1 then
              (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1, sout0_B_1 (outsAt0 c n (Nat.lt_of_succ_lt hn)).2.2.1, sout0_B_2 (outsAt0 c n (Nat.lt_of_succ_lt hn)).2.2.2.1, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.1 (outsAt0 c n (Nat.lt_of_succ_lt hn)).2.2.2.1)
            else
              False.elim (by have hN : n + 1 < 689 := lt_of_lt_of_eq hn (show cfg0.N = 689 from N_0); omega)
        else
          if h3 : (n + 1) % 2 = 0 then
            if h4 : (n + 1) % 2 = 1 then
              False.elim (by have hN : n + 1 < 689 := lt_of_lt_of_eq hn (show cfg0.N = 689 from N_0); omega)
            else
              (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.2, sout0_C_1 (outsAt0 c n (Nat.lt_of_succ_lt hn)).2.2.1, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.2, sout0_C_3 (outsAt0 c n (Nat.lt_of_succ_lt hn)).2.2.2.2)
          else
            if h4 : (n + 1) % 2 = 1 then
              (out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1, sout0_D_1 (outsAt0 c n (Nat.lt_of_succ_lt hn)).2.2.1, sout0_D_2 (outsAt0 c n (Nat.lt_of_succ_lt hn)).2.2.2.1, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1)
            else
              False.elim (by have hN : n + 1 < 689 := lt_of_lt_of_eq hn (show cfg0.N = 689 from N_0); omega)

theorem outsAt0_A (c : Dev nD) (t : Fin cfg0.N) (h0 : t.val % 689 = 0) (h1 : t.val % 16 = 0) (h2 : (t.val % 689 = 0 ∨ t.val % 4 = 1)) (h3 : t.val % 2 = 0) (h4 : ¬t.val % 2 = 1) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_pos h2).trans ((dif_pos h3).trans ((dif_neg h4).trans rfl))))

theorem outsAt0_B (c : Dev nD) (t : Fin cfg0.N) (h0 : ¬t.val % 689 = 0) (h1 : ¬t.val % 16 = 0) (h2 : (t.val % 689 = 0 ∨ t.val % 4 = 1)) (h3 : ¬t.val % 2 = 0) (h4 : t.val % 2 = 1) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1, sout0_B_1 (outsAt0 m c (t.val - 1) (Nat.lt_of_le_of_lt (Nat.sub_le _ _) t.isLt)).2.2.1, sout0_B_2 (outsAt0 m c (t.val - 1) (Nat.lt_of_le_of_lt (Nat.sub_le _ _) t.isLt)).2.2.2.1, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans rfl))))

theorem outsAt0_C (c : Dev nD) (t : Fin cfg0.N) (h0 : ¬t.val % 689 = 0) (h1 : ¬t.val % 16 = 0) (h2 : ¬(t.val % 689 = 0 ∨ t.val % 4 = 1)) (h3 : t.val % 2 = 0) (h4 : ¬t.val % 2 = 1) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_1 (outsAt0 m c (t.val - 1) (Nat.lt_of_le_of_lt (Nat.sub_le _ _) t.isLt)).2.2.1, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2, sout0_C_3 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

theorem outsAt0_D (c : Dev nD) (t : Fin cfg0.N) (h0 : ¬t.val % 689 = 0) (h1 : ¬t.val % 16 = 0) (h2 : ¬(t.val % 689 = 0 ∨ t.val % 4 = 1)) (h3 : ¬t.val % 2 = 0) (h4 : t.val % 2 = 1) :
    outsAt0 m c t.val t.isLt = (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1, sout0_D_1 (outsAt0 m c (t.val - 1) (Nat.lt_of_le_of_lt (Nat.sub_le _ _) t.isLt)).2.2.1, sout0_D_2 (outsAt0 m c (t.val - 1) (Nat.lt_of_le_of_lt (Nat.sub_le _ _) t.isLt)).2.2.2.1, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

theorem outsAt0_E (c : Dev nD) (t : Fin cfg0.N) (h0 : ¬t.val % 689 = 0) (h1 : t.val % 16 = 0) (h2 : ¬(t.val % 689 = 0 ∨ t.val % 4 = 1)) (h3 : t.val % 2 = 0) (h4 : ¬t.val % 2 = 1) :
    outsAt0 m c t.val t.isLt = (out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.2.2, sout0_E_3 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans ((dif_neg h4).trans rfl))))

/-- The scratch buffers before a point. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-- The data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 24000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 689 := lt_of_lt_of_eq t.isLt (show cfg0.N = 689 from N_0)
  by_cases h0 : t.val % 689 = 0
  · by_cases h1 : t.val % 16 = 0
    · by_cases h2 : (t.val % 689 = 0 ∨ t.val % 4 = 1)
      · by_cases h3 : t.val % 2 = 0
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) ((hcond0_2 t).mpr h2) ((hcond0_3 t).mpr h3) (fun h => h4 ((hcond0_4 t).mp h))], after0_7]
            by_cases hz : t.val = 0
            · rw [PhiS_castSucc m c t, PhiS_zero m c _ _ hz, PhiA0_eq]
              rw [outsAt0_A m c t h0 h1 h2 h3 h4]
              unfold out0_A_7 sout0_A_0 sout0_A_1 sout0_A_2 sout0_A_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_A c (grid0.coords t) _ _ _ _ _ _ _ _ _ _ _ _ _ _ _ _ _ _ _ _ _ _ _ _ ((hcond0_0 t).mpr h0) ((hcond0_1 t).mpr h1) ((hcond0_2 t).mpr h2) ((hcond0_3 t).mpr h3) (fun h => h4 ((hcond0_4 t).mp h)) (iblk m c 0 t) (iblk m c 1 t) (iblk m c 2 t) (iblk m c 3 t) (iblk m c 4 t) (iblk m c 5 t) (iblk m c 6 t)).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexact HS1
              isplitl [HS2]; · iexact HS2
              isplitl [HS3]; · iexact HS3
              iintro ⟨H0, H1, H2, H3, H4, H5, H6, ⟨%e7, H7⟩, ⟨%es0, HS0⟩, ⟨%es1, HS1⟩, ⟨%es2, HS2⟩, ⟨%es3, HS3⟩⟩
              isplitl [HS0 HS1 HS2 HS3 Hg]
              · isplitl [HS0 HS1 HS2 HS3]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _)
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _ _ _ _ _ _ _ _)
                  isplitl [HS2]
                  · unfold owns; iexists _; isplitr
                    swap; · iexact HS2
                    ipureintro; exact View.read_writes_of_cover _ _ _ _ _ (scover0_A_2 c _ _ _ _ _ _ _ _ _ _ _ _ _ _ _ _ _ _ _ _ _ _ _ _ _ _ _ _ _ _ _ _ _ _ _ _ _)
                  unfold owns; iexists _; isplitr
                  swap; · iexact HS3
                  ipureintro; exact View.read_writes_of_cover _ _ _ _ _ (scover0_A_3 c _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              unfold owns; iexists _; isplitr
              swap; · iexact H7
              ipureintro; exact View.read_writes_of_cover _ _ _ _ _ (cover0_A_7 c _ _ _ _ _ _ _ _ _ _ _ _ _ _ _ _ _ _ _ _ _ _ _ _ _ _ _ _ _ _ _ _ _ _ _ _ _)
            · exfalso; have hN : t.val < 689 := lt_of_lt_of_eq t.isLt (show cfg0.N = 689 from N_0); omega
        · exfalso; omega
      · exfalso; omega
    · exfalso; omega
  · by_cases h1 : t.val % 16 = 0
    · by_cases h2 : (t.val % 689 = 0 ∨ t.val % 4 = 1)
      · exfalso; omega
      · by_cases h3 : t.val % 2 = 0
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7_E t (fun h => h0 ((hcond0_0 t).mp h)) ((hcond0_1 t).mpr h1) (fun h => h2 ((hcond0_2 t).mp h)) ((hcond0_3 t).mpr h3) (fun h => h4 ((hcond0_4 t).mp h))], after0_7]
            by_cases hz : t.val = 0
            · exfalso; have hN : t.val < 689 := lt_of_lt_of_eq t.isLt (show cfg0.N = 689 from N_0); omega
            · rw [PhiS_castSucc m c t, PhiS_pos m c _ _ hz]
              rw [outsAt0_E m c t h0 h1 h2 h3 h4]
              unfold out0_E_7 sout0_E_0 sout0_E_1 sout0_E_2 sout0_E_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_E c (grid0.coords t) _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexists _; iexact HS1
              isplitl [HS2]; · iexists _; iexact HS2
              isplitl [HS3]; · iexact HS3
              iintro ⟨H0, H1, H2, H3, H4, H5, H6, ⟨%e7, H7⟩, ⟨%es0, HS0⟩, ⟨%es1, HS1⟩, ⟨%es2, HS2⟩, HS3⟩
              isplitl [HS0 HS1 HS2 HS3 Hg]
              · isplitl [HS0 HS1 HS2 HS3]
                · isplitl [HS0]
                  · unfold owns; iexists _; isplitr
                    swap; · iexact HS0
                    ipureintro; exact View.read_writes_of_cover _ _ _ _ _ (scover0_E_0 c _ _ _ _ _ _ _ _ _ _ _ _ _ _ _ _ _ _ _ _ _ _ _ _ _ _ _ _ _ _ _ _ _ _ _ _ _ _ _)
                  isplitl [HS1]
                  · unfold owns; iexists _; isplitr
                    swap; · iexact HS1
                    ipureintro; exact View.read_writes_of_cover _ _ _ _ _ (scover0_E_1 c _ _ _ _ _ _ _ _ _ _ _ _ _ _ _ _ _ _ _ _ _ _ _ _ _ _ _ _ _ _ _ _ _ _ _ _ _ _ _)
                  isplitl [HS2]
                  · unfold owns; iexists _; isplitr
                    swap; · iexact HS2
                    ipureintro; exact View.read_writes_of_cover _ _ _ _ _ (scover0_E_2 c _ _ _ _ _ _ _ _ _ _ _ _ _ _ _ _ _ _ _ _ _ _ _ _ _ _ _ _ _ _ _ _ _ _ _ _ _ _ _)
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              unfold owns; iexists _; isplitr
              swap; · iexact H7
              ipureintro; exact View.read_writes_of_cover _ _ _ _ _ (cover0_E_7 c _ _ _ _ _ _ _ _ _ _ _ _ _ _ _ _ _ _ _ _ _ _ _ _ _ _ _ _ _ _ _ _ _ _ _ _ _ _ _)
        · exfalso; omega
    · by_cases h2 : (t.val % 689 = 0 ∨ t.val % 4 = 1)
      · by_cases h3 : t.val % 2 = 0
        · exfalso; omega
        · by_cases h4 : t.val % 2 = 1
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7_B t (fun h => h0 ((hcond0_0 t).mp h)) (fun h => h1 ((hcond0_1 t).mp h)) ((hcond0_2 t).mpr h2) (fun h => h3 ((hcond0_3 t).mp h)) ((hcond0_4 t).mpr h4)], after0_7]
            by_cases hz : t.val = 0
            · exfalso; have hN : t.val < 689 := lt_of_lt_of_eq t.isLt (show cfg0.N = 689 from N_0); omega
            · rw [PhiS_castSucc m c t, PhiS_pos m c _ _ hz]
              rw [outsAt0_B m c t h0 h1 h2 h3 h4]
              unfold out0_B_7 sout0_B_0 sout0_B_1 sout0_B_2 sout0_B_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_B c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (iblk m c 0 t) (iblk m c 1 t) (iblk m c 2 t) (iblk m c 3 t) (iblk m c 4 t) (iblk m c 5 t) (iblk m c 6 t) _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexists _; iexact HS0
              isplitl [HS1]; · iexact HS1
              isplitl [HS2]; · iexact HS2
              isplitl [HS3]; · iexists _; iexact HS3
              iintro ⟨H0, H1, H2, H3, H4, H5, H6, ⟨%e7, H7⟩, ⟨%es0, HS0⟩, HS1, HS2, ⟨%es3, HS3⟩⟩
              isplitl [HS0 HS1 HS2 HS3 Hg]
              · isplitl [HS0 HS1 HS2 HS3]
                · isplitl [HS0]
                  · unfold owns; iexists _; isplitr
                    swap; · iexact HS0
                    ipureintro; exact View.read_writes_of_cover _ _ _ _ _ (scover0_B_0 c _ _ _ _ _ _ _ _ _ _ _ _ _ _ _ _ _ _ _ _ _ _ _ _ _ _ _ _ _ _ _ _ _ _ _ _ _ _ _)
                  isplitl [HS1]
                  · iexact HS1
                  isplitl [HS2]
                  · iexact HS2
                  unfold owns; iexists _; isplitr
                  swap; · iexact HS3
                  ipureintro; exact View.read_writes_of_cover _ _ _ _ _ (scover0_B_3 c _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              unfold owns; iexists _; isplitr
              swap; · iexact H7
              ipureintro; exact View.read_writes_of_cover _ _ _ _ _ (cover0_B_7 c _ _ _ _ _ _ _ _ _ _ _ _ _ _ _ _ _ _ _ _ _ _ _ _ _ _ _ _ _ _ _ _ _ _ _ _ _ _ _)
          · exfalso; omega
      · by_cases h3 : t.val % 2 = 0
        · by_cases h4 : t.val % 2 = 1
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) (fun h => h2 ((hcond0_2 t).mp h)) ((hcond0_3 t).mpr h3) (fun h => h4 ((hcond0_4 t).mp h))], after0_7]
            by_cases hz : t.val = 0
            · exfalso; have hN : t.val < 689 := lt_of_lt_of_eq t.isLt (show cfg0.N = 689 from N_0); omega
            · rw [PhiS_castSucc m c t, PhiS_pos m c _ _ hz]
              rw [outsAt0_C m c t h0 h1 h2 h3 h4]
              unfold out0_C_7 sout0_C_0 sout0_C_1 sout0_C_2 sout0_C_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_C c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexact HS1
              isplitl [HS2]; · iexists _; iexact HS2
              isplitl [HS3]; · iexact HS3
              iintro ⟨H0, H1, H2, H3, H4, H5, H6, ⟨%e7, H7⟩, ⟨%es0, HS0⟩, HS1, ⟨%es2, HS2⟩, HS3⟩
              isplitl [HS0 HS1 HS2 HS3 Hg]
              · isplitl [HS0 HS1 HS2 HS3]
                · isplitl [HS0]
                  · unfold owns; iexists _; isplitr
                    swap; · iexact HS0
                    ipureintro; exact View.read_writes_of_cover _ _ _ _ _ (scover0_C_0 c _ _ _ _ _ _ _ _ _ _ _ _ _ _ _ _ _ _ _ _ _ _ _ _ _ _ _ _ _ _ _ _ _ _ _ _ _ _ _ _)
                  isplitl [HS1]
                  · iexact HS1
                  isplitl [HS2]
                  · unfold owns; iexists _; isplitr
                    swap; · iexact HS2
                    ipureintro; exact View.read_writes_of_cover _ _ _ _ _ (scover0_C_2 c _ _ _ _ _ _ _ _ _ _ _ _ _ _ _ _ _ _ _ _ _ _ _ _ _ _ _ _ _ _ _ _ _ _ _ _ _ _ _ _)
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              unfold owns; iexists _; isplitr
              swap; · iexact H7
              ipureintro; exact View.read_writes_of_cover _ _ _ _ _ (cover0_C_7 c _ _ _ _ _ _ _ _ _ _ _ _ _ _ _ _ _ _ _ _ _ _ _ _ _ _ _ _ _ _ _ _ _ _ _ _ _ _ _ _)
        · by_cases h4 : t.val % 2 = 1
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7_D t (fun h => h0 ((hcond0_0 t).mp h)) (fun h => h1 ((hcond0_1 t).mp h)) (fun h => h2 ((hcond0_2 t).mp h)) (fun h => h3 ((hcond0_3 t).mp h)) ((hcond0_4 t).mpr h4)], after0_7]
            by_cases hz : t.val = 0
            · exfalso; have hN : t.val < 689 := lt_of_lt_of_eq t.isLt (show cfg0.N = 689 from N_0); omega
            · rw [PhiS_castSucc m c t, PhiS_pos m c _ _ hz]
              rw [outsAt0_D m c t h0 h1 h2 h3 h4]
              unfold out0_D_7 sout0_D_0 sout0_D_1 sout0_D_2 sout0_D_3; (try dsimp only)
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (iblk m c 5 t) (iblk m c 6 t) _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [HS0]; · iexact HS0
              isplitl [HS1]; · iexact HS1
              isplitl [HS2]; · iexact HS2
              isplitl [HS3]; · iexists _; iexact HS3
              iintro ⟨H0, H1, H2, H3, H4, H5, H6, ⟨%e7, H7⟩, ⟨%es0, HS0⟩, HS1, HS2, ⟨%es3, HS3⟩⟩
              isplitl [HS0 HS1 HS2 HS3 Hg]
              · isplitl [HS0 HS1 HS2 HS3]
                · isplitl [HS0]
                  · unfold owns; iexists _; isplitr
                    swap; · iexact HS0
                    ipureintro; exact View.read_writes_of_cover _ _ _ _ _ (scover0_D_0 c _ _ _ _ _ _ _ _ _ _ _ _ _ _ _ _ _ _ _ _ _ _ _ _ _ _ _ _ _ _ _ _ _ _ _ _ _ _ _ _)
                  isplitl [HS1]
                  · iexact HS1
                  isplitl [HS2]
                  · iexact HS2
                  unfold owns; iexists _; isplitr
                  swap; · iexact HS3
                  ipureintro; exact View.read_writes_of_cover _ _ _ _ _ (scover0_D_3 c _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              unfold owns; iexists _; isplitr
              swap; · iexact H7
              ipureintro; exact View.read_writes_of_cover _ _ _ _ _ (cover0_D_7 c _ _ _ _ _ _ _ _ _ _ _ _ _ _ _ _ _ _ _ _ _ _ _ _ _ _ _ _ _ _ _ _ _ _ _ _ _ _ _ _)
          · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 689 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are kept. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FfnInIdeal.Hand

end
-- ==== Proof.HostFrames.lean ====
/- The references' frames: each runs on the host, ends with its arguments as they were, and has no semaphore to leave set. -/
module

public import proofs.«01_k».proof.Defs
public import proofs.«01_k».proof.Proof.Gen.AttnRefIdeal
public import proofs.«01_k».proof.Proof.Gen.AttnRefIdeal.Run
public import proofs.«01_k».proof.Proof.Gen.InProjRefIdeal
public import proofs.«01_k».proof.Proof.Gen.InProjRefIdeal.Run
public import proofs.«01_k».proof.Proof.Gen.MergeRefIdeal
public import proofs.«01_k».proof.Proof.Gen.MergeRefIdeal.Run
public import proofs.«01_k».proof.Proof.Gen.OutProjRefIdeal
public import proofs.«01_k».proof.Proof.Gen.OutProjRefIdeal.Run
public import proofs.«01_k».proof.Proof.Gen.FfnInRefIdeal
public import proofs.«01_k».proof.Proof.Gen.FfnInRefIdeal.Run
public import proofs.«01_k».proof.Proof.Gen.FfnOutRefIdeal
public import proofs.«01_k».proof.Proof.Gen.FfnOutRefIdeal.Run
public import proofs.«01_k».proof.Proof.Gen.PleRefIdeal
public import proofs.«01_k».proof.Proof.Gen.PleRefIdeal.Run

@[expose] public section

noncomputable section

namespace Cert.Proof

open Idealize.ShloMosaic Idealize.SL.Sem

/-- The reference of the differential attention keeps its arguments. -/
theorem frame_AttnRef : Cert.quiescent_AttnRefIdeal (hAttnRefIdeal := Cert.AttnRefIdeal.Gen.facts) := fun m g _ =>
  (θ_run (Cert.AttnRefIdeal.defs (F := Ideal)) _ _).mono (fun r h => ⟨fun c => (h c).2, sem_eq_zero_of_no_sems (by decide) r.2⟩)
    (Cert.AttnRefIdeal.Value.run m g)

/-- The reference of the joint projection keeps its arguments. -/
theorem frame_InProjRef : Cert.quiescent_InProjRefIdeal (hInProjRefIdeal := Cert.InProjRefIdeal.Gen.facts) := fun m g _ =>
  (θ_run (Cert.InProjRefIdeal.defs (F := Ideal)) _ _).mono (fun r h => ⟨fun c => (h c).2, sem_eq_zero_of_no_sems (by decide) r.2⟩)
    (Cert.InProjRefIdeal.Value.run m g)

/-- The reference of the merge keeps its arguments. -/
theorem frame_MergeRef : Cert.quiescent_MergeRefIdeal (hMergeRefIdeal := Cert.MergeRefIdeal.Gen.facts) := fun m g _ =>
  (θ_run (Cert.MergeRefIdeal.defs (F := Ideal)) _ _).mono (fun r h => ⟨fun c => (h c).2, sem_eq_zero_of_no_sems (by decide) r.2⟩)
    (Cert.MergeRefIdeal.Value.run m g)

/-- The reference of the output projection keeps its arguments. -/
theorem frame_OutProjRef : Cert.quiescent_OutProjRefIdeal (hOutProjRefIdeal := Cert.OutProjRefIdeal.Gen.facts) := fun m g _ =>
  (θ_run (Cert.OutProjRefIdeal.defs (F := Ideal)) _ _).mono (fun r h => ⟨fun c => (h c).2, sem_eq_zero_of_no_sems (by decide) r.2⟩)
    (Cert.OutProjRefIdeal.Value.run m g)

/-- The reference of the second feed-forward matrix keeps its arguments. -/
theorem frame_FfnOutRef : Cert.quiescent_FfnOutRefIdeal (hFfnOutRefIdeal := Cert.FfnOutRefIdeal.Gen.facts) := fun m g _ =>
  (θ_run (Cert.FfnOutRefIdeal.defs (F := Ideal)) _ _).mono (fun r h => ⟨fun c => (h c).2, sem_eq_zero_of_no_sems (by decide) r.2⟩)
    (Cert.FfnOutRefIdeal.Value.run m g)

/-- The reference of the per-layer embedding keeps its arguments. -/
theorem frame_PleRef : Cert.quiescent_PleRefIdeal (hPleRefIdeal := Cert.PleRefIdeal.Gen.facts) := fun m g _ =>
  (θ_run (Cert.PleRefIdeal.defs (F := Ideal)) _ _).mono (fun r h => ⟨fun c => (h c).2, sem_eq_zero_of_no_sems (by decide) r.2⟩)
    (Cert.PleRefIdeal.Value.run m g)

/-- The reference of the first feed-forward matrix keeps its arguments. -/
theorem frame_FfnInRef : Cert.quiescent_FfnInRefIdeal (hFfnInRefIdeal := Cert.FfnInRefIdeal.Gen.facts) := fun m g _ =>
  (θ_run (Cert.FfnInRefIdeal.defs (F := Ideal)) _ _).mono (fun r h => ⟨fun c => (h c).2, sem_eq_zero_of_no_sems (by decide) r.2⟩)
    (Cert.FfnInRefIdeal.Value.run m g)

end Cert.Proof

end
-- ==== Proof.InProjValue.lean ====
/- The joint projection without its two low-rank column ranges: the kernel's result is the reference's two slices side by side. -/
module

public import proofs.«01_k».proof.Proof.Gen.InProjIdeal.Value
public import proofs.«01_k».proof.Proof.Gen.InProjRefIdeal.Run
public import Idealize.ShloMosaic.Lib.Pointwise

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section Cases
variable (c : Dev nD) (i : grid0.Coords)
    (a2 : Memref sig .tc .vmem S1024x4096 .bf16) (h2 : a2.IsWhole) (a3 : Memref sig .tc .vmem S512x4096 .f32) (h3 : a3.IsWhole)
    (a4 : Memref sig .tc .vmem S1024x512 .f32) (h4 : a4.IsWhole) (a5 : Memref sig .tc .vmem S4096x512 .bf16) (h5 : a5.IsWhole)
    (x0 : Vec F S1024x4096 .bf16) (x1 : Vec F S512x4096 .f32) (xs : Vec F S4096x512 .bf16)

/-- The first row block of a column block stores the transposed, rounded weights in the scratch. -/
theorem scratch_first (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero zero2]
  simp only [View.readAt_eq_ld, h3.read_unread, View.ld_unit_zero (S := S512x4096) zero2]

/-- It leaves the block of the product with those weights. -/
theorem out_first (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero zero2, View.readCov_unit_zero (S := S4096x512) _ zero2]
  simp only [View.readAt_eq_ld, h2.read_unread, h3.read_unread, View.ld_unit_zero (S := S1024x4096) zero2,
    View.ld_unit_zero (S := S512x4096) zero2]

/-- A later row block leaves the block of the product with the weights the scratch holds. -/
theorem out_later (hc : ¬cond0_0 i) : out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero zero2]
  simp only [View.readAt_eq_ld, h2.read_unread, h5.read_unread, View.ld_unit_zero (S := S1024x4096) zero2,
    View.ld_unit_zero (S := S4096x512) zero2]

end Cases

/-- The first column of the projection that column block `j` of the result holds: the low-rank ranges,
    480 columns between the twelfth and the thirteenth block, are left out. -/
abbrev start (j : ℕ) : ℕ := if j < 12 then j * 512 else j * 512 + 480

/-- Where each window's block lies at point `t`: column block `t / 16`, row block `t % 16`; the weights' rows start at `start`. -/
theorem index_at : ∀ t : Fin cfg0.N, win0_0.index t (0 : Fin 2) = t.val % 16 ∧ win0_0.index t (1 : Fin 2) = 0
    ∧ win0_1.index t (0 : Fin 2) = start (t.val / 16) ∧ win0_1.index t (1 : Fin 2) = 0
    ∧ win0_2.index t (0 : Fin 2) = t.val % 16 ∧ win0_2.index t (1 : Fin 2) = t.val / 16 :=
  (by decide +kernel : ∀ t : Fin grid0.N, _)

variable (m : (ℓ : Loc nD τ sig) → Buf (Elt F) ℓ)

theorem points (t : Fin cfg0.N) : t.val < 640 := lt_of_lt_of_eq t.isLt N_0

theorem start_lt (t : Fin cfg0.N) (j : ℕ) (hj : j < 512) : start (t.val / 16) + j < 20960 := by
  have := points t
  unfold start
  split <;> omega

/-- The weights the region finds: the argument transposed by the host. -/
theorem weights_entry (c : Dev nD) : V m c main_v0 = transpose S20960x4096 [1, 0] (m ((c : Thread nD τ).loc main_arg1)) transposes_S4096x20960_S20960x4096_1_0 := by
  show StableHlo.after hostOps0 (fun b => m (c, b)) (Proc.devRef .tc main_v0) = _
  after_results

/-- The row block of the left factor at point `t`. -/
theorem left_at (c : Dev nD) (t : Fin cfg0.N) (r : Fin 1024) (k : Fin 4096) :
    iblk m c 0 t (ix2 r k) = m ((c : Thread nD τ).loc main_arg0)
      (ix2 (⟨t.val % 16 * 1024 + r.val, by have := r.isLt; omega⟩ : Fin 16384) k) := by
  obtain ⟨e0, e1, -⟩ := index_at t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 1024 + 1 * r.val = t.val % 16 * 1024 + r.val; rw [e0]; omega
  | ⟨1, _⟩ => show win0_0.index t (1 : Fin 2) * 4096 + 1 * k.val = k.val; rw [e1]; omega

/-- The rows of the transposed weights at point `t`. -/
theorem weights_at (c : Dev nD) (t : Fin cfg0.N) (j : Fin 512) (k : Fin 4096) :
    iblk m c 1 t (ix2 j k) = m ((c : Thread nD τ).loc main_arg1)
      (ix2 k (⟨start (t.val / 16) + j.val, start_lt t j.val j.isLt⟩ : Fin 20960)) := by
  obtain ⟨-, -, e0, e1, -⟩ := index_at t
  show V m c main_v0 (((cfg0.win 1).blk t).view.emb (ix2 j k)) = _
  rw [weights_entry]
  have e : ((cfg0.win 1).blk t).view.emb (ix2 j k) = ix2 (⟨start (t.val / 16) + j.val, start_lt t j.val j.isLt⟩ : Fin 20960) k := by
    funext a; apply Fin.ext
    match a with
    | ⟨0, _⟩ => show win0_1.index t (0 : Fin 2) + 1 * j.val = start (t.val / 16) + j.val; rw [e0]; omega
    | ⟨1, _⟩ => show win0_1.index t (1 : Fin 2) + 1 * k.val = k.val; rw [e1]; omega
  rw [e]
  pointwise []

/-- Points of one column block read one block of the weights. -/
theorem weights_same (c : Dev nD) (s t : Fin cfg0.N) (h : s.val / 16 = t.val / 16) : iblk m c 1 s = iblk m c 1 t := by
  funext y
  change S512x4096.Idx at y
  idx_vars y
  rw [weights_at, weights_at]
  simp only [h]

/-- After point `n` the scratch holds the weights of the point's column block. -/
theorem scratch_at (c : Dev nD) : ∀ (n : ℕ) (h : n < cfg0.N), (outsAt0 m c n h).2 = k0_pay1 (iblk m c 1 ⟨n, h⟩) := by
  intro n
  induction n with
  | zero =>
    intro h
    have e := outsAt0_A m c ⟨0, h⟩ (Nat.zero_mod _)
    dsimp only at e ⊢
    rw [e]
    dsimp only
    rw [scratch_first]
  | succ n ih =>
    intro h
    by_cases h0 : (n + 1) % 16 = 0
    · have e := outsAt0_A m c ⟨n + 1, h⟩ h0
      dsimp only at e ⊢
      rw [e]
      dsimp only
      rw [scratch_first]
    · have e := outsAt0_B m c ⟨n + 1, h⟩ h0
      dsimp only at e ⊢
      rw [e]
      dsimp only [sout0_B_0]
      show (outsAt0 m c n (Nat.lt_of_succ_lt h)).2 = _
      rw [ih, weights_same m c ⟨n, _⟩ ⟨n + 1, h⟩ (by show n / 16 = (n + 1) / 16; omega)]

/-- The block point `t` leaves, whatever case it is in. -/
theorem block_at (c : Dev nD) (t : Fin cfg0.N) :
    (outsAt0 m c t.val t.isLt).1 = k0_pay2 (iblk m c 0 t) (k0_pay1 (iblk m c 1 t)) := by
  by_cases h0 : t.val % 16 = 0
  · rw [outsAt0_A m c t h0]
    dsimp only
    rw [out_first]
  · rw [outsAt0_B m c t h0]
    dsimp only
    rw [out_later, scratch_at m c, weights_same m c ⟨t.val - 1, _⟩ t (by show (t.val - 1) / 16 = t.val / 16; omega)]

/-- The reference's product of two arrays. -/
abbrev product (a0 : Vec F Cert.InProjRefIdeal.S16384x4096 .bf16) (a1 : Vec F Cert.InProjRefIdeal.S4096x20960 .f32) :
    Vec F Cert.InProjRefIdeal.S16384x20960 .f32 :=
  Host.dotGeneral Cert.InProjRefIdeal.dot_S16384x4096_S4096x20960_S16384x20960_1_0_0_1_n_n none
    (extf .f32 a0 Cert.InProjRefIdeal.Gen.facts.bitsLt_bf16_f32) a1

/-- The reference's result: the two slices of the product side by side. -/
abbrev goal (a0 : Vec F Cert.InProjRefIdeal.S16384x4096 .bf16) (a1 : Vec F Cert.InProjRefIdeal.S4096x20960 .f32) :
    Vec F Cert.InProjRefIdeal.S16384x20480 .f32 :=
  concatenate Cert.InProjRefIdeal.S16384x20480 1
    [⟨Cert.InProjRefIdeal.S16384x6144, extractStridedSlice Cert.InProjRefIdeal.S16384x6144 ![0, 0] (product a0 a1)
        Cert.InProjRefIdeal.Gen.facts.slices_S16384x20960_S16384x6144_0_0⟩,
     ⟨Cert.InProjRefIdeal.S16384x14336, extractStridedSlice Cert.InProjRefIdeal.S16384x14336 ![0, 6624] (product a0 a1)
        Cert.InProjRefIdeal.Gen.facts.slices_S16384x20960_S16384x14336_0_6624⟩]
    Cert.InProjRefIdeal.Gen.facts.concatenates_S16384x6144_S16384x14336_S16384x20480_d1

section Final
variable (mi : (ℓ : Loc nD τ sig) → Buf (Elt Ideal) ℓ)

/-- The reference's result of the kernel's arguments. -/
abbrev target (c : Dev nD) : Vec Ideal S16384x20480 .f32 :=
  goal (F := Ideal) (mi ((c : Thread nD τ).loc main_arg0)) (mi ((c : Thread nD τ).loc main_arg1))

/-- What point `t` writes back is the target's block. -/
theorem written (c : Dev nD) (t : Fin cfg0.N) (_ : (cfg0.win 2).flush t = true) :
    (dats mi 0 c).flushed 2 t = ((cfg0.win 2).blk t).view.read (Elt Ideal) (target mi c) := by
  rw [Value.flushed2, block_at]
  funext y
  obtain ⟨-, -, -, -, e0, e1⟩ := index_at t
  have hp := points t
  show k0_pay2 (iblk mi c 0 t) (k0_pay1 (iblk mi c 1 t)) ((cfg0.win 2).xinj (grid0.coords t) y) = target mi c (((cfg0.win 2).blk t).view.emb y)
  have hy : (cfg0.win 2).xinj (grid0.coords t) y = y := rfl
  rw [hy]
  have hy0 : (y 0).val < 1024 := (y 0).isLt
  have hy1 : (y 1).val < 512 := (y 1).isLt
  have hz : ((cfg0.win 2).blk t).view.emb y = ix2 (⟨t.val % 16 * 1024 + (y 0).val, by omega⟩ : Fin 16384)
      (⟨t.val / 16 * 512 + (y 1).val, by omega⟩ : Fin 20480) := by
    funext a; apply Fin.ext
    match a with
    | ⟨0, _⟩ => show win0_2.index t (0 : Fin 2) * 1024 + 1 * (y 0).val = _; rw [e0]; show _ = t.val % 16 * 1024 + (y 0).val; omega
    | ⟨1, _⟩ => show win0_2.index t (1 : Fin 2) * 512 + 1 * (y 1).val = _; rw [e1]; show _ = t.val / 16 * 512 + (y 1).val; omega
  rw [hz]
  clear hz hy
  change S1024x512.Idx at y
  idx_vars y
  pointwise [k0_pay2, k0_pay1, target, goal, product]
  simp only [left_at, weights_at]
  have hj := y1.isLt
  split
  · next h =>
    have hs : start (t.val / 16) = t.val / 16 * 512 := if_pos (by omega)
    simp only [hs]
  · next h =>
    have hs : start (t.val / 16) = t.val / 16 * 512 + 480 := if_neg (by omega)
    have hi : ∀ (u v : Fin 20960), u.val = v.val → u = v := fun _ _ => Fin.ext
    refine Finset.sum_congr rfl fun k _ => congrArg _ (congrArg _ (congrArg (ix2 k) (hi _ _ ?_)))
    dsimp only
    rw [hs]
    omega

/-- The result array ends at the target. -/
theorem result (c : Dev nD) : (dats mi 0 c).arrAt 2 cfg0.N = target mi c :=
  (dats mi 0 c).arrAt_eq_of_cover 2 _ (written mi c) (fun i => (Value.covered_iff2 i).2 (by
    have h0 : (i 0).val < 16384 := (i 0).isLt; have h1 : (i 1).val < 20480 := (i 1).isLt; omega))

end Final

end Cert.InProjIdeal.Hand

end
-- ==== Proof.OutValue.lean ====
/- The residual projection `x + merged @ w_out`: what the kernel leaves in its result is the reference's sum. -/
module

public import proofs.«01_k».proof.Proof.Gen.OutProjIdeal.Value
public import proofs.«01_k».proof.Proof.Gen.OutProjRefIdeal.Run
public import Idealize.ShloMosaic.Lib.Pointwise

@[expose] public section

set_option maxRecDepth 16384

noncomputable section

namespace Cert.OutProjIdeal.Hand

open Cert.OutProjIdeal Cert.OutProjIdeal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section Cases
variable (c : Dev nD) (i : grid0.Coords)
    (a2 : Memref sig .tc .vmem S1024x4096 .bf16) (h2 : a2.IsWhole) (a3 : Memref sig .tc .vmem S4096x512 .f32) (h3 : a3.IsWhole)
    (a4 : Memref sig .tc .vmem S1024x512 .f32) (h4 : a4.IsWhole) (a5 : Memref sig .tc .vmem S1024x512 .f32) (h5 : a5.IsWhole)
    (a6 : Memref sig .tc .vmem S4096x512 .bf16) (h6 : a6.IsWhole)
    (x0 : Vec F S1024x4096 .bf16) (x1 : Vec F S4096x512 .f32) (x2 : Vec F S1024x512 .f32) (xs : Vec F S4096x512 .bf16)

/-- The first row block of a column block stores the rounded weights in the scratch. -/
theorem scratch_first (hc : cond0_0 i) : sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zero2]
  simp only [View.readAt_eq_ld, h3.read_unread, View.ld_unit_zero (S := S4096x512) zero2]

/-- It leaves the block of the result from those weights. -/
theorem out_first (hc : cond0_0 i) : out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zero2, View.readCov_unit_zero (S := S4096x512) _ zero2]
  simp only [View.readAt_eq_ld, h2.read_unread, h3.read_unread, h4.read_unread, View.ld_unit_zero (S := S1024x4096) zero2,
    View.ld_unit_zero (S := S4096x512) zero2, View.ld_unit_zero (S := S1024x512) zero2]

/-- A later row block leaves the block of the result from the weights the scratch holds. -/
theorem out_later (hc : ¬cond0_0 i) : out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero zero2]
  simp only [View.readAt_eq_ld, h2.read_unread, h4.read_unread, h6.read_unread, View.ld_unit_zero (S := S1024x4096) zero2,
    View.ld_unit_zero (S := S4096x512) zero2, View.ld_unit_zero (S := S1024x512) zero2]

end Cases

/-- Where each window's block lies at point `t`: column block `t / 16`, row block `t % 16`. -/
theorem index_at : ∀ t : Fin cfg0.N, win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = t.val % 16 ∧ win0_2.index t (1 : Fin 2) = t.val / 16
    ∧ win0_3.index t (0 : Fin 2) = t.val % 16 ∧ win0_3.index t (1 : Fin 2) = t.val / 16 :=
  (by decide +kernel : ∀ t : Fin grid0.N, _)

variable (m : (ℓ : Loc nD τ sig) → Buf (Elt F) ℓ)

theorem points (t : Fin cfg0.N) : t.val < 128 := lt_of_lt_of_eq t.isLt N_0

/-- The row block of the left factor at point `t`. -/
theorem left_at (c : Dev nD) (t : Fin cfg0.N) (r : Fin 1024) (k : Fin 4096) :
    iblk m c 0 t (ix2 r k) = m ((c : Thread nD τ).loc main_arg0)
      (ix2 (⟨t.val % 16 * 1024 + r.val, by have := r.isLt; omega⟩ : Fin 16384) k) := by
  obtain ⟨e0, e1, -⟩ := index_at t
  show m ((c : Thread nD τ).loc main_arg0) (((cfg0.win 0).blk t).view.emb (ix2 r k)) = _
  refine congrArg (m ((c : Thread nD τ).loc main_arg0)) (funext fun a => Fin.ext ?_)
  match a with
  | ⟨0, _⟩ => show win0_0.index t (0 : Fin 2) * 1024 + 1 * r.val = t.val % 16 * 1024 + r.val; rw [e0]; omega
  | ⟨1, _⟩ => show win0_0.index t (1 : Fin 2) * 4096 + 1 * k.val = k.val; rw [e1]; omega

/-- The column block of the weights at point `t`. -/
theorem weights_at (c : Dev nD) (t : Fin cfg0.N) (k : Fin 4096) (j : Fin 512) :
    iblk m c 1 t (ix2 k j) = m ((c : Thread nD τ).loc main_arg1)
      (ix2 k (⟨t.val / 16 * 512 + j.val, by have := j.isLt; have := points t; omega⟩ : Fin 4096)) := by
  obtain ⟨-, -, e0, e1, -⟩ := index_at t
  show m ((c : Thread nD τ).loc main_arg1) (((cfg0.win 1).blk t).view.emb (ix2 k j)) = _
  refine congrArg (m ((c : Thread nD τ).loc main_arg1)) (funext fun a => Fin.ext ?_)
  match a with
  | ⟨0, _⟩ => show win0_1.index t (0 : Fin 2) * 4096 + 1 * k.val = k.val; rw [e0]; omega
  | ⟨1, _⟩ => show win0_1.index t (1 : Fin 2) * 512 + 1 * j.val = t.val / 16 * 512 + j.val; rw [e1]; omega

/-- The block of the residual at point `t`. -/
theorem residual_at (c : Dev nD) (t : Fin cfg0.N) (r : Fin 1024) (j : Fin 512) :
    iblk m c 2 t (ix2 r j) = m ((c : Thread nD τ).loc main_arg2)
      (ix2 (⟨t.val % 16 * 1024 + r.val, by have := r.isLt; omega⟩ : Fin 16384)
        (⟨t.val / 16 * 512 + j.val, by have := j.isLt; have := points t; omega⟩ : Fin 4096)) := by
  obtain ⟨-, -, -, -, e0, e1, -⟩ := index_at t
  show m ((c : Thread nD τ).loc main_arg2) (((cfg0.win 2).blk t).view.emb (ix2 r j)) = _
  refine congrArg (m ((c : Thread nD τ).loc main_arg2)) (funext fun a => Fin.ext ?_)
  match a with
  | ⟨0, _⟩ => show win0_2.index t (0 : Fin 2) * 1024 + 1 * r.val = t.val % 16 * 1024 + r.val; rw [e0]; omega
  | ⟨1, _⟩ => show win0_2.index t (1 : Fin 2) * 512 + 1 * j.val = t.val / 16 * 512 + j.val; rw [e1]; omega

/-- Points of one column block read one block of the weights. -/
theorem weights_same (c : Dev nD) (s t : Fin cfg0.N) (h : s.val / 16 = t.val / 16) : iblk m c 1 s = iblk m c 1 t := by
  funext y
  idx_vars y
  rw [weights_at, weights_at]
  simp only [h]

/-- After point `n` the scratch holds the rounded weights of the point's column block. -/
theorem scratch_at (c : Dev nD) : ∀ (n : ℕ) (h : n < cfg0.N), (outsAt0 m c n h).2 = k0_pay1 (iblk m c 1 ⟨n, h⟩) := by
  intro n
  induction n with
  | zero =>
    intro h
    have e := outsAt0_A m c ⟨0, h⟩ (Nat.zero_mod _)
    dsimp only at e ⊢
    rw [e]
    dsimp only
    rw [scratch_first]
  | succ n ih =>
    intro h
    by_cases h0 : (n + 1) % 16 = 0
    · have e := outsAt0_A m c ⟨n + 1, h⟩ h0
      dsimp only at e ⊢
      rw [e]
      dsimp only
      rw [scratch_first]
    · have e := outsAt0_B m c ⟨n + 1, h⟩ h0
      dsimp only at e ⊢
      rw [e]
      dsimp only [sout0_B_0]
      show (outsAt0 m c n (Nat.lt_of_succ_lt h)).2 = _
      rw [ih, weights_same m c ⟨n, _⟩ ⟨n + 1, h⟩ (by show n / 16 = (n + 1) / 16; omega)]

/-- The block point `t` leaves, whatever case it is in. -/
theorem block_at (c : Dev nD) (t : Fin cfg0.N) :
    (outsAt0 m c t.val t.isLt).1 = k0_pay2 (iblk m c 0 t) (k0_pay1 (iblk m c 1 t)) (iblk m c 2 t) := by
  by_cases h0 : t.val % 16 = 0
  · rw [outsAt0_A m c t h0]
    dsimp only
    rw [out_first]
  · rw [outsAt0_B m c t h0]
    dsimp only
    rw [out_later, scratch_at m c, weights_same m c ⟨t.val - 1, _⟩ t (by show (t.val - 1) / 16 = t.val / 16; omega)]

/-- The reference's result of three arrays. -/
abbrev goal (a0 : Vec F Cert.OutProjRefIdeal.S16384x4096 .bf16) (a1 : Vec F Cert.OutProjRefIdeal.S4096x4096 .f32)
    (a2 : Vec F Cert.OutProjRefIdeal.S16384x4096 .f32) : Vec F Cert.OutProjRefIdeal.S16384x4096 .f32 :=
  addf a2 (Host.dotGeneral Cert.OutProjRefIdeal.dot_S16384x4096_S4096x4096_S16384x4096_1_0_0_1_n_n none
    (extf .f32 a0 Cert.OutProjRefIdeal.Gen.facts.bitsLt_bf16_f32) a1)

section Final
variable (mi : (ℓ : Loc nD τ sig) → Buf (Elt Ideal) ℓ)

/-- The reference's result of the kernel's arguments. -/
abbrev target (c : Dev nD) : Vec Ideal S16384x4096 .f32 :=
  goal (F := Ideal) (mi ((c : Thread nD τ).loc main_arg0)) (mi ((c : Thread nD τ).loc main_arg1)) (mi ((c : Thread nD τ).loc main_arg2))

/-- What point `t` writes back is the target's block. -/
theorem written (c : Dev nD) (t : Fin cfg0.N) (_ : (cfg0.win 3).flush t = true) :
    (dats mi 0 c).flushed 3 t = ((cfg0.win 3).blk t).view.read (Elt Ideal) (target mi c) := by
  rw [Value.flushed3, block_at]
  funext y
  obtain ⟨-, -, -, -, -, -, e0, e1⟩ := index_at t
  have hp := points t
  show k0_pay2 (iblk mi c 0 t) (k0_pay1 (iblk mi c 1 t)) (iblk mi c 2 t) ((cfg0.win 3).xinj (grid0.coords t) y) = target mi c (((cfg0.win 3).blk t).view.emb y)
  have hy : (cfg0.win 3).xinj (grid0.coords t) y = y := rfl
  rw [hy]
  have hy0 : (y 0).val < 1024 := (y 0).isLt
  have hy1 : (y 1).val < 512 := (y 1).isLt
  have hz : ((cfg0.win 3).blk t).view.emb y = ix2 (⟨t.val % 16 * 1024 + (y 0).val, by omega⟩ : Fin 16384)
      (⟨t.val / 16 * 512 + (y 1).val, by omega⟩ : Fin 4096) := by
    funext a; apply Fin.ext
    match a with
    | ⟨0, _⟩ => show win0_3.index t (0 : Fin 2) * 1024 + 1 * (y 0).val = _; rw [e0]; show _ = t.val % 16 * 1024 + (y 0).val; omega
    | ⟨1, _⟩ => show win0_3.index t (1 : Fin 2) * 512 + 1 * (y 1).val = _; rw [e1]; show _ = t.val / 16 * 512 + (y 1).val; omega
  rw [hz]
  clear hz hy
  change S1024x512.Idx at y
  idx_vars y
  pointwise [k0_pay2, k0_pay1, target, goal]
  simp only [left_at, weights_at, residual_at]
  done

/-- The result array ends at the target. -/
theorem result (c : Dev nD) : (dats mi 0 c).arrAt 3 cfg0.N = target mi c :=
  (dats mi 0 c).arrAt_eq_of_cover 3 _ (written mi c) (fun i => (Value.covered_iff3 i).2 (by
    have h0 : (i 0).val < 16384 := (i 0).isLt; have h1 : (i 1).val < 4096 := (i 1).isLt; omega))

end Final

end Cert.OutProjIdeal.Hand

end
-- ==== Proof.FfnOutValue.lean ====
/- The residual projection `x + act @ w_ffn_out`: what the kernel leaves in its result is the reference's sum. -/
module

public import proofs.«01_k».proof.Proof.Gen.FfnOutIdeal.Value
public import proofs.«01_k».proof.Proof.Gen.FfnOutRefIdeal.Run
public import Idealize.ShloMosaic.Lib.Pointwise

@[expose] public section

set_option maxRecDepth 16384

noncomputable section

namespace Cert.FfnOutIdeal.Hand

open Cert.FfnOutIdeal Cert.FfnOutIdeal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

/-- The body leaves its one payload of the three blocks. -/
theorem out_block (x0 : Vec F S512x11008 .bf16) (x1 : Vec F S11008x512 .bf16) (x2 : Vec F S512x512 .f32) :
    out0_3 x0 x1 x2 = k0_pay1 x0 x1 x2 := by
  unfold out0_3
  rw [View.canon_unit_zero zero2]
  simp only [View.ld_unit_zero (S := S512x11008) zero2, View.ld_unit_zero (S := S11008x512) zero2, View.ld_unit_zero (S := S512x512) zero2]

/-- Where each window's block lies at point `t`: row block `t / 8`, column block `t % 8`. -/
theorem index_at : ∀ t : Fin cfg0.N, win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8 :=
  (by decide +kernel : ∀ t : Fin grid0.N, _)

theorem flush_at : ∀ t : Fin cfg0.N, (cfg0.win 3).flush t = true :=
  (by decide +kernel : ∀ t : Fin grid0.N, win0_3.flush t = true)

variable (m : (ℓ : Loc nD τ sig) → Buf (Elt F) ℓ)

theorem points (t : Fin cfg0.N) : t.val < 256 := lt_of_lt_of_eq t.isLt N_0

/-- The weights the region finds: the argument rounded by the host. -/
theorem weights_entry (c : Dev nD) : V m c main_v0 = truncf .bf16 (m ((c : Thread nD τ).loc main_arg1)) bitsLt_bf16_f32 := by
  show StableHlo.after hostOps0 (fun b => m (c, b)) (Proc.devRef .tc main_v0) = _
  after_results

/-- The row block of the left factor at point `t`. -/
theorem left_at (c : Dev nD) (t : Fin cfg0.N) (r : Fin 512) (k : Fin 11008) :
    iblk m c 0 t (ix2 r k) = m ((c : Thread nD τ).loc main_arg0)
      (ix2 (⟨t.val / 8 * 512 + r.val, by have := r.isLt; have := points t; omega⟩ : Fin 16384) k) := by
  obtain ⟨e0, e1, -⟩ := index_at t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = t.val / 8 * 512 + r.val; rw [e0]; omega
  | ⟨1, _⟩ => show win0_0.index t (1 : Fin 2) * 11008 + 1 * k.val = k.val; rw [e1]; omega

/-- The column block of the rounded weights at point `t`. -/
theorem weights_at (c : Dev nD) (t : Fin cfg0.N) (k : Fin 11008) (j : Fin 512) :
    iblk m c 1 t (ix2 k j) = truncf .bf16 (m ((c : Thread nD τ).loc main_arg1)) bitsLt_bf16_f32
      (ix2 k (⟨t.val % 8 * 512 + j.val, by have := j.isLt; omega⟩ : Fin 4096)) := by
  obtain ⟨-, -, e0, e1, -⟩ := index_at t
  show V m c main_v0 (((cfg0.win 1).blk t).view.emb (ix2 k j)) = _
  rw [weights_entry]
  refine congrArg (truncf .bf16 (m ((c : Thread nD τ).loc main_arg1)) bitsLt_bf16_f32) (funext fun a => Fin.ext ?_)
  match a with
  | ⟨0, _⟩ => show win0_1.index t (0 : Fin 2) * 11008 + 1 * k.val = k.val; rw [e0]; omega
  | ⟨1, _⟩ => show win0_1.index t (1 : Fin 2) * 512 + 1 * j.val = t.val % 8 * 512 + j.val; rw [e1]; omega

/-- The block of the residual at point `t`. -/
theorem residual_at (c : Dev nD) (t : Fin cfg0.N) (r : Fin 512) (j : Fin 512) :
    iblk m c 2 t (ix2 r j) = m ((c : Thread nD τ).loc main_arg2)
      (ix2 (⟨t.val / 8 * 512 + r.val, by have := r.isLt; have := points t; omega⟩ : Fin 16384)
        (⟨t.val % 8 * 512 + j.val, by have := j.isLt; omega⟩ : Fin 4096)) := by
  obtain ⟨-, -, -, -, e0, e1, -⟩ := index_at t
  show V m c main_arg2 (((cfg0.win 2).blk t).view.emb (ix2 r j)) = _
  rw [V_main_arg2]
  refine congrArg (m ((c : Thread nD τ).loc main_arg2)) (funext fun a => Fin.ext ?_)
  match a with
  | ⟨0, _⟩ => show win0_2.index t (0 : Fin 2) * 512 + 1 * r.val = t.val / 8 * 512 + r.val; rw [e0]; omega
  | ⟨1, _⟩ => show win0_2.index t (1 : Fin 2) * 512 + 1 * j.val = t.val % 8 * 512 + j.val; rw [e1]; omega

/-- The reference's result of three arrays. -/
abbrev goal (a0 : Vec F Cert.FfnOutRefIdeal.S16384x11008 .bf16) (a1 : Vec F Cert.FfnOutRefIdeal.S11008x4096 .f32)
    (a2 : Vec F Cert.FfnOutRefIdeal.S16384x4096 .f32) : Vec F Cert.FfnOutRefIdeal.S16384x4096 .f32 :=
  addf a2 (Host.dotGeneral Cert.FfnOutRefIdeal.dot_S16384x11008_S11008x4096_S16384x4096_1_0_0_1_n_n none
    (extf .f32 a0 Cert.FfnOutRefIdeal.Gen.facts.bitsLt_bf16_f32) a1)

section Final
variable (mi : (ℓ : Loc nD τ sig) → Buf (Elt Ideal) ℓ)

/-- The reference's result of the kernel's arguments. -/
abbrev target (c : Dev nD) : Vec Ideal S16384x4096 .f32 :=
  goal (F := Ideal) (mi ((c : Thread nD τ).loc main_arg0)) (mi ((c : Thread nD τ).loc main_arg1)) (mi ((c : Thread nD τ).loc main_arg2))

/-- What point `t` writes back is the target's block. -/
theorem written (c : Dev nD) (t : Fin cfg0.N) (_ : (cfg0.win 3).flush t = true) :
    (dats mi 0 c).flushed 3 t = ((cfg0.win 3).blk t).view.read (Elt Ideal) (target mi c) := by
  rw [Value.flushed3, out_block]
  funext y
  obtain ⟨-, -, -, -, -, -, e0, e1⟩ := index_at t
  have hp := points t
  show k0_pay1 (iblk mi c 0 t) (iblk mi c 1 t) (iblk mi c 2 t) ((cfg0.win 3).xinj (grid0.coords t) y) = target mi c (((cfg0.win 3).blk t).view.emb y)
  have hy : (cfg0.win 3).xinj (grid0.coords t) y = y := rfl
  rw [hy]
  have hy0 : (y 0).val < 512 := (y 0).isLt
  have hy1 : (y 1).val < 512 := (y 1).isLt
  have hz : ((cfg0.win 3).blk t).view.emb y = ix2 (⟨t.val / 8 * 512 + (y 0).val, by omega⟩ : Fin 16384)
      (⟨t.val % 8 * 512 + (y 1).val, by omega⟩ : Fin 4096) := by
    funext a; apply Fin.ext
    match a with
    | ⟨0, _⟩ => show win0_3.index t (0 : Fin 2) * 512 + 1 * (y 0).val = _; rw [e0]; show _ = t.val / 8 * 512 + (y 0).val; omega
    | ⟨1, _⟩ => show win0_3.index t (1 : Fin 2) * 512 + 1 * (y 1).val = _; rw [e1]; show _ = t.val % 8 * 512 + (y 1).val; omega
  rw [hz]
  clear hz hy
  change S512x512.Idx at y
  idx_vars y
  pointwise [k0_pay1, target, goal]
  simp only [left_at, weights_at, residual_at]
  pointwise []

/-- Every index of the result lies in some point's block. -/
theorem covered (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 256 := N_0
  let t : Fin cfg0.N := ⟨(i 0).val / 512 * 8 + (i 1).val / 512, by omega⟩
  have ht : t.val = (i 0).val / 512 * 8 + (i 1).val / 512 := rfl
  refine ⟨t, flush_at t, ?_⟩
  obtain ⟨-, -, -, -, -, -, e0, e1⟩ := index_at t
  show i ∈ ((View.whole main_v1).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 512 ≤ (i 1).val ∧ (i 1).val < win0_3.index t (1 : Fin 2) * 512 + 512
    rw [e1, ht]; omega

/-- The result array ends at the target. -/
theorem result (c : Dev nD) : (dats mi 0 c).arrAt 3 cfg0.N = target mi c :=
  (dats mi 0 c).arrAt_eq_of_cover 3 _ (written mi c) covered

end Final

end Cert.FfnOutIdeal.Hand

end
-- ==== Proof.PleValue.lean ====
/- The gated per-layer embedding `out + sigmoid(out @ w_gate) * (p @ w_ple)`, the layer's last call: what the kernel
   leaves in its result is the reference's. -/
module

public import proofs.«01_k».proof.Proof.Gen.PleIdeal.Value
public import proofs.«01_k».proof.Proof.Gen.PleRefIdeal.Run
public import Idealize.ShloMosaic.Lib.Pointwise

@[expose] public section

set_option maxRecDepth 16384

noncomputable section

namespace Cert.PleIdeal.Hand

open Cert.PleIdeal Cert.PleIdeal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

section Cases
variable (c : Dev nD) (i : grid0.Coords)
    (a2 : Memref sig .tc .vmem S1024x4096 .bf16) (h2 : a2.IsWhole)
    (a3 : Memref sig .tc .vmem S4096x512 .f32) (h3 : a3.IsWhole)
    (a4 : Memref sig .tc .vmem S1024x256 .bf16) (h4 : a4.IsWhole)
    (a5 : Memref sig .tc .vmem S256x512 .f32) (h5 : a5.IsWhole)
    (a6 : Memref sig .tc .vmem S1024x512 .f32) (h6 : a6.IsWhole)
    (a7 : Memref sig .tc .vmem S1024x512 .f32) (h7 : a7.IsWhole)
    (a8 : Memref sig .tc .vmem S4096x512 .bf16) (h8 : a8.IsWhole)
    (a9 : Memref sig .tc .vmem S256x512 .bf16) (h9 : a9.IsWhole)
    (x0 : Vec F S1024x4096 .bf16) (x1 : Vec F S4096x512 .f32) (x2 : Vec F S1024x256 .bf16) (x3 : Vec F S256x512 .f32)
    (x4 : Vec F S1024x512 .f32) (xs0 : Vec F S4096x512 .bf16) (xs1 : Vec F S256x512 .bf16)

/-- The first row block of a column block stores the rounded gate weights in the first scratch. -/
theorem gate_first (hc : cond0_0 i) : sout0_A_0 c i a2 h2 a3 h3 a4 h4 a5 h5 a6 h6 a7 h7 a8 h8 a9 h9 hc x0 x1 x2 x3 x4 = k0_pay1 x1 := by
  unfold sout0_A_0
  rw [View.read_writes_eq_canon _ _ _ (scover0_A_0 c i a2 h2 a3 h3 a4 h4 a5 h5 a6 h6 a7 h7 a8 h8 a9 h9 hc x0 x1 x2 x3 x4)]
  unfold kernelRun0_A
  dsimp only
  sl_unfold_words
  rw [View.canon_unit_zero zero2]
  simp only [View.readAt_eq_ld, h3.read_unread, View.ld_unit_zero (S := S4096x512) zero2]

/-- It stores the rounded embedding weights in the second scratch. -/
theorem embed_first (hc : cond0_0 i) : sout0_A_1 c i a2 h2 a3 h3 a4 h4 a5 h5 a6 h6 a7 h7 a8 h8 a9 h9 hc x0 x1 x2 x3 x4 = k0_pay2 x3 := by
  unfold sout0_A_1
  rw [View.read_writes_eq_canon _ _ _ (scover0_A_1 c i a2 h2 a3 h3 a4 h4 a5 h5 a6 h6 a7 h7 a8 h8 a9 h9 hc x0 x1 x2 x3 x4)]
  unfold kernelRun0_A
  dsimp only
  sl_unfold_words
  rw [View.canon_unit_zero zero2]
  simp only [View.readAt_eq_ld, h5.read_unread, View.ld_unit_zero (S := S256x512) zero2]

/-- It leaves the gated block computed with those weights. -/
theorem out_first (hc : cond0_0 i) : out0_A_5 c i a2 h2 a3 h3 a4 h4 a5 h5 a6 h6 a7 h7 a8 h8 a9 h9 hc x0 x1 x2 x3 x4 = k0_pay3 x0 (k0_pay1 x1) x2 (k0_pay2 x3) x4 := by
  unfold out0_A_5
  rw [View.read_writes_eq_canon _ _ _ (cover0_A_5 c i a2 h2 a3 h3 a4 h4 a5 h5 a6 h6 a7 h7 a8 h8 a9 h9 hc x0 x1 x2 x3 x4)]
  unfold kernelRun0_A
  dsimp only
  sl_unfold_words
  rw [View.canon_unit_zero zero2, View.readCov_unit_zero (S := S4096x512) _ zero2, View.readCov_unit_zero (S := S256x512) _ zero2]
  simp only [View.readAt_eq_ld, h2.read_unread, h3.read_unread, h4.read_unread, h5.read_unread, h6.read_unread,
    View.ld_unit_zero (S := S1024x4096) zero2, View.ld_unit_zero (S := S4096x512) zero2,
    View.ld_unit_zero (S := S1024x256) zero2, View.ld_unit_zero (S := S256x512) zero2, View.ld_unit_zero (S := S1024x512) zero2]

/-- A later row block leaves the gated block computed with the weights the scratches hold. -/
theorem out_later (hc : ¬cond0_0 i) : out0_B_5 c i a2 h2 a3 h3 a4 h4 a5 h5 a6 h6 a7 h7 a8 h8 a9 h9 hc x0 x1 x2 x3 x4 xs0 xs1 = k0_pay3 x0 xs0 x2 xs1 x4 := by
  unfold out0_B_5
  rw [View.read_writes_eq_canon _ _ _ (cover0_B_5 c i a2 h2 a3 h3 a4 h4 a5 h5 a6 h6 a7 h7 a8 h8 a9 h9 hc x0 x1 x2 x3 x4 xs0 xs1)]
  unfold kernelRun0_B
  dsimp only
  sl_unfold_words
  rw [View.canon_unit_zero zero2]
  simp only [View.readAt_eq_ld, h2.read_unread, h4.read_unread, h6.read_unread, h8.read_unread, h9.read_unread,
    View.ld_unit_zero (S := S1024x4096) zero2, View.ld_unit_zero (S := S4096x512) zero2,
    View.ld_unit_zero (S := S1024x256) zero2, View.ld_unit_zero (S := S256x512) zero2, View.ld_unit_zero (S := S1024x512) zero2]

end Cases

/-- Where each window's block lies at point `t`: row block `t % 16`, column block `t / 16`. -/
theorem index_at : ∀ t : Fin cfg0.N, win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = t.val % 16 ∧ win0_2.index t (1 : Fin 2) = 0
    ∧ win0_3.index t (0 : Fin 2) = 0 ∧ win0_3.index t (1 : Fin 2) = t.val / 16
    ∧ win0_4.index t (0 : Fin 2) = t.val % 16 ∧ win0_4.index t (1 : Fin 2) = t.val / 16
    ∧ win0_5.index t (0 : Fin 2) = t.val % 16 ∧ win0_5.index t (1 : Fin 2) = t.val / 16 :=
  (by decide +kernel : ∀ t : Fin grid0.N, _)

variable (m : (ℓ : Loc nD τ sig) → Buf (Elt F) ℓ)

theorem points (t : Fin cfg0.N) : t.val < 128 := lt_of_lt_of_eq t.isLt N_0

/-- The embeddings the region finds: the argument flattened and rounded by the host. -/
theorem embed_entry (c : Dev nD) : V m c main_v1 =
    truncf .bf16 (shapeCast S16384x256 (m ((c : Thread nD τ).loc main_arg2)) shapeCasts_S4x4096x256_S16384x256) bitsLt_bf16_f32 := by
  show StableHlo.after hostOps0 (fun b => m (c, b)) (Proc.devRef .tc main_v1) = _
  after_results <;> rfl

/-- The rows of the layer so far at point `t`. -/
theorem rows_at (c : Dev nD) (t : Fin cfg0.N) (a : Fin 1024) (b : Fin 4096) :
    iblk m c 0 t (ix2 a b) = m ((c : Thread nD τ).loc main_arg0)
      (ix2 (⟨t.val % 16 * 1024 + a.val, by have := a.isLt; have := points t; omega⟩ : Fin 16384) b) := by
  obtain ⟨e0, e1, -⟩ := index_at t
  show V m c main_arg0 (((cfg0.win 0).blk t).view.emb (ix2 a b)) = _
  rw [V_main_arg0]
  refine congrArg (m ((c : Thread nD τ).loc main_arg0)) (funext fun d => Fin.ext ?_)
  match d with
  | ⟨0, _⟩ => show win0_0.index t (0 : Fin 2) * 1024 + 1 * a.val = t.val % 16 * 1024 + a.val; rw [e0]; omega
  | ⟨1, _⟩ => show win0_0.index t (1 : Fin 2) * 4096 + 1 * b.val = b.val; rw [e1]; omega

/-- The column block of the gate weights at point `t`. -/
theorem gate_at (c : Dev nD) (t : Fin cfg0.N) (a : Fin 4096) (b : Fin 512) :
    iblk m c 1 t (ix2 a b) = m ((c : Thread nD τ).loc main_arg1)
      (ix2 a (⟨t.val / 16 * 512 + b.val, by have := b.isLt; have := points t; omega⟩ : Fin 4096)) := by
  obtain ⟨-, -, e0, e1, -⟩ := index_at t
  show V m c main_arg1 (((cfg0.win 1).blk t).view.emb (ix2 a b)) = _
  rw [V_main_arg1]
  refine congrArg (m ((c : Thread nD τ).loc main_arg1)) (funext fun d => Fin.ext ?_)
  match d with
  | ⟨0, _⟩ => show win0_1.index t (0 : Fin 2) * 4096 + 1 * a.val = a.val; rw [e0]; omega
  | ⟨1, _⟩ => show win0_1.index t (1 : Fin 2) * 512 + 1 * b.val = t.val / 16 * 512 + b.val; rw [e1]; omega

/-- The rows of the embeddings at point `t`. -/
theorem embed_at (c : Dev nD) (t : Fin cfg0.N) (a : Fin 1024) (b : Fin 256) :
    iblk m c 2 t (ix2 a b) = truncf .bf16 (shapeCast S16384x256 (m ((c : Thread nD τ).loc main_arg2)) shapeCasts_S4x4096x256_S16384x256) bitsLt_bf16_f32
      (ix2 (⟨t.val % 16 * 1024 + a.val, by have := a.isLt; have := points t; omega⟩ : Fin 16384) b) := by
  obtain ⟨-, -, -, -, e0, e1, -⟩ := index_at t
  show V m c main_v1 (((cfg0.win 2).blk t).view.emb (ix2 a b)) = _
  rw [embed_entry]
  refine congrArg (truncf .bf16 (shapeCast S16384x256 (m ((c : Thread nD τ).loc main_arg2)) shapeCasts_S4x4096x256_S16384x256) bitsLt_bf16_f32) (funext fun d => Fin.ext ?_)
  match d with
  | ⟨0, _⟩ => show win0_2.index t (0 : Fin 2) * 1024 + 1 * a.val = t.val % 16 * 1024 + a.val; rw [e0]; omega
  | ⟨1, _⟩ => show win0_2.index t (1 : Fin 2) * 256 + 1 * b.val = b.val; rw [e1]; omega

/-- The column block of the embedding weights at point `t`. -/
theorem ple_at (c : Dev nD) (t : Fin cfg0.N) (a : Fin 256) (b : Fin 512) :
    iblk m c 3 t (ix2 a b) = m ((c : Thread nD τ).loc main_arg3)
      (ix2 a (⟨t.val / 16 * 512 + b.val, by have := b.isLt; have := points t; omega⟩ : Fin 4096)) := by
  obtain ⟨-, -, -, -, -, -, e0, e1, -⟩ := index_at t
  show V m c main_arg3 (((cfg0.win 3).blk t).view.emb (ix2 a b)) = _
  rw [V_main_arg3]
  refine congrArg (m ((c : Thread nD τ).loc main_arg3)) (funext fun d => Fin.ext ?_)
  match d with
  | ⟨0, _⟩ => show win0_3.index t (0 : Fin 2) * 256 + 1 * a.val = a.val; rw [e0]; omega
  | ⟨1, _⟩ => show win0_3.index t (1 : Fin 2) * 512 + 1 * b.val = t.val / 16 * 512 + b.val; rw [e1]; omega

/-- The block of the residual at point `t`. -/
theorem residual_at (c : Dev nD) (t : Fin cfg0.N) (a : Fin 1024) (b : Fin 512) :
    iblk m c 4 t (ix2 a b) = m ((c : Thread nD τ).loc main_arg4)
      (ix2 (⟨t.val % 16 * 1024 + a.val, by have := a.isLt; have := points t; omega⟩ : Fin 16384) (⟨t.val / 16 * 512 + b.val, by have := b.isLt; have := points t; omega⟩ : Fin 4096)) := by
  obtain ⟨-, -, -, -, -, -, -, -, e0, e1, -⟩ := index_at t
  show V m c main_arg4 (((cfg0.win 4).blk t).view.emb (ix2 a b)) = _
  rw [V_main_arg4]
  refine congrArg (m ((c : Thread nD τ).loc main_arg4)) (funext fun d => Fin.ext ?_)
  match d with
  | ⟨0, _⟩ => show win0_4.index t (0 : Fin 2) * 1024 + 1 * a.val = t.val % 16 * 1024 + a.val; rw [e0]; omega
  | ⟨1, _⟩ => show win0_4.index t (1 : Fin 2) * 512 + 1 * b.val = t.val / 16 * 512 + b.val; rw [e1]; omega

/-- Points of one column block read one block of the gate weights. -/
theorem gate_same (c : Dev nD) (s t : Fin cfg0.N) (h : s.val / 16 = t.val / 16) : iblk m c 1 s = iblk m c 1 t := by
  funext y
  change S4096x512.Idx at y
  idx_vars y
  rw [gate_at, gate_at]
  simp only [h]

/-- And one block of the embedding weights. -/
theorem ple_same (c : Dev nD) (s t : Fin cfg0.N) (h : s.val / 16 = t.val / 16) : iblk m c 3 s = iblk m c 3 t := by
  funext y
  change S256x512.Idx at y
  idx_vars y
  rw [ple_at, ple_at]
  simp only [h]

/-- After point `n` the scratches hold the weights of the point's column block. -/
theorem scratch_at (c : Dev nD) : ∀ (n : ℕ) (h : n < cfg0.N),
    (outsAt0 m c n h).2 = (k0_pay1 (iblk m c 1 ⟨n, h⟩), k0_pay2 (iblk m c 3 ⟨n, h⟩)) := by
  intro n
  induction n with
  | zero =>
    intro h
    have e := outsAt0_A m c ⟨0, h⟩ (Nat.zero_mod _)
    dsimp only at e ⊢
    rw [e]
    dsimp only
    rw [gate_first, embed_first]
  | succ n ih =>
    intro h
    by_cases h0 : (n + 1) % 16 = 0
    · have e := outsAt0_A m c ⟨n + 1, h⟩ h0
      dsimp only at e ⊢
      rw [e]
      dsimp only
      rw [gate_first, embed_first]
    · have e := outsAt0_B m c ⟨n + 1, h⟩ h0
      dsimp only at e ⊢
      rw [e]
      dsimp only [sout0_B_0, sout0_B_1]
      show (outsAt0 m c n (Nat.lt_of_succ_lt h)).2 = _
      have hn : (⟨n, Nat.lt_of_succ_lt h⟩ : Fin cfg0.N).val / 16 = (⟨n + 1, h⟩ : Fin cfg0.N).val / 16 := by
        show n / 16 = (n + 1) / 16; omega
      rw [ih, gate_same m c _ _ hn, ple_same m c _ _ hn]

/-- The block point `t` leaves, whatever case it is in. -/
theorem block_at (c : Dev nD) (t : Fin cfg0.N) : (outsAt0 m c t.val t.isLt).1 =
    k0_pay3 (iblk m c 0 t) (k0_pay1 (iblk m c 1 t)) (iblk m c 2 t) (k0_pay2 (iblk m c 3 t)) (iblk m c 4 t) := by
  by_cases h0 : t.val % 16 = 0
  · rw [outsAt0_A m c t h0]
    dsimp only
    rw [out_first]
  · rw [outsAt0_B m c t h0]
    dsimp only
    have hn : (⟨t.val - 1, by have := t.isLt; omega⟩ : Fin cfg0.N).val / 16 = t.val / 16 := by
      show (t.val - 1) / 16 = t.val / 16; omega
    rw [out_later, scratch_at m c, gate_same m c _ t hn, ple_same m c _ t hn]

/-- The reference's result of the five arrays. -/
abbrev goal (a0 : Vec F Cert.PleRefIdeal.S16384x4096 .bf16) (a1 : Vec F Cert.PleRefIdeal.S4096x4096 .f32)
    (a2 : Vec F Cert.PleRefIdeal.S4x4096x256 .f32) (a3 : Vec F Cert.PleRefIdeal.S256x4096 .f32)
    (a4 : Vec F Cert.PleRefIdeal.S16384x4096 .f32) : Vec F Cert.PleRefIdeal.S16384x4096 .f32 :=
  addf a4 (mulf (Host.divf (broadcastInDim Cert.PleRefIdeal.S16384x4096 ![] Cert.PleRefIdeal.Gen.facts.bcast_S_S16384x4096 (constant Cert.PleRefIdeal.S_ .f32 0x3F800000#32))
      (addf (broadcastInDim Cert.PleRefIdeal.S16384x4096 ![] Cert.PleRefIdeal.Gen.facts.bcast_S_S16384x4096 (constant Cert.PleRefIdeal.S_ .f32 0x3F800000#32))
        (Host.exp (Host.negf (Host.dotGeneral Cert.PleRefIdeal.dot_S16384x4096_S4096x4096_S16384x4096_1_0_0_1_n_n none (extf .f32 a0 Cert.PleRefIdeal.Gen.facts.bitsLt_bf16_f32) a1)))))
    (Host.dotGeneral Cert.PleRefIdeal.dot_S16384x256_S256x4096_S16384x4096_1_0_0_1_n_n none
      (shapeCast _ a2 Cert.PleRefIdeal.Gen.facts.shapeCasts_S4x4096x256_S16384x256) a3))

section Final
variable (mi : (ℓ : Loc nD τ sig) → Buf (Elt Ideal) ℓ)

/-- The reference's result of the kernel's arguments. -/
abbrev target (c : Dev nD) : Vec Ideal S16384x4096 .f32 :=
  goal (F := Ideal) (mi ((c : Thread nD τ).loc main_arg0)) (mi ((c : Thread nD τ).loc main_arg1)) (mi ((c : Thread nD τ).loc main_arg2))
    (mi ((c : Thread nD τ).loc main_arg3)) (mi ((c : Thread nD τ).loc main_arg4))

/-- The flattened embeddings at row `r`: batch `r / 4096`, position `r % 4096`. -/
theorem flat (x : Vec Ideal S4x4096x256 .f32) (r : Fin 16384) (b : Fin 256) :
    shapeCast S16384x256 x shapeCasts_S4x4096x256_S16384x256 (ix2 r b)
      = x (ix3 (⟨r.val / 4096, by have := r.isLt; omega⟩ : Fin 4) (⟨r.val % 4096, by omega⟩ : Fin 4096) b) := by
  pointwise []

/-- The same rows of the embeddings, read from the argument. -/
theorem embed_read (c : Dev nD) (t : Fin cfg0.N) (a : Fin 1024) (b : Fin 256) :
    iblk mi c 2 t (ix2 a b) = mi ((c : Thread nD τ).loc main_arg2)
      (ix3 (⟨(t.val % 16 * 1024 + a.val) / 4096, by have := a.isLt; omega⟩ : Fin 4)
        (⟨(t.val % 16 * 1024 + a.val) % 4096, by omega⟩ : Fin 4096) b) := by
  rw [embed_at]
  exact flat _ _ _

/-- What point `t` writes back is the target's block. -/
theorem written (c : Dev nD) (t : Fin cfg0.N) (_ : (cfg0.win 5).flush t = true) :
    (dats mi 0 c).flushed 5 t = ((cfg0.win 5).blk t).view.read (Elt Ideal) (target mi c) := by
  rw [Value.flushed5, block_at]
  funext y
  obtain ⟨-, -, -, -, -, -, -, -, -, -, e0, e1⟩ := index_at t
  have hp := points t
  show k0_pay3 (iblk mi c 0 t) (k0_pay1 (iblk mi c 1 t)) (iblk mi c 2 t) (k0_pay2 (iblk mi c 3 t)) (iblk mi c 4 t)
    ((cfg0.win 5).xinj (grid0.coords t) y) = target mi c (((cfg0.win 5).blk t).view.emb y)
  have hy : (cfg0.win 5).xinj (grid0.coords t) y = y := rfl
  rw [hy]
  have hy0 : (y 0).val < 1024 := (y 0).isLt
  have hy1 : (y 1).val < 512 := (y 1).isLt
  have hz : ((cfg0.win 5).blk t).view.emb y = ix2 (⟨t.val % 16 * 1024 + (y 0).val, by omega⟩ : Fin 16384)
      (⟨t.val / 16 * 512 + (y 1).val, by omega⟩ : Fin 4096) := by
    funext a; apply Fin.ext
    match a with
    | ⟨0, _⟩ => show win0_5.index t (0 : Fin 2) * 1024 + 1 * (y 0).val = _; rw [e0]; show _ = t.val % 16 * 1024 + (y 0).val; omega
    | ⟨1, _⟩ => show win0_5.index t (1 : Fin 2) * 512 + 1 * (y 1).val = _; rw [e1]; show _ = t.val / 16 * 512 + (y 1).val; omega
  rw [hz]
  clear hz hy
  change S1024x512.Idx at y
  idx_vars y
  pointwise [k0_pay3, k0_pay2, k0_pay1, target, goal]
  simp only [rows_at, gate_at, embed_read, ple_at, residual_at]
  rfl

/-- The result array ends at the target. -/
theorem result (c : Dev nD) : (dats mi 0 c).arrAt 5 cfg0.N = target mi c :=
  (dats mi 0 c).arrAt_eq_of_cover 5 _ (written mi c) (fun i => (Value.covered_iff5 i).2 (by
    have h0 : (i 0).val < 16384 := (i 0).isLt; have h1 : (i 1).val < 4096 := (i 1).isLt; omega))

end Final

end Cert.PleIdeal.Hand

end
-- ==== Proof.MergeValue.lean ====
/- The merge of the two branches, each gated by a sigmoid: the kernel's lagged pipeline leaves the reference's sum. -/
module

public import proofs.«01_k».proof.Proof.Gen.MergeIdeal.Value
public import proofs.«01_k».proof.Proof.Gen.MergeRefIdeal.Run
public import Idealize.ShloMosaic.Lib.Pointwise

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl

/-- One half of a pair of products. -/
abbrev half (k : Fin 2) (p : Vec Ideal S2x1024x512 .f32) : Vec Ideal S1024x512 .f32 := fun y => p (ix3 k (y 0) (y 1))

/-- The epilogue: the two products, each times the sigmoid of its gate, added. -/
abbrev merged (g1 g2 : Vec Ideal S1024x512 .f32) (p : Vec Ideal S2x1024x512 .f32) : Vec Ideal S1024x512 .bf16 :=
  truncf (F := Ideal) .bf16 (addf (mulf (logistic g1) (half 0 p)) (mulf (logistic g2) (half 1 p))) bitsLt_bf16_f32

/-- Sixty-four rows of the epilogue, starting at row `o`, are what the body computes of the same rows of its operands. -/
theorem rows_agree (x4 x5 : Vec Ideal S1024x512 .f32) (xs : Vec Ideal S2x1024x512 .f32) (o : ℕ)
    (i2 : ∀ a, (![o, 0] : Fin 2 → ℕ) a + (![64, 512] : Fin 2 → ℕ) a ≤ S1024x512.size a)
    (i30 : ∀ a, (![0, o, 0] : Fin 3 → ℕ) a + (![1, 64, 512] : Fin 3 → ℕ) a ≤ S2x1024x512.size a)
    (i31 : ∀ a, (![1, o, 0] : Fin 3 → ℕ) a + (![1, 64, 512] : Fin 3 → ℕ) a ≤ S2x1024x512.size a) :
    ∀ x : (Rect.unit (s := S1024x512) ![o, 0] ![64, 512] i2).shape.Idx,
      k0_pay1 (View.ld x4 (Rect.unit ![o, 0] ![64, 512] i2)) (View.ld xs (Rect.unit ![0, o, 0] ![1, 64, 512] i30))
        (View.ld x5 (Rect.unit ![o, 0] ![64, 512] i2)) (View.ld xs (Rect.unit ![1, o, 0] ![1, 64, 512] i31)) x
      = merged x4 x5 xs ((Rect.unit (s := S1024x512) ![o, 0] ![64, 512] i2).emb x) := by
  intro x
  change S64x512.Idx at x
  idx_vars x
  have e : (Rect.unit (s := S1024x512) ![o, 0] ![64, 512] i2).emb (ix2 x0 x1)
      = ix2 (⟨o + x0.val, by have := i2 0; have := x0.isLt; dsimp at *; omega⟩ : Fin 1024) x1 := by
    funext a; apply Fin.ext
    match a with
    | ⟨0, _⟩ => show o + 1 * x0.val = o + x0.val; omega
    | ⟨1, _⟩ => show 0 + 1 * x1.val = x1.val; omega
  rw [e]
  pointwise [k0_pay1, merged, half]

/-- The pair of products of one step. -/
abbrev prods (a b : Vec Ideal S1024x2048 .bf16) (wa wb : Vec Ideal S2048x512 .bf16) : Vec Ideal S2x1024x512 .f32 := fun y =>
  if (y 0).val = 0 then ∑ k : Fin 2048, a (ix2 (y 1) k) * wa (ix2 k (y 2)) else ∑ k : Fin 2048, b (ix2 (y 1) k) * wb (ix2 k (y 2))

/-- The first product, stored in the first half. -/
theorem first_agrees (a b : Vec Ideal S1024x2048 .bf16) (wa wb : Vec Ideal S2048x512 .bf16)
    (i : ∀ d, (![0, 0, 0] : Fin 3 → ℕ) d + S1x1024x512.size d ≤ S2x1024x512.size d) :
    ∀ x : (Rect.unit (s := S2x1024x512) ![0, 0, 0] S1x1024x512.size i).shape.Idx,
      k0_pay2 a wa x = prods a b wa wb ((Rect.unit (s := S2x1024x512) ![0, 0, 0] S1x1024x512.size i).emb x) := by
  intro x
  change S1x1024x512.Idx at x
  have e : (Rect.unit (s := S2x1024x512) ![0, 0, 0] S1x1024x512.size i).emb x = ix3 (0 : Fin 2) (x 1) (x 2) := by
    funext d; apply Fin.ext
    have h0 : (x 0).val < 1 := (x 0).isLt
    match d with
    | ⟨0, _⟩ => show 0 + 1 * (x 0).val = 0; omega
    | ⟨1, _⟩ => show 0 + 1 * (x 1).val = (x 1).val; omega
    | ⟨2, _⟩ => show 0 + 1 * (x 2).val = (x 2).val; omega
  rw [e]
  clear e
  idx_vars x
  pointwise [k0_pay2, prods]

/-- The second product, stored in the second half. -/
theorem second_agrees (a b : Vec Ideal S1024x2048 .bf16) (wa wb : Vec Ideal S2048x512 .bf16)
    (i : ∀ d, (![1, 0, 0] : Fin 3 → ℕ) d + S1x1024x512.size d ≤ S2x1024x512.size d) :
    ∀ x : (Rect.unit (s := S2x1024x512) ![1, 0, 0] S1x1024x512.size i).shape.Idx,
      k0_pay2 b wb x = prods a b wa wb ((Rect.unit (s := S2x1024x512) ![1, 0, 0] S1x1024x512.size i).emb x) := by
  intro x
  change S1x1024x512.Idx at x
  have e : (Rect.unit (s := S2x1024x512) ![1, 0, 0] S1x1024x512.size i).emb x = ix3 (1 : Fin 2) (x 1) (x 2) := by
    funext d; apply Fin.ext
    have h0 : (x 0).val < 1 := (x 0).isLt
    match d with
    | ⟨0, _⟩ => show 1 + 1 * (x 0).val = 1; omega
    | ⟨1, _⟩ => show 0 + 1 * (x 1).val = (x 1).val; omega
    | ⟨2, _⟩ => show 0 + 1 * (x 2).val = (x 2).val; omega
  rw [e]
  clear e
  idx_vars x
  pointwise [k0_pay2, prods]

/-- Weights rounded to the format the products are taken in. -/
abbrev rounded (w : Vec Ideal S2048x512 .f32) : Vec Ideal S2048x512 .bf16 := truncf (F := Ideal) .bf16 w bitsLt_bf16_f32

/-- What the body stores of the weights: the rounded weights. -/
theorem stored_rounded (w : Vec Ideal S2048x512 .f32) : k0_pay51 w = rounded w := by
  funext y
  change S2048x512.Idx at y
  idx_vars y
  pointwise [k0_pay51, rounded]

section Cases
variable (c : Dev nD) (i : grid0.Coords)
    (a1 : Memref sig .tc .vmem S1024x2048 .bf16) (h1 : a1.IsWhole)
    (a2 : Memref sig .tc .vmem S1024x2048 .bf16) (h2 : a2.IsWhole)
    (a3 : Memref sig .tc .vmem S2048x512 .f32) (h3 : a3.IsWhole)
    (a4 : Memref sig .tc .vmem S2048x512 .f32) (h4 : a4.IsWhole)
    (a5 : Memref sig .tc .vmem S1024x512 .f32) (h5 : a5.IsWhole)
    (a6 : Memref sig .tc .vmem S1024x512 .f32) (h6 : a6.IsWhole)
    (a7 : Memref sig .tc .vmem S1024x512 .bf16) (h7 : a7.IsWhole)
    (a8 : Memref sig .tc .vmem S2048x512 .bf16) (h8 : a8.IsWhole)
    (a9 : Memref sig .tc .vmem S2048x512 .bf16) (h9 : a9.IsWhole)
    (a10 : Memref sig .tc .vmem S2x1024x512 .f32) (h10 : a10.IsWhole)
    (a11 : Memref sig .tc .vmem S2x1024x512 .f32) (h11 : a11.IsWhole)
    (x0 : Vec Ideal S1024x2048 .bf16) (x1 : Vec Ideal S1024x2048 .bf16) (x2 : Vec Ideal S2048x512 .f32) (x3 : Vec Ideal S2048x512 .f32)
    (x4 x5 : Vec Ideal S1024x512 .f32) (xs0 xs1 : Vec Ideal S2048x512 .bf16) (xs : Vec Ideal S2x1024x512 .f32)

/-- The first point stores the rounded weights of the first branch, -/
theorem left_first (hc0 : cond0_0 i) (hc1 : cond0_1 i) (hc2 : cond0_2 i) (hc3 : ¬cond0_3 i) :
    sout0_A_0 c i a1 h1 a2 h2 a3 h3 a4 h4 a5 h5 a6 h6 a7 h7 a8 h8 a9 h9 a10 h10 a11 h11 hc0 hc1 hc2 hc3 x0 x1 x2 x3 x4 x5 = rounded x2 := by
  unfold sout0_A_0
  rw [View.read_writes_eq_canon _ _ _ (scover0_A_0 c i a1 h1 a2 h2 a3 h3 a4 h4 a5 h5 a6 h6 a7 h7 a8 h8 a9 h9 a10 h10 a11 h11 hc0 hc1 hc2 hc3 x0 x1 x2 x3 x4 x5)]
  unfold kernelRun0_A
  dsimp only
  sl_unfold_words
  rw [View.canon_unit_zero zero2]
  simp only [View.readAt_eq_ld, h3.read_unread, View.ld_unit_zero (S := S2048x512) zero2]
  exact stored_rounded _

/-- and of the second, -/
theorem right_first (hc0 : cond0_0 i) (hc1 : cond0_1 i) (hc2 : cond0_2 i) (hc3 : ¬cond0_3 i) :
    sout0_A_1 c i a1 h1 a2 h2 a3 h3 a4 h4 a5 h5 a6 h6 a7 h7 a8 h8 a9 h9 a10 h10 a11 h11 hc0 hc1 hc2 hc3 x0 x1 x2 x3 x4 x5 = rounded x3 := by
  unfold sout0_A_1
  rw [View.read_writes_eq_canon _ _ _ (scover0_A_1 c i a1 h1 a2 h2 a3 h3 a4 h4 a5 h5 a6 h6 a7 h7 a8 h8 a9 h9 a10 h10 a11 h11 hc0 hc1 hc2 hc3 x0 x1 x2 x3 x4 x5)]
  unfold kernelRun0_A
  dsimp only
  sl_unfold_words
  rw [View.canon_unit_zero zero2]
  simp only [View.readAt_eq_ld, h4.read_unread, View.ld_unit_zero (S := S2048x512) zero2]
  exact stored_rounded _

/-- and the two products. -/
theorem prods_first (hc0 : cond0_0 i) (hc1 : cond0_1 i) (hc2 : cond0_2 i) (hc3 : ¬cond0_3 i) :
    sout0_A_2 c i a1 h1 a2 h2 a3 h3 a4 h4 a5 h5 a6 h6 a7 h7 a8 h8 a9 h9 a10 h10 a11 h11 hc0 hc1 hc2 hc3 x0 x1 x2 x3 x4 x5 = prods x0 x1 (rounded x2) (rounded x3) := by
  unfold sout0_A_2
  rw [View.read_writes_eq_canon _ _ _ (scover0_A_2 c i a1 h1 a2 h2 a3 h3 a4 h4 a5 h5 a6 h6 a7 h7 a8 h8 a9 h9 a10 h10 a11 h11 hc0 hc1 hc2 hc3 x0 x1 x2 x3 x4 x5)]
  funext y
  refine View.canon_apply_of_pieces (prods x0 x1 (rounded x2) (rounded x3)) _ ?_ y (scover0_A_2 c i a1 h1 a2 h2 a3 h3 a4 h4 a5 h5 a6 h6 a7 h7 a8 h8 a9 h9 a10 h10 a11 h11 hc0 hc1 hc2 hc3 x0 x1 x2 x3 x4 x5 y)
  unfold kernelRun0_A
  dsimp only
  sl_unfold_words
  simp only [List.forall_mem_cons, View.readCov_unit_zero (S := S2048x512) _ zero2, stored_rounded, (show k0_pay52 x3 = rounded x3 from stored_rounded x3), View.readAt_eq_ld, h1.read_unread, h2.read_unread, h3.read_unread, h4.read_unread,
    View.ld_unit_zero (S := S1024x2048) zero2, View.ld_unit_zero (S := S2048x512) zero2]
  exact ⟨second_agrees _ _ _ _ _, first_agrees _ _ _ _ _, fun _ h => absurd h List.not_mem_nil⟩

/-- An odd point leaves the epilogue of the products the even point before it stored, -/
theorem out_odd (hc0 : ¬cond0_0 i) (hc1 : ¬cond0_1 i) (hc2 : ¬cond0_2 i) (hc3 : cond0_3 i) :
    out0_B_6 c i a1 h1 a2 h2 a3 h3 a4 h4 a5 h5 a6 h6 a7 h7 a8 h8 a9 h9 a10 h10 a11 h11 hc0 hc1 hc2 hc3 x0 x1 x2 x3 x4 x5 xs0 xs1 xs = merged x4 x5 xs := by
  unfold out0_B_6
  rw [View.read_writes_eq_canon _ _ _ (cover0_B_6 c i a1 h1 a2 h2 a3 h3 a4 h4 a5 h5 a6 h6 a7 h7 a8 h8 a9 h9 a10 h10 a11 h11 hc0 hc1 hc2 hc3 x0 x1 x2 x3 x4 x5 xs0 xs1 xs)]
  funext y
  refine View.canon_apply_of_pieces (merged x4 x5 xs) _ ?_ y (cover0_B_6 c i a1 h1 a2 h2 a3 h3 a4 h4 a5 h5 a6 h6 a7 h7 a8 h8 a9 h9 a10 h10 a11 h11 hc0 hc1 hc2 hc3 x0 x1 x2 x3 x4 x5 xs0 xs1 xs y)
  unfold kernelRun0_B
  dsimp only
  sl_unfold_words
  simp only [List.forall_mem_cons, View.readAt_eq_ld, h5.read_unread, h6.read_unread, h10.read_unread]
  repeat' apply And.intro
  all_goals first | exact rows_agree x4 x5 xs _ _ _ _ | exact fun _ h => absurd h List.not_mem_nil

/-- and stores its own. -/
theorem prods_odd (hc0 : ¬cond0_0 i) (hc1 : ¬cond0_1 i) (hc2 : ¬cond0_2 i) (hc3 : cond0_3 i) :
    sout0_B_3 c i a1 h1 a2 h2 a3 h3 a4 h4 a5 h5 a6 h6 a7 h7 a8 h8 a9 h9 a10 h10 a11 h11 hc0 hc1 hc2 hc3 x0 x1 x2 x3 x4 x5 xs0 xs1 xs = prods x0 x1 xs0 xs1 := by
  unfold sout0_B_3
  rw [View.read_writes_eq_canon _ _ _ (scover0_B_3 c i a1 h1 a2 h2 a3 h3 a4 h4 a5 h5 a6 h6 a7 h7 a8 h8 a9 h9 a10 h10 a11 h11 hc0 hc1 hc2 hc3 x0 x1 x2 x3 x4 x5 xs0 xs1 xs)]
  funext y
  refine View.canon_apply_of_pieces (prods x0 x1 xs0 xs1) _ ?_ y (scover0_B_3 c i a1 h1 a2 h2 a3 h3 a4 h4 a5 h5 a6 h6 a7 h7 a8 h8 a9 h9 a10 h10 a11 h11 hc0 hc1 hc2 hc3 x0 x1 x2 x3 x4 x5 xs0 xs1 xs y)
  unfold kernelRun0_B
  dsimp only
  sl_unfold_words
  simp only [List.forall_mem_cons, View.readAt_eq_ld, h1.read_unread, h2.read_unread, h8.read_unread, h9.read_unread,
    View.ld_unit_zero (S := S1024x2048) zero2, View.ld_unit_zero (S := S2048x512) zero2]
  exact ⟨second_agrees _ _ _ _ _, first_agrees _ _ _ _ _, fun _ h => absurd h List.not_mem_nil⟩

/-- An even point leaves the epilogue of the products the odd point before it stored, -/
theorem out_even (hc0 : ¬cond0_0 i) (hc1 : ¬cond0_1 i) (hc2 : cond0_2 i) (hc3 : ¬cond0_3 i) :
    out0_C_6 c i a1 h1 a2 h2 a3 h3 a4 h4 a5 h5 a6 h6 a7 h7 a8 h8 a9 h9 a10 h10 a11 h11 hc0 hc1 hc2 hc3 x0 x1 x2 x3 x4 x5 xs0 xs1 xs = merged x4 x5 xs := by
  unfold out0_C_6
  rw [View.read_writes_eq_canon _ _ _ (cover0_C_6 c i a1 h1 a2 h2 a3 h3 a4 h4 a5 h5 a6 h6 a7 h7 a8 h8 a9 h9 a10 h10 a11 h11 hc0 hc1 hc2 hc3 x0 x1 x2 x3 x4 x5 xs0 xs1 xs)]
  funext y
  refine View.canon_apply_of_pieces (merged x4 x5 xs) _ ?_ y (cover0_C_6 c i a1 h1 a2 h2 a3 h3 a4 h4 a5 h5 a6 h6 a7 h7 a8 h8 a9 h9 a10 h10 a11 h11 hc0 hc1 hc2 hc3 x0 x1 x2 x3 x4 x5 xs0 xs1 xs y)
  unfold kernelRun0_C
  dsimp only
  sl_unfold_words
  simp only [List.forall_mem_cons, View.readAt_eq_ld, h5.read_unread, h6.read_unread, h11.read_unread]
  repeat' apply And.intro
  all_goals first | exact rows_agree x4 x5 xs _ _ _ _ | exact fun _ h => absurd h List.not_mem_nil

/-- and stores its own. -/
theorem prods_even (hc0 : ¬cond0_0 i) (hc1 : ¬cond0_1 i) (hc2 : cond0_2 i) (hc3 : ¬cond0_3 i) :
    sout0_C_2 c i a1 h1 a2 h2 a3 h3 a4 h4 a5 h5 a6 h6 a7 h7 a8 h8 a9 h9 a10 h10 a11 h11 hc0 hc1 hc2 hc3 x0 x1 x2 x3 x4 x5 xs0 xs1 xs = prods x0 x1 xs0 xs1 := by
  unfold sout0_C_2
  rw [View.read_writes_eq_canon _ _ _ (scover0_C_2 c i a1 h1 a2 h2 a3 h3 a4 h4 a5 h5 a6 h6 a7 h7 a8 h8 a9 h9 a10 h10 a11 h11 hc0 hc1 hc2 hc3 x0 x1 x2 x3 x4 x5 xs0 xs1 xs)]
  funext y
  refine View.canon_apply_of_pieces (prods x0 x1 xs0 xs1) _ ?_ y (scover0_C_2 c i a1 h1 a2 h2 a3 h3 a4 h4 a5 h5 a6 h6 a7 h7 a8 h8 a9 h9 a10 h10 a11 h11 hc0 hc1 hc2 hc3 x0 x1 x2 x3 x4 x5 xs0 xs1 xs y)
  unfold kernelRun0_C
  dsimp only
  sl_unfold_words
  simp only [List.forall_mem_cons, View.readAt_eq_ld, h1.read_unread, h2.read_unread, h8.read_unread, h9.read_unread,
    View.ld_unit_zero (S := S1024x2048) zero2, View.ld_unit_zero (S := S2048x512) zero2]
  exact ⟨second_agrees _ _ _ _ _, first_agrees _ _ _ _ _, fun _ h => absurd h List.not_mem_nil⟩

/-- A point that begins a column block stores the rounded weights of the first branch, -/
theorem left_column (hc0 : ¬cond0_0 i) (hc1 : cond0_1 i) (hc2 : cond0_2 i) (hc3 : ¬cond0_3 i) :
    sout0_D_0 c i a1 h1 a2 h2 a3 h3 a4 h4 a5 h5 a6 h6 a7 h7 a8 h8 a9 h9 a10 h10 a11 h11 hc0 hc1 hc2 hc3 x0 x1 x2 x3 x4 x5 xs = rounded x2 := by
  unfold sout0_D_0
  rw [View.read_writes_eq_canon _ _ _ (scover0_D_0 c i a1 h1 a2 h2 a3 h3 a4 h4 a5 h5 a6 h6 a7 h7 a8 h8 a9 h9 a10 h10 a11 h11 hc0 hc1 hc2 hc3 x0 x1 x2 x3 x4 x5 xs)]
  unfold kernelRun0_D
  dsimp only
  sl_unfold_words
  rw [View.canon_unit_zero zero2]
  simp only [View.readAt_eq_ld, h3.read_unread, View.ld_unit_zero (S := S2048x512) zero2]
  exact stored_rounded _

/-- and of the second; -/
theorem right_column (hc0 : ¬cond0_0 i) (hc1 : cond0_1 i) (hc2 : cond0_2 i) (hc3 : ¬cond0_3 i) :
    sout0_D_1 c i a1 h1 a2 h2 a3 h3 a4 h4 a5 h5 a6 h6 a7 h7 a8 h8 a9 h9 a10 h10 a11 h11 hc0 hc1 hc2 hc3 x0 x1 x2 x3 x4 x5 xs = rounded x3 := by
  unfold sout0_D_1
  rw [View.read_writes_eq_canon _ _ _ (scover0_D_1 c i a1 h1 a2 h2 a3 h3 a4 h4 a5 h5 a6 h6 a7 h7 a8 h8 a9 h9 a10 h10 a11 h11 hc0 hc1 hc2 hc3 x0 x1 x2 x3 x4 x5 xs)]
  unfold kernelRun0_D
  dsimp only
  sl_unfold_words
  rw [View.canon_unit_zero zero2]
  simp only [View.readAt_eq_ld, h4.read_unread, View.ld_unit_zero (S := S2048x512) zero2]
  exact stored_rounded _

/-- it leaves the epilogue of the products before, -/
theorem out_column (hc0 : ¬cond0_0 i) (hc1 : cond0_1 i) (hc2 : cond0_2 i) (hc3 : ¬cond0_3 i) :
    out0_D_6 c i a1 h1 a2 h2 a3 h3 a4 h4 a5 h5 a6 h6 a7 h7 a8 h8 a9 h9 a10 h10 a11 h11 hc0 hc1 hc2 hc3 x0 x1 x2 x3 x4 x5 xs = merged x4 x5 xs := by
  unfold out0_D_6
  rw [View.read_writes_eq_canon _ _ _ (cover0_D_6 c i a1 h1 a2 h2 a3 h3 a4 h4 a5 h5 a6 h6 a7 h7 a8 h8 a9 h9 a10 h10 a11 h11 hc0 hc1 hc2 hc3 x0 x1 x2 x3 x4 x5 xs)]
  funext y
  refine View.canon_apply_of_pieces (merged x4 x5 xs) _ ?_ y (cover0_D_6 c i a1 h1 a2 h2 a3 h3 a4 h4 a5 h5 a6 h6 a7 h7 a8 h8 a9 h9 a10 h10 a11 h11 hc0 hc1 hc2 hc3 x0 x1 x2 x3 x4 x5 xs y)
  unfold kernelRun0_D
  dsimp only
  sl_unfold_words
  simp only [List.forall_mem_cons, View.readAt_eq_ld, h5.read_unread, h6.read_unread, h11.read_unread]
  repeat' apply And.intro
  all_goals first | exact rows_agree x4 x5 xs _ _ _ _ | exact fun _ h => absurd h List.not_mem_nil

/-- and stores its own. -/
theorem prods_column (hc0 : ¬cond0_0 i) (hc1 : cond0_1 i) (hc2 : cond0_2 i) (hc3 : ¬cond0_3 i) :
    sout0_D_2 c i a1 h1 a2 h2 a3 h3 a4 h4 a5 h5 a6 h6 a7 h7 a8 h8 a9 h9 a10 h10 a11 h11 hc0 hc1 hc2 hc3 x0 x1 x2 x3 x4 x5 xs = prods x0 x1 (rounded x2) (rounded x3) := by
  unfold sout0_D_2
  rw [View.read_writes_eq_canon _ _ _ (scover0_D_2 c i a1 h1 a2 h2 a3 h3 a4 h4 a5 h5 a6 h6 a7 h7 a8 h8 a9 h9 a10 h10 a11 h11 hc0 hc1 hc2 hc3 x0 x1 x2 x3 x4 x5 xs)]
  funext y
  refine View.canon_apply_of_pieces (prods x0 x1 (rounded x2) (rounded x3)) _ ?_ y (scover0_D_2 c i a1 h1 a2 h2 a3 h3 a4 h4 a5 h5 a6 h6 a7 h7 a8 h8 a9 h9 a10 h10 a11 h11 hc0 hc1 hc2 hc3 x0 x1 x2 x3 x4 x5 xs y)
  unfold kernelRun0_D
  dsimp only
  sl_unfold_words
  simp only [List.forall_mem_cons, View.readCov_unit_zero (S := S2048x512) _ zero2, stored_rounded, (show k0_pay52 x3 = rounded x3 from stored_rounded x3), View.readAt_eq_ld, h1.read_unread, h2.read_unread, h3.read_unread, h4.read_unread,
    View.ld_unit_zero (S := S1024x2048) zero2, View.ld_unit_zero (S := S2048x512) zero2]
  exact ⟨second_agrees _ _ _ _ _, first_agrees _ _ _ _ _, fun _ h => absurd h List.not_mem_nil⟩

end Cases

/-- Where each window's block lies at point `t`: the products are taken at point `min t 127`, the gates and the result
    belong to the point before. -/
theorem index_at : ∀ t : Fin cfg0.N, win0_0.index t (0 : Fin 2) = min t.val 127 % 16 ∧ win0_0.index t (1 : Fin 2) = 0
    ∧ win0_1.index t (0 : Fin 2) = min t.val 127 % 16 ∧ win0_1.index t (1 : Fin 2) = 0
    ∧ win0_2.index t (0 : Fin 2) = 0 ∧ win0_2.index t (1 : Fin 2) = min t.val 127 / 16
    ∧ win0_3.index t (0 : Fin 2) = 0 ∧ win0_3.index t (1 : Fin 2) = min t.val 127 / 16
    ∧ win0_4.index t (0 : Fin 2) = (t.val - 1) % 16 ∧ win0_4.index t (1 : Fin 2) = (t.val - 1) / 16 + 24
    ∧ win0_5.index t (0 : Fin 2) = (t.val - 1) % 16 ∧ win0_5.index t (1 : Fin 2) = (t.val - 1) / 16 + 32
    ∧ win0_6.index t (0 : Fin 2) = (t.val - 1) % 16 ∧ win0_6.index t (1 : Fin 2) = (t.val - 1) / 16 :=
  (by decide +kernel : ∀ t : Fin grid0.N, _)

/-- Every point but the first writes its block back. -/
theorem flush_at : ∀ t : Fin cfg0.N, (cfg0.win 6).flush t = decide (t.val ≠ 0) :=
  (by decide +kernel : ∀ t : Fin grid0.N, win0_6.flush t = decide (t.val ≠ 0))

variable (m : (ℓ : Loc nD τ sig) → Buf (Elt Ideal) ℓ)

theorem points (t : Fin cfg0.N) : t.val < 129 := lt_of_lt_of_eq t.isLt N_0

/-- The rows of the first branch at point `t`. -/
theorem a_at (c : Dev nD) (t : Fin cfg0.N) (a : Fin 1024) (b : Fin 2048) :
    iblk m c 0 t (ix2 a b) = m ((c : Thread nD τ).loc main_arg0)
      (ix2 (⟨min t.val 127 % 16 * 1024 + a.val, by have := a.isLt; omega⟩ : Fin 16384) b) := by
  obtain ⟨e0, e1, -⟩ := index_at t
  show V m c main_arg0 (((cfg0.win 0).blk t).view.emb (ix2 a b)) = _
  rw [V_main_arg0]
  refine congrArg (m ((c : Thread nD τ).loc main_arg0)) (funext fun d => Fin.ext ?_)
  match d with
  | ⟨0, _⟩ => show win0_0.index t (0 : Fin 2) * 1024 + 1 * a.val = min t.val 127 % 16 * 1024 + a.val; rw [e0]; omega
  | ⟨1, _⟩ => show win0_0.index t (1 : Fin 2) * 2048 + 1 * b.val = b.val; rw [e1]; omega

/-- The rows of the second branch at point `t`. -/
theorem b_at (c : Dev nD) (t : Fin cfg0.N) (a : Fin 1024) (b : Fin 2048) :
    iblk m c 1 t (ix2 a b) = m ((c : Thread nD τ).loc main_arg2)
      (ix2 (⟨min t.val 127 % 16 * 1024 + a.val, by have := a.isLt; omega⟩ : Fin 16384) b) := by
  obtain ⟨-, -, e0, e1, -⟩ := index_at t
  show V m c main_arg2 (((cfg0.win 1).blk t).view.emb (ix2 a b)) = _
  rw [V_main_arg2]
  refine congrArg (m ((c : Thread nD τ).loc main_arg2)) (funext fun d => Fin.ext ?_)
  match d with
  | ⟨0, _⟩ => show win0_1.index t (0 : Fin 2) * 1024 + 1 * a.val = min t.val 127 % 16 * 1024 + a.val; rw [e0]; omega
  | ⟨1, _⟩ => show win0_1.index t (1 : Fin 2) * 2048 + 1 * b.val = b.val; rw [e1]; omega

/-- The column block of the first branch's weights at point `t`. -/
theorem wa_at (c : Dev nD) (t : Fin cfg0.N) (a : Fin 2048) (b : Fin 512) :
    iblk m c 2 t (ix2 a b) = m ((c : Thread nD τ).loc main_arg1)
      (ix2 a (⟨min t.val 127 / 16 * 512 + b.val, by have := b.isLt; omega⟩ : Fin 4096)) := by
  obtain ⟨-, -, -, -, e0, e1, -⟩ := index_at t
  show V m c main_arg1 (((cfg0.win 2).blk t).view.emb (ix2 a b)) = _
  rw [V_main_arg1]
  refine congrArg (m ((c : Thread nD τ).loc main_arg1)) (funext fun d => Fin.ext ?_)
  match d with
  | ⟨0, _⟩ => show win0_2.index t (0 : Fin 2) * 2048 + 1 * a.val = a.val; rw [e0]; omega
  | ⟨1, _⟩ => show win0_2.index t (1 : Fin 2) * 512 + 1 * b.val = min t.val 127 / 16 * 512 + b.val; rw [e1]; omega

/-- The column block of the second branch's weights at point `t`. -/
theorem wb_at (c : Dev nD) (t : Fin cfg0.N) (a : Fin 2048) (b : Fin 512) :
    iblk m c 3 t (ix2 a b) = m ((c : Thread nD τ).loc main_arg3)
      (ix2 a (⟨min t.val 127 / 16 * 512 + b.val, by have := b.isLt; omega⟩ : Fin 4096)) := by
  obtain ⟨-, -, -, -, -, -, e0, e1, -⟩ := index_at t
  show V m c main_arg3 (((cfg0.win 3).blk t).view.emb (ix2 a b)) = _
  rw [V_main_arg3]
  refine congrArg (m ((c : Thread nD τ).loc main_arg3)) (funext fun d => Fin.ext ?_)
  match d with
  | ⟨0, _⟩ => show win0_3.index t (0 : Fin 2) * 2048 + 1 * a.val = a.val; rw [e0]; omega
  | ⟨1, _⟩ => show win0_3.index t (1 : Fin 2) * 512 + 1 * b.val = min t.val 127 / 16 * 512 + b.val; rw [e1]; omega

/-- The first gate's block at point `t`. -/
theorem ga_at (c : Dev nD) (t : Fin cfg0.N) (a : Fin 1024) (b : Fin 512) :
    iblk m c 4 t (ix2 a b) = m ((c : Thread nD τ).loc main_arg4)
      (ix2 (⟨(t.val - 1) % 16 * 1024 + a.val, by have := a.isLt; omega⟩ : Fin 16384)
        (⟨12288 + ((t.val - 1) / 16 * 512 + b.val), by have := b.isLt; have := points t; omega⟩ : Fin 20480)) := by
  obtain ⟨-, -, -, -, -, -, -, -, e0, e1, -⟩ := index_at t
  show V m c main_arg4 (((cfg0.win 4).blk t).view.emb (ix2 a b)) = _
  rw [V_main_arg4]
  refine congrArg (m ((c : Thread nD τ).loc main_arg4)) (funext fun d => Fin.ext ?_)
  match d with
  | ⟨0, _⟩ => show win0_4.index t (0 : Fin 2) * 1024 + 1 * a.val = (t.val - 1) % 16 * 1024 + a.val; rw [e0]; omega
  | ⟨1, _⟩ => show win0_4.index t (1 : Fin 2) * 512 + 1 * b.val = 12288 + ((t.val - 1) / 16 * 512 + b.val); rw [e1]; omega

/-- The second gate's block at point `t`. -/
theorem gb_at (c : Dev nD) (t : Fin cfg0.N) (a : Fin 1024) (b : Fin 512) :
    iblk m c 5 t (ix2 a b) = m ((c : Thread nD τ).loc main_arg4)
      (ix2 (⟨(t.val - 1) % 16 * 1024 + a.val, by have := a.isLt; omega⟩ : Fin 16384)
        (⟨12288 + (4096 + ((t.val - 1) / 16 * 512 + b.val)), by have := b.isLt; have := points t; omega⟩ : Fin 20480)) := by
  obtain ⟨-, -, -, -, -, -, -, -, -, -, e0, e1, -⟩ := index_at t
  show V m c main_arg4 (((cfg0.win 5).blk t).view.emb (ix2 a b)) = _
  rw [V_main_arg4]
  refine congrArg (m ((c : Thread nD τ).loc main_arg4)) (funext fun d => Fin.ext ?_)
  match d with
  | ⟨0, _⟩ => show win0_5.index t (0 : Fin 2) * 1024 + 1 * a.val = (t.val - 1) % 16 * 1024 + a.val; rw [e0]; omega
  | ⟨1, _⟩ => show win0_5.index t (1 : Fin 2) * 512 + 1 * b.val = 12288 + (4096 + ((t.val - 1) / 16 * 512 + b.val)); rw [e1]; omega

/-- A point that begins no column block reads the weights the point before read. -/
theorem wa_same (c : Dev nD) (s t : Fin cfg0.N) (h : min s.val 127 / 16 = min t.val 127 / 16) : iblk m c 2 s = iblk m c 2 t := by
  funext y
  change S2048x512.Idx at y
  idx_vars y
  rw [wa_at, wa_at]
  simp only [h]

theorem wb_same (c : Dev nD) (s t : Fin cfg0.N) (h : min s.val 127 / 16 = min t.val 127 / 16) : iblk m c 3 s = iblk m c 3 t := by
  funext y
  change S2048x512.Idx at y
  idx_vars y
  rw [wb_at, wb_at]
  simp only [h]

/-- The products point `t` stores. -/
abbrev pair (c : Dev nD) (t : Fin cfg0.N) : Vec Ideal S2x1024x512 .f32 :=
  prods (iblk m c 0 t) (iblk m c 1 t) (rounded (iblk m c 2 t)) (rounded (iblk m c 3 t))

/-- What the scratches hold after point `n`: the rounded weights, and the point's products in the half the point's parity names. -/
abbrev Held (c : Dev nD) (n : ℕ) (h : n < cfg0.N) : Prop :=
  (outsAt0 m c n h).2.1 = rounded (iblk m c 2 ⟨n, h⟩) ∧ (outsAt0 m c n h).2.2.1 = rounded (iblk m c 3 ⟨n, h⟩)
    ∧ (n % 2 = 0 → (outsAt0 m c n h).2.2.2.1 = pair m c ⟨n, h⟩) ∧ (n % 2 = 1 → (outsAt0 m c n h).2.2.2.2 = pair m c ⟨n, h⟩)

theorem held (c : Dev nD) : ∀ (n : ℕ) (h : n < cfg0.N), Held m c n h := by
  intro n
  induction n with
  | zero =>
    intro h
    have e := outsAt0_A m c ⟨0, h⟩ (Nat.zero_mod _) (Nat.zero_mod _) (Nat.zero_mod _) (fun hh => absurd hh (by rw [Nat.zero_mod]; decide))
    dsimp only at e
    unfold Held
    rw [e]
    dsimp only
    exact ⟨left_first .., right_first .., fun _ => prods_first .., fun hh => absurd hh (by decide)⟩
  | succ n ih =>
    intro h
    have hN := points ⟨n + 1, h⟩
    dsimp only at hN
    obtain ⟨i0, i1, i2, i3⟩ := ih (Nat.lt_of_succ_lt h)
    have g0 : ¬(n + 1) % 129 = 0 := by omega
    by_cases hp : (n + 1) % 2 = 1
    · have hw : min (⟨n, Nat.lt_of_succ_lt h⟩ : Fin cfg0.N).val 127 / 16 = min (⟨n + 1, h⟩ : Fin cfg0.N).val 127 / 16 := by
        show min n 127 / 16 = min (n + 1) 127 / 16; omega
      have e := outsAt0_B m c ⟨n + 1, h⟩ g0 (by show ¬(n + 1) % 16 = 0; omega) (by show ¬(n + 1) % 2 = 0; omega) hp
      dsimp only at e
      unfold Held
      rw [e]
      dsimp only [sout0_B_0, sout0_B_1]
      have j0 : (outsAt0 m c (n + 1 - 1) (Nat.lt_of_le_of_lt (Nat.sub_le _ _) h)).2.1 = rounded (iblk m c 2 ⟨n + 1, h⟩) :=
        i0.trans (congrArg rounded (wa_same m c _ _ hw))
      have j1 : (outsAt0 m c (n + 1 - 1) (Nat.lt_of_le_of_lt (Nat.sub_le _ _) h)).2.2.1 = rounded (iblk m c 3 ⟨n + 1, h⟩) :=
        i1.trans (congrArg rounded (wb_same m c _ _ hw))
      refine ⟨j0, j1, fun hh => by omega, fun _ => ?_⟩
      rw [prods_odd, j0, j1]
    · by_cases hc : (n + 1) % 16 = 0
      · have e := outsAt0_D m c ⟨n + 1, h⟩ g0 hc (by show (n + 1) % 2 = 0; omega) hp
        dsimp only at e
        unfold Held
        rw [e]
        dsimp only
        exact ⟨left_column .., right_column .., fun _ => prods_column .., fun hh => absurd hh hp⟩
      · have hw : min (⟨n, Nat.lt_of_succ_lt h⟩ : Fin cfg0.N).val 127 / 16 = min (⟨n + 1, h⟩ : Fin cfg0.N).val 127 / 16 := by
          show min n 127 / 16 = min (n + 1) 127 / 16; omega
        have e := outsAt0_C m c ⟨n + 1, h⟩ g0 hc (by show (n + 1) % 2 = 0; omega) hp
        dsimp only at e
        unfold Held
        rw [e]
        dsimp only [sout0_C_0, sout0_C_1]
        have j0 : (outsAt0 m c (n + 1 - 1) (Nat.lt_of_le_of_lt (Nat.sub_le _ _) h)).2.1 = rounded (iblk m c 2 ⟨n + 1, h⟩) :=
          i0.trans (congrArg rounded (wa_same m c _ _ hw))
        have j1 : (outsAt0 m c (n + 1 - 1) (Nat.lt_of_le_of_lt (Nat.sub_le _ _) h)).2.2.1 = rounded (iblk m c 3 ⟨n + 1, h⟩) :=
          i1.trans (congrArg rounded (wb_same m c _ _ hw))
        refine ⟨j0, j1, fun _ => ?_, fun hh => absurd hh hp⟩
        rw [prods_even, j0, j1]

/-- The block a point after the first leaves: the epilogue of the products of the point before. -/
theorem block_at (c : Dev nD) (n : ℕ) (h : n + 1 < cfg0.N) : (outsAt0 m c (n + 1) h).1 =
    merged (iblk m c 4 ⟨n + 1, h⟩) (iblk m c 5 ⟨n + 1, h⟩) (pair m c ⟨n, Nat.lt_of_succ_lt h⟩) := by
  have hN := points ⟨n + 1, h⟩
  dsimp only at hN
  obtain ⟨-, -, i2, i3⟩ := held m c n (Nat.lt_of_succ_lt h)
  have g0 : ¬(n + 1) % 129 = 0 := by omega
  by_cases hp : (n + 1) % 2 = 1
  · have e := outsAt0_B m c ⟨n + 1, h⟩ g0 (by show ¬(n + 1) % 16 = 0; omega) (by show ¬(n + 1) % 2 = 0; omega) hp
    dsimp only at e
    rw [e]
    dsimp only
    rw [out_odd]
    exact congrArg (merged _ _) (i2 (by omega))
  · by_cases hc : (n + 1) % 16 = 0
    · have e := outsAt0_D m c ⟨n + 1, h⟩ g0 hc (by show (n + 1) % 2 = 0; omega) hp
      dsimp only at e
      rw [e]
      dsimp only
      rw [out_column]
      exact congrArg (merged _ _) (i3 (by omega))
    · have e := outsAt0_C m c ⟨n + 1, h⟩ g0 hc (by show (n + 1) % 2 = 0; omega) hp
      dsimp only at e
      rw [e]
      dsimp only
      rw [out_even]
      exact congrArg (merged _ _) (i3 (by omega))

/-- The reference's sigmoid of the gate columns. -/
abbrev gates (a4 : Vec Ideal Cert.MergeRefIdeal.S16384x20480 .f32) : Vec Ideal Cert.MergeRefIdeal.S16384x8192 .f32 :=
  Host.divf (F := Ideal) (broadcastInDim Cert.MergeRefIdeal.S16384x8192 ![] Cert.MergeRefIdeal.Gen.facts.bcast_S_S16384x8192 (constant Cert.MergeRefIdeal.S_ .f32 0x3F800000#32))
    (addf (broadcastInDim Cert.MergeRefIdeal.S16384x8192 ![] Cert.MergeRefIdeal.Gen.facts.bcast_S_S16384x8192 (constant Cert.MergeRefIdeal.S_ .f32 0x3F800000#32))
      (Host.exp (Host.negf (extractStridedSlice Cert.MergeRefIdeal.S16384x8192 ![0, 12288] a4 Cert.MergeRefIdeal.Gen.facts.slices_S16384x20480_S16384x8192_0_12288))))

/-- The reference's product of one branch. -/
abbrev branch (x : Vec Ideal Cert.MergeRefIdeal.S16384x2048 .bf16) (w : Vec Ideal Cert.MergeRefIdeal.S2048x4096 .f32) :
    Vec Ideal Cert.MergeRefIdeal.S16384x4096 .f32 :=
  Host.dotGeneral (F := Ideal) (φ₂ := .f32) Cert.MergeRefIdeal.dot_S16384x2048_S2048x4096_S16384x4096_1_0_0_1_n_n none
    (extf .f32 x Cert.MergeRefIdeal.Gen.facts.bitsLt_bf16_f32) w

/-- The reference's result of the kernel's arguments. -/
abbrev target (c : Dev nD) : Vec Ideal S16384x4096 .bf16 :=
  truncf (F := Ideal) .bf16 (addf
    (mulf (extractStridedSlice Cert.MergeRefIdeal.S16384x4096 ![0, 0] (gates (m ((c : Thread nD τ).loc main_arg4))) Cert.MergeRefIdeal.Gen.facts.slices_S16384x8192_S16384x4096_0_0)
      (branch (m ((c : Thread nD τ).loc main_arg0)) (m ((c : Thread nD τ).loc main_arg1))))
    (mulf (extractStridedSlice Cert.MergeRefIdeal.S16384x4096 ![0, 4096] (gates (m ((c : Thread nD τ).loc main_arg4))) Cert.MergeRefIdeal.Gen.facts.slices_S16384x8192_S16384x4096_0_4096)
      (branch (m ((c : Thread nD τ).loc main_arg2)) (m ((c : Thread nD τ).loc main_arg3))))) Cert.MergeRefIdeal.Gen.facts.bitsLt_bf16_f32

/-- The epilogue at an index of point `n + 1` is the target at the index of the result. -/
theorem merged_target (c : Dev nD) (n : ℕ) (h : n + 1 < cfg0.N) (y0 : Fin 1024) (y1 : Fin 512)
    (hr : n % 16 * 1024 + y0.val < 16384) (hj : n / 16 * 512 + y1.val < 4096) :
    merged (iblk m c 4 ⟨n + 1, h⟩) (iblk m c 5 ⟨n + 1, h⟩) (pair m c ⟨n, Nat.lt_of_succ_lt h⟩) (ix2 y0 y1)
      = target m c (ix2 (⟨n % 16 * 1024 + y0.val, hr⟩ : Fin 16384) (⟨n / 16 * 512 + y1.val, hj⟩ : Fin 4096)) := by
  have hN := points ⟨n + 1, h⟩
  dsimp only at hN
  have hm : min n 127 = n := by omega
  pointwise [merged, half, pair, prods, rounded, target, gates, branch]
  simp only [a_at, b_at, wa_at, wb_at, ga_at, gb_at, hm, Nat.add_sub_cancel]
  rfl

/-- What point `t` writes back is the target's block. -/
theorem written (c : Dev nD) (t : Fin cfg0.N) (hf : (cfg0.win 6).flush t = true) :
    (dats m 0 c).flushed 6 t = ((cfg0.win 6).blk t).view.read (Elt Ideal) (target m c) := by
  have hN := points t
  rw [flush_at, decide_eq_true_eq] at hf
  obtain ⟨k, hk⟩ := t
  obtain _ | n := k
  · exact absurd rfl hf
  dsimp only at hN
  rw [Value.flushed6, block_at m c n hk]
  funext y
  obtain ⟨-, -, -, -, -, -, -, -, -, -, -, -, e0, e1⟩ := index_at ⟨n + 1, hk⟩
  show merged (iblk m c 4 ⟨n + 1, hk⟩) (iblk m c 5 ⟨n + 1, hk⟩) (pair m c ⟨n, Nat.lt_of_succ_lt hk⟩)
    ((cfg0.win 6).xinj (grid0.coords ⟨n + 1, hk⟩) y) = target m c (((cfg0.win 6).blk ⟨n + 1, hk⟩).view.emb y)
  have hy : (cfg0.win 6).xinj (grid0.coords ⟨n + 1, hk⟩) y = y := rfl
  rw [hy]
  have hy0 : (y 0).val < 1024 := (y 0).isLt
  have hy1 : (y 1).val < 512 := (y 1).isLt
  have hz : ((cfg0.win 6).blk ⟨n + 1, hk⟩).view.emb y = ix2 (⟨n % 16 * 1024 + (y 0).val, by omega⟩ : Fin 16384)
      (⟨n / 16 * 512 + (y 1).val, by omega⟩ : Fin 4096) := by
    funext a; apply Fin.ext
    match a with
    | ⟨0, _⟩ => show win0_6.index ⟨n + 1, hk⟩ (0 : Fin 2) * 1024 + 1 * (y 0).val = _; rw [e0]; show (n + 1 - 1) % 16 * 1024 + 1 * (y 0).val = n % 16 * 1024 + (y 0).val; rw [Nat.add_sub_cancel]; omega
    | ⟨1, _⟩ => show win0_6.index ⟨n + 1, hk⟩ (1 : Fin 2) * 512 + 1 * (y 1).val = _; rw [e1]; show (n + 1 - 1) / 16 * 512 + 1 * (y 1).val = n / 16 * 512 + (y 1).val; rw [Nat.add_sub_cancel]; omega
  rw [hz]
  clear hz hy
  change S1024x512.Idx at y
  idx_vars y
  exact merged_target m c n hk _ _ _ _

/-- Every index of the result lies in the block of a point that writes back. -/
theorem covered (i : S16384x4096.Idx) : ∃ t : Fin cfg0.N, (cfg0.win 6).flush t = true ∧ i ∈ ((cfg0.win 6).blk t).view.set := by
  have h0 : (i 0).val < 16384 := (i 0).isLt
  have h1 : (i 1).val < 4096 := (i 1).isLt
  have hN : cfg0.N = 129 := N_0
  let t : Fin cfg0.N := ⟨(i 1).val / 512 * 16 + (i 0).val / 1024 + 1, by omega⟩
  have ht : t.val - 1 = (i 1).val / 512 * 16 + (i 0).val / 1024 := rfl
  refine ⟨t, by rw [flush_at, decide_eq_true_eq]; exact Nat.succ_ne_zero _, ?_⟩
  obtain ⟨-, -, -, -, -, -, -, -, -, -, -, -, e0, e1⟩ := index_at t
  show i ∈ ((View.whole main_v0).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 512 ≤ (i 1).val ∧ (i 1).val < win0_6.index t (1 : Fin 2) * 512 + 512
    rw [e1, ht]; omega

/-- The result array ends at the target. -/
theorem result (c : Dev nD) : (dats m 0 c).arrAt 6 cfg0.N = target m c :=
  (dats m 0 c).arrAt_eq_of_cover 6 _ (written m c) covered

end Cert.MergeIdeal.Hand

end
-- ==== Proof.FfnInConv.lean ====
/- The first feed-forward matrix: the three-tap causal convolution and the gate over sixty-four rows, read at an index. -/
module

public import proofs.«01_k».proof.Proof.Gen.FfnInIdeal.Skeleton
public import Idealize.ShloMosaic.Lib.Pointwise

@[expose] public section

set_option maxRecDepth 16384

noncomputable section

namespace Cert.FfnInIdeal.Hand

open Cert.FfnInIdeal Cert.FfnInIdeal.Gen Idealize.ShloMosaic Idealize.ShloMosaic.TcCoe Idealize.SL.Sem

/-- The number of each of sixty-four rows. -/
abbrev rows : IVec S64x1 32 := iota .tc S64x1 32 [0] iota_S64x1_d0_w32

/-- Where the row is the `k`-th. -/
def isRow (k : BitVec 32) : IVec S64x256 1 :=
  broadcastTo S64x256 (shapeCast S64x1 (cmpi .eq rows (broadcast S64x1 k)) shapeCasts_S64x1_S64x1) broadcasts_S64x1_S64x256

/-- One row in every row. -/
abbrev each (x : Vec Ideal S1x256 .f32) : FVec Ideal S64x256 .f32 := broadcastTo S64x256 x broadcasts_S1x256_S64x256

/-- One row, as the body reshapes it, in every row. -/
abbrev every (x : Vec Ideal S1x256 .f32) : FVec Ideal S64x256 .f32 := each (shapeCast S1x256 x shapeCasts_S1x256_S1x256)

/-- The rows one before `u`, the first being `c1`. -/
def oneBack (u : Vec Ideal S64x256 .f32) (c1 : Vec Ideal S1x256 .f32) : FVec Ideal S64x256 .f32 :=
  select (isRow 0#32) (every c1) (dynamicRotate 0 1#32 none u rotates_S64x256_d0)

/-- The rows two before `u`, the first two being `c2` and `c1`. -/
def twoBack (u : Vec Ideal S64x256 .f32) (c1 c2 : Vec Ideal S1x256 .f32) : FVec Ideal S64x256 .f32 :=
  select (isRow 0#32) (every c2) (select (isRow 1#32) (every c1) (dynamicRotate 0 2#32 none u rotates_S64x256_d0))

/-- The convolution of sixty-four rows whose two rows before are `c2` and `c1`. -/
def conv (u : Vec Ideal S64x256 .f32) (c1 c2 : Vec Ideal S1x256 .f32) (w : Vec Ideal S3x256 .f32) (b : Vec Ideal S1x256 .f32) :
    FVec Ideal S64x256 .f32 :=
  addf (F := Ideal) (φ := .f32) (addf (addf (every b) (mulf (twoBack u c1 c2) (each (extractStridedSlice S1x256 ![0, 0] w slices_S3x256_o0_0_S1x256))))
    (mulf (oneBack u c1) (each (extractStridedSlice S1x256 ![1, 0] w slices_S3x256_o1_0_S1x256))))
    (mulf u (each (extractStridedSlice S1x256 ![2, 0] w slices_S3x256_o2_0_S1x256)))

/-- One half of the eight rows before. -/
abbrev side0 (z : Vec Ideal S2x8x256 .f32) : FVec Ideal S8x256 .f32 :=
  shapeCast S8x256 (extractStridedSlice S1x8x256 ![0, 0, 0] z slices_S2x8x256_o0_0_0_S1x8x256) shapeCasts_S1x8x256_S8x256

abbrev side1 (z : Vec Ideal S2x8x256 .f32) : FVec Ideal S8x256 .f32 :=
  shapeCast S8x256 (extractStridedSlice S1x8x256 ![1, 0, 0] z slices_S2x8x256_o1_0_0_S1x8x256) shapeCasts_S1x8x256_S8x256

/-- The convolution whose rows before are the last two of eight. -/
abbrev convAfter (u : Vec Ideal S64x256 .f32) (z : Vec Ideal S8x256 .f32) (w : Vec Ideal S3x256 .f32) (b : Vec Ideal S1x256 .f32) :
    FVec Ideal S64x256 .f32 :=
  conv u (extractStridedSlice S1x256 ![7, 0] z slices_S8x256_o7_0_S1x256) (extractStridedSlice S1x256 ![6, 0] z slices_S8x256_o6_0_S1x256) w b

/-- The sixty-four rows the body stores: the first convolution through its own sigmoid, times the second. -/
def chunk (z : Vec Ideal S2x8x256 .f32) (ug uu : Vec Ideal S64x256 .f32) (wg wu : Vec Ideal S3x256 .f32) (bg bu : Vec Ideal S1x256 .f32) :
    FVec Ideal S64x256 .bf16 :=
  truncf (F := Ideal) .bf16 (mulf (mulf (convAfter ug (side0 z) wg bg) (logistic (convAfter ug (side0 z) wg bg)))
    (convAfter uu (side1 z) wu bu)) bitsLt_bf16_f32

/-- The two halves of eight rows, stacked. -/
def stack (a b : Vec Ideal S8x256 .f32) : FVec Ideal S2x8x256 .f32 :=
  concatenate S2x8x256 0 [⟨S1x8x256, shapeCast S1x8x256 a shapeCasts_S8x256_S1x8x256⟩, ⟨S1x8x256, shapeCast S1x8x256 b shapeCasts_S8x256_S1x8x256⟩]
    concatenates_S1x8x256_S1x8x256_S2x8x256_d0

theorem isRow_apply (k : ℕ) (hk : k < 64) (a : Fin 64) (b : Fin 256) :
    isRow (BitVec.ofNat 32 k) (ix2 a b) = if a.val = k then 1#1 else 0#1 := by
  pointwise [isRow]
  have ha := a.isLt
  have e : (BitVec.ofNat 32 a.val = BitVec.ofNat 32 k) ↔ a.val = k := by
    constructor
    · intro h
      have := congrArg BitVec.toNat h
      rw [BitVec.toNat_ofNat, BitVec.toNat_ofNat, Nat.mod_eq_of_lt (by omega), Nat.mod_eq_of_lt (by omega)] at this
      exact this
    · exact fun h => congrArg _ h
  unfold IntOp.cmpi
  by_cases h : a.val = k
  · simp [h]
  · have hn : ¬BitVec.ofNat 32 a.val = BitVec.ofNat 32 k := mt e.mp h
    simp [h, beq_eq_false_iff_ne.mpr hn]

theorem conv_apply (u : Vec Ideal S64x256 .f32) (c1 c2 : Vec Ideal S1x256 .f32) (w : Vec Ideal S3x256 .f32) (b : Vec Ideal S1x256 .f32)
    (x : Fin 64) (y : Fin 256) :
    conv u c1 c2 w b (ix2 x y)
      = ((b (ix2 0 y) + (if x.val = 0 then c2 (ix2 0 y) else if x.val = 1 then c1 (ix2 0 y)
          else u (ix2 (⟨x.val - 2, by have := x.isLt; omega⟩ : Fin 64) y)) * w (ix2 0 y))
        + (if x.val = 0 then c1 (ix2 0 y) else u (ix2 (⟨x.val - 1, by have := x.isLt; omega⟩ : Fin 64) y)) * w (ix2 1 y))
        + u (ix2 x y) * w (ix2 2 y) := by
  have e0 : isRow 0#32 (ix2 x y) = if x.val = 0 then 1#1 else 0#1 := isRow_apply 0 (by decide) x y
  have e1 : isRow 1#32 (ix2 x y) = if x.val = 1 then 1#1 else 0#1 := isRow_apply 1 (by decide) x y
  have hx := x.isLt
  pointwise [conv, oneBack, twoBack]
  rw [e0, e1]
  by_cases h0 : x.val = 0
  · simp [h0, Scalar.select]
  · have r1 : (⟨(x.val + 64 - 1) % 64, Nat.mod_lt _ (by decide)⟩ : Fin 64) = ⟨x.val - 1, by omega⟩ := Fin.ext (by show (x.val + 64 - 1) % 64 = x.val - 1; omega)
    by_cases h1 : x.val = 1
    · simp [h1, Scalar.select]
    · have r2 : (⟨(x.val + 64 - 2) % 64, Nat.mod_lt _ (by decide)⟩ : Fin 64) = ⟨x.val - 2, by omega⟩ := Fin.ext (by show (x.val + 64 - 2) % 64 = x.val - 2; omega)
      simp only [h0, h1, Scalar.select, if_false, r1, r2]
      simp

/-- Row `k` of a half of a block of products that begins two rows early: the first two rows are the last two carried. -/
def past (z : Vec Ideal S2x8x256 .f32) (p : Vec Ideal S1024x512 .f32) (h : Fin 2) (k : ℕ) (hk : k < 1026) (y : Fin 256) : Ideal .f32 :=
  if h2 : k < 2 then z (ix3 h (⟨6 + k, by omega⟩ : Fin 8) y)
  else p (ix2 (⟨k - 2, by omega⟩ : Fin 1024) (⟨h.val * 256 + y.val, by have := h.isLt; have := y.isLt; omega⟩ : Fin 512))

/-- The convolution of a half of a block, at a row and a column. -/
def taps (z : Vec Ideal S2x8x256 .f32) (p : Vec Ideal S1024x512 .f32) (h : Fin 2) (w : Vec Ideal S3x256 .f32) (b : Vec Ideal S1x256 .f32)
    (r : Fin 1024) (y : Fin 256) : Ideal .f32 :=
  ((b (ix2 0 y) + past z p h r.val (by have := r.isLt; omega) y * w (ix2 0 y))
    + past z p h (r.val + 1) (by have := r.isLt; omega) y * w (ix2 1 y))
    + past z p h (r.val + 2) (by have := r.isLt; omega) y * w (ix2 2 y)

/-- The block a point leaves: the first half's convolution through its own sigmoid, times the second's. -/
def epi (z : Vec Ideal S2x8x256 .f32) (p : Vec Ideal S1024x512 .f32) (wg wu : Vec Ideal S3x256 .f32) (bg bu : Vec Ideal S1x256 .f32) :
    Vec Ideal S1024x256 .bf16 := fun y =>
  taps z p 0 wg bg (y 0) (y 1) * Ideal.logistic (taps z p 0 wg bg (y 0) (y 1)) * taps z p 1 wu bu (y 0) (y 1)

theorem stack_apply (a b : Vec Ideal S8x256 .f32) (h : Fin 2) (x : Fin 8) (y : Fin 256) :
    stack a b (ix3 h x y) = if h.val = 0 then a (ix2 x y) else b (ix2 x y) := by
  pointwise [stack]
  by_cases e : h.val = 0
  · simp [e]
  · simp [e, show ¬h.val < 1 by omega]

/-- A convolution over the rows from `o` on is the block's, when the two rows before and the rows are the block's. -/
theorem conv_taps (z : Vec Ideal S2x8x256 .f32) (p : Vec Ideal S1024x512 .f32) (h : Fin 2) (u : Vec Ideal S64x256 .f32)
    (c1 c2 : Vec Ideal S1x256 .f32) (w : Vec Ideal S3x256 .f32) (b : Vec Ideal S1x256 .f32) (o : ℕ) (ho : o + 64 ≤ 1024)
    (x : Fin 64) (y : Fin 256)
    (e2 : c2 (ix2 0 y) = past z p h o (by omega) y) (e1 : c1 (ix2 0 y) = past z p h (o + 1) (by omega) y)
    (eu : ∀ k : Fin 64, u (ix2 k y) = past z p h (o + k.val + 2) (by have := k.isLt; omega) y) :
    conv u c1 c2 w b (ix2 x y) = taps z p h w b (⟨o + x.val, by have := x.isLt; omega⟩ : Fin 1024) y := by
  have hx := x.isLt
  rw [conv_apply]
  unfold taps
  rw [e2, e1, eu, eu, eu]
  have a1 : (if x.val = 0 then past z p h (o + 1) (by omega) y else past z p h (o + (x.val - 1) + 2) (by omega) y)
      = past z p h (o + x.val + 1) (by omega) y := by
    split
    · congr 1; omega
    · congr 1; omega
  have a2 : (if x.val = 0 then past z p h o (by omega) y else if x.val = 1 then past z p h (o + 1) (by omega) y
        else past z p h (o + (x.val - 2) + 2) (by omega) y) = past z p h (o + x.val) (by omega) y := by
    split
    · congr 1; omega
    · split
      · congr 1; omega
      · congr 1; omega
  dsimp only at a1 a2 ⊢
  rw [a1, a2]

/-- The row at offset `o` of a block, sixty-four rows of one half of it. -/
theorem emb_rows (o : ℕ) (i : ∀ a, (![o, 0] : Fin 2 → ℕ) a + (![64, 256] : Fin 2 → ℕ) a ≤ S1024x256.size a) (x0 : Fin 64) (x1 : Fin 256) :
    (Rect.unit (s := S1024x256) ![o, 0] ![64, 256] i).emb (ix2 x0 x1)
      = ix2 (⟨o + x0.val, by have := i 0; have := x0.isLt; dsimp at *; omega⟩ : Fin 1024) x1 := by
  funext a; apply Fin.ext
  match a with
  | ⟨0, _⟩ => show o + 1 * x0.val = o + x0.val; omega
  | ⟨1, _⟩ => show 0 + 1 * x1.val = x1.val; omega

/-- A row of a half of the products, as a row of the block that begins two rows early. -/
theorem past_row (z : Vec Ideal S2x8x256 .f32) (p : Vec Ideal S1024x512 .f32) (h : Fin 2) (r : ℕ) (hr : r < 1024) (y : Fin 256) (q : Fin 512)
    (hq : q.val = h.val * 256 + y.val) : past z p h (r + 2) (by omega) y = p (ix2 (⟨r, hr⟩ : Fin 1024) q) := by
  unfold past
  rw [dif_neg (by omega)]
  congr 2
  exact Fin.ext hq.symm

section Pieces
variable (z : Vec Ideal S2x8x256 .f32) (p : Vec Ideal S1024x512 .f32) (wg wu : Vec Ideal S3x256 .f32) (bg bu : Vec Ideal S1x256 .f32)

/-- The first sixty-four rows follow the carried rows. -/
theorem first_agrees
    (i : ∀ a, (![0, 0] : Fin 2 → ℕ) a + (![64, 256] : Fin 2 → ℕ) a ≤ S1024x256.size a)
    (j0 : ∀ a, (![0, 0] : Fin 2 → ℕ) a + (![64, 256] : Fin 2 → ℕ) a ≤ S1024x512.size a)
    (j1 : ∀ a, (![0, 256] : Fin 2 → ℕ) a + (![64, 256] : Fin 2 → ℕ) a ≤ S1024x512.size a) :
    ∀ x : (Rect.unit (s := S1024x256) ![0, 0] ![64, 256] i).shape.Idx,
      chunk z (View.ld p (Rect.unit ![0, 0] ![64, 256] j0)) (View.ld p (Rect.unit ![0, 256] ![64, 256] j1)) wg wu bg bu x
      = epi z p wg wu bg bu ((Rect.unit (s := S1024x256) ![0, 0] ![64, 256] i).emb x) := by
  intro x
  change S64x256.Idx at x
  idx_vars x
  rw [emb_rows]
  have t0 := conv_taps z p 0 (View.ld p (Rect.unit ![0, 0] ![64, 256] j0)) (extractStridedSlice S1x256 ![7, 0] (side0 z) slices_S8x256_o7_0_S1x256)
    (extractStridedSlice S1x256 ![6, 0] (side0 z) slices_S8x256_o6_0_S1x256) wg bg 0 (by omega) x0 x1
    (by pointwise [past]) (by pointwise [past])
    (fun k => by rw [past_row z p 0 (0 + k.val) (by have := k.isLt; omega) x1 (⟨x1.val, by have := x1.isLt; omega⟩ : Fin 512) (by simp)]; pointwise)
  have t1 := conv_taps z p 1 (View.ld p (Rect.unit ![0, 256] ![64, 256] j1)) (extractStridedSlice S1x256 ![7, 0] (side1 z) slices_S8x256_o7_0_S1x256)
    (extractStridedSlice S1x256 ![6, 0] (side1 z) slices_S8x256_o6_0_S1x256) wu bu 0 (by omega) x0 x1
    (by pointwise [past]) (by pointwise [past])
    (fun k => by rw [past_row z p 1 (0 + k.val) (by have := k.isLt; omega) x1 (⟨256 + x1.val, by have := x1.isLt; omega⟩ : Fin 512) (by simp)]; pointwise)
  pointwise [chunk, convAfter, epi, t0, t1]

/-- The sixty-four rows from `o` on follow the eight rows before them. -/
theorem rest_agrees (o o' : ℕ) (ho : o' + 8 = o)
    (i : ∀ a, (![o, 0] : Fin 2 → ℕ) a + (![64, 256] : Fin 2 → ℕ) a ≤ S1024x256.size a)
    (j0 : ∀ a, (![o, 0] : Fin 2 → ℕ) a + (![64, 256] : Fin 2 → ℕ) a ≤ S1024x512.size a)
    (j1 : ∀ a, (![o, 256] : Fin 2 → ℕ) a + (![64, 256] : Fin 2 → ℕ) a ≤ S1024x512.size a)
    (k0 : ∀ a, (![o', 0] : Fin 2 → ℕ) a + (![8, 256] : Fin 2 → ℕ) a ≤ S1024x512.size a)
    (k1 : ∀ a, (![o', 256] : Fin 2 → ℕ) a + (![8, 256] : Fin 2 → ℕ) a ≤ S1024x512.size a) :
    ∀ x : (Rect.unit (s := S1024x256) ![o, 0] ![64, 256] i).shape.Idx,
      chunk (stack (View.ld p (Rect.unit ![o', 0] ![8, 256] k0)) (View.ld p (Rect.unit ![o', 256] ![8, 256] k1)))
        (View.ld p (Rect.unit ![o, 0] ![64, 256] j0)) (View.ld p (Rect.unit ![o, 256] ![64, 256] j1)) wg wu bg bu x
      = epi z p wg wu bg bu ((Rect.unit (s := S1024x256) ![o, 0] ![64, 256] i).emb x) := by
  intro x
  change S64x256.Idx at x
  idx_vars x
  have hi : o + 64 ≤ 1024 := i 0
  rw [emb_rows]
  generalize hs : stack (View.ld p (Rect.unit ![o', 0] ![8, 256] k0)) (View.ld p (Rect.unit ![o', 256] ![8, 256] k1)) = s
  have s0 : ∀ k : Fin 8, s (ix3 0 k x1) = past z p 0 (o' + k.val + 2) (by have := k.isLt; omega) x1 := fun k => by
    rw [← hs, stack_apply, past_row z p 0 (o' + k.val) (by have := k.isLt; omega) x1 (⟨x1.val, by have := x1.isLt; omega⟩ : Fin 512) (by simp)]
    pointwise
  have s1 : ∀ k : Fin 8, s (ix3 1 k x1) = past z p 1 (o' + k.val + 2) (by have := k.isLt; omega) x1 := fun k => by
    rw [← hs, stack_apply, past_row z p 1 (o' + k.val) (by have := k.isLt; omega) x1 (⟨256 + x1.val, by have := x1.isLt; omega⟩ : Fin 512) (by simp)]
    pointwise
  clear hs
  have t0 := conv_taps z p 0 (View.ld p (Rect.unit ![o, 0] ![64, 256] j0)) (extractStridedSlice S1x256 ![7, 0] (side0 s) slices_S8x256_o7_0_S1x256)
    (extractStridedSlice S1x256 ![6, 0] (side0 s) slices_S8x256_o6_0_S1x256) wg bg o hi x0 x1
    (by have e := s0 6; pointwise; rw [e]; congr 1) (by have e := s0 7; pointwise; rw [e]; congr 1; show o' + 7 + 2 = o + 1; omega)
    (fun k => by rw [past_row z p 0 (o + k.val) (by have := k.isLt; omega) x1 (⟨x1.val, by have := x1.isLt; omega⟩ : Fin 512) (by simp)]; pointwise)
  have t1 := conv_taps z p 1 (View.ld p (Rect.unit ![o, 256] ![64, 256] j1)) (extractStridedSlice S1x256 ![7, 0] (side1 s) slices_S8x256_o7_0_S1x256)
    (extractStridedSlice S1x256 ![6, 0] (side1 s) slices_S8x256_o6_0_S1x256) wu bu o hi x0 x1
    (by have e := s1 6; pointwise; rw [e]; congr 1) (by have e := s1 7; pointwise; rw [e]; congr 1; show o' + 7 + 2 = o + 1; omega)
    (fun k => by rw [past_row z p 1 (o + k.val) (by have := k.isLt; omega) x1 (⟨256 + x1.val, by have := x1.isLt; omega⟩ : Fin 512) (by simp)]; pointwise)
  pointwise [chunk, convAfter, epi, t0, t1]

end Pieces

end Cert.FfnInIdeal.Hand

end
-- ==== Proof.FfnInCases.lean ====
/- The first feed-forward matrix: what each kind of point leaves in the buffers. -/
module

public import proofs.«01_k».proof.Proof.FfnInConv
public import proofs.«01_k».proof.Proof.FfnInIdealFrame.Frame
public import Idealize.ShloMosaic.Lib.Pipeline.CanonAppend

@[expose] public section

set_option maxRecDepth 16384

noncomputable section

namespace Cert.FfnInIdeal.Hand

open Cert.FfnInIdeal Cert.FfnInIdeal.Gen Idealize.ShloMosaic Idealize.ShloMosaic.TcCoe Idealize.SL.Sem

theorem zero2 : (![0, 0] : Fin 2 → Nat) = fun _ => 0 := funext fun a => by fin_cases a <;> rfl

theorem zero3 : (![0, 0, 0] : Fin 3 → Nat) = fun _ => 0 := funext fun a => by fin_cases a <;> rfl

/-- The column blocks of the two halves' weights, rounded, side by side. -/
def wcat (wg wu : Vec Ideal S4096x256 .f32) : Vec Ideal S4096x512 .bf16 := fun y =>
  if h : (y 1).val < 256 then wg (ix2 (y 0) (⟨(y 1).val, h⟩ : Fin 256))
  else wu (ix2 (y 0) (⟨(y 1).val - 256, by have := (y 1).isLt; dsimp at this; omega⟩ : Fin 256))

/-- The products of a block of rows with the weights. -/
def prod (a : Vec Ideal S1024x4096 .bf16) (w : Vec Ideal S4096x512 .bf16) : Vec Ideal S1024x512 .f32 := fun y =>
  ∑ k : Fin 4096, a (ix2 (y 0) k) * w (ix2 k (y 1))

/-- The last eight rows of the products, one half after the other. -/
def lastRows (p : Vec Ideal S1024x512 .f32) : Vec Ideal S2x8x256 .f32 := fun y =>
  p (ix2 (⟨1016 + (y 1).val, by have := (y 1).isLt; dsimp at this; omega⟩ : Fin 1024)
    (⟨(y 0).val * 256 + (y 2).val, by have := (y 0).isLt; have := (y 2).isLt; dsimp at *; omega⟩ : Fin 512))

/-- No rows before: zeros. -/
def noRows : Vec Ideal S2x8x256 .f32 := fun _ => 0

theorem cleared : (k0_pay1 (F := Ideal)) = noRows := by
  funext y
  change S2x8x256.Idx at y
  idx_vars y
  pointwise [k0_pay1, noRows]

theorem product (a : Vec Ideal S1024x4096 .bf16) (w : Vec Ideal S4096x512 .bf16) : k0_pay6 a w = prod a w := by
  funext y
  change S1024x512.Idx at y
  idx_vars y
  pointwise [k0_pay6, prod]

section Pieces
variable (wg wu : Vec Ideal S4096x256 .f32)
    (i0 : ∀ a, (![0, 0] : Fin 2 → ℕ) a + S4096x256.size a ≤ S4096x512.size a)
    (i1 : ∀ a, (![0, 256] : Fin 2 → ℕ) a + S4096x256.size a ≤ S4096x512.size a)

/-- The two column blocks, stored one after the other, are the rounded weights side by side. -/
theorem weights_canon : View.canon ([⟨Rect.unit (s := S4096x512) ![0, 256] S4096x256.size i1, k0_pay372 wu⟩, ⟨Rect.unit (s := S4096x512) ![0, 0] S4096x256.size i0, k0_pay371 wg⟩] : List (View.Piece (Elt Ideal) S4096x512 .bf16))
    = wcat wg wu := by
  funext y
  change S4096x512.Idx at y
  refine View.canon_apply_of_pieces (wcat wg wu) _ ?_ y ?_
  · simp only [List.forall_mem_cons]
    refine ⟨fun x => ?_, fun x => ?_, fun _ h => absurd h List.not_mem_nil⟩
    · change S4096x256.Idx at x
      idx_vars x
      have e : (Rect.unit (s := S4096x512) ![0, 256] S4096x256.size i1).emb (ix2 x0 x1) = ix2 x0 (⟨256 + x1.val, by have := x1.isLt; omega⟩ : Fin 512) := by
        funext d; apply Fin.ext
        match d with
        | ⟨0, _⟩ => show 0 + 1 * x0.val = x0.val; omega
        | ⟨1, _⟩ => show 256 + 1 * x1.val = 256 + x1.val; omega
      rw [e]
      pointwise [k0_pay372, wcat]
    · change S4096x256.Idx at x
      idx_vars x
      have e : (Rect.unit (s := S4096x512) ![0, 0] S4096x256.size i0).emb (ix2 x0 x1) = ix2 x0 (⟨x1.val, by have := x1.isLt; omega⟩ : Fin 512) := by
        funext d; apply Fin.ext
        match d with
        | ⟨0, _⟩ => show 0 + 1 * x0.val = x0.val; omega
        | ⟨1, _⟩ => show 0 + 1 * x1.val = x1.val; omega
      rw [e]
      pointwise [k0_pay371, wcat]
  · idx_vars y
    by_cases h : y1.val < 256
    · refine ⟨_, List.Mem.tail _ (List.Mem.head _), ?_⟩
      rw [Rect.mem_set_unit]
      intro a
      match a with
      | ⟨0, _⟩ => exact ⟨Nat.zero_le _, by have := y0.isLt; show y0.val < 0 + 4096; omega⟩
      | ⟨1, _⟩ => exact ⟨Nat.zero_le _, by show y1.val < 0 + 256; omega⟩
    · refine ⟨_, List.Mem.head _, ?_⟩
      rw [Rect.mem_set_unit]
      intro a
      match a with
      | ⟨0, _⟩ => exact ⟨Nat.zero_le _, by have := y0.isLt; show y0.val < 0 + 4096; omega⟩
      | ⟨1, _⟩ => exact ⟨by show 256 ≤ y1.val; omega, by have := y1.isLt; show y1.val < 256 + 256; omega⟩

end Pieces

section Kept
variable (p : Vec Ideal S1024x512 .f32)
    (i0 : ∀ a, (![0, 0, 0] : Fin 3 → ℕ) a + (![1, 8, 256] : Fin 3 → ℕ) a ≤ S2x8x256.size a)
    (i1 : ∀ a, (![1, 0, 0] : Fin 3 → ℕ) a + (![1, 8, 256] : Fin 3 → ℕ) a ≤ S2x8x256.size a)
    (j0 : ∀ a, (![1016, 0] : Fin 2 → ℕ) a + (![8, 256] : Fin 2 → ℕ) a ≤ S1024x512.size a)
    (j1 : ∀ a, (![1016, 256] : Fin 2 → ℕ) a + (![8, 256] : Fin 2 → ℕ) a ≤ S1024x512.size a)
    (L : List (View.Piece (Elt Ideal) S2x8x256 .f32))

/-- The last rows of the two halves, stored over whatever was there, are the last rows. -/
theorem kept_canon : View.canon ((⟨Rect.unit (s := S2x8x256) ![1, 0, 0] ![1, 8, 256] i1, k0_pay3 (View.ld p (Rect.unit ![1016, 256] ![8, 256] j1))⟩
      :: ⟨Rect.unit (s := S2x8x256) ![0, 0, 0] ![1, 8, 256] i0, k0_pay2 (View.ld p (Rect.unit ![1016, 0] ![8, 256] j0))⟩ :: L
      : List (View.Piece (Elt Ideal) S2x8x256 .f32))) = lastRows p := by
  funext y
  change S2x8x256.Idx at y
  refine View.canon_append_of_pieces (lastRows p) L [⟨Rect.unit (s := S2x8x256) ![1, 0, 0] ![1, 8, 256] i1, k0_pay3 (View.ld p (Rect.unit ![1016, 256] ![8, 256] j1))⟩, ⟨Rect.unit (s := S2x8x256) ![0, 0, 0] ![1, 8, 256] i0, k0_pay2 (View.ld p (Rect.unit ![1016, 0] ![8, 256] j0))⟩] ?_ y ?_
  · simp only [List.forall_mem_cons]
    refine ⟨fun x => ?_, fun x => ?_, fun _ h => absurd h List.not_mem_nil⟩
    · change S1x8x256.Idx at x
      idx_vars x
      have e : (Rect.unit (s := S2x8x256) ![1, 0, 0] ![1, 8, 256] i1).emb (ix3 x0 x1 x2) = ix3 (1 : Fin 2) x1 x2 := by
        funext d; apply Fin.ext
        match d with
        | ⟨0, _⟩ => show 1 + 1 * x0.val = 1; have := x0.isLt; omega
        | ⟨1, _⟩ => show 0 + 1 * x1.val = x1.val; omega
        | ⟨2, _⟩ => show 0 + 1 * x2.val = x2.val; omega
      rw [e]
      pointwise [k0_pay3, lastRows]
    · change S1x8x256.Idx at x
      idx_vars x
      have e : (Rect.unit (s := S2x8x256) ![0, 0, 0] ![1, 8, 256] i0).emb (ix3 x0 x1 x2) = ix3 (0 : Fin 2) x1 x2 := by
        funext d; apply Fin.ext
        match d with
        | ⟨0, _⟩ => show 0 + 1 * x0.val = 0; have := x0.isLt; omega
        | ⟨1, _⟩ => show 0 + 1 * x1.val = x1.val; omega
        | ⟨2, _⟩ => show 0 + 1 * x2.val = x2.val; omega
      rw [e]
      pointwise [k0_pay2, lastRows]
  · idx_vars y
    have a1 := y1.isLt
    have a2 := y2.isLt
    by_cases h : y0.val < 1
    · refine ⟨_, List.Mem.tail _ (List.Mem.head _), ?_⟩
      rw [Rect.mem_set_unit]
      intro a
      match a with
      | ⟨0, _⟩ => exact ⟨Nat.zero_le _, by show y0.val < 0 + 1; omega⟩
      | ⟨1, _⟩ => exact ⟨Nat.zero_le _, by show y1.val < 0 + 8; omega⟩
      | ⟨2, _⟩ => exact ⟨Nat.zero_le _, by show y2.val < 0 + 256; omega⟩
    · refine ⟨_, List.Mem.head _, ?_⟩
      rw [Rect.mem_set_unit]
      intro a
      match a with
      | ⟨0, _⟩ => exact ⟨by show 1 ≤ y0.val; omega, by have := y0.isLt; show y0.val < 1 + 1; omega⟩
      | ⟨1, _⟩ => exact ⟨Nat.zero_le _, by show y1.val < 0 + 8; omega⟩
      | ⟨2, _⟩ => exact ⟨Nat.zero_le _, by show y2.val < 0 + 256; omega⟩

end Kept

section Cases
variable (c : Dev nD) (i : grid0.Coords)
    (a1 : Memref sig .tc .vmem S1024x4096 .bf16) (h1 : a1.IsWhole)
    (a2 : Memref sig .tc .vmem S4096x256 .f32) (h2 : a2.IsWhole)
    (a3 : Memref sig .tc .vmem S4096x256 .f32) (h3 : a3.IsWhole)
    (a4 : Memref sig .tc .vmem S3x256 .f32) (h4 : a4.IsWhole)
    (a5 : Memref sig .tc .vmem S3x256 .f32) (h5 : a5.IsWhole)
    (a6 : Memref sig .tc .vmem S1x256 .f32) (h6 : a6.IsWhole)
    (a7 : Memref sig .tc .vmem S1x256 .f32) (h7 : a7.IsWhole)
    (a8 : Memref sig .tc .vmem S1024x256 .bf16) (h8 : a8.IsWhole)
    (a9 : Memref sig .tc .vmem S2x8x256 .f32) (h9 : a9.IsWhole)
    (a10 : Memref sig .tc .vmem S4096x512 .bf16) (h10 : a10.IsWhole)
    (a11 : Memref sig .tc .vmem S1024x512 .f32) (h11 : a11.IsWhole)
    (a12 : Memref sig .tc .vmem S1024x512 .f32) (h12 : a12.IsWhole)
    (x0 : Vec Ideal S1024x4096 .bf16) (x1 x2 : Vec Ideal S4096x256 .f32) (x3 x4 : Vec Ideal S3x256 .f32) (x5 x6 : Vec Ideal S1x256 .f32)
    (xs0 : Vec Ideal S2x8x256 .f32) (xs1 : Vec Ideal S4096x512 .bf16) (xs2 xs3 : Vec Ideal S1024x512 .f32)

/-- The first point stores the rounded weights, -/
theorem weights_first (hc0 : cond0_0 i) (hc1 : cond0_1 i) (hc2 : cond0_2 i) (hc3 : cond0_3 i) (hc4 : ¬cond0_4 i) :
    sout0_A_1 c i a1 h1 a2 h2 a3 h3 a4 h4 a5 h5 a6 h6 a7 h7 a8 h8 a9 h9 a10 h10 a11 h11 a12 h12 hc0 hc1 hc2 hc3 hc4 x0 x1 x2 x3 x4 x5 x6 = wcat x1 x2 := by
  unfold sout0_A_1
  rw [View.read_writes_eq_canon _ _ _ (scover0_A_1 c i a1 h1 a2 h2 a3 h3 a4 h4 a5 h5 a6 h6 a7 h7 a8 h8 a9 h9 a10 h10 a11 h11 a12 h12 hc0 hc1 hc2 hc3 hc4 x0 x1 x2 x3 x4 x5 x6)]
  unfold kernelRun0_A
  dsimp only
  sl_unfold_words
  simp only [View.readAt_eq_ld, h2.read_unread, h3.read_unread, View.ld_unit_zero (S := S4096x256) zero2]
  exact weights_canon x1 x2 _ _

/-- A point that begins a column block stores the rounded weights, -/
theorem weights_column (hc0 : ¬cond0_0 i) (hc1 : cond0_1 i) (hc2 : ¬cond0_2 i) (hc3 : cond0_3 i) (hc4 : ¬cond0_4 i) :
    sout0_E_1 c i a1 h1 a2 h2 a3 h3 a4 h4 a5 h5 a6 h6 a7 h7 a8 h8 a9 h9 a10 h10 a11 h11 a12 h12 hc0 hc1 hc2 hc3 hc4 x0 x1 x2 x3 x4 x5 x6 xs0 xs3 = wcat x1 x2 := by
  unfold sout0_E_1
  rw [View.read_writes_eq_canon _ _ _ (scover0_E_1 c i a1 h1 a2 h2 a3 h3 a4 h4 a5 h5 a6 h6 a7 h7 a8 h8 a9 h9 a10 h10 a11 h11 a12 h12 hc0 hc1 hc2 hc3 hc4 x0 x1 x2 x3 x4 x5 x6 xs0 xs3)]
  unfold kernelRun0_E
  dsimp only
  sl_unfold_words
  simp only [View.readAt_eq_ld, h2.read_unread, h3.read_unread, View.ld_unit_zero (S := S4096x256) zero2]
  exact weights_canon x1 x2 _ _

/-- and its products. -/
theorem products_first (hc0 : cond0_0 i) (hc1 : cond0_1 i) (hc2 : cond0_2 i) (hc3 : cond0_3 i) (hc4 : ¬cond0_4 i) :
    sout0_A_2 c i a1 h1 a2 h2 a3 h3 a4 h4 a5 h5 a6 h6 a7 h7 a8 h8 a9 h9 a10 h10 a11 h11 a12 h12 hc0 hc1 hc2 hc3 hc4 x0 x1 x2 x3 x4 x5 x6 = prod x0 (wcat x1 x2) := by
  unfold sout0_A_2
  rw [View.read_writes_eq_canon _ _ _ (scover0_A_2 c i a1 h1 a2 h2 a3 h3 a4 h4 a5 h5 a6 h6 a7 h7 a8 h8 a9 h9 a10 h10 a11 h11 a12 h12 hc0 hc1 hc2 hc3 hc4 x0 x1 x2 x3 x4 x5 x6)]
  unfold kernelRun0_A
  dsimp only
  sl_unfold_words
  rw [View.canon_unit_zero zero2]
  simp only [View.readCov_eq_canon', View.readAt_eq_ld, h1.read_unread, h2.read_unread, h3.read_unread, View.ld_unit_zero (S := S4096x256) zero2, View.ld_unit_zero (S := S1024x4096) zero2]
  rw [weights_canon]
  exact (congrArg (k0_pay6 x0) (View.ld_unit_zero (S := S4096x512) zero2 ..)).trans (product _ _)

/-- and its products. -/
theorem products_column (hc0 : ¬cond0_0 i) (hc1 : cond0_1 i) (hc2 : ¬cond0_2 i) (hc3 : cond0_3 i) (hc4 : ¬cond0_4 i) :
    sout0_E_2 c i a1 h1 a2 h2 a3 h3 a4 h4 a5 h5 a6 h6 a7 h7 a8 h8 a9 h9 a10 h10 a11 h11 a12 h12 hc0 hc1 hc2 hc3 hc4 x0 x1 x2 x3 x4 x5 x6 xs0 xs3 = prod x0 (wcat x1 x2) := by
  unfold sout0_E_2
  rw [View.read_writes_eq_canon _ _ _ (scover0_E_2 c i a1 h1 a2 h2 a3 h3 a4 h4 a5 h5 a6 h6 a7 h7 a8 h8 a9 h9 a10 h10 a11 h11 a12 h12 hc0 hc1 hc2 hc3 hc4 x0 x1 x2 x3 x4 x5 x6 xs0 xs3)]
  unfold kernelRun0_E
  dsimp only
  sl_unfold_words
  rw [View.canon_unit_zero zero2]
  simp only [View.readCov_eq_canon', View.readAt_eq_ld, h1.read_unread, h2.read_unread, h3.read_unread, View.ld_unit_zero (S := S4096x256) zero2, View.ld_unit_zero (S := S1024x4096) zero2]
  rw [weights_canon]
  exact (congrArg (k0_pay6 x0) (View.ld_unit_zero (S := S4096x512) zero2 ..)).trans (product _ _)

/-- and its products. -/
theorem products_begin (hc0 : ¬cond0_0 i) (hc1 : ¬cond0_1 i) (hc2 : cond0_2 i) (hc3 : ¬cond0_3 i) (hc4 : cond0_4 i) :
    sout0_B_3 c i a1 h1 a2 h2 a3 h3 a4 h4 a5 h5 a6 h6 a7 h7 a8 h8 a9 h9 a10 h10 a11 h11 a12 h12 hc0 hc1 hc2 hc3 hc4 x0 x1 x2 x3 x4 x5 x6 xs1 xs2 = prod x0 xs1 := by
  unfold sout0_B_3
  rw [View.read_writes_eq_canon _ _ _ (scover0_B_3 c i a1 h1 a2 h2 a3 h3 a4 h4 a5 h5 a6 h6 a7 h7 a8 h8 a9 h9 a10 h10 a11 h11 a12 h12 hc0 hc1 hc2 hc3 hc4 x0 x1 x2 x3 x4 x5 x6 xs1 xs2)]
  unfold kernelRun0_B
  dsimp only
  sl_unfold_words
  rw [View.canon_unit_zero zero2]
  simp only [View.readAt_eq_ld, h1.read_unread, h10.read_unread, View.ld_unit_zero (S := S4096x512) zero2, View.ld_unit_zero (S := S1024x4096) zero2]
  exact product _ _

/-- and its products. -/
theorem products_even (hc0 : ¬cond0_0 i) (hc1 : ¬cond0_1 i) (hc2 : ¬cond0_2 i) (hc3 : cond0_3 i) (hc4 : ¬cond0_4 i) :
    sout0_C_2 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs3 = prod x0 xs1 := by
  unfold sout0_C_2
  rw [View.read_writes_eq_canon _ _ _ (scover0_C_2 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs3)]
  unfold kernelRun0_C
  dsimp only
  sl_unfold_words
  rw [View.canon_unit_zero zero2]
  simp only [View.readAt_eq_ld, h1.read_unread, h10.read_unread, View.ld_unit_zero (S := S4096x512) zero2, View.ld_unit_zero (S := S1024x4096) zero2]
  exact product _ _

/-- and its products. -/
theorem products_odd (hc0 : ¬cond0_0 i) (hc1 : ¬cond0_1 i) (hc2 : ¬cond0_2 i) (hc3 : ¬cond0_3 i) (hc4 : cond0_4 i) :
    sout0_D_3 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs2 = prod x0 xs1 := by
  unfold sout0_D_3
  rw [View.read_writes_eq_canon _ _ _ (scover0_D_3 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs2)]
  unfold kernelRun0_D
  dsimp only
  sl_unfold_words
  rw [View.canon_unit_zero zero2]
  simp only [View.readAt_eq_ld, h1.read_unread, h10.read_unread, View.ld_unit_zero (S := S4096x512) zero2, View.ld_unit_zero (S := S1024x4096) zero2]
  exact product _ _

/-- and keeps the last rows of those. -/
theorem carry_begin (hc0 : ¬cond0_0 i) (hc1 : ¬cond0_1 i) (hc2 : cond0_2 i) (hc3 : ¬cond0_3 i) (hc4 : cond0_4 i) :
    sout0_B_0 c i a1 h1 a2 h2 a3 h3 a4 h4 a5 h5 a6 h6 a7 h7 a8 h8 a9 h9 a10 h10 a11 h11 a12 h12 hc0 hc1 hc2 hc3 hc4 x0 x1 x2 x3 x4 x5 x6 xs1 xs2 = lastRows xs2 := by
  unfold sout0_B_0
  rw [View.read_writes_eq_canon _ _ _ (scover0_B_0 c i a1 h1 a2 h2 a3 h3 a4 h4 a5 h5 a6 h6 a7 h7 a8 h8 a9 h9 a10 h10 a11 h11 a12 h12 hc0 hc1 hc2 hc3 hc4 x0 x1 x2 x3 x4 x5 x6 xs1 xs2)]
  unfold kernelRun0_B
  dsimp only
  sl_unfold_words
  simp only [View.readAt_eq_ld, h11.read_unread]
  exact kept_canon xs2 _ _ _ _ _

/-- and keeps the last rows of those. -/
theorem carry_even (hc0 : ¬cond0_0 i) (hc1 : ¬cond0_1 i) (hc2 : ¬cond0_2 i) (hc3 : cond0_3 i) (hc4 : ¬cond0_4 i) :
    sout0_C_0 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs3 = lastRows xs3 := by
  unfold sout0_C_0
  rw [View.read_writes_eq_canon _ _ _ (scover0_C_0 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs3)]
  unfold kernelRun0_C
  dsimp only
  sl_unfold_words
  simp only [View.readAt_eq_ld, h12.read_unread]
  exact kept_canon xs3 _ _ _ _ _

/-- and keeps the last rows of those. -/
theorem carry_odd (hc0 : ¬cond0_0 i) (hc1 : ¬cond0_1 i) (hc2 : ¬cond0_2 i) (hc3 : ¬cond0_3 i) (hc4 : cond0_4 i) :
    sout0_D_0 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs2 = lastRows xs2 := by
  unfold sout0_D_0
  rw [View.read_writes_eq_canon _ _ _ (scover0_D_0 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs2)]
  unfold kernelRun0_D
  dsimp only
  sl_unfold_words
  simp only [View.readAt_eq_ld, h11.read_unread]
  exact kept_canon xs2 _ _ _ _ _

/-- and keeps the last rows of those. -/
theorem carry_column (hc0 : ¬cond0_0 i) (hc1 : cond0_1 i) (hc2 : ¬cond0_2 i) (hc3 : cond0_3 i) (hc4 : ¬cond0_4 i) :
    sout0_E_0 c i a1 h1 a2 h2 a3 h3 a4 h4 a5 h5 a6 h6 a7 h7 a8 h8 a9 h9 a10 h10 a11 h11 a12 h12 hc0 hc1 hc2 hc3 hc4 x0 x1 x2 x3 x4 x5 x6 xs0 xs3 = lastRows xs3 := by
  unfold sout0_E_0
  rw [View.read_writes_eq_canon _ _ _ (scover0_E_0 c i a1 h1 a2 h2 a3 h3 a4 h4 a5 h5 a6 h6 a7 h7 a8 h8 a9 h9 a10 h10 a11 h11 a12 h12 hc0 hc1 hc2 hc3 hc4 x0 x1 x2 x3 x4 x5 x6 xs0 xs3)]
  unfold kernelRun0_E
  dsimp only
  sl_unfold_words
  simp only [View.readAt_eq_ld, h12.read_unread]
  exact kept_canon xs3 _ _ _ _ _

end Cases

end Cert.FfnInIdeal.Hand

end
-- ==== Proof.FfnInOut.lean ====
/- The first feed-forward matrix: the block each kind of point leaves. -/
module

public import proofs.«01_k».proof.Proof.FfnInCases

@[expose] public section

set_option maxRecDepth 16384

noncomputable section

namespace Cert.FfnInIdeal.Hand

open Cert.FfnInIdeal Cert.FfnInIdeal.Gen Idealize.ShloMosaic Idealize.ShloMosaic.TcCoe Idealize.SL.Sem

section Cases
variable (c : Dev nD) (i : grid0.Coords)
    (a1 : Memref sig .tc .vmem S1024x4096 .bf16) (h1 : a1.IsWhole)
    (a2 : Memref sig .tc .vmem S4096x256 .f32) (h2 : a2.IsWhole)
    (a3 : Memref sig .tc .vmem S4096x256 .f32) (h3 : a3.IsWhole)
    (a4 : Memref sig .tc .vmem S3x256 .f32) (h4 : a4.IsWhole)
    (a5 : Memref sig .tc .vmem S3x256 .f32) (h5 : a5.IsWhole)
    (a6 : Memref sig .tc .vmem S1x256 .f32) (h6 : a6.IsWhole)
    (a7 : Memref sig .tc .vmem S1x256 .f32) (h7 : a7.IsWhole)
    (a8 : Memref sig .tc .vmem S1024x256 .bf16) (h8 : a8.IsWhole)
    (a9 : Memref sig .tc .vmem S2x8x256 .f32) (h9 : a9.IsWhole)
    (a10 : Memref sig .tc .vmem S4096x512 .bf16) (h10 : a10.IsWhole)
    (a11 : Memref sig .tc .vmem S1024x512 .f32) (h11 : a11.IsWhole)
    (a12 : Memref sig .tc .vmem S1024x512 .f32) (h12 : a12.IsWhole)
    (x0 : Vec Ideal S1024x4096 .bf16) (x1 x2 : Vec Ideal S4096x256 .f32) (x3 x4 : Vec Ideal S3x256 .f32) (x5 x6 : Vec Ideal S1x256 .f32)
    (xs0 : Vec Ideal S2x8x256 .f32) (xs1 : Vec Ideal S4096x512 .bf16) (xs2 xs3 : Vec Ideal S1024x512 .f32)

/-- A point at the start of a sequence leaves the gated convolution of the products before. -/
theorem out_begin (hc0 : ¬cond0_0 i) (hc1 : ¬cond0_1 i) (hc2 : cond0_2 i) (hc3 : ¬cond0_3 i) (hc4 : cond0_4 i) :
    out0_B_7 c i a1 h1 a2 h2 a3 h3 a4 h4 a5 h5 a6 h6 a7 h7 a8 h8 a9 h9 a10 h10 a11 h11 a12 h12 hc0 hc1 hc2 hc3 hc4 x0 x1 x2 x3 x4 x5 x6 xs1 xs2 = epi noRows xs2 x3 x4 x5 x6 := by
  unfold out0_B_7
  rw [View.read_writes_eq_canon _ _ _ (cover0_B_7 c i a1 h1 a2 h2 a3 h3 a4 h4 a5 h5 a6 h6 a7 h7 a8 h8 a9 h9 a10 h10 a11 h11 a12 h12 hc0 hc1 hc2 hc3 hc4 x0 x1 x2 x3 x4 x5 x6 xs1 xs2)]
  funext y
  refine View.canon_apply_of_pieces (epi noRows xs2 x3 x4 x5 x6) _ ?_ y (cover0_B_7 c i a1 h1 a2 h2 a3 h3 a4 h4 a5 h5 a6 h6 a7 h7 a8 h8 a9 h9 a10 h10 a11 h11 a12 h12 hc0 hc1 hc2 hc3 hc4 x0 x1 x2 x3 x4 x5 x6 xs1 xs2 y)
  unfold kernelRun0_B
  dsimp only
  sl_unfold_words
  simp only [List.forall_mem_cons, View.readAt_eq_ld, View.readCov_unit_zero (S := S2x8x256) _ zero3, cleared, h4.read_unread, h5.read_unread, h6.read_unread, h7.read_unread, h11.read_unread, View.ld_unit_zero (S := S3x256) zero2, View.ld_unit_zero (S := S1x256) zero2]
  repeat' apply And.intro
  on_goal 17 => exact fun _ h => absurd h List.not_mem_nil
  on_goal 16 => exact first_agrees noRows xs2 x3 x4 x5 x6 _ _ _
  all_goals exact rest_agrees noRows xs2 x3 x4 x5 x6 _ _ (by decide) _ _ _ _ _

/-- An even point leaves the gated convolution of the products before. -/
theorem out_even (hc0 : ¬cond0_0 i) (hc1 : ¬cond0_1 i) (hc2 : ¬cond0_2 i) (hc3 : cond0_3 i) (hc4 : ¬cond0_4 i) :
    out0_C_7 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs3 = epi xs0 xs3 x3 x4 x5 x6 := by
  unfold out0_C_7
  rw [View.read_writes_eq_canon _ _ _ (cover0_C_7 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs3)]
  funext y
  refine View.canon_apply_of_pieces (epi xs0 xs3 x3 x4 x5 x6) _ ?_ y (cover0_C_7 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs3 y)
  unfold kernelRun0_C
  dsimp only
  sl_unfold_words
  simp only [List.forall_mem_cons, View.readAt_eq_ld, View.ld_unit_zero (S := S2x8x256) zero3, h9.read_unread, h4.read_unread, h5.read_unread, h6.read_unread, h7.read_unread, h12.read_unread, View.ld_unit_zero (S := S3x256) zero2, View.ld_unit_zero (S := S1x256) zero2]
  repeat' apply And.intro
  on_goal 17 => exact fun _ h => absurd h List.not_mem_nil
  on_goal 16 => exact first_agrees xs0 xs3 x3 x4 x5 x6 _ _ _
  all_goals exact rest_agrees xs0 xs3 x3 x4 x5 x6 _ _ (by decide) _ _ _ _ _

/-- An odd point leaves the gated convolution of the products before. -/
theorem out_odd (hc0 : ¬cond0_0 i) (hc1 : ¬cond0_1 i) (hc2 : ¬cond0_2 i) (hc3 : ¬cond0_3 i) (hc4 : cond0_4 i) :
    out0_D_7 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs2 = epi xs0 xs2 x3 x4 x5 x6 := by
  unfold out0_D_7
  rw [View.read_writes_eq_canon _ _ _ (cover0_D_7 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs2)]
  funext y
  refine View.canon_apply_of_pieces (epi xs0 xs2 x3 x4 x5 x6) _ ?_ y (cover0_D_7 c i a1 h1 a2 h2 a3 h3 a4 h4 a5 h5 a6 h6 a7 h7 a8 h8 a9 h9 a10 h10 a11 h11 a12 h12 hc0 hc1 hc2 hc3 hc4 x0 x1 x2 x3 x4 x5 x6 xs0 xs1 xs2 y)
  unfold kernelRun0_D
  dsimp only
  sl_unfold_words
  simp only [List.forall_mem_cons, View.readAt_eq_ld, View.ld_unit_zero (S := S2x8x256) zero3, h9.read_unread, h4.read_unread, h5.read_unread, h6.read_unread, h7.read_unread, h11.read_unread, View.ld_unit_zero (S := S3x256) zero2, View.ld_unit_zero (S := S1x256) zero2]
  repeat' apply And.intro
  on_goal 17 => exact fun _ h => absurd h List.not_mem_nil
  on_goal 16 => exact first_agrees xs0 xs2 x3 x4 x5 x6 _ _ _
  all_goals exact rest_agrees xs0 xs2 x3 x4 x5 x6 _ _ (by decide) _ _ _ _ _

/-- A point that begins a column block leaves the gated convolution of the products before. -/
theorem out_column (hc0 : ¬cond0_0 i) (hc1 : cond0_1 i) (hc2 : ¬cond0_2 i) (hc3 : cond0_3 i) (hc4 : ¬cond0_4 i) :
    out0_E_7 c i a1 h1 a2 h2 a3 h3 a4 h4 a5 h5 a6 h6 a7 h7 a8 h8 a9 h9 a10 h10 a11 h11 a12 h12 hc0 hc1 hc2 hc3 hc4 x0 x1 x2 x3 x4 x5 x6 xs0 xs3 = epi xs0 xs3 x3 x4 x5 x6 := by
  unfold out0_E_7
  rw [View.read_writes_eq_canon _ _ _ (cover0_E_7 c i a1 h1 a2 h2 a3 h3 a4 h4 a5 h5 a6 h6 a7 h7 a8 h8 a9 h9 a10 h10 a11 h11 a12 h12 hc0 hc1 hc2 hc3 hc4 x0 x1 x2 x3 x4 x5 x6 xs0 xs3)]
  funext y
  refine View.canon_apply_of_pieces (epi xs0 xs3 x3 x4 x5 x6) _ ?_ y (cover0_E_7 c i a1 h1 a2 h2 a3 h3 a4 h4 a5 h5 a6 h6 a7 h7 a8 h8 a9 h9 a10 h10 a11 h11 a12 h12 hc0 hc1 hc2 hc3 hc4 x0 x1 x2 x3 x4 x5 x6 xs0 xs3 y)
  unfold kernelRun0_E
  dsimp only
  sl_unfold_words
  simp only [List.forall_mem_cons, View.readAt_eq_ld, View.ld_unit_zero (S := S2x8x256) zero3, h9.read_unread, h4.read_unread, h5.read_unread, h6.read_unread, h7.read_unread, h12.read_unread, View.ld_unit_zero (S := S3x256) zero2, View.ld_unit_zero (S := S1x256) zero2]
  repeat' apply And.intro
  on_goal 17 => exact fun _ h => absurd h List.not_mem_nil
  on_goal 16 => exact first_agrees xs0 xs3 x3 x4 x5 x6 _ _ _
  all_goals exact rest_agrees xs0 xs3 x3 x4 x5 x6 _ _ (by decide) _ _ _ _ _

end Cases

end Cert.FfnInIdeal.Hand

end
-- ==== Proof.FfnInRefRead.lean ====
/- The first feed-forward matrix: the reference's result read at an index. -/
module

public import proofs.«01_k».proof.Proof.Gen.FfnInRefIdeal.Run
public import Idealize.ShloMosaic.Lib.Pointwise
public import Idealize.ShloMosaic.Lib.KernelVsHost

@[expose] public section

set_option maxRecDepth 16384

noncomputable section

namespace Cert.FfnInRefIdeal.Hand

open Cert.FfnInRefIdeal Cert.FfnInRefIdeal.Gen Idealize.ShloMosaic Idealize.ShloMosaic.TcCoe Idealize.SL.Sem

attribute [local instance] Cert.FfnInRefIdeal.Gen.facts

variable (a : Vec Ideal S16384x4096 .bf16) (w : Vec Ideal S4096x22016 .f32) (cw : Vec Ideal S3x22016 .f32) (cb : Vec Ideal S22016 .f32)

/-- The products, as sequences. -/
abbrev products : Vec Ideal S4x4096x22016 .f32 :=
  shapeCast _ (Host.dotGeneral (F := Ideal) (φ₂ := .f32) dot_S16384x4096_S4096x22016_S16384x22016_1_0_0_1_n_n none (extf .f32 a bitsLt_bf16_f32) w)
    shapeCasts_S16384x22016_S4x4096x22016

/-- The sequences with two rows of zeros before them. -/
abbrev padded : Vec Ideal S4x4098x22016 .f32 :=
  pad S4x4098x22016 ![0, 2, 0] ![0, 0, 0] ![0, 0, 0] (products a w) (sitofp (F := Ideal) .f32 (constantI S_ 32 0#32))
    pads_S4x4096x22016_S4x4098x22016_000_200_000 h_S_

/-- A row of one number per column, at every position. -/
abbrev spread (x : Vec Ideal S22016 .f32) : Vec Ideal S4x4096x22016 .f32 :=
  broadcastInDim S4x4096x22016 ![0, 1, 2] bcast_S1x1x22016_S4x4096x22016_0_1_2 (broadcastInDim S1x1x22016 ![2] bcast_S22016_S1x1x22016_2 x)

/-- The causal convolution over the rows. -/
abbrev convolve (p : Vec Ideal S4x4098x22016 .f32) : Vec Ideal S4x4096x22016 .f32 :=
  addf (F := Ideal) (φ := .f32) (addf (addf (spread cb)
    (mulf (extractStridedSlice S4x4096x22016 ![0, 0, 0] p slices_S4x4098x22016_S4x4096x22016_0_0_0)
      (spread (shapeCast _ (extractStridedSlice S1x22016 ![0, 0] cw slices_S3x22016_S1x22016_0_0) shapeCasts_S1x22016_S22016))))
    (mulf (extractStridedSlice S4x4096x22016 ![0, 1, 0] p slices_S4x4098x22016_S4x4096x22016_0_1_0)
      (spread (shapeCast _ (extractStridedSlice S1x22016 ![1, 0] cw slices_S3x22016_S1x22016_1_0) shapeCasts_S1x22016_S22016))))
    (mulf (extractStridedSlice S4x4096x22016 ![0, 2, 0] p slices_S4x4098x22016_S4x4096x22016_0_2_0)
      (spread (shapeCast _ (extractStridedSlice S1x22016 ![2, 0] cw slices_S3x22016_S1x22016_2_0) shapeCasts_S1x22016_S22016)))

abbrev convolved : Vec Ideal S4x4096x22016 .f32 := convolve cw cb (padded a w)

/-- The two halves of the convolution. -/
abbrev gate : Vec Ideal S4x4096x11008 .f32 :=
  extractStridedSlice S4x4096x11008 ![0, 0, 0] (convolved a w cw cb) slices_S4x4096x22016_S4x4096x11008_0_0_0

abbrev up : Vec Ideal S4x4096x11008 .f32 :=
  extractStridedSlice S4x4096x11008 ![0, 0, 11008] (convolved a w cw cb) slices_S4x4096x22016_S4x4096x11008_0_0_11008

/-- The reference's result of the four arrays. -/
def goal : Vec Ideal S16384x11008 .bf16 :=
  truncf (F := Ideal) .bf16 (shapeCast _ (mulf (mulf (gate a w cw cb)
    (Host.divf (broadcastInDim S4x4096x11008 ![] bcast_S_S4x4096x11008 (constant S_ .f32 0x3F800000#32))
      (addf (broadcastInDim S4x4096x11008 ![] bcast_S_S4x4096x11008 (constant S_ .f32 0x3F800000#32))
        (Host.exp (Host.negf (gate a w cw cb)))))) (up a w cw cb)) shapeCasts_S4x4096x11008_S16384x11008) bitsLt_bf16_f32

theorem goal_eq (m : (ℓ : Loc nD τ sig) → Buf (Elt Ideal) ℓ) (c : Dev nD) :
    Value.res_main_v32 m c = goal (m ((c.tc : Thread nD τ).loc main_arg0)) (m ((c.tc : Thread nD τ).loc main_arg1))
      (m ((c.tc : Thread nD τ).loc main_arg2)) (m ((c.tc : Thread nD τ).loc main_arg3)) := by
  unfold Value.res_main_v32 goal
  rfl

/-- Row `r + i - 2` of the products, zero before the sequence of row `r`. -/
def behind (r : ℕ) (i : ℕ) (h : r + i - 2 < 16384) (j : Fin 22016) : Ideal .f32 :=
  if r % 4096 + i < 2 then 0 else ∑ k : Fin 4096, a (ix2 (⟨r + i - 2, h⟩ : Fin 16384) k) * w (ix2 k j)

/-- The convolution at a row and a column. -/
def mixed (r : Fin 16384) (j : Fin 22016) : Ideal .f32 :=
  ((cb (ix1 j) + behind a w r.val 0 (by have := r.isLt; omega) j * cw (ix2 0 j))
    + behind a w r.val 1 (by have := r.isLt; omega) j * cw (ix2 1 j))
    + behind a w r.val 2 (by have := r.isLt; omega) j * cw (ix2 2 j)

theorem products_apply (b : Fin 4) (s : Fin 4096) (j : Fin 22016) : products a w (ix3 b s j)
    = ∑ k : Fin 4096, a (ix2 (⟨b.val * 4096 + s.val, by have := b.isLt; have := s.isLt; omega⟩ : Fin 16384) k) * w (ix2 k j) := by
  pointwise [products]

/-- A padded row is the row two before, or zero. -/
theorem padded_apply (r : Fin 16384) (i : ℕ) (hi : i < 3) (j : Fin 22016) :
    padded a w (ix3 (⟨r.val / 4096, by have := r.isLt; omega⟩ : Fin 4) (⟨r.val % 4096 + i, by omega⟩ : Fin 4098) j)
      = behind a w r.val i (by have := r.isLt; omega) j := by
  have hr := r.isLt
  unfold behind
  by_cases h : r.val % 4096 + i < 2
  · rw [if_pos h]
    refine (pad_apply_of_not_inside _ _ _ _ _ _ _ _ (1 : Fin 3) fun hh => ?_).trans ?_
    · have : 2 ≤ r.val % 4096 + i := hh.1
      omega
    · show FloatOps.sitofp .f32 (0#32) = (0 : Ideal .f32)
      simp [FloatOps.sitofp]
  · rw [if_neg h]
    refine (pad_apply_of_inside _ _ _ _ _ _ _ _ (ix3 (⟨r.val / 4096, by omega⟩ : Fin 4) (⟨r.val % 4096 + i - 2, by omega⟩ : Fin 4096) j) fun d => ?_).trans ?_
    · match d with
      | ⟨0, _⟩ => show r.val / 4096 = 0 + r.val / 4096 * 1; omega
      | ⟨1, _⟩ => show r.val % 4096 + i = 2 + (r.val % 4096 + i - 2) * 1; omega
      | ⟨2, _⟩ => show j.val = 0 + j.val * 1; omega
    · rw [products_apply]
      have e : (⟨r.val / 4096 * 4096 + (r.val % 4096 + i - 2), by omega⟩ : Fin 16384) = ⟨r.val + i - 2, by omega⟩ := Fin.ext (by
        show r.val / 4096 * 4096 + (r.val % 4096 + i - 2) = r.val + i - 2; omega)
      rw [e]

theorem convolved_apply (r : Fin 16384) (j : Fin 22016) :
    convolved a w cw cb (ix3 (⟨r.val / 4096, by have := r.isLt; omega⟩ : Fin 4) (⟨r.val % 4096, by omega⟩ : Fin 4096) j) = mixed a w cw cb r j := by
  have e0 := padded_apply a w r 0 (by omega) j
  have e1 := padded_apply a w r 1 (by omega) j
  have e2 := padded_apply a w r 2 (by omega) j
  unfold mixed
  rw [← e0, ← e1, ← e2]
  unfold convolved
  generalize padded a w = p
  pointwise [convolve, spread]
  simp only [Nat.add_comm]

/-- The reference's result at a row and a column. -/
theorem goal_apply (r : Fin 16384) (j : Fin 11008) : goal a w cw cb (ix2 r j)
    = mixed a w cw cb r (⟨j.val, by have := j.isLt; omega⟩ : Fin 22016) * Ideal.logistic (mixed a w cw cb r (⟨j.val, by have := j.isLt; omega⟩ : Fin 22016))
      * mixed a w cw cb r (⟨11008 + j.val, by have := j.isLt; omega⟩ : Fin 22016) := by
  rw [← convolved_apply, ← convolved_apply]
  unfold goal gate up
  generalize convolved a w cw cb = p
  pointwise
  rfl

end Cert.FfnInRefIdeal.Hand

end
-- ==== Proof.FfnInValue.lean ====
/- The first feed-forward matrix: the kernel's lagged pipeline, which carries the last rows of a block to the next, leaves
   the reference's gated convolution. -/
module

public import proofs.«01_k».proof.Proof.FfnInOut
public import proofs.«01_k».proof.Proof.FfnInRefRead

@[expose] public section

set_option maxRecDepth 16384

noncomputable section

namespace Cert.FfnInIdeal.Hand

open Cert.FfnInIdeal Cert.FfnInIdeal.Gen Idealize.ShloMosaic Idealize.ShloMosaic.TcCoe Idealize.SL.Sem
open Cert.FfnInRefIdeal.Hand (behind mixed)

/-- Where each window's block lies at point `t`: the products are taken at point `min t 687`, the convolution and the result
    belong to the point before. -/
theorem index_at : ∀ t : Fin cfg0.N, win0_0.index t (0 : Fin 2) = min t.val 687 % 16 ∧ win0_0.index t (1 : Fin 2) = 0
    ∧ win0_1.index t (0 : Fin 2) = 0 ∧ win0_1.index t (1 : Fin 2) = min t.val 687 / 16
    ∧ win0_2.index t (0 : Fin 2) = 0 ∧ win0_2.index t (1 : Fin 2) = min t.val 687 / 16 + 43
    ∧ win0_3.index t (0 : Fin 2) = 0 ∧ win0_3.index t (1 : Fin 2) = (t.val - 1) / 16
    ∧ win0_4.index t (0 : Fin 2) = 0 ∧ win0_4.index t (1 : Fin 2) = (t.val - 1) / 16 + 43
    ∧ win0_5.index t (0 : Fin 2) = 0 ∧ win0_5.index t (1 : Fin 2) = (t.val - 1) / 16
    ∧ win0_6.index t (0 : Fin 2) = 0 ∧ win0_6.index t (1 : Fin 2) = (t.val - 1) / 16 + 43
    ∧ win0_7.index t (0 : Fin 2) = (t.val - 1) % 16 ∧ win0_7.index t (1 : Fin 2) = (t.val - 1) / 16 :=
  (by decide +kernel : ∀ t : Fin grid0.N, _)

/-- Every point but the first writes its block back. -/
theorem flush_at : ∀ t : Fin cfg0.N, (cfg0.win 7).flush t = decide (t.val ≠ 0) :=
  (by decide +kernel : ∀ t : Fin grid0.N, win0_7.flush t = decide (t.val ≠ 0))

variable (m : (ℓ : Loc nD τ sig) → Buf (Elt Ideal) ℓ)

theorem points (t : Fin cfg0.N) : t.val < 689 := lt_of_lt_of_eq t.isLt N_0

/-- The bias row the region finds: the argument, as one row. -/
theorem bias_entry (c : Dev nD) : V m c main_v0 = shapeCast S1x22016 (m ((c : Thread nD τ).loc main_arg3)) shapeCasts_S22016_S1x22016 := by
  show StableHlo.after hostOps0 (fun b => m (c, b)) (Proc.devRef .tc main_v0) = _
  after_results <;> rfl

/-- That row at a column. -/
theorem bias_row (x : Vec Ideal S22016 .f32) (j : Fin 22016) : shapeCast S1x22016 x shapeCasts_S22016_S1x22016 (ix2 0 j) = x (ix1 j) := by
  pointwise []

/-- The rows at point `t`. -/
theorem rows_at (c : Dev nD) (t : Fin cfg0.N) (a : Fin 1024) (b : Fin 4096) :
    iblk m c 0 t (ix2 a b) = m ((c : Thread nD τ).loc main_arg0)
      (ix2 (⟨min t.val 687 % 16 * 1024 + a.val, by have := a.isLt; omega⟩ : Fin 16384) b) := by
  obtain ⟨e0, e1, -⟩ := index_at t
  show V m c main_arg0 (((cfg0.win 0).blk t).view.emb (ix2 a b)) = _
  rw [V_main_arg0]
  refine congrArg (m ((c : Thread nD τ).loc main_arg0)) (funext fun d => Fin.ext ?_)
  match d with
  | ⟨0, _⟩ => show win0_0.index t (0 : Fin 2) * 1024 + 1 * a.val = min t.val 687 % 16 * 1024 + a.val; rw [e0]; omega
  | ⟨1, _⟩ => show win0_0.index t (1 : Fin 2) * 4096 + 1 * b.val = b.val; rw [e1]; omega

/-- The column block of the first half's weights at point `t`. -/
theorem gate_at (c : Dev nD) (t : Fin cfg0.N) (a : Fin 4096) (b : Fin 256) :
    iblk m c 1 t (ix2 a b) = m ((c : Thread nD τ).loc main_arg1)
      (ix2 a (⟨min t.val 687 / 16 * 256 + b.val, by have := b.isLt; have := points t; omega⟩ : Fin 22016)) := by
  obtain ⟨-, -, e0, e1, -⟩ := index_at t
  show V m c main_arg1 (((cfg0.win 1).blk t).view.emb (ix2 a b)) = _
  rw [V_main_arg1]
  refine congrArg (m ((c : Thread nD τ).loc main_arg1)) (funext fun d => Fin.ext ?_)
  match d with
  | ⟨0, _⟩ => show win0_1.index t (0 : Fin 2) * 4096 + 1 * a.val = a.val; rw [e0]; omega
  | ⟨1, _⟩ => show win0_1.index t (1 : Fin 2) * 256 + 1 * b.val = min t.val 687 / 16 * 256 + b.val; rw [e1]; omega

/-- The column block of the second half's weights at point `t`. -/
theorem up_at (c : Dev nD) (t : Fin cfg0.N) (a : Fin 4096) (b : Fin 256) :
    iblk m c 2 t (ix2 a b) = m ((c : Thread nD τ).loc main_arg1)
      (ix2 a (⟨11008 + (min t.val 687 / 16 * 256 + b.val), by have := b.isLt; have := points t; omega⟩ : Fin 22016)) := by
  obtain ⟨-, -, -, -, e0, e1, -⟩ := index_at t
  show V m c main_arg1 (((cfg0.win 2).blk t).view.emb (ix2 a b)) = _
  rw [V_main_arg1]
  refine congrArg (m ((c : Thread nD τ).loc main_arg1)) (funext fun d => Fin.ext ?_)
  match d with
  | ⟨0, _⟩ => show win0_2.index t (0 : Fin 2) * 4096 + 1 * a.val = a.val; rw [e0]; omega
  | ⟨1, _⟩ => show win0_2.index t (1 : Fin 2) * 256 + 1 * b.val = 11008 + (min t.val 687 / 16 * 256 + b.val); rw [e1]; omega

/-- The first half's taps at point `t`. -/
theorem gate_taps_at (c : Dev nD) (t : Fin cfg0.N) (a : Fin 3) (b : Fin 256) :
    iblk m c 3 t (ix2 a b) = m ((c : Thread nD τ).loc main_arg2)
      (ix2 a (⟨(t.val - 1) / 16 * 256 + b.val, by have := b.isLt; have := points t; omega⟩ : Fin 22016)) := by
  obtain ⟨-, -, -, -, -, -, e0, e1, -⟩ := index_at t
  show V m c main_arg2 (((cfg0.win 3).blk t).view.emb (ix2 a b)) = _
  rw [V_main_arg2]
  refine congrArg (m ((c : Thread nD τ).loc main_arg2)) (funext fun d => Fin.ext ?_)
  match d with
  | ⟨0, _⟩ => show win0_3.index t (0 : Fin 2) * 3 + 1 * a.val = a.val; rw [e0]; omega
  | ⟨1, _⟩ => show win0_3.index t (1 : Fin 2) * 256 + 1 * b.val = (t.val - 1) / 16 * 256 + b.val; rw [e1]; omega

/-- The second half's taps at point `t`. -/
theorem up_taps_at (c : Dev nD) (t : Fin cfg0.N) (a : Fin 3) (b : Fin 256) :
    iblk m c 4 t (ix2 a b) = m ((c : Thread nD τ).loc main_arg2)
      (ix2 a (⟨11008 + ((t.val - 1) / 16 * 256 + b.val), by have := b.isLt; have := points t; omega⟩ : Fin 22016)) := by
  obtain ⟨-, -, -, -, -, -, -, -, e0, e1, -⟩ := index_at t
  show V m c main_arg2 (((cfg0.win 4).blk t).view.emb (ix2 a b)) = _
  rw [V_main_arg2]
  refine congrArg (m ((c : Thread nD τ).loc main_arg2)) (funext fun d => Fin.ext ?_)
  match d with
  | ⟨0, _⟩ => show win0_4.index t (0 : Fin 2) * 3 + 1 * a.val = a.val; rw [e0]; omega
  | ⟨1, _⟩ => show win0_4.index t (1 : Fin 2) * 256 + 1 * b.val = 11008 + ((t.val - 1) / 16 * 256 + b.val); rw [e1]; omega

/-- The first half's bias at point `t`. -/
theorem gate_bias_at (c : Dev nD) (t : Fin cfg0.N) (b : Fin 256) :
    iblk m c 5 t (ix2 0 b) = m ((c : Thread nD τ).loc main_arg3)
      (ix1 (⟨(t.val - 1) / 16 * 256 + b.val, by have := b.isLt; have := points t; omega⟩ : Fin 22016)) := by
  obtain ⟨-, -, -, -, -, -, -, -, -, -, e0, e1, -⟩ := index_at t
  show V m c main_v0 (((cfg0.win 5).blk t).view.emb (ix2 0 b)) = _
  rw [bias_entry]
  refine (congrArg (shapeCast S1x22016 (m ((c : Thread nD τ).loc main_arg3)) shapeCasts_S22016_S1x22016) (funext fun d => Fin.ext ?_)).trans (bias_row _ _)
  match d with
  | ⟨0, _⟩ => show win0_5.index t (0 : Fin 2) * 1 + 1 * 0 = 0; rw [e0]
  | ⟨1, _⟩ => show win0_5.index t (1 : Fin 2) * 256 + 1 * b.val = (t.val - 1) / 16 * 256 + b.val; rw [e1]; omega

/-- The second half's bias at point `t`. -/
theorem up_bias_at (c : Dev nD) (t : Fin cfg0.N) (b : Fin 256) :
    iblk m c 6 t (ix2 0 b) = m ((c : Thread nD τ).loc main_arg3)
      (ix1 (⟨11008 + ((t.val - 1) / 16 * 256 + b.val), by have := b.isLt; have := points t; omega⟩ : Fin 22016)) := by
  obtain ⟨-, -, -, -, -, -, -, -, -, -, -, -, e0, e1, -⟩ := index_at t
  show V m c main_v0 (((cfg0.win 6).blk t).view.emb (ix2 0 b)) = _
  rw [bias_entry]
  refine (congrArg (shapeCast S1x22016 (m ((c : Thread nD τ).loc main_arg3)) shapeCasts_S22016_S1x22016) (funext fun d => Fin.ext ?_)).trans (bias_row _ _)
  match d with
  | ⟨0, _⟩ => show win0_6.index t (0 : Fin 2) * 1 + 1 * 0 = 0; rw [e0]
  | ⟨1, _⟩ => show win0_6.index t (1 : Fin 2) * 256 + 1 * b.val = 11008 + ((t.val - 1) / 16 * 256 + b.val); rw [e1]; omega

/-- A point that begins no column block reads the weights the point before read. -/
theorem gate_same (c : Dev nD) (s t : Fin cfg0.N) (h : min s.val 687 / 16 = min t.val 687 / 16) : iblk m c 1 s = iblk m c 1 t := by
  funext y
  change S4096x256.Idx at y
  idx_vars y
  rw [gate_at, gate_at]
  simp only [h]

/-- A point that begins no column block reads the weights the point before read. -/
theorem up_same (c : Dev nD) (s t : Fin cfg0.N) (h : min s.val 687 / 16 = min t.val 687 / 16) : iblk m c 2 s = iblk m c 2 t := by
  funext y
  change S4096x256.Idx at y
  idx_vars y
  rw [up_at, up_at]
  simp only [h]

/-- The rounded weights of point `t`'s column block, side by side. -/
abbrev weights (c : Dev nD) (t : Fin cfg0.N) : Vec Ideal S4096x512 .bf16 := wcat (iblk m c 1 t) (iblk m c 2 t)

/-- The products point `t` stores. -/
abbrev pr (c : Dev nD) (t : Fin cfg0.N) : Vec Ideal S1024x512 .f32 := prod (iblk m c 0 t) (weights m c t)

theorem weights_same (c : Dev nD) (s t : Fin cfg0.N) (h : min s.val 687 / 16 = min t.val 687 / 16) : weights m c s = weights m c t := by
  unfold weights
  rw [gate_same m c s t h, up_same m c s t h]

/-- What the scratches hold after point `n`: the rounded weights, the point's products in the half the point's parity names,
    and the last rows of the products of the point before. -/
abbrev Held (c : Dev nD) (n : ℕ) (h : n < cfg0.N) : Prop :=
  (outsAt0 m c n h).2.2.1 = weights m c ⟨n, h⟩
    ∧ (n % 2 = 0 → (outsAt0 m c n h).2.2.2.1 = pr m c ⟨n, h⟩) ∧ (n % 2 = 1 → (outsAt0 m c n h).2.2.2.2 = pr m c ⟨n, h⟩)
    ∧ ∀ k : ℕ, ∀ hk : k + 1 = n, (outsAt0 m c n h).2.1 = lastRows (pr m c ⟨k, by omega⟩)

theorem held (c : Dev nD) : ∀ (n : ℕ) (h : n < cfg0.N), Held m c n h := by
  intro n
  induction n with
  | zero =>
    intro h
    have e := outsAt0_A m c ⟨0, h⟩ (Nat.zero_mod _) (Nat.zero_mod _) (Or.inl (Nat.zero_mod _)) (Nat.zero_mod _) (fun hh => absurd hh (by rw [Nat.zero_mod]; decide))
    dsimp only at e
    unfold Held
    rw [e]
    dsimp only
    exact ⟨weights_first .., fun _ => products_first .., fun hh => absurd hh (by decide), fun k hk => absurd hk (Nat.succ_ne_zero k)⟩
  | succ n ih =>
    intro h
    have hN := points ⟨n + 1, h⟩
    dsimp only at hN
    obtain ⟨i0, i1, i2, -⟩ := ih (Nat.lt_of_succ_lt h)
    have g0 : ¬(n + 1) % 689 = 0 := by omega
    by_cases hc : (n + 1) % 16 = 0
    · have e := outsAt0_E m c ⟨n + 1, h⟩ g0 hc (by show ¬((n + 1) % 689 = 0 ∨ (n + 1) % 4 = 1); omega) (by show (n + 1) % 2 = 0; omega) (by show ¬(n + 1) % 2 = 1; omega)
      dsimp only at e
      unfold Held
      rw [e]
      dsimp only
      refine ⟨weights_column .., fun _ => products_column .., fun hh => by omega, fun k hk => ?_⟩
      obtain rfl : k = n := by omega
      rw [carry_column]
      exact congrArg lastRows (i2 (by omega))
    · have hw : min (⟨n, Nat.lt_of_succ_lt h⟩ : Fin cfg0.N).val 687 / 16 = min (⟨n + 1, h⟩ : Fin cfg0.N).val 687 / 16 := by
        show min n 687 / 16 = min (n + 1) 687 / 16; omega
      have j0 : (outsAt0 m c (n + 1 - 1) (Nat.lt_of_le_of_lt (Nat.sub_le _ _) h)).2.2.1 = weights m c ⟨n + 1, h⟩ :=
        i0.trans (weights_same m c _ _ hw)
      by_cases hp : (n + 1) % 2 = 1
      · by_cases hs : (n + 1) % 4 = 1
        · have e := outsAt0_B m c ⟨n + 1, h⟩ g0 hc (Or.inr hs) (by show ¬(n + 1) % 2 = 0; omega) hp
          dsimp only at e
          unfold Held
          rw [e]
          dsimp only [sout0_B_1]
          refine ⟨j0, fun hh => by omega, fun _ => ?_, fun k hk => ?_⟩
          · rw [products_begin, j0]
          · obtain rfl : k = n := by omega
            rw [carry_begin]
            exact congrArg lastRows (i1 (by omega))
        · have e := outsAt0_D m c ⟨n + 1, h⟩ g0 hc (by show ¬((n + 1) % 689 = 0 ∨ (n + 1) % 4 = 1); omega) (by show ¬(n + 1) % 2 = 0; omega) hp
          dsimp only at e
          unfold Held
          rw [e]
          dsimp only [sout0_D_1]
          refine ⟨j0, fun hh => by omega, fun _ => ?_, fun k hk => ?_⟩
          · rw [products_odd, j0]
          · obtain rfl : k = n := by omega
            rw [carry_odd]
            exact congrArg lastRows (i1 (by omega))
      · have e := outsAt0_C m c ⟨n + 1, h⟩ g0 hc (by show ¬((n + 1) % 689 = 0 ∨ (n + 1) % 4 = 1); omega) (by show (n + 1) % 2 = 0; omega) hp
        dsimp only at e
        unfold Held
        rw [e]
        dsimp only [sout0_C_1]
        refine ⟨j0, fun _ => ?_, fun hh => absurd hh hp, fun k hk => ?_⟩
        · rw [products_even, j0]
        · obtain rfl : k = n := by omega
          rw [carry_even]
          exact congrArg lastRows (i2 (by omega))

/-- The rows before point `n`'s: none at the start of a sequence, else the last of the point before. -/
def carried (c : Dev nD) (n : ℕ) (h : n < cfg0.N) : Vec Ideal S2x8x256 .f32 :=
  if n % 4 = 0 then noRows else lastRows (pr m c ⟨n - 1, Nat.lt_of_le_of_lt (Nat.sub_le _ _) h⟩)

/-- The block a point after the first leaves: the gated convolution of the products of the point before. -/
theorem block_at (c : Dev nD) (n : ℕ) (h : n + 1 < cfg0.N) : (outsAt0 m c (n + 1) h).1 =
    epi (carried m c n (Nat.lt_of_succ_lt h)) (pr m c ⟨n, Nat.lt_of_succ_lt h⟩) (iblk m c 3 ⟨n + 1, h⟩) (iblk m c 4 ⟨n + 1, h⟩)
      (iblk m c 5 ⟨n + 1, h⟩) (iblk m c 6 ⟨n + 1, h⟩) := by
  have hN := points ⟨n + 1, h⟩
  dsimp only at hN
  obtain ⟨-, i1, i2, i3⟩ := held m c n (Nat.lt_of_succ_lt h)
  have g0 : ¬(n + 1) % 689 = 0 := by omega
  unfold carried
  by_cases hs : (n + 1) % 4 = 1
  · have e := outsAt0_B m c ⟨n + 1, h⟩ g0 (by show ¬(n + 1) % 16 = 0; omega) (Or.inr hs) (by show ¬(n + 1) % 2 = 0; omega) (by show (n + 1) % 2 = 1; omega)
    dsimp only at e
    rw [e, if_pos (by omega)]
    dsimp only
    rw [out_begin]
    exact congrArg (fun p => epi noRows p _ _ _ _) (i1 (by omega))
  · rw [if_neg (by omega), ← i3 (n - 1) (by omega)]
    by_cases hp : (n + 1) % 2 = 1
    · have e := outsAt0_D m c ⟨n + 1, h⟩ g0 (by show ¬(n + 1) % 16 = 0; omega) (by show ¬((n + 1) % 689 = 0 ∨ (n + 1) % 4 = 1); omega) (by show ¬(n + 1) % 2 = 0; omega) hp
      dsimp only at e
      rw [e]
      dsimp only
      rw [out_odd]
      exact congrArg (fun p => epi _ p _ _ _ _) (i1 (by omega))
    · by_cases hc : (n + 1) % 16 = 0
      · have e := outsAt0_E m c ⟨n + 1, h⟩ g0 hc (by show ¬((n + 1) % 689 = 0 ∨ (n + 1) % 4 = 1); omega) (by show (n + 1) % 2 = 0; omega) hp
        dsimp only at e
        rw [e]
        dsimp only
        rw [out_column]
        exact congrArg (fun p => epi _ p _ _ _ _) (i2 (by omega))
      · have e := outsAt0_C m c ⟨n + 1, h⟩ g0 hc (by show ¬((n + 1) % 689 = 0 ∨ (n + 1) % 4 = 1); omega) (by show (n + 1) % 2 = 0; omega) hp
        dsimp only at e
        rw [e]
        dsimp only
        rw [out_even]
        exact congrArg (fun p => epi _ p _ _ _ _) (i2 (by omega))

/-- The reference's result of the kernel's arguments. -/
abbrev target (c : Dev nD) : Vec Ideal S16384x11008 .bf16 :=
  Cert.FfnInRefIdeal.Hand.goal (m ((c : Thread nD τ).loc main_arg0)) (m ((c : Thread nD τ).loc main_arg1))
    (m ((c : Thread nD τ).loc main_arg2)) (m ((c : Thread nD τ).loc main_arg3))

/-- The rows and the weights the kernel is given. -/
abbrev rowsArg (c : Dev nD) : Vec Ideal S16384x4096 .bf16 := m ((c : Thread nD τ).loc main_arg0)

abbrev weightsArg (c : Dev nD) : Vec Ideal S4096x22016 .f32 := m ((c : Thread nD τ).loc main_arg1)

/-- A product of point `n`, at a row and a column of a half. -/
theorem pr_apply (c : Dev nD) (n : ℕ) (h : n < cfg0.N) (hn : n < 688) (k : Fin 2) (x : Fin 1024) (y : Fin 256) (q : Fin 512) (r : Fin 16384) (j : Fin 22016)
    (hq : q.val = k.val * 256 + y.val) (hr : r.val = n % 16 * 1024 + x.val) (hj : j.val = k.val * 11008 + (n / 16 * 256 + y.val)) :
    pr m c ⟨n, h⟩ (ix2 x q) = ∑ i : Fin 4096, rowsArg m c (ix2 r i) * weightsArg m c (ix2 i j) := by
  have hm : min n 687 = n := by omega
  have hy := y.isLt
  unfold pr prod
  refine Finset.sum_congr rfl fun i _ => ?_
  have e : wcat (iblk m c 1 ⟨n, h⟩) (iblk m c 2 ⟨n, h⟩) (ix2 i q) = m ((c : Thread nD τ).loc main_arg1) (ix2 i j) := by
    unfold wcat
    have hk := k.isLt
    by_cases h0 : k.val = 0
    · rw [h0] at hq hj
      rw [dif_pos (by show q.val < 256; omega)]
      refine (gate_at m c ⟨n, h⟩ i ⟨q.val, _⟩).trans (congrArg (weightsArg m c) (congrArg (ix2 i) (Fin.ext ?_)))
      show min n 687 / 16 * 256 + q.val = j.val
      rw [hm]; omega
    · have h1 : k.val = 1 := by omega
      rw [h1] at hq hj
      rw [dif_neg (by show ¬q.val < 256; omega)]
      refine (up_at m c ⟨n, h⟩ i ⟨q.val - 256, _⟩).trans (congrArg (weightsArg m c) (congrArg (ix2 i) (Fin.ext ?_)))
      show 11008 + (min n 687 / 16 * 256 + (q.val - 256)) = j.val
      rw [hm]; omega
  refine congrArg₂ (fun a b : EReal => a * b) ((rows_at m c ⟨n, h⟩ x i).trans (congrArg (rowsArg m c) (congrArg (fun z => ix2 z i) (Fin.ext ?_)))) e
  show min n 687 % 16 * 1024 + x.val = r.val
  rw [hm]; omega

/-- A row of the block that begins two rows early is the reference's row. -/
theorem past_target (c : Dev nD) (n : ℕ) (h : n < cfg0.N) (hn : n < 688) (k : Fin 2) (x : Fin 1024) (y : Fin 256) (i : ℕ) (hi : i < 3) (r : Fin 16384) (j : Fin 22016)
    (hr : r.val = n % 16 * 1024 + x.val) (hj : j.val = k.val * 11008 + (n / 16 * 256 + y.val)) :
    past (carried m c n h) (pr m c ⟨n, h⟩) k (x.val + i) (by have := x.isLt; omega) y
      = behind (m ((c : Thread nD τ).loc main_arg0)) (m ((c : Thread nD τ).loc main_arg1)) r.val i (by have := r.isLt; omega) j := by
  have hx := x.isLt
  have hy := y.isLt
  have hk := k.isLt
  unfold past behind
  by_cases h2 : x.val + i < 2
  · rw [dif_pos h2]
    unfold carried
    by_cases h4 : n % 4 = 0
    · rw [if_pos h4, if_pos (by omega)]
      rfl
    · rw [if_neg h4, if_neg (by omega)]
      refine pr_apply m c (n - 1) _ (by omega) k _ y _ _ j ?_ ?_ (by omega)
      · rfl
      show r.val + i - 2 = (n - 1) % 16 * 1024 + (1016 + (6 + (x.val + i)))
      omega
  · rw [dif_neg h2, if_neg (by omega)]
    refine pr_apply m c n h hn k _ y _ _ j ?_ ?_ hj
    · rfl
    show r.val + i - 2 = n % 16 * 1024 + (x.val + i - 2)
    omega

/-- The convolution of a half of a block is the reference's. -/
theorem taps_target (c : Dev nD) (n : ℕ) (h : n < cfg0.N) (hn : n < 688) (k : Fin 2) (w : Vec Ideal S3x256 .f32) (b : Vec Ideal S1x256 .f32)
    (x : Fin 1024) (y : Fin 256) (r : Fin 16384) (j : Fin 22016)
    (hr : r.val = n % 16 * 1024 + x.val) (hj : j.val = k.val * 11008 + (n / 16 * 256 + y.val))
    (hw : ∀ i : Fin 3, w (ix2 i y) = m ((c : Thread nD τ).loc main_arg2) (ix2 i j)) (hb : b (ix2 0 y) = m ((c : Thread nD τ).loc main_arg3) (ix1 j)) :
    taps (carried m c n h) (pr m c ⟨n, h⟩) k w b x y
      = mixed (m ((c : Thread nD τ).loc main_arg0)) (m ((c : Thread nD τ).loc main_arg1))
          (m ((c : Thread nD τ).loc main_arg2)) (m ((c : Thread nD τ).loc main_arg3)) r j := by
  unfold taps mixed
  rw [hb, hw, hw, hw, ← past_target m c n h hn k x y 0 (by omega) r j hr hj, ← past_target m c n h hn k x y 1 (by omega) r j hr hj,
    ← past_target m c n h hn k x y 2 (by omega) r j hr hj]
  rfl

/-- The block of point `n + 1` at an index is the target at the index of the result. -/
theorem epi_target (c : Dev nD) (n : ℕ) (h : n + 1 < cfg0.N) (y0 : Fin 1024) (y1 : Fin 256)
    (hr : n % 16 * 1024 + y0.val < 16384) (hj : n / 16 * 256 + y1.val < 11008) :
    epi (carried m c n (Nat.lt_of_succ_lt h)) (pr m c ⟨n, Nat.lt_of_succ_lt h⟩) (iblk m c 3 ⟨n + 1, h⟩) (iblk m c 4 ⟨n + 1, h⟩)
      (iblk m c 5 ⟨n + 1, h⟩) (iblk m c 6 ⟨n + 1, h⟩) (ix2 y0 y1)
      = target m c (ix2 (⟨n % 16 * 1024 + y0.val, hr⟩ : Fin 16384) (⟨n / 16 * 256 + y1.val, hj⟩ : Fin 11008)) := by
  have hN := points ⟨n + 1, h⟩
  dsimp only at hN
  unfold target
  rw [Cert.FfnInRefIdeal.Hand.goal_apply]
  have t0 := taps_target m c n (Nat.lt_of_succ_lt h) (by omega) 0 (iblk m c 3 ⟨n + 1, h⟩) (iblk m c 5 ⟨n + 1, h⟩) y0 y1 ⟨n % 16 * 1024 + y0.val, hr⟩
    ⟨n / 16 * 256 + y1.val, by omega⟩ rfl (by show n / 16 * 256 + y1.val = 0 * 11008 + (n / 16 * 256 + y1.val); omega)
    (fun i => gate_taps_at m c ⟨n + 1, h⟩ i y1) (gate_bias_at m c ⟨n + 1, h⟩ y1)
  have t1 := taps_target m c n (Nat.lt_of_succ_lt h) (by omega) 1 (iblk m c 4 ⟨n + 1, h⟩) (iblk m c 6 ⟨n + 1, h⟩) y0 y1 ⟨n % 16 * 1024 + y0.val, hr⟩
    ⟨11008 + (n / 16 * 256 + y1.val), by omega⟩ rfl (by show 11008 + (n / 16 * 256 + y1.val) = 1 * 11008 + (n / 16 * 256 + y1.val); omega)
    (fun i => up_taps_at m c ⟨n + 1, h⟩ i y1) (up_bias_at m c ⟨n + 1, h⟩ y1)
  rw [← t0, ← t1]
  rfl

/-- What point `t` writes back is the target's block. -/
theorem written (c : Dev nD) (t : Fin cfg0.N) (hf : (cfg0.win 7).flush t = true) :
    (dats m 0 c).flushed 7 t = ((cfg0.win 7).blk t).view.read (Elt Ideal) (target m c) := by
  have hN := points t
  rw [flush_at, decide_eq_true_eq] at hf
  obtain ⟨k, hk⟩ := t
  obtain _ | n := k
  · exact absurd rfl hf
  dsimp only at hN
  show (cfg0.win 7).cut (grid0.coords ⟨n + 1, hk⟩) ((dats m 0 c).after 7 ⟨n + 1, hk⟩) = _
  rw [after0_7, block_at m c n hk]
  funext y
  obtain ⟨-, -, -, -, -, -, -, -, -, -, -, -, -, -, e0, e1⟩ := index_at ⟨n + 1, hk⟩
  show epi _ _ _ _ _ _ ((cfg0.win 7).xinj (grid0.coords ⟨n + 1, hk⟩) y) = target m c (((cfg0.win 7).blk ⟨n + 1, hk⟩).view.emb y)
  have hy : (cfg0.win 7).xinj (grid0.coords ⟨n + 1, hk⟩) y = y := rfl
  rw [hy]
  have hy0 : (y 0).val < 1024 := (y 0).isLt
  have hy1 : (y 1).val < 256 := (y 1).isLt
  have hz : ((cfg0.win 7).blk ⟨n + 1, hk⟩).view.emb y = ix2 (⟨n % 16 * 1024 + (y 0).val, by omega⟩ : Fin 16384)
      (⟨n / 16 * 256 + (y 1).val, by omega⟩ : Fin 11008) := by
    funext a; apply Fin.ext
    match a with
    | ⟨0, _⟩ => show win0_7.index ⟨n + 1, hk⟩ (0 : Fin 2) * 1024 + 1 * (y 0).val = _; rw [e0]; show (n + 1 - 1) % 16 * 1024 + 1 * (y 0).val = n % 16 * 1024 + (y 0).val; rw [Nat.add_sub_cancel]; omega
    | ⟨1, _⟩ => show win0_7.index ⟨n + 1, hk⟩ (1 : Fin 2) * 256 + 1 * (y 1).val = _; rw [e1]; show (n + 1 - 1) / 16 * 256 + 1 * (y 1).val = n / 16 * 256 + (y 1).val; rw [Nat.add_sub_cancel]; omega
  rw [hz]
  clear hz hy
  change S1024x256.Idx at y
  idx_vars y
  exact epi_target m c n hk _ _ _ _

/-- Every index of the result lies in the block of a point that writes back. -/
theorem covered (i : S16384x11008.Idx) : ∃ t : Fin cfg0.N, (cfg0.win 7).flush t = true ∧ i ∈ ((cfg0.win 7).blk t).view.set := by
  have h0 : (i 0).val < 16384 := (i 0).isLt
  have h1 : (i 1).val < 11008 := (i 1).isLt
  have hN : cfg0.N = 689 := N_0
  let t : Fin cfg0.N := ⟨(i 1).val / 256 * 16 + (i 0).val / 1024 + 1, by omega⟩
  have ht : t.val - 1 = (i 1).val / 256 * 16 + (i 0).val / 1024 := rfl
  refine ⟨t, by rw [flush_at, decide_eq_true_eq]; exact Nat.succ_ne_zero _, ?_⟩
  obtain ⟨-, -, -, -, -, -, -, -, -, -, -, -, -, -, e0, e1⟩ := index_at t
  show i ∈ ((View.whole main_v1).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 256 ≤ (i 1).val ∧ (i 1).val < win0_7.index t (1 : Fin 2) * 256 + 256
    rw [e1, ht]; omega

/-- The result array ends at the target. -/
theorem result (c : Dev nD) : (dats m 0 c).arrAt 7 cfg0.N = target m c :=
  (dats m 0 c).arrAt_eq_of_cover 7 _ (written m c) covered

/-- The kernel runs, leaves the target, and keeps its arguments. -/
theorem run_target (ρ : Dev nD → PrngReg) : θ_run defs (onTc (τ := τ) (main (F := Ideal))) ⟨m, fun _ => 0, ρ⟩ fun r => ∀ c : Dev nD,
      r.2.mem ((c : Thread nD τ).loc main_v1) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 7).trans (result m c), h.2 c⟩) (θ_run_and (run_main m ρ) (unchanged m ρ))

end Cert.FfnInIdeal.Hand

end
-- ==== Proof.Agree.lean ====
/- For each call whose blocks are read off directly: the kernel's result array and the reference's result are one
   array of the arguments, so both programs end with it. -/
module

public import proofs.«01_k».proof.Defs
public import proofs.«01_k».proof.Proof.InProjValue
public import proofs.«01_k».proof.Proof.OutValue
public import proofs.«01_k».proof.Proof.FfnOutValue
public import proofs.«01_k».proof.Proof.PleValue
public import proofs.«01_k».proof.Proof.MergeValue
public import proofs.«01_k».proof.Proof.FfnInValue

@[expose] public section

noncomputable section

namespace Cert.Proof

open Idealize.ShloMosaic Idealize.SL.Sem

/-- The joint projection: both programs run, and from equal arguments the results are equal. -/
theorem algebraic_InProj : Cert.algebraic_InProjIdeal_InProjRefIdeal (hInProjIdeal := Cert.InProjIdeal.Gen.facts)
    (hInProjRefIdeal := Cert.InProjRefIdeal.Gen.facts) := by
  intro m g m' g' _ hargs
  refine ⟨fun c => Cert.InProjIdeal.Hand.target m c, ?_, ?_⟩
  · refine (θ_run (Cert.InProjIdeal.defs (F := Ideal)) _ _).mono (fun r h c => ?_) (Cert.InProjIdeal.Value.run_blocks m g)
    exact ⟨(h c).1.trans (Cert.InProjIdeal.Hand.result m c), (h c).2⟩
  · refine (θ_run (Cert.InProjRefIdeal.defs (F := Ideal)) _ _).mono (fun r h c => ?_) (Cert.InProjRefIdeal.Value.run m' g')
    refine ⟨(h c).1.trans ?_, (h c).2⟩
    rw [(hargs c).1, (hargs c).2]

/-- The output projection: both programs run, and from equal arguments the results are equal. -/
theorem algebraic_OutProj : Cert.algebraic_OutProjIdeal_OutProjRefIdeal (hOutProjIdeal := Cert.OutProjIdeal.Gen.facts)
    (hOutProjRefIdeal := Cert.OutProjRefIdeal.Gen.facts) := by
  intro m g m' g' _ hargs
  refine ⟨fun c => Cert.OutProjIdeal.Hand.target m c, ?_, ?_⟩
  · refine (θ_run (Cert.OutProjIdeal.defs (F := Ideal)) _ _).mono (fun r h c => ?_) (Cert.OutProjIdeal.Value.run_blocks m g)
    exact ⟨(h c).1.trans (Cert.OutProjIdeal.Hand.result m c), (h c).2⟩
  · refine (θ_run (Cert.OutProjRefIdeal.defs (F := Ideal)) _ _).mono (fun r h c => ?_) (Cert.OutProjRefIdeal.Value.run m' g')
    refine ⟨(h c).1.trans ?_, (h c).2⟩
    rw [(hargs c).1, (hargs c).2.1, (hargs c).2.2]

/-- The second feed-forward matrix: both programs run, and from equal arguments the results are equal. -/
theorem algebraic_FfnOut : Cert.algebraic_FfnOutIdeal_FfnOutRefIdeal (hFfnOutIdeal := Cert.FfnOutIdeal.Gen.facts)
    (hFfnOutRefIdeal := Cert.FfnOutRefIdeal.Gen.facts) := by
  intro m g m' g' _ hargs
  refine ⟨fun c => Cert.FfnOutIdeal.Hand.target m c, ?_, ?_⟩
  · refine (θ_run (Cert.FfnOutIdeal.defs (F := Ideal)) _ _).mono (fun r h c => ?_) (Cert.FfnOutIdeal.Value.run_blocks m g)
    exact ⟨(h c).1.trans (Cert.FfnOutIdeal.Hand.result m c), (h c).2⟩
  · refine (θ_run (Cert.FfnOutRefIdeal.defs (F := Ideal)) _ _).mono (fun r h c => ?_) (Cert.FfnOutRefIdeal.Value.run m' g')
    refine ⟨(h c).1.trans ?_, (h c).2⟩
    rw [(hargs c).1, (hargs c).2.1, (hargs c).2.2]

/-- The gated per-layer embedding: both programs run, and from equal arguments the results are equal. -/
theorem algebraic_Ple : Cert.algebraic_PleIdeal_PleRefIdeal (hPleIdeal := Cert.PleIdeal.Gen.facts)
    (hPleRefIdeal := Cert.PleRefIdeal.Gen.facts) := by
  intro m g m' g' _ hargs
  refine ⟨fun c => Cert.PleIdeal.Hand.target m c, ?_, ?_⟩
  · refine (θ_run (Cert.PleIdeal.defs (F := Ideal)) _ _).mono (fun r h c => ?_) (Cert.PleIdeal.Value.run_blocks m g)
    exact ⟨(h c).1.trans (Cert.PleIdeal.Hand.result m c), (h c).2⟩
  · refine (θ_run (Cert.PleRefIdeal.defs (F := Ideal)) _ _).mono (fun r h c => ?_) (Cert.PleRefIdeal.Value.run m' g')
    refine ⟨(h c).1.trans ?_, (h c).2⟩
    rw [(hargs c).1, (hargs c).2.1, (hargs c).2.2.1, (hargs c).2.2.2.1, (hargs c).2.2.2.2]

/-- The gated merge of the two branches: both programs run, and from equal arguments the results are equal. -/
theorem algebraic_Merge : Cert.algebraic_MergeIdeal_MergeRefIdeal (hMergeIdeal := Cert.MergeIdeal.Gen.facts)
    (hMergeRefIdeal := Cert.MergeRefIdeal.Gen.facts) := by
  intro m g m' g' _ hargs
  refine ⟨fun c => Cert.MergeIdeal.Hand.target m c, ?_, ?_⟩
  · refine (θ_run (Cert.MergeIdeal.defs (F := Ideal)) _ _).mono (fun r h c => ?_) (Cert.MergeIdeal.Value.run_blocks m g)
    exact ⟨(h c).1.trans (Cert.MergeIdeal.Hand.result m c), (h c).2⟩
  · refine (θ_run (Cert.MergeRefIdeal.defs (F := Ideal)) _ _).mono (fun r h c => ?_) (Cert.MergeRefIdeal.Value.run m' g')
    refine ⟨(h c).1.trans ?_, (h c).2⟩
    rw [(hargs c).1, (hargs c).2.1, (hargs c).2.2.1, (hargs c).2.2.2.1, (hargs c).2.2.2.2]

/-- The first feed-forward matrix with its gated convolution: both programs run, and from equal arguments the results are equal. -/
theorem algebraic_FfnIn : Cert.algebraic_FfnInIdeal_FfnInRefIdeal (hFfnInIdeal := Cert.FfnInIdeal.Gen.facts)
    (hFfnInRefIdeal := Cert.FfnInRefIdeal.Gen.facts) := by
  intro m g m' g' _ hargs
  refine ⟨fun c => Cert.FfnInIdeal.Hand.target m c, ?_, ?_⟩
  · exact Cert.FfnInIdeal.Hand.run_target m g
  · refine (θ_run (Cert.FfnInRefIdeal.defs (F := Ideal)) _ _).mono (fun r h c => ?_) (Cert.FfnInRefIdeal.Value.run m' g')
    refine ⟨(h c).1.trans ?_, (h c).2⟩
    rw [Cert.FfnInRefIdeal.Hand.goal_eq, (hargs c).1, (hargs c).2.1, (hargs c).2.2.1, (hargs c).2.2.2]

end Cert.Proof

end
-- ==== Proof.AttnSum.lean ====
/- The running maxima and sums of the attention, as real numbers. -/
module

public import Idealize.ShloMosaic.PureOps.Ideal
public import Idealize.ShloMosaic.PureOps.Ideal.Laws

@[expose] public section

noncomputable section

namespace Cert.Attn.Hand

open Idealize.ShloMosaic

/-- A sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of numbers below `⊤`, one of them real, is real. -/
theorem fold_max_real {ι : Type} (s : Finset ι) (f : ι → EReal) (htop : ∀ k ∈ s, f k ≠ ⊤) (k₀ : ι) (hk : k₀ ∈ s) (h₀ : f k₀ ≠ ⊥) :
    ∃ ν : ℝ, s.fold max ⊥ f = (ν : EReal) := by
  have hle : f k₀ ≤ s.fold max ⊥ f := (Finset.le_fold_max _).mpr (Or.inr ⟨k₀, hk, le_rfl⟩)
  have hlt : s.fold max ⊥ f < ⊤ := Finset.fold_max_lt _ |>.mpr ⟨bot_lt_top, fun k hk => lt_top_iff_ne_top.mpr (htop k hk)⟩
  refine ⟨(s.fold max ⊥ f).toReal, (EReal.coe_toReal hlt.ne fun hb => h₀ ?_).symm⟩
  exact le_bot_iff.mp (hb ▸ hle)

/-- The state of a block of 512 columns after the first `L` keys of each: the running maximum and the running sums, weighted by
    powers of two below it. -/
def Held (L : Fin 512 → ℕ) (σ : Fin 512 → ℕ → ℝ) (w : Fin 144 → ℕ → ℝ) (mm : Fin 512 → EReal) (aa : Fin 144 → Fin 512 → EReal) : Prop :=
  ∀ y, (L y = 0 ∧ mm y = ⊥ ∧ ∀ r, aa r y = 0) ∨
    ∃ μ : ℝ, mm y = (μ : EReal) ∧ ∀ r, aa r y = ((∑ k ∈ Finset.range (L y), Real.rpow 2 (σ y k - μ) * w r k : ℝ) : EReal)

/-- A sum over the keys of a block that are seen is the part of the sum over all of them. -/
theorem sum_block (n base l : ℕ) (hl : base ≤ l) (hn : l ≤ base + n) (f : ℕ → ℝ) :
    ∑ k ∈ Finset.range l, f k = ∑ k ∈ Finset.range base, f k + ∑ k : Fin n, if base + k.val < l then f (base + k.val) else 0 := by
  obtain ⟨d, rfl⟩ : ∃ d, l = base + d := ⟨l - base, by omega⟩
  rw [Finset.sum_range_add]
  congr 1
  rw [← Finset.sum_range (n := n) fun k => if base + k < base + d then f (base + k) else 0, ← Finset.sum_filter]
  refine Finset.sum_congr ?_ fun _ _ => rfl
  ext k
  simp only [Finset.mem_range, Finset.mem_filter]
  omega

/-- One block of keys more. -/
theorem held_step (n base : ℕ) (L : Fin 512 → ℕ) (hlo : ∀ y, base < L y) (hhi : ∀ y, L y ≤ base + n)
    (σ : Fin 512 → ℕ → ℝ) (w : Fin 144 → ℕ → ℝ) (mm : Fin 512 → EReal) (aa : Fin 144 → Fin 512 → EReal)
    (h : Held (fun _ => base) σ w mm aa) (s : Fin n → Fin 512 → EReal) (vt : Fin 144 → Fin n → EReal)
    (hs : ∀ k y, s k y = if base + k.val < L y then ((σ y (base + k.val) : ℝ) : EReal) else ⊥)
    (hv : ∀ r k, vt r k = ((w r (base + k.val) : ℝ) : EReal))
    (mm' : Fin 512 → EReal) (hm : ∀ y, mm' y = max (mm y) (Finset.univ.fold max ⊥ fun k => s k y))
    (aa' : Fin 144 → Fin 512 → EReal)
    (ha : ∀ r y, aa' r y = Ideal.exp2 (mm y - mm' y) * aa r y + ∑ k, vt r k * Ideal.exp2 (s k y - mm' y)) :
    Held L σ w mm' aa' := by
  intro y
  right
  have hn : 0 < n := by have := hlo y; have := hhi y; omega
  obtain ⟨ν, hν⟩ := fold_max_real Finset.univ (fun k => s k y)
    (fun k _ => by rw [hs]; split_ifs; exacts [EReal.coe_ne_top _, bot_ne_top]) ⟨0, hn⟩ (Finset.mem_univ _)
    (by rw [hs, if_pos (by simpa using hlo y)]; exact EReal.coe_ne_bot _)
  have hsum : ∀ (M : ℝ) r, (∑ k, vt r k * Ideal.exp2 (s k y - (M : EReal)))
      = ((∑ k : Fin n, if base + k.val < L y then Real.rpow 2 (σ y (base + k.val) - M) * w r (base + k.val) else 0 : ℝ) : EReal) := by
    intro M r
    rw [coe_sum]
    refine Finset.sum_congr rfl fun k _ => ?_
    rw [hs, hv]
    split_ifs
    · rw [← EReal.coe_sub, Ideal.exp2_coe, ← EReal.coe_mul, mul_comm]
    · rw [EReal.bot_sub, Ideal.exp2_bot, mul_zero, EReal.coe_zero]
  rcases h y with ⟨h0, hmy, hay⟩ | ⟨μ, hmy, hay⟩
  · refine ⟨ν, by rw [hm, hmy, hν, max_eq_right bot_le], fun r => ?_⟩
    have e : mm' y = (ν : EReal) := by rw [hm, hmy, hν, max_eq_right bot_le]
    rw [ha, e, hsum, hay, mul_zero, zero_add, sum_block n base (L y) (hlo y).le (hhi y)]
    have hb : base = 0 := h0
    subst hb
    simp
  · have e : mm' y = ((max μ ν : ℝ) : EReal) := by rw [hm, hmy, hν]; exact (EReal.coe_strictMono.monotone.map_max (a := μ) (b := ν)).symm
    refine ⟨max μ ν, e, fun r => ?_⟩
    rw [ha, e, hsum, hay, hmy, ← EReal.coe_sub, Ideal.exp2_coe, ← EReal.coe_mul, ← EReal.coe_add,
      sum_block n base (L y) (hlo y).le (hhi y), Finset.mul_sum]
    congr 2
    refine Finset.sum_congr rfl fun k _ => ?_
    have : Real.rpow 2 (σ y k - max μ ν) = Real.rpow 2 (μ - max μ ν) * Real.rpow 2 (σ y k - μ) := by
      simp only [Real.rpow_eq_pow]
      rw [← Real.rpow_add two_pos]; congr 1; ring
    rw [this, mul_assoc]

/-- The quotient of two such sums is free of the maximum: it is the quotient of the sums of the exponentials. -/
theorem quotient (l : ℕ) (hl : 0 < l) (t v : ℕ → ℝ) (μ : ℝ) :
    Ideal.div ((∑ k ∈ Finset.range l, Real.rpow 2 ((1 / 8 * (Real.log 2)⁻¹) * t k - μ) * v k : ℝ) : EReal)
      ((∑ k ∈ Finset.range l, Real.rpow 2 ((1 / 8 * (Real.log 2)⁻¹) * t k - μ) * 1 : ℝ) : EReal)
      = (((∑ k ∈ Finset.range l, Real.exp (t k / 8) * v k) / ∑ k ∈ Finset.range l, Real.exp (t k / 8) : ℝ) : EReal) := by
  have hl2 : Real.log 2 ≠ 0 := (Real.log_pos one_lt_two).ne'
  have e : ∀ k, Real.rpow 2 ((1 / 8 * (Real.log 2)⁻¹) * t k - μ) = Real.rpow 2 (-μ) * Real.exp (t k / 8) := by
    intro k
    simp only [Real.rpow_eq_pow]
    rw [sub_eq_neg_add, Real.rpow_add two_pos, Real.rpow_def_of_pos two_pos (_ * _)]
    congr 2
    field_simp
  have hp : 0 < Real.rpow 2 (-μ) := Real.rpow_pos_of_pos two_pos _
  have hE : 0 < ∑ k ∈ Finset.range l, Real.exp (t k / 8) :=
    Finset.sum_pos (fun k _ => Real.exp_pos _) (Finset.nonempty_range_iff.mpr hl.ne')
  have hA : ∑ k ∈ Finset.range l, Real.rpow 2 ((1 / 8 * (Real.log 2)⁻¹) * t k - μ) * v k
      = Real.rpow 2 (-μ) * ∑ k ∈ Finset.range l, Real.exp (t k / 8) * v k := by
    rw [Finset.mul_sum]
    exact Finset.sum_congr rfl fun k _ => by rw [e, mul_assoc]
  have hB : ∑ k ∈ Finset.range l, Real.rpow 2 ((1 / 8 * (Real.log 2)⁻¹) * t k - μ) * 1
      = Real.rpow 2 (-μ) * ∑ k ∈ Finset.range l, Real.exp (t k / 8) := by
    rw [Finset.mul_sum]
    exact Finset.sum_congr rfl fun k _ => by rw [e, mul_one]
  rw [hA, hB]
  unfold Ideal.div
  rw [if_neg (by rw [EReal.coe_eq_zero]; exact (mul_pos hp hE).ne'), ← EReal.coe_inv, ← EReal.coe_mul]
  congr 1
  rw [← div_eq_mul_inv, mul_div_mul_left _ _ hp.ne']

end Cert.Attn.Hand
-- ==== Proof.AttnStep.lean ====
/- One item of the attention: a block of keys against a block of 512 columns. -/
module

public import proofs.«01_k».proof.Proof.Gen.AttnIdeal.Value
public import proofs.«01_k».proof.Proof.AttnSum
public import Idealize.ShloMosaic.Lib.Pointwise
public import Idealize.ShloMosaic.Lib.Pipeline.ReadBack

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem

/-- The largest score of a column. -/
theorem max_apply (n : ℕ) (s : FVec Ideal (⟨2, ![n, 512]⟩ : Shape) .f32) (hr : (⟨2, ![n, 512]⟩ : Shape).Reduces [0] S512)
    (h1 : FKind.Formats .f32) (h2 : 0xFF800000#32 = FKind.maximumf.neutral .f32 h1) (y : Fin 512) :
    multiReduction (F := Ideal) .maximumf [0] S512 s 0xFF800000#32 hr h1 h2 (ix1 y) = Finset.univ.fold max ⊥ fun k : Fin n => s (ix2 k y) := by
  rw [Ideal.multiReduction_maximumf_single]
  have hb : FloatOps.ofBits (F := Ideal) .f32 0xFF800000#32 = (⊥ : EReal) := by first | exact Ideal.ofBits_neg_inf_f32 | rfl | simp [Ideal.ofBits]
  rw [hb]
  refine Finset.fold_congr fun k _ => congrArg s ?_
  funext a
  match a with
  | ⟨0, _⟩ => exact Fin.ext (by rw [Shape.Reduces.lift_val]; rfl)
  | ⟨1, _⟩ => exact Fin.ext (by rw [Shape.Reduces.lift_val]; rfl)

theorem scores512_apply (kb : FVec Ideal S512x128 .bf16) (qh : FVec Ideal S512x128 .bf16) (k y : Fin 512) :
    matmul (F := Ideal) dot_S512x128_S512x128_S512x512_1_1_0_0_n_n none kb qh (constant S512x512 .f32 0#32) (ix2 k y)
      = ∑ d : Fin 128, kb (ix2 k d) * qh (ix2 y d) := by
  pointwise

theorem scores256_apply (kb : FVec Ideal S256x128 .bf16) (qh : FVec Ideal S512x128 .bf16) (k : Fin 256) (y : Fin 512) :
    matmul (F := Ideal) dot_S256x128_S512x128_S256x512_1_1_0_0_n_n none kb qh (constant S256x512 .f32 0#32) (ix2 k y)
      = ∑ d : Fin 128, kb (ix2 k d) * qh (ix2 y d) := by
  pointwise

theorem weigh512_apply (vt : FVec Ideal S144x512 .bf16) (p : FVec Ideal S512x512 .bf16) (r : Fin 144) (y : Fin 512) :
    matmul (F := Ideal) dot_S144x512_S512x512_S144x512_1_0_0_1_n_n none vt p (constant S144x512 .f32 0#32) (ix2 r y)
      = ∑ k : Fin 512, vt (ix2 r k) * p (ix2 k y) := by
  pointwise

theorem weigh256_apply (vt : FVec Ideal S144x256 .bf16) (p : FVec Ideal S256x512 .bf16) (r : Fin 144) (y : Fin 512) :
    matmul (F := Ideal) dot_S144x256_S256x512_S144x512_1_0_0_1_n_n none vt p (constant S144x512 .f32 0#32) (ix2 r y)
      = ∑ k : Fin 256, vt (ix2 r k) * p (ix2 k y) := by
  pointwise

/-- The new running maximum. -/
abbrev newMax {n : ℕ} (s : FVec Ideal (⟨2, ![n, 512]⟩ : Shape) .f32) (hr : (⟨2, ![n, 512]⟩ : Shape).Reduces [0] S512)
    (h1 : FKind.Formats .f32) (h2 : 0xFF800000#32 = FKind.maximumf.neutral .f32 h1) (hc : S512.ShapeCasts S1x512)
    (mm : FVec Ideal S1x512 .f32) : FVec Ideal S1x512 .f32 :=
  maximumf (F := Ideal) mm (shapeCast S1x512 (multiReduction (F := Ideal) .maximumf [0] S512 s 0xFF800000#32 hr h1 h2) hc)

theorem newMax_apply {n : ℕ} (s : FVec Ideal (⟨2, ![n, 512]⟩ : Shape) .f32) (hr : (⟨2, ![n, 512]⟩ : Shape).Reduces [0] S512)
    (h1 : FKind.Formats .f32) (h2 : 0xFF800000#32 = FKind.maximumf.neutral .f32 h1) (hc : S512.ShapeCasts S1x512)
    (mm : FVec Ideal S1x512 .f32) (y : Fin 512) :
    newMax s hr h1 h2 hc mm (ix2 0 y) = max (mm (ix2 0 y) : EReal) (Finset.univ.fold max ⊥ fun k : Fin n => s (ix2 k y)) := by
  have hcast : ∀ t : FVec Ideal S512 .f32, shapeCast S1x512 t hc (ix2 0 y) = t (ix1 y) := fun t => by pointwise
  show max (mm (ix2 0 y) : EReal) (shapeCast S1x512 _ hc (ix2 0 y)) = _
  rw [hcast, max_apply]

/-- The new running sums, for a block of 512 keys. -/
abbrev newAcc512 (hb : S1x512.Broadcasts S144x512) (hb' : S1x512.Broadcasts S512x512) (hlt : FTy.bits .bf16 < FTy.bits .f32)
    (mm M : FVec Ideal S1x512 .f32) (aa : FVec Ideal S144x512 .f32) (vt : FVec Ideal S144x512 .bf16) (s : FVec Ideal S512x512 .f32) :
    FVec Ideal S144x512 .f32 :=
  addf (F := Ideal) (mulf (broadcastTo S144x512 (exp2 (subf mm M)) hb) aa)
    (matmul (F := Ideal) dot_S144x512_S512x512_S144x512_1_0_0_1_n_n none vt
      (exp2 (truncf (F := Ideal) .bf16 (subf s (broadcastTo S512x512 M hb')) hlt)) (constant S144x512 .f32 0#32))

theorem newAcc512_apply (hb : S1x512.Broadcasts S144x512) (hb' : S1x512.Broadcasts S512x512) (hlt : FTy.bits .bf16 < FTy.bits .f32)
    (mm M : FVec Ideal S1x512 .f32) (aa : FVec Ideal S144x512 .f32) (vt : FVec Ideal S144x512 .bf16) (s : FVec Ideal S512x512 .f32)
    (r : Fin 144) (y : Fin 512) :
    newAcc512 hb hb' hlt mm M aa vt s (ix2 r y)
      = Ideal.exp2 ((mm (ix2 0 y) : EReal) - M (ix2 0 y)) * aa (ix2 r y)
        + ∑ k : Fin 512, vt (ix2 r k) * Ideal.exp2 ((s (ix2 k y) : EReal) - M (ix2 0 y)) := by
  pointwise [newAcc512]
  rfl

/-- The new running sums, for a block of 256 keys. -/
abbrev newAcc256 (hb : S1x512.Broadcasts S144x512) (hb' : S1x512.Broadcasts S256x512) (hlt : FTy.bits .bf16 < FTy.bits .f32)
    (mm M : FVec Ideal S1x512 .f32) (aa : FVec Ideal S144x512 .f32) (vt : FVec Ideal S144x256 .bf16) (s : FVec Ideal S256x512 .f32) :
    FVec Ideal S144x512 .f32 :=
  addf (F := Ideal) (mulf (broadcastTo S144x512 (exp2 (subf mm M)) hb) aa)
    (matmul (F := Ideal) dot_S144x256_S256x512_S144x512_1_0_0_1_n_n none vt
      (exp2 (truncf (F := Ideal) .bf16 (subf s (broadcastTo S256x512 M hb')) hlt)) (constant S144x512 .f32 0#32))

theorem newAcc256_apply (hb : S1x512.Broadcasts S144x512) (hb' : S1x512.Broadcasts S256x512) (hlt : FTy.bits .bf16 < FTy.bits .f32)
    (mm M : FVec Ideal S1x512 .f32) (aa : FVec Ideal S144x512 .f32) (vt : FVec Ideal S144x256 .bf16) (s : FVec Ideal S256x512 .f32)
    (r : Fin 144) (y : Fin 512) :
    newAcc256 hb hb' hlt mm M aa vt s (ix2 r y)
      = Ideal.exp2 ((mm (ix2 0 y) : EReal) - M (ix2 0 y)) * aa (ix2 r y)
        + ∑ k : Fin 256, vt (ix2 r k) * Ideal.exp2 ((s (ix2 k y) : EReal) - M (ix2 0 y)) := by
  pointwise [newAcc256]
  rfl

section Lists
variable {κ3 κ4 : Kind} {sp3 sp4 : Space} (v3 : View sig κ3 sp3 S1x1024 .f32) (v4 : View sig κ4 sp4 S144x1024 .f32)
    (L3 : List (View.Piece (Elt Ideal) S1x1024 .f32)) (L4 : List (View.Piece (Elt Ideal) S144x1024 .f32))

/-- The columns from `o` on of the row of running maxima, and of the running sums. -/
abbrev cols3 (o : ℕ) (h : ∀ a, (![0, o] : Fin 2 → ℕ) a + S1x512.size a ≤ S1x1024.size a) : Rect S1x1024 :=
  Rect.unit (s := S1x1024) ![0, o] S1x512.size h

abbrev cols4 (o : ℕ) (h : ∀ a, (![0, o] : Fin 2 → ℕ) a + S144x512.size a ≤ S144x1024.size a) : Rect S144x1024 :=
  Rect.unit (s := S144x1024) ![0, o] S144x512.size h

abbrev Fits3 (o : ℕ) : Prop := ∀ a, (![0, o] : Fin 2 → ℕ) a + S1x512.size a ≤ S1x1024.size a
abbrev Fits4 (o : ℕ) : Prop := ∀ a, (![0, o] : Fin 2 → ℕ) a + S144x512.size a ≤ S144x1024.size a

/-- The columns from `o` on of the running maxima and sums, as the stores so far leave them. -/
def At (o : ℕ) (h3 : Fits3 o) (h4 : Fits4 o)
    (L : Fin 512 → ℕ) (σ : Fin 512 → ℕ → ℝ) (w : Fin 144 → ℕ → ℝ) : Prop :=
  Held L σ w (fun y => v3.readCov L3 (cols3 o h3).toLoadRect (ix2 0 y)) (fun r y => v4.readCov L4 (cols4 o h4).toLoadRect (ix2 r y))

variable {v3 v4 L3 L4}

/-- A store into other columns changes nothing. -/
theorem At.skip {o o' : ℕ} {h3 : Fits3 o} {h4 : Fits4 o} {L : Fin 512 → ℕ} {σ : Fin 512 → ℕ → ℝ} {w : Fin 144 → ℕ → ℝ}
    (h : At v3 v4 L3 L4 o h3 h4 L σ w) (ho : o + 512 ≤ o' ∨ o' + 512 ≤ o)
    (g3 : Fits3 o') (x3 : FVec Ideal S1x512 .f32) (g4 : Fits4 o') (x4 : FVec Ideal S144x512 .f32) :
    At v3 v4 (⟨cols3 o' g3, x3⟩ :: L3) (⟨cols4 o' g4, x4⟩ :: L4) o h3 h4 L σ w := by
  unfold At
  rw [View.readCov_skip, View.readCov_skip]
  · exact h
  · refine decide_eq_true ⟨1, Or.inr (Or.inr ?_)⟩
    show o' + 1 * (512 - 1) < o ∨ o + 1 * (512 - 1) < o'
    omega
  · refine decide_eq_true ⟨1, Or.inr (Or.inr ?_)⟩
    show o' + 1 * (512 - 1) < o ∨ o + 1 * (512 - 1) < o'
    omega

/-- The scores of a block of 512 keys with the keys not seen left out, then one item of the attention. -/
theorem At.step512 {o base : ℕ} {h3 : Fits3 o} {h4 : Fits4 o} {L : Fin 512 → ℕ} {σ : Fin 512 → ℕ → ℝ} {w : Fin 144 → ℕ → ℝ}
    (h : At v3 v4 L3 L4 o h3 h4 (fun _ => base) σ w) (hlo : ∀ y, base < L y) (hhi : ∀ y, L y ≤ base + 512)
    (s : FVec Ideal S512x512 .f32) (hs : ∀ k y, s (ix2 k y) = if base + k.val < L y then ((σ y (base + k.val) : ℝ) : EReal) else ⊥)
    (vt : FVec Ideal S144x512 .bf16) (hv : ∀ r k, vt (ix2 r k) = ((w r (base + k.val) : ℝ) : EReal))
    {hr : S512x512.Reduces [0] S512} {e1 : FKind.Formats .f32} {e2 : 0xFF800000#32 = FKind.maximumf.neutral .f32 e1} {hc : S512.ShapeCasts S1x512}
    {hb : S1x512.Broadcasts S144x512} {hb' : S1x512.Broadcasts S512x512} {hlt : FTy.bits .bf16 < FTy.bits .f32}
    {c3 : S1x512.ShapeCasts S1x512} {c4 : S144x512.ShapeCasts S144x512} :
    At v3 v4
      (⟨cols3 o h3, shapeCast S1x512 (newMax s hr e1 e2 hc (v3.readCov L3 (cols3 o h3).toLoadRect)) c3⟩ :: L3)
      (⟨cols4 o h4, shapeCast S144x512 (newAcc512 hb hb' hlt (v3.readCov L3 (cols3 o h3).toLoadRect)
        (newMax s hr e1 e2 hc (v3.readCov L3 (cols3 o h3).toLoadRect)) (v4.readCov L4 (cols4 o h4).toLoadRect) vt s) c4⟩ :: L4)
      o h3 h4 L σ w := by
  unfold At at h ⊢
  rw [View.readCov_cons_toLoadRect, View.readCov_cons_toLoadRect, shapeCast_self, shapeCast_self]
  exact held_step 512 base L hlo hhi σ w _ _ h (fun k y => s (ix2 k y)) (fun r k => vt (ix2 r k)) hs hv _
    (fun y => newMax_apply s hr e1 e2 hc _ y) _ (fun r y => newAcc512_apply hb hb' hlt _ _ _ vt s r y)

/-- The same for a block of 256 keys. -/
theorem At.step256 {o base : ℕ} {h3 : Fits3 o} {h4 : Fits4 o} {L : Fin 512 → ℕ} {σ : Fin 512 → ℕ → ℝ} {w : Fin 144 → ℕ → ℝ}
    (h : At v3 v4 L3 L4 o h3 h4 (fun _ => base) σ w) (hlo : ∀ y, base < L y) (hhi : ∀ y, L y ≤ base + 256)
    (s : FVec Ideal S256x512 .f32) (hs : ∀ k y, s (ix2 k y) = if base + k.val < L y then ((σ y (base + k.val) : ℝ) : EReal) else ⊥)
    (vt : FVec Ideal S144x256 .bf16) (hv : ∀ r k, vt (ix2 r k) = ((w r (base + k.val) : ℝ) : EReal))
    {hr : S256x512.Reduces [0] S512} {e1 : FKind.Formats .f32} {e2 : 0xFF800000#32 = FKind.maximumf.neutral .f32 e1} {hc : S512.ShapeCasts S1x512}
    {hb : S1x512.Broadcasts S144x512} {hb' : S1x512.Broadcasts S256x512} {hlt : FTy.bits .bf16 < FTy.bits .f32}
    {c3 : S1x512.ShapeCasts S1x512} {c4 : S144x512.ShapeCasts S144x512} :
    At v3 v4
      (⟨cols3 o h3, shapeCast S1x512 (newMax s hr e1 e2 hc (v3.readCov L3 (cols3 o h3).toLoadRect)) c3⟩ :: L3)
      (⟨cols4 o h4, shapeCast S144x512 (newAcc256 hb hb' hlt (v3.readCov L3 (cols3 o h3).toLoadRect)
        (newMax s hr e1 e2 hc (v3.readCov L3 (cols3 o h3).toLoadRect)) (v4.readCov L4 (cols4 o h4).toLoadRect) vt s) c4⟩ :: L4)
      o h3 h4 L σ w := by
  unfold At at h ⊢
  rw [View.readCov_cons_toLoadRect, View.readCov_cons_toLoadRect, shapeCast_self, shapeCast_self]
  exact held_step 256 base L hlo hhi σ w _ _ h (fun k y => s (ix2 k y)) (fun r k => vt (ix2 r k)) hs hv _
    (fun y => newMax_apply s hr e1 e2 hc _ y) _ (fun r y => newAcc256_apply hb hb' hlt _ _ _ vt s r y)

end Lists

end Cert.AttnIdeal.Hand
-- ==== Proof.AttnMask.lean ====
/- The masks of the attention: which keys of the diagonal block a column sees, which columns hold a component. -/
module

public import proofs.«01_k».proof.Proof.Gen.AttnIdeal.Value
public import Idealize.ShloMosaic.Lib.Pointwise

@[expose] public section

set_option maxRecDepth 16384

noncomputable section

namespace Cert.AttnIdeal.Hand

open Cert.AttnIdeal Cert.AttnIdeal.Gen Idealize.ShloMosaic Idealize.ShloMosaic.TcCoe Idealize.SL.Sem

/-- The words at or below their divisor's multiple: the quotient by 64, rounded down. -/
abbrev chunkOf (S : Shape) (x : IVec S 32) (hlt : 1 < 32) : IVec S 32 :=
  select (andi (cmpi .ne (subi (extui 32 (cmpi .sgt x (broadcast S 0#32)) hlt) (extui 32 (cmpi .slt x (broadcast S 0#32)) hlt)) (broadcast S 1#32))
      (cmpi .ne (remsi x (broadcast S 64#32)) (broadcast S 0#32)))
    (subi (divsi x (broadcast S 64#32)) (broadcast S 1#32)) (divsi x (broadcast S 64#32))

/-- The remainder by 256, not negative. -/
abbrev within (S : Shape) (x : IVec S 32) (hb : S.Broadcasts S) : IVec S 32 :=
  select (andi (xori (cmpi .slt (remsi x (broadcast S 256#32)) (broadcast S 0#32)) (broadcastTo S (broadcast S 0#1) hb))
      (cmpi .ne (remsi x (broadcast S 256#32)) (broadcast S 0#32)))
    (addi (remsi x (broadcast S 256#32)) (broadcast S 256#32)) (remsi x (broadcast S 256#32))

/-- Which keys of a block a column sees, for queries from `off` on. -/
abbrev sees (S : Shape) (off : BitVec 32) (k y : IVec S 32) (hlt : 1 < 32) (hb : S.Broadcasts S) : IVec S 1 :=
  cmpi .sle (chunkOf S k hlt) (chunkOf S (addi (within S y hb) (broadcast S off)) hlt)

/-- The quotient of one word. -/
def quot (x : BitVec 32) : BitVec 32 :=
  Scalar.select (IntOp.andi (IntOp.cmpi .ne (IntOp.subi (BitVec.setWidth 32 (IntOp.cmpi .sgt x 0#32)) (BitVec.setWidth 32 (IntOp.cmpi .slt x 0#32))) 1#32)
      (IntOp.cmpi .ne (IntOp.remsi .vector x 64#32) 0#32))
    (IntOp.subi (IntOp.divsi .vector x 64#32) 1#32) (IntOp.divsi .vector x 64#32)

/-- The remainder of one word. -/
def rest (x : BitVec 32) : BitVec 32 :=
  Scalar.select (IntOp.andi (IntOp.xori (IntOp.cmpi .slt (IntOp.remsi .vector x 256#32) 0#32) 0#1) (IntOp.cmpi .ne (IntOp.remsi .vector x 256#32) 0#32))
    (IntOp.addi (IntOp.remsi .vector x 256#32) 256#32) (IntOp.remsi .vector x 256#32)

theorem quot_eq : ∀ k : Fin 512, quot (BitVec.ofNat 32 k.val) = BitVec.ofNat 32 (k.val / 64) := by decide +kernel

theorem rest_eq : ∀ y : Fin 512, rest (BitVec.ofNat 32 y.val) = BitVec.ofNat 32 (y.val % 256) := by decide +kernel

theorem quot_rest_eq : ∀ y : Fin 512, quot (IntOp.addi (rest (BitVec.ofNat 32 y.val)) 0#32) = BitVec.ofNat 32 (y.val % 256 / 64)
    ∧ quot (IntOp.addi (rest (BitVec.ofNat 32 y.val)) 256#32) = BitVec.ofNat 32 ((y.val % 256 + 256) / 64) := by decide +kernel

theorem sle_eq : ∀ a b : Fin 8, IntOp.cmpi .sle (BitVec.ofNat 32 a.val) (BitVec.ofNat 32 b.val) = if a.val ≤ b.val then 1#1 else 0#1 := by
  decide +kernel

theorem sees512_apply (hlt : 1 < 32) (hb : S512x512.Broadcasts S512x512) (k y : Fin 512) :
    sees S512x512 256#32 (iota .tc S512x512 32 [0] iota_S512x512_d0_w32) (iota .tc S512x512 32 [1] iota_S512x512_d1_w32) hlt hb (ix2 k y)
      = if k.val / 64 ≤ (y.val % 256 + 256) / 64 then 1#1 else 0#1 := by
  have e : sees S512x512 256#32 (iota .tc S512x512 32 [0] iota_S512x512_d0_w32) (iota .tc S512x512 32 [1] iota_S512x512_d1_w32) hlt hb (ix2 k y)
      = IntOp.cmpi .sle (quot (BitVec.ofNat 32 k.val)) (quot (IntOp.addi (rest (BitVec.ofNat 32 y.val)) 256#32)) := by
    pointwise [sees, chunkOf, within, quot, rest]
  rw [e, quot_eq, (quot_rest_eq y).2]
  exact sle_eq ⟨k.val / 64, by omega⟩ ⟨(y.val % 256 + 256) / 64, by omega⟩

theorem sees256_apply (hlt : 1 < 32) (hb : S256x512.Broadcasts S256x512) (k : Fin 256) (y : Fin 512) :
    sees S256x512 0#32 (iota .tc S256x512 32 [0] iota_S256x512_d0_w32) (iota .tc S256x512 32 [1] iota_S256x512_d1_w32) hlt hb (ix2 k y)
      = if k.val / 64 ≤ (y.val % 256) / 64 then 1#1 else 0#1 := by
  have e : sees S256x512 0#32 (iota .tc S256x512 32 [0] iota_S256x512_d0_w32) (iota .tc S256x512 32 [1] iota_S256x512_d1_w32) hlt hb (ix2 k y)
      = IntOp.cmpi .sle (quot (BitVec.ofNat 32 k.val)) (quot (IntOp.addi (rest (BitVec.ofNat 32 y.val)) 0#32)) := by
    pointwise [sees, chunkOf, within, quot, rest]
  have hk : quot (BitVec.ofNat 32 k.val) = BitVec.ofNat 32 (k.val / 64) := quot_eq ⟨k.val, by omega⟩
  rw [e, hk, (quot_rest_eq y).1]
  exact sle_eq ⟨k.val / 64, by omega⟩ ⟨(y.val % 256) / 64, by omega⟩

end Cert.AttnIdeal.Hand
-- ==== Proof.AttnItems.lean ====
/- A block of keys against both blocks of 512 columns: the blocks before the diagonal, and the diagonal one. -/
module

public import proofs.«01_k».proof.Proof.AttnStep
public import proofs.«01_k».proof.Proof.AttnMask

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem

theorem trips1 (i : grid0.Coords) : Scf.trips (k0_t1_loop i).lb (k0_t1_loop i).ub (k0_t1_loop i).st = 0 := by
  have h : (i 2).val < 8 := (i 2).isLt
  unfold k0_t1_loop
  generalize (i 2).val = n at h ⊢
  interval_cases n <;> decide +kernel

theorem trips2 (i : grid0.Coords) : Scf.trips (k0_t2_loop i).lb (k0_t2_loop i).ub (k0_t2_loop i).st = 0 := by
  have h : (i 2).val < 8 := (i 2).isLt
  unfold k0_t2_loop
  generalize (i 2).val = n at h ⊢
  interval_cases n <;> decide +kernel

theorem fits3_0 : Fits3 0 := inb_S1x1024_S1x512_0_0
theorem fits3_1 : Fits3 512 := inb_S1x1024_S1x512_0_512
theorem fits4_0 : Fits4 0 := inb_S144x1024_S144x512_0_0
theorem fits4_1 : Fits4 512 := inb_S144x1024_S144x512_0_512

section Pairs
variable {κ3 κ4 : Kind} {sp3 sp4 : Space} {v3 : View sig κ3 sp3 S1x1024 .f32} {v4 : View sig κ4 sp4 S144x1024 .f32}
    {L3 : List (View.Piece (Elt Ideal) S1x1024 .f32)} {L4 : List (View.Piece (Elt Ideal) S144x1024 .f32)}

/-- Both blocks of columns, each with its own number of keys. -/
def Both (v3 : View sig κ3 sp3 S1x1024 .f32) (v4 : View sig κ4 sp4 S144x1024 .f32)
    (L3 : List (View.Piece (Elt Ideal) S1x1024 .f32)) (L4 : List (View.Piece (Elt Ideal) S144x1024 .f32))
    (L : Fin 2 → Fin 512 → ℕ) (σ : Fin 2 → Fin 512 → ℕ → ℝ) (w : Fin 144 → ℕ → ℝ) : Prop :=
  At v3 v4 L3 L4 0 fits3_0 fits4_0 (L 0) (σ 0) w ∧ At v3 v4 L3 L4 512 fits3_1 fits4_1 (L 1) (σ 1) w

/-- The score of a key for a column. -/
def score (kn : ℕ → Fin 128 → ℝ) (Q : Fin 2 → Fin 512 → Fin 128 → ℝ) (h : Fin 2) (y : Fin 512) (k : ℕ) : ℝ := ∑ d : Fin 128, kn k d * Q h y d

/-- The keys a column of the diagonal block sees. -/
def seen (base : ℕ) (h : Fin 2) (y : Fin 512) : ℕ := base + 64 * ((y.val % 256 + 256 * h.val) / 64 + 1)

theorem Both.init {P1 P2 : List (View.Piece (Elt Ideal) S1x1024 .f32) × List (View.Piece (Elt Ideal) S144x1024 .f32)}
    (h1 : P1 = ([], [])) (h2 : P2 = ([], [])) (σ : Fin 2 → Fin 512 → ℕ → ℝ) (w : Fin 144 → ℕ → ℝ) :
    Both v3 v4 (P2.1 ++ (P1.1 ++ [⟨Rect.unit (s := S1x1024) ![0, 0] S1x1024.size inb_S1x1024_S1x1024_0_0, k0_pay625 (F := Ideal)⟩]))
      (P2.2 ++ (P1.2 ++ [⟨Rect.unit (s := S144x1024) ![0, 0] S144x1024.size inb_S144x1024_S144x1024_0_0, k0_pay626 (F := Ideal)⟩])) (fun _ _ => 0) σ w := by
  subst h1 h2
  have z : ∀ a : Fin 2, (![0, 0] : Fin 2 → ℕ) a = 0 := by decide
  have hb : FloatOps.ofBits (F := Ideal) .f32 0xFF800000#32 = (⊥ : EReal) := by first | exact Ideal.ofBits_neg_inf_f32 | rfl | simp [Ideal.ofBits]
  have h0 : FloatOps.ofBits (F := Ideal) .f32 0x00000000#32 = (0 : EReal) := by simp [Ideal.ofBits, Ideal.ieee]
  have e3 : ∀ j, k0_pay625 (F := Ideal) j = (⊥ : EReal) := fun j => by rw [← hb]; rfl
  have e4 : ∀ j, k0_pay626 (F := Ideal) j = (0 : EReal) := fun j => by rw [← h0]; rfl
  constructor
  · intro y
    left
    simp only [List.nil_append]
    rw [View.readCov_fill v3 inb_S1x1024_S1x1024_0_0 _ _ _ z, View.readCov_fill v4 inb_S144x1024_S144x1024_0_0 _ _ _ z]
    exact ⟨trivial, e3 _, fun r => e4 _⟩
  · intro y
    left
    simp only [List.nil_append]
    rw [View.readCov_fill v3 inb_S1x1024_S1x1024_0_0 _ _ _ z, View.readCov_fill v4 inb_S144x1024_S144x1024_0_0 _ _ _ z]
    exact ⟨trivial, e3 _, fun r => e4 _⟩

variable {hr : S512x512.Reduces [0] S512} {hr' : S256x512.Reduces [0] S512} {e1 : FKind.Formats .f32} {e2 : 0xFF800000#32 = FKind.maximumf.neutral .f32 e1}
    {hc : S512.ShapeCasts S1x512} {hb : S1x512.Broadcasts S144x512} {hb' : S1x512.Broadcasts S512x512} {hb'' : S1x512.Broadcasts S256x512}
    {hlt : FTy.bits .bf16 < FTy.bits .f32} {c3 : S1x512.ShapeCasts S1x512} {c4 : S144x512.ShapeCasts S144x512}

/-- The two lists after one more item of 512 keys. -/
abbrev put3 (v3 : View sig κ3 sp3 S1x1024 .f32) (L3 : List (View.Piece (Elt Ideal) S1x1024 .f32)) (o : ℕ) (h3 : Fits3 o)
    (s : FVec Ideal S512x512 .f32) (hr : S512x512.Reduces [0] S512) (e1 : FKind.Formats .f32) (e2 : 0xFF800000#32 = FKind.maximumf.neutral .f32 e1)
    (hc : S512.ShapeCasts S1x512) (c3 : S1x512.ShapeCasts S1x512) : List (View.Piece (Elt Ideal) S1x1024 .f32) :=
  ⟨cols3 o h3, shapeCast S1x512 (newMax s hr e1 e2 hc (v3.readCov L3 (cols3 o h3).toLoadRect)) c3⟩ :: L3

abbrev put4 (v3 : View sig κ3 sp3 S1x1024 .f32) (v4 : View sig κ4 sp4 S144x1024 .f32)
    (L3 : List (View.Piece (Elt Ideal) S1x1024 .f32)) (L4 : List (View.Piece (Elt Ideal) S144x1024 .f32)) (o : ℕ) (h3 : Fits3 o) (h4 : Fits4 o)
    (vt : FVec Ideal S144x512 .bf16) (s : FVec Ideal S512x512 .f32) (hr : S512x512.Reduces [0] S512) (e1 : FKind.Formats .f32) (e2 : 0xFF800000#32 = FKind.maximumf.neutral .f32 e1)
    (hc : S512.ShapeCasts S1x512) (hb : S1x512.Broadcasts S144x512) (hb' : S1x512.Broadcasts S512x512)
    (hlt : FTy.bits .bf16 < FTy.bits .f32) (c4 : S144x512.ShapeCasts S144x512) : List (View.Piece (Elt Ideal) S144x1024 .f32) :=
  ⟨cols4 o h4, shapeCast S144x512 (newAcc512 hb hb' hlt (v3.readCov L3 (cols3 o h3).toLoadRect)
        (newMax s hr e1 e2 hc (v3.readCov L3 (cols3 o h3).toLoadRect)) (v4.readCov L4 (cols4 o h4).toLoadRect) vt s) c4⟩ :: L4

abbrev dots (kb q : FVec Ideal S512x128 .bf16) : FVec Ideal S512x512 .f32 :=
  matmul (F := Ideal) dot_S512x128_S512x128_S512x512_1_1_0_0_n_n none kb q (constant S512x512 .f32 0#32)

abbrev dots' (kb : FVec Ideal S256x128 .bf16) (q : FVec Ideal S512x128 .bf16) : FVec Ideal S256x512 .f32 :=
  matmul (F := Ideal) dot_S256x128_S512x128_S256x512_1_1_0_0_n_n none kb q (constant S256x512 .f32 0#32)

theorem dots_score {base : ℕ} {kn : ℕ → Fin 128 → ℝ} {Q : Fin 2 → Fin 512 → Fin 128 → ℝ} {kb q : FVec Ideal S512x128 .bf16}
    (hk : ∀ k d, kb (ix2 k d) = ((kn (base + k.val) d : ℝ) : EReal)) (h : Fin 2) (hq : ∀ y d, q (ix2 y d) = ((Q h y d : ℝ) : EReal)) (k y : Fin 512) :
    dots kb q (ix2 k y) = ((score kn Q h y (base + k.val) : ℝ) : EReal) := by
  refine (scores512_apply kb q k y).trans ?_
  simp only [hk, hq, ← EReal.coe_mul]
  exact (coe_sum _ _).symm

theorem dots_score' {base : ℕ} {kn : ℕ → Fin 128 → ℝ} {Q : Fin 2 → Fin 512 → Fin 128 → ℝ} {kb : FVec Ideal S256x128 .bf16} {q : FVec Ideal S512x128 .bf16}
    (hk : ∀ k d, kb (ix2 k d) = ((kn (base + k.val) d : ℝ) : EReal)) (h : Fin 2) (hq : ∀ y d, q (ix2 y d) = ((Q h y d : ℝ) : EReal)) (k : Fin 256) (y : Fin 512) :
    dots' kb q (ix2 k y) = ((score kn Q h y (base + k.val) : ℝ) : EReal) := by
  refine (scores256_apply kb q k y).trans ?_
  simp only [hk, hq, ← EReal.coe_mul]
  exact (coe_sum _ _).symm

/-- A block of keys before the diagonal. -/
theorem Both.full {base : ℕ} {kn : ℕ → Fin 128 → ℝ} {Q : Fin 2 → Fin 512 → Fin 128 → ℝ} {w : Fin 144 → ℕ → ℝ} {kb q0 q1 : FVec Ideal S512x128 .bf16} {vt : FVec Ideal S144x512 .bf16}
    (hk : ∀ k d, kb (ix2 k d) = ((kn (base + k.val) d : ℝ) : EReal)) (hq0 : ∀ y d, q0 (ix2 y d) = ((Q 0 y d : ℝ) : EReal)) (hq1 : ∀ y d, q1 (ix2 y d) = ((Q 1 y d : ℝ) : EReal))
    (hv : ∀ r k, vt (ix2 r k) = ((w r (base + k.val) : ℝ) : EReal))
    (h : Both v3 v4 L3 L4 (fun _ _ => base) (score kn Q) w) :
    Both v3 v4 (put3 v3 (put3 v3 L3 0 fits3_0 (dots kb q0) hr e1 e2 hc c3) 512 fits3_1 (dots kb q1) hr e1 e2 hc c3)
      (put4 v3 v4 (put3 v3 L3 0 fits3_0 (dots kb q0) hr e1 e2 hc c3) (put4 v3 v4 L3 L4 0 fits3_0 fits4_0 vt (dots kb q0) hr e1 e2 hc hb hb' hlt c4) 512 fits3_1 fits4_1 vt
        (dots kb q1) hr e1 e2 hc hb hb' hlt c4) (fun _ _ => base + 512) (score kn Q) w := by
  constructor
  · refine At.skip (At.step512 h.1 (fun y => by omega) (fun y => le_rfl) _ (fun k y => ?_) _ hv) (Or.inl (by omega)) _ _ _ _
    rw [if_pos (by omega)]
    exact dots_score hk 0 hq0 k y
  · refine At.step512 (At.skip h.2 (Or.inr (by omega)) _ _ _ _) (fun y => by omega) (fun y => le_rfl) _ (fun k y => ?_) _ hv
    rw [if_pos (by omega)]
    exact dots_score hk 1 hq1 k y

/-- The diagonal block of keys. -/
theorem Both.diagonal {base : ℕ} {kn : ℕ → Fin 128 → ℝ} {Q : Fin 2 → Fin 512 → Fin 128 → ℝ} {w : Fin 144 → ℕ → ℝ} {kb' : FVec Ideal S256x128 .bf16} {kb q0 q1 : FVec Ideal S512x128 .bf16}
    {vt' : FVec Ideal S144x256 .bf16} {vt : FVec Ideal S144x512 .bf16} {hlt1 : 1 < 32} {hbs : S512x512.Broadcasts S512x512} {hbs' : S256x512.Broadcasts S256x512}
    (hk' : ∀ k d, kb' (ix2 k d) = ((kn (base + k.val) d : ℝ) : EReal)) (hk : ∀ k d, kb (ix2 k d) = ((kn (base + k.val) d : ℝ) : EReal))
    (hq0 : ∀ y d, q0 (ix2 y d) = ((Q 0 y d : ℝ) : EReal)) (hq1 : ∀ y d, q1 (ix2 y d) = ((Q 1 y d : ℝ) : EReal))
    (hv' : ∀ r k, vt' (ix2 r k) = ((w r (base + k.val) : ℝ) : EReal)) (hv : ∀ r k, vt (ix2 r k) = ((w r (base + k.val) : ℝ) : EReal))
    (h : Both v3 v4 L3 L4 (fun _ _ => base) (score kn Q) w)
    {s0 : FVec Ideal S256x512 .f32} {s1 : FVec Ideal S512x512 .f32}
    (hs0 : s0 = select (sees S256x512 0#32 (iota .tc S256x512 32 [0] iota_S256x512_d0_w32) (iota .tc S256x512 32 [1] iota_S256x512_d1_w32) hlt1 hbs') (dots' kb' q0)
      (broadcast S256x512 (FloatOps.ofBits (F := Ideal) .f32 0xFF800000#32)))
    (hs1 : s1 = select (sees S512x512 256#32 (iota .tc S512x512 32 [0] iota_S512x512_d0_w32) (iota .tc S512x512 32 [1] iota_S512x512_d1_w32) hlt1 hbs) (dots kb q1)
      (broadcast S512x512 (FloatOps.ofBits (F := Ideal) .f32 0xFF800000#32))) :
    Both v3 v4
      (put3 v3 (⟨cols3 0 fits3_0, shapeCast S1x512 (newMax s0 hr' e1 e2 hc (v3.readCov L3 (cols3 0 fits3_0).toLoadRect)) c3⟩ :: L3) 512 fits3_1 s1 hr e1 e2 hc c3)
      (put4 v3 v4 (⟨cols3 0 fits3_0, shapeCast S1x512 (newMax s0 hr' e1 e2 hc (v3.readCov L3 (cols3 0 fits3_0).toLoadRect)) c3⟩ :: L3)
        (⟨cols4 0 fits4_0, shapeCast S144x512 (newAcc256 hb hb'' hlt (v3.readCov L3 (cols3 0 fits3_0).toLoadRect)
          (newMax s0 hr' e1 e2 hc (v3.readCov L3 (cols3 0 fits3_0).toLoadRect)) (v4.readCov L4 (cols4 0 fits4_0).toLoadRect) vt' s0) c4⟩ :: L4)
        512 fits3_1 fits4_1 vt s1 hr e1 e2 hc hb hb' hlt c4) (seen base) (score kn Q) w := by
  have hbot : FloatOps.ofBits (F := Ideal) .f32 0xFF800000#32 = (⊥ : EReal) := by first | exact Ideal.ofBits_neg_inf_f32 | rfl | simp [Ideal.ofBits]
  constructor
  · refine At.skip (At.step256 h.1 (fun y => by unfold seen; omega) (fun y => by unfold seen; simp only [Fin.val_zero, mul_zero]; omega) _ (fun k y => ?_) _ hv') (Or.inl (by omega)) _ _ _ _
    rw [hs0]
    show Scalar.select (sees S256x512 0#32 (iota .tc S256x512 32 [0] iota_S256x512_d0_w32) (iota .tc S256x512 32 [1] iota_S256x512_d1_w32) hlt1 hbs' (ix2 k y)) (dots' kb' q0 (ix2 k y))
      (FloatOps.ofBits (F := Ideal) .f32 0xFF800000#32) = _
    rw [sees256_apply, dots_score' hk' 0 hq0, hbot]
    by_cases hc : k.val / 64 ≤ y.val % 256 / 64
    · rw [if_pos hc, if_pos (by unfold seen; simp only [Fin.val_zero, mul_zero]; omega)]; rfl
    · rw [if_neg hc, if_neg (by unfold seen; simp only [Fin.val_zero, mul_zero]; omega)]; rfl
  · refine At.step512 (At.skip h.2 (Or.inr (by omega)) _ _ _ _) (fun y => by unfold seen; omega) (fun y => by unfold seen; simp only [Fin.val_one, mul_one]; omega) _ (fun k y => ?_) _ hv
    rw [hs1]
    show Scalar.select (sees S512x512 256#32 (iota .tc S512x512 32 [0] iota_S512x512_d0_w32) (iota .tc S512x512 32 [1] iota_S512x512_d1_w32) hlt1 hbs (ix2 k y)) (dots kb q1 (ix2 k y))
      (FloatOps.ofBits (F := Ideal) .f32 0xFF800000#32) = _
    rw [sees512_apply, dots_score hk 1 hq1, hbot]
    by_cases hc : k.val / 64 ≤ (y.val % 256 + 256) / 64
    · rw [if_pos hc, if_pos (by unfold seen; simp only [Fin.val_one, mul_one]; omega)]; rfl
    · rw [if_neg hc, if_neg (by unfold seen; simp only [Fin.val_one, mul_one]; omega)]; rfl

end Pairs

end Cert.AttnIdeal.Hand
-- ==== Proof.AttnOnes.lean ====
/- Which columns hold a component: the matrix that sums the squares of a component, and the two selections. -/
module

public import proofs.«01_k».proof.Proof.AttnMask
public import proofs.«01_k».proof.Proof.AttnSum

@[expose] public section

set_option maxRecDepth 16384

noncomputable section

namespace Cert.AttnIdeal.Hand

open Cert.AttnIdeal Cert.AttnIdeal.Gen Idealize.ShloMosaic Idealize.ShloMosaic.TcCoe Idealize.SL.Sem

theorem eq_word : ∀ a b : Fin 2, IntOp.cmpi .eq (BitVec.ofNat 32 a.val) (BitVec.ofNat 32 b.val) = if a.val = b.val then 1#1 else 0#1 := by
  decide +kernel

theorem below_word : ∀ d : Fin 128, IntOp.cmpi .slt (BitVec.ofNat 32 d.val) 64#32 = if d.val < 64 then 1#1 else 0#1 := by
  decide +kernel

theorem above_word : ∀ d : Fin 128, IntOp.cmpi .sge (BitVec.ofNat 32 d.val) 64#32 = if d.val < 64 then 0#1 else 1#1 := by
  decide +kernel

abbrev ones : FVec Ideal S128x128 .bf16 := k0_pay612 (F := Ideal) k0_pay608 k0_pay609 k0_pay610 k0_pay611 0#32

theorem ones_apply (a b : Fin 128) : ones (ix2 a b) = ((if a.val / 64 = b.val / 64 then (1 : ℝ) else 0 : ℝ) : EReal) := by
  have e : ones (ix2 a b) = FloatOps.sitofp (F := Ideal) .f32 (BitVec.setWidth 32 (IntOp.cmpi .eq (quot (BitVec.ofNat 32 a.val)) (quot (BitVec.ofNat 32 b.val)))) := by
    pointwise [ones, k0_pay612, k0_pay608, k0_pay609, k0_pay610, k0_pay611, quot]
    rfl
  have ha : quot (BitVec.ofNat 32 a.val) = BitVec.ofNat 32 (a.val / 64) := quot_eq ⟨a.val, by omega⟩
  have hb : quot (BitVec.ofNat 32 b.val) = BitVec.ofNat 32 (b.val / 64) := quot_eq ⟨b.val, by omega⟩
  have hc := eq_word ⟨a.val / 64, by omega⟩ ⟨b.val / 64, by omega⟩
  rw [e, ha, hb, hc]
  dsimp only
  split_ifs <;> simp [FloatOps.sitofp]

theorem first_apply (v : FVec Ideal S512x128 .bf16) (r : Fin 512) (d : Fin 128) :
    select (cmpi .slt (iota .tc S512x128 32 [1] iota_S512x128_d1_w32) (broadcast S512x128 64#32)) v (k0_pay617 (F := Ideal)) (ix2 r d)
      = if d.val < 64 then v (ix2 r d) else 0 := by
  have e : select (cmpi .slt (iota .tc S512x128 32 [1] iota_S512x128_d1_w32) (broadcast S512x128 64#32)) v (k0_pay617 (F := Ideal)) (ix2 r d)
    = Scalar.select (IntOp.cmpi .slt (BitVec.ofNat 32 d.val) 64#32) (v (ix2 r d)) 0 := by
    pointwise [k0_pay617]
  rw [e, below_word]
  split_ifs <;> rfl

theorem second_apply (v : FVec Ideal S512x128 .bf16) (r : Fin 512) (d : Fin 128) :
    k0_pay620 (F := Ideal) v (k0_pay617 (F := Ideal)) k0_pay619 (ix2 r d) = if d.val < 64 then 0 else v (ix2 r d) := by
  have e : k0_pay620 (F := Ideal) v (k0_pay617 (F := Ideal)) k0_pay619 (ix2 r d)
    = Scalar.select (IntOp.cmpi .sge (BitVec.ofNat 32 d.val) 64#32) (v (ix2 r d)) 0 := by
    pointwise [k0_pay617, k0_pay619, k0_pay620]
  rw [e, above_word]
  split_ifs <;> rfl

/-- The small number under the root: `0x358637BD`. -/
def eps : ℝ := 8796093 / 8796093022208

theorem eps_pos : 0 < eps := by unfold eps; norm_num

theorem eps_coe : FloatOps.ofBits (F := Ideal) .f32 0x358637BD#32 = ((eps : ℝ) : EReal) := by
  unfold eps
  simp [Ideal.ofBits, Ideal.ieee, -EReal.coe_mul]
  norm_num

theorem part_coe : FloatOps.ofBits (F := Ideal) .f32 0x3C800000#32 = ((1 / 64 : ℝ) : EReal) := by
  simp [Ideal.ofBits, Ideal.ieee, -EReal.coe_mul]
  norm_num

/-- The squares of the entries of a row that belong to the component of `d`. -/
def squares (x : Fin 128 → ℝ) (d : Fin 128) : ℝ := ∑ e : Fin 128, x e * x e * (if e.val / 64 = d.val / 64 then 1 else 0)

theorem squares_nonneg (x : Fin 128 → ℝ) (d : Fin 128) : 0 ≤ squares x d :=
  Finset.sum_nonneg fun e _ => by split_ifs <;> nlinarith [mul_self_nonneg (x e)]

/-- One entry of a row scaled by the reciprocal root mean square of its component. -/
def scaled (x g : Fin 128 → ℝ) (d : Fin 128) : ℝ := x d * (√(squares x d * (1 / 64) + eps))⁻¹ * g d

/-- The scaling of rows as the kernel computes it, before the rounding. -/
abbrev rowsScaled (v : FVec Ideal S512x128 .f32) (g : FVec Ideal S1x128 .f32) (hl : FTy.bits .bf16 < FTy.bits .f32) (hb : S1x128.Broadcasts S512x128) : FVec Ideal S512x128 .f32 :=
  mulf (mulf v (rsqrt (addf (mulf (addf
      (matmul dot_S512x128_S128x128_S512x128_1_0_0_1_n_n none (truncf .bf16 (mulf v v) hl) ones (constant S512x128 .f32 0x00000000#32))
      (matmul dot_S512x128_S128x128_S512x128_1_0_0_1_n_n none (truncf .bf16 (subf (mulf v v) (extf .f32 (truncf .bf16 (mulf v v) hl) hl)) hl) ones (constant S512x128 .f32 0x00000000#32)))
    (broadcast S512x128 (Scalar.ofBits (F := Ideal) .f32 0x3C800000#32))) (broadcast S512x128 (Scalar.ofBits (F := Ideal) .f32 0x358637BD#32)))))
    (broadcastTo S512x128 g hb)

theorem rowsScaled_apply (v : FVec Ideal S512x128 .f32) (g : FVec Ideal S1x128 .f32) (hl : FTy.bits .bf16 < FTy.bits .f32) (hb : S1x128.Broadcasts S512x128)
    (r : Fin 512) (d : Fin 128) (x y : Fin 128 → ℝ) (hx : ∀ e, v (ix2 r e) = (x e : EReal)) (hg : ∀ e, g (ix2 0 e) = (y e : EReal)) :
    rowsScaled v g hl hb (ix2 r d) = ((scaled x y d : ℝ) : EReal) := by
  have e : rowsScaled v g hl hb (ix2 r d) = v (ix2 r d) * Ideal.rsqrt (((∑ e : Fin 128, v (ix2 r e) * v (ix2 r e) * ones (ix2 e d))
      + (∑ e : Fin 128, (v (ix2 r e) * v (ix2 r e) - v (ix2 r e) * v (ix2 r e)) * ones (ix2 e d))) * FloatOps.ofBits (F := Ideal) .f32 0x3C800000#32
        + FloatOps.ofBits (F := Ideal) .f32 0x358637BD#32) * g (ix2 0 d) := by
    pointwise [rowsScaled]
  rw [e, part_coe, eps_coe]
  simp only [hx, hg, ones_apply, ← EReal.coe_mul, ← EReal.coe_sub, sub_self, zero_mul, EReal.coe_zero, Finset.sum_const_zero, add_zero]
  rw [← Cert.Attn.Hand.coe_sum]
  have hp : 0 < squares x d * (1 / 64) + eps := by have := squares_nonneg x d; have := eps_pos; positivity
  show ((x d : ℝ) : EReal) * Ideal.rsqrt (((squares x d : ℝ) : EReal) * ((1 / 64 : ℝ) : EReal) + (eps : EReal)) * (y d : EReal) = _
  rw [← EReal.coe_mul, ← EReal.coe_add, Ideal.rsqrt_coe, if_neg (not_lt.mpr hp.le), if_neg hp.ne', ← EReal.coe_mul, ← EReal.coe_mul]
  rfl

end Cert.AttnIdeal.Hand
-- ==== Proof.AttnRows.lean ====
/- The rows of queries, keys and values the attention reads back from its scratch buffers. -/
module

public import proofs.«01_k».proof.Proof.AttnItems
public import proofs.«01_k».proof.Proof.AttnOnes

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem

/-- The keys, scaled, and the values with rows of ones below them, as the scratch buffers hold them. -/
def keysAt (kn : ℕ → Fin 128 → ℝ) : FVec Ideal S4096x128 .bf16 := fun i => ((kn (i 0).val (i 1) : ℝ) : EReal)
def valsAt (w : Fin 144 → ℕ → ℝ) : FVec Ideal S8x144x512 .bf16 := fun i => ((w (i 1) (512 * (i 0).val + (i 2).val) : ℝ) : EReal)

theorem keys_block (kn : ℕ → Fin 128 → ℝ) {off : Fin 2 → ℕ} {h : ∀ a, off a + S512x128.size a ≤ S4096x128.size a} {base : ℕ} (h0 : off 0 = base) (h1 : off 1 = 0)
    (k : Fin 512) (d : Fin 128) : View.ld (Val := Elt Ideal) (e' := .bf16) (keysAt kn) (Rect.unit (s := S4096x128) off S512x128.size h) (ix2 k d) = ((kn (base + k.val) d : ℝ) : EReal) := by
  show ((kn (off 0 + 1 * k.val) ⟨off 1 + 1 * d.val, _⟩ : ℝ) : EReal) = _
  have e : (⟨off 1 + 1 * d.val, by rw [h1]; omega⟩ : Fin 128) = d := Fin.ext (by show off 1 + 1 * d.val = d.val; omega)
  rw [h0, one_mul]
  exact congrArg (fun z => ((kn (base + k.val) z : ℝ) : EReal)) e

theorem vals_block (w : Fin 144 → ℕ → ℝ) {off : Fin 3 → ℕ} {h : ∀ a, off a + S1x144x512.size a ≤ S8x144x512.size a} {b base : ℕ} (hb : base = 512 * b) (h0 : off 0 = b) (h1 : off 1 = 0) (h2 : off 2 = 0)
    (hc : S1x144x512.ShapeCasts S144x512) (r : Fin 144) (k : Fin 512) :
    shapeCast S144x512 (View.ld (Val := Elt Ideal) (e' := .bf16) (valsAt w) (Rect.unit (s := S8x144x512) off S1x144x512.size h)) hc (ix2 r k) = ((w r (base + k.val) : ℝ) : EReal) := by
  have e : ∀ v : FVec Ideal S1x144x512 .bf16, shapeCast S144x512 v hc (ix2 r k) = v (ix3 0 r k) := fun v => by pointwise
  refine (e _).trans ?_
  show ((w ⟨off 1 + 1 * r.val, _⟩ (512 * (off 0 + 1 * 0) + (off 2 + 1 * k.val)) : ℝ) : EReal) = _
  have e1 : (⟨off 1 + 1 * r.val, by rw [h1]; omega⟩ : Fin 144) = r := Fin.ext (by show off 1 + 1 * r.val = r.val; omega)
  have e2 : 512 * (off 0 + 1 * 0) + (off 2 + 1 * k.val) = base + k.val := by rw [h0, h2, hb]; omega
  rw [e2]
  exact congrArg (fun z => ((w z (base + k.val) : ℝ) : EReal)) e1

theorem keys_read {sp : Space} {m : Memref sig .tc sp S4096x128 .bf16} (hm : m.IsWhole) (kn : ℕ → Fin 128 → ℝ) {off : Fin 2 → ℕ} {h : ∀ a, off a + S512x128.size a ≤ S4096x128.size a} {base : ℕ}
    (h0 : off 0 = base) (h1 : off 1 = 0) (k : Fin 512) (d : Fin 128) :
    View.readAt (Elt Ideal) m.view (Rect.unit (s := S4096x128) off S512x128.size h).toLoadRect (hm.unread (keysAt kn)) (ix2 k d) = ((kn (base + k.val) d : ℝ) : EReal) := by
  rw [View.readAt_eq_ld, hm.read_unread]
  exact keys_block kn h0 h1 k d

theorem vals_read {sp : Space} {m : Memref sig .tc sp S8x144x512 .bf16} (hm : m.IsWhole) (w : Fin 144 → ℕ → ℝ) {off : Fin 3 → ℕ} {h : ∀ a, off a + S1x144x512.size a ≤ S8x144x512.size a} {b base : ℕ}
    (hb : base = 512 * b) (h0 : off 0 = b) (h1 : off 1 = 0) (h2 : off 2 = 0) (hc : S1x144x512.ShapeCasts S144x512) (r : Fin 144) (k : Fin 512) :
    shapeCast S144x512 (View.readAt (Elt Ideal) m.view (Rect.unit (s := S8x144x512) off S1x144x512.size h).toLoadRect (hm.unread (valsAt w))) hc (ix2 r k) = ((w r (base + k.val) : ℝ) : EReal) := by
  rw [View.readAt_eq_ld, hm.read_unread]
  exact vals_block w hb h0 h1 h2 hc r k

theorem whole_read {sp : Space} {m : Memref sig .tc sp S1 .f32} (hm : m.IsWhole) (x0 : Vec Ideal S1 .f32) (l : EReal) (h : ∀ j, x0 j = l) (r : Rect S1) (j : r.shape.Idx) :
    View.readAt (Elt Ideal) m.view r.toLoadRect (hm.unread x0) j = l := by
  rw [View.readAt_eq_ld, hm.read_unread]
  exact h _

theorem half_keys {kb : FVec Ideal S512x128 .bf16} {kn : ℕ → Fin 128 → ℝ} {base : ℕ} (hk : ∀ k d, kb (ix2 k d) = ((kn (base + k.val) d : ℝ) : EReal))
    (hs : S512x128.Slices ![0, 0] S256x128) (k : Fin 256) (d : Fin 128) :
    extractStridedSlice S256x128 ![0, 0] kb hs (ix2 k d) = ((kn (base + k.val) d : ℝ) : EReal) := by
  have e : extractStridedSlice S256x128 ![0, 0] kb hs (ix2 k d) = kb (ix2 ⟨k.val, by omega⟩ d) := by pointwise
  rw [e, hk]

theorem half_vals {vt : FVec Ideal S144x512 .bf16} {w : Fin 144 → ℕ → ℝ} {base : ℕ} (hv : ∀ r k, vt (ix2 r k) = ((w r (base + k.val) : ℝ) : EReal))
    (hs : S144x512.Slices ![0, 0] S144x256) (r : Fin 144) (k : Fin 256) :
    extractStridedSlice S144x256 ![0, 0] vt hs (ix2 r k) = ((w r (base + k.val) : ℝ) : EReal) := by
  have e : extractStridedSlice S144x256 ![0, 0] vt hs (ix2 r k) = vt (ix2 r ⟨k.val, by omega⟩) := by pointwise
  rw [e, hv]

/-- The factor of the scores. -/
def factor : ℝ := 1 / 8 * (Real.log 2)⁻¹

/-- A column's query: one component of one row, the other component left out. -/
def column (x : Fin 512 → Fin 128 → ℝ) (g : Fin 128 → ℝ) (h : Fin 2) (y : Fin 512) (d : Fin 128) : ℝ :=
  if y.val / 256 = d.val / 64 then scaled (x ⟨256 * h.val + y.val % 256, by omega⟩) g d * factor else 0

abbrev qRows (X1 : FVec Ideal S1x512x128 .f32) (X4 : FVec Ideal S1x128 .f32) : FVec Ideal S512x128 .bf16 :=
  k0_pay616 (F := Ideal) k0_pay608 k0_pay609 k0_pay610 k0_pay611 0#32 X1 X4

theorem qRows_apply (X1 : FVec Ideal S1x512x128 .f32) (X4 : FVec Ideal S1x128 .f32) (x : Fin 512 → Fin 128 → ℝ) (g : Fin 128 → ℝ)
    (hx : ∀ r d, X1 (ix3 0 r d) = ((x r d : ℝ) : EReal)) (hg : ∀ d, X4 (ix2 0 d) = ((g d : ℝ) : EReal)) (r : Fin 512) (d : Fin 128) :
    qRows X1 X4 (ix2 r d) = ((scaled (x r) g d * factor : ℝ) : EReal) := by
  have e : qRows X1 X4 (ix2 r d) = rowsScaled (shapeCast S512x128 X1 shapeCasts_S1x512x128_S512x128) (shapeCast S1x128 X4 shapeCasts_S1x128_S1x128) bitsLt_bf16_f32 broadcasts_S1x128_S512x128 (ix2 r d)
      * ((factor : ℝ) : EReal) := rfl
  have hX : ∀ e, shapeCast S512x128 X1 shapeCasts_S1x512x128_S512x128 (ix2 r e) = X1 (ix3 0 r e) := fun e => by pointwise
  rw [e, rowsScaled_apply _ _ _ _ r d (x r) g (fun e => (hX e).trans (hx r e)) (fun e => by rw [shapeCast_self]; exact hg e), ← EReal.coe_mul]

abbrev qPieces (X1 : FVec Ideal S1x512x128 .f32) (X4 : FVec Ideal S1x128 .f32) : List (View.Piece (Elt Ideal) S1024x128 .bf16) :=
  [⟨Rect.unit (s := S1024x128) ![768, 0] S256x128.size inb_S1024x128_S256x128_768_0, k0_pay624 (F := Ideal) (qRows X1 X4) (k0_pay617 (F := Ideal)) k0_pay619⟩,
   ⟨Rect.unit (s := S1024x128) ![512, 0] S256x128.size inb_S1024x128_S256x128_512_0, k0_pay623 (F := Ideal) (k0_pay618 (F := Ideal) k0_pay608 k0_pay609 k0_pay610 k0_pay611 0#32 X1 X4)⟩,
   ⟨Rect.unit (s := S1024x128) ![256, 0] S256x128.size inb_S1024x128_S256x128_256_0, k0_pay622 (F := Ideal) (qRows X1 X4) (k0_pay617 (F := Ideal)) k0_pay619⟩,
   ⟨Rect.unit (s := S1024x128) ![0, 0] S256x128.size inb_S1024x128_S256x128_0_0, k0_pay621 (F := Ideal) (k0_pay618 (F := Ideal) k0_pay608 k0_pay609 k0_pay610 k0_pay611 0#32 X1 X4)⟩]

theorem qPieces_canon (X1 : FVec Ideal S1x512x128 .f32) (X4 : FVec Ideal S1x128 .f32) (x : Fin 512 → Fin 128 → ℝ) (g : Fin 128 → ℝ)
    (hx : ∀ r d, X1 (ix3 0 r d) = ((x r d : ℝ) : EReal)) (hg : ∀ d, X4 (ix2 0 d) = ((g d : ℝ) : EReal)) (i : S1024x128.Idx) :
    View.canon (qPieces X1 X4) i = ((column x g ⟨(i 0).val / 512, by have : (i 0).val < 1024 := (i 0).isLt; omega⟩ ⟨(i 0).val % 512, by omega⟩ (i 1) : ℝ) : EReal) := by
  have key : ∀ (o : ℕ) (ho : o + 256 ≤ 512) (h : Fin 2) (c : ℕ) (hh : o = 256 * h.val) (hc : c ≤ 1) (hs : S512x128.Slices ![o, 0] S256x128) (v : FVec Ideal S512x128 .bf16)
      (hv : ∀ r d, v (ix2 r d) = if c = d.val / 64 then qRows X1 X4 (ix2 r d) else 0) (z : S256x128.Idx) (z1 : Fin 128) (hz1 : z1.val = (z 1).val) (n : ℕ) (hn : n < 2) (m : ℕ) (hm : m < 512) (h1 : n = h.val) (h2 : m = 256 * c + (z 0).val),
      extractStridedSlice S256x128 ![o, 0] v hs z = ((column x g ⟨n, hn⟩ ⟨m, hm⟩ z1 : ℝ) : EReal) := by
    intro o ho h c hh hc hs v hv z z1 hz1 n hn m hm h1 h2
    obtain ⟨a, b, rfl⟩ : ∃ (a : Fin 256) (b : Fin 128), z = ix2 a b := ⟨z 0, z 1, eq_ix2 z⟩
    obtain rfl : z1 = b := Fin.ext hz1
    have e : extractStridedSlice S256x128 ![o, 0] v hs (ix2 a z1) = v (ix2 ⟨o + a.val, by omega⟩ z1) := by pointwise
    have h2' : m = 256 * c + a.val := h2
    rw [e, hv, qRows_apply X1 X4 x g hx hg]
    unfold column
    have hd : (⟨m, hm⟩ : Fin 512).val / 256 = c := by show m / 256 = c; omega
    have hr : (⟨o + a.val, by omega⟩ : Fin 512) = ⟨256 * (⟨n, hn⟩ : Fin 2).val + (⟨m, hm⟩ : Fin 512).val % 256, by show 256 * n + m % 256 < 512; omega⟩ :=
      Fin.ext (by show o + a.val = 256 * n + m % 256; omega)
    rw [hd, hr]
    split_ifs <;> rfl
  have f0 : ∀ r d, k0_pay618 (F := Ideal) k0_pay608 k0_pay609 k0_pay610 k0_pay611 0#32 X1 X4 (ix2 r d) = if 0 = d.val / 64 then qRows X1 X4 (ix2 r d) else 0 := fun r d => by
    refine (first_apply (qRows X1 X4) r d).trans (if_congr ⟨fun h => by omega, fun h => by omega⟩ rfl rfl)
  have f1 : ∀ r d, k0_pay620 (F := Ideal) (qRows X1 X4) (k0_pay617 (F := Ideal)) k0_pay619 (ix2 r d) = if 1 = d.val / 64 then qRows X1 X4 (ix2 r d) else 0 := fun r d => by
    rw [second_apply]
    have := d.isLt
    by_cases h : d.val < 64
    · rw [if_pos h, if_neg (by omega)]
    · rw [if_neg h, if_pos (by omega)]
  refine View.canon_apply_of_pieces (Val := Elt Ideal) (e := .bf16) (fun i : S1024x128.Idx => ((column x g ⟨(i 0).val / 512, by have : (i 0).val < 1024 := (i 0).isLt; omega⟩ ⟨(i 0).val % 512, by omega⟩ (i 1) : ℝ) : EReal)) _ ?_ i ?_
  · simp only [List.forall_mem_cons]
    refine ⟨fun z => ?_, fun z => ?_, fun z => ?_, fun z => ?_, fun _ h => absurd h List.not_mem_nil⟩
    · have hz : (z 0).val < 256 := (z 0).isLt
      show shapeCast S256x128 (@extractStridedSlice S512x128 _ S256x128 ![256, 0] _ _) _ z = _
      rw [shapeCast_self]
      exact key 256 (by omega) 1 1 rfl le_rfl _ _ f1 z _ (by show 0 + 1 * (z 1).val = _; omega) _ _ _ _ (by show (768 + 1 * (z 0).val) / 512 = 1; omega) (by show (768 + 1 * (z 0).val) % 512 = _; omega)
    · have hz : (z 0).val < 256 := (z 0).isLt
      show shapeCast S256x128 (@extractStridedSlice S512x128 _ S256x128 ![256, 0] _ _) _ z = _
      rw [shapeCast_self]
      exact key 256 (by omega) 1 0 rfl (by omega) _ _ f0 z _ (by show 0 + 1 * (z 1).val = _; omega) _ _ _ _ (by show (512 + 1 * (z 0).val) / 512 = 1; omega) (by show (512 + 1 * (z 0).val) % 512 = _; omega)
    · have hz : (z 0).val < 256 := (z 0).isLt
      show shapeCast S256x128 (@extractStridedSlice S512x128 _ S256x128 ![0, 0] _ _) _ z = _
      rw [shapeCast_self]
      exact key 0 (by omega) 0 1 rfl le_rfl _ _ f1 z _ (by show 0 + 1 * (z 1).val = _; omega) _ _ _ _ (by show (256 + 1 * (z 0).val) / 512 = 0; omega) (by show (256 + 1 * (z 0).val) % 512 = _; omega)
    · have hz : (z 0).val < 256 := (z 0).isLt
      show shapeCast S256x128 (@extractStridedSlice S512x128 _ S256x128 ![0, 0] _ _) _ z = _
      rw [shapeCast_self]
      exact key 0 (by omega) 0 0 rfl (by omega) _ _ f0 z _ (by show 0 + 1 * (z 1).val = _; omega) _ _ _ _ (by show (0 + 1 * (z 0).val) / 512 = 0; omega) (by show (0 + 1 * (z 0).val) % 512 = _; omega)
  · have hi : (i 0).val < 1024 := (i 0).isLt
    have hj : (i 1).val < 128 := (i 1).isLt
    have mem : ∀ (o : ℕ) (hin : ∀ a, (![o, 0] : Fin 2 → ℕ) a + S256x128.size a ≤ S1024x128.size a), o ≤ (i 0).val → (i 0).val < o + 256 → i ∈ (Rect.unit (s := S1024x128) ![o, 0] S256x128.size hin).set := by
      intro o hin h1 h2
      rw [Rect.mem_set_unit]
      intro a
      match a with
      | ⟨0, _⟩ => exact ⟨h1, h2⟩
      | ⟨1, _⟩ => exact ⟨Nat.zero_le _, by show (i 1).val < 0 + 128; omega⟩
    by_cases h1 : (i 0).val < 256
    · exact ⟨_, List.mem_cons_of_mem _ (List.mem_cons_of_mem _ (List.mem_cons_of_mem _ List.mem_cons_self)), mem 0 inb_S1024x128_S256x128_0_0 (by omega) (by omega)⟩
    by_cases h2 : (i 0).val < 512
    · exact ⟨_, List.mem_cons_of_mem _ (List.mem_cons_of_mem _ List.mem_cons_self), mem 256 inb_S1024x128_S256x128_256_0 (by omega) (by omega)⟩
    by_cases h3 : (i 0).val < 768
    · exact ⟨_, List.mem_cons_of_mem _ List.mem_cons_self, mem 512 inb_S1024x128_S256x128_512_0 (by omega) (by omega)⟩
    · exact ⟨_, List.mem_cons_self, mem 768 inb_S1024x128_S256x128_768_0 (by omega) (by omega)⟩

theorem qPieces_read {κ : Kind} {sp : Space} (v : View sig κ sp S1024x128 .bf16) (X1 : FVec Ideal S1x512x128 .f32) (X4 : FVec Ideal S1x128 .f32) (x : Fin 512 → Fin 128 → ℝ) (g : Fin 128 → ℝ)
    (hx : ∀ r d, X1 (ix3 0 r d) = ((x r d : ℝ) : EReal)) (hg : ∀ d, X4 (ix2 0 d) = ((g d : ℝ) : EReal)) (h : Fin 2) {off : Fin 2 → ℕ} (hin : ∀ a, off a + S512x128.size a ≤ S1024x128.size a)
    (h0 : off 0 = 512 * h.val) (h1 : off 1 = 0) (y : Fin 512) (d : Fin 128) :
    v.readCov (qPieces X1 X4) (Rect.unit (s := S1024x128) off S512x128.size hin).toLoadRect (ix2 y d) = ((column x g h y d : ℝ) : EReal) := by
  rw [View.readCov_eq_canon']
  show View.canon _ _ = _
  rw [qPieces_canon X1 X4 x g hx hg]
  have e0 : ∀ hp, (⟨(off 0 + 1 * y.val) / 512, hp⟩ : Fin 2) = h := fun hp => Fin.ext (by show (off 0 + 1 * y.val) / 512 = h.val; omega)
  have e1 : ∀ hp, (⟨(off 0 + 1 * y.val) % 512, hp⟩ : Fin 512) = y := fun hp => Fin.ext (by show (off 0 + 1 * y.val) % 512 = y.val; omega)
  have e2 : ∀ hp, (⟨off 1 + 1 * d.val, hp⟩ : Fin 128) = d := fun hp => Fin.ext (by show off 1 + 1 * d.val = d.val; omega)
  show ((column x g ⟨(off 0 + 1 * y.val) / 512, _⟩ ⟨(off 0 + 1 * y.val) % 512, _⟩ ⟨off 1 + 1 * d.val, _⟩ : ℝ) : EReal) = _
  exact congrArg (fun z : ℝ => (z : EReal)) (congr (congr (congrArg (column x g) (e0 _)) (e1 _)) (e2 _))

theorem gain_read {sp : Space} {m : Memref sig .tc sp S1x128 .f32} (hm : m.IsWhole) (X : FVec Ideal S1x128 .f32) :
    View.readAt (Elt Ideal) m.view (Rect.unit (s := S1x128) ![0, 0] S1x128.size inb_S1x128_S1x128_0_0).toLoadRect (hm.unread X) = X := by
  have z2 : (![0, 0] : Fin 2 → ℕ) = fun _ => 0 := by funext a; fin_cases a <;> rfl
  simp only [View.readAt_eq_ld, hm.read_unread, View.ld_unit_zero (S := S1x128) z2]

theorem rows_read {sp : Space} {m : Memref sig .tc sp S1x512x128 .f32} (hm : m.IsWhole) (X : FVec Ideal S1x512x128 .f32) :
    View.readAt (Elt Ideal) m.view (Rect.unit (s := S1x512x128) ![0, 0, 0] S1x512x128.size inb_S1x512x128_S1x512x128_0_0_0).toLoadRect (hm.unread X) = X := by
  have z3 : (![0, 0, 0] : Fin 3 → ℕ) = fun _ => 0 := by funext a; fin_cases a <;> rfl
  simp only [View.readAt_eq_ld, hm.read_unread, View.ld_unit_zero (S := S1x512x128) z3]

/-- A block of columns of queries, read back. -/
theorem q_read {sp4 sp7 : Space} {m4 : Memref sig .tc sp4 S1x512x128 .f32} (hm4 : m4.IsWhole) {m7 : Memref sig .tc sp7 S1x128 .f32} (hm7 : m7.IsWhole)
    {κ : Kind} {sp : Space} (v : View sig κ sp S1024x128 .bf16) (X1 : FVec Ideal S1x512x128 .f32) (X4 : FVec Ideal S1x128 .f32) (x : Fin 512 → Fin 128 → ℝ) (g : Fin 128 → ℝ)
    (hx : ∀ r d, X1 (ix3 0 r d) = ((x r d : ℝ) : EReal)) (hg : ∀ d, X4 (ix2 0 d) = ((g d : ℝ) : EReal)) (h : Fin 2) {off : Fin 2 → ℕ} {hin : ∀ a, off a + S512x128.size a ≤ S1024x128.size a}
    (h0 : off 0 = 512 * h.val) (h1 : off 1 = 0) (y : Fin 512) (d : Fin 128) :
    v.readCov (qPieces
        (View.readAt (Elt Ideal) m4.view (Rect.unit (s := S1x512x128) ![0, 0, 0] S1x512x128.size inb_S1x512x128_S1x512x128_0_0_0).toLoadRect (hm4.unread X1))
        (View.readAt (Elt Ideal) m7.view (Rect.unit (s := S1x128) ![0, 0] S1x128.size inb_S1x128_S1x128_0_0).toLoadRect (hm7.unread X4)))
      (Rect.unit (s := S1024x128) off S512x128.size hin).toLoadRect (ix2 y d) = ((column x g h y d : ℝ) : EReal) := by
  rw [rows_read, gain_read]
  exact qPieces_read v X1 X4 x g hx hg h hin h0 h1 y d

end Cert.AttnIdeal.Hand
-- ==== Proof.AttnOut.lean ====
/- What the attention stores of a block: the two quotients of every row combined, and the row normalised. -/
module

public import proofs.«01_k».proof.Proof.AttnRows

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem

/-- A row scaled by the reciprocal root of its mean square, by a gain and by a constant. -/
def normRow (O : Fin 128 → EReal) (g : Fin 128 → EReal) (e : Fin 128) : EReal :=
  O e * Ideal.rsqrt (Ideal.div (∑ d : Fin 128, O d * O d) (FloatOps.ofBits (F := Ideal) .f32 0x43000000#32) + FloatOps.ofBits (F := Ideal) .f32 0x358637BD#32) * g e
    * FloatOps.ofBits (F := Ideal) .f32 0x3F4CCCCD#32

theorem sides_apply (a b : FVec Ideal S128x256 .f32) (e : Fin 128) (q : Fin 512) :
    concatenate S128x512 1 [⟨S128x256, a⟩, ⟨S128x256, b⟩] concatenates_S128x256_S128x256_S128x512_d1 (ix2 e q)
      = if h : q.val < 256 then a (ix2 e ⟨q.val, h⟩) else b (ix2 e ⟨q.val - 256, by omega⟩) := by
  pointwise

theorem rowNorm_apply (v : FVec Ideal S128x512 .f32) (g : FVec Ideal S1x128 .f32) (q : Fin 512) (e : Fin 128) (a b : FVec Ideal S128x256 .f32) (v259 : FVec Ideal S128x1024 .f32) (l : Ideal .f32)
    (hv : v = concatenate S128x512 1 [⟨S128x256, a⟩, ⟨S128x256, subf b (mulf (broadcast S128x256 l) (extractStridedSlice S128x256 ![0, 768] v259 slices_S128x1024_o0_768_S128x256))⟩]
      concatenates_S128x256_S128x256_S128x512_d1) :
    k0_pay1 (F := Ideal) v259 a b l g (ix3 0 q e) = normRow (fun d => v (ix2 d q)) (fun d => g (ix2 0 d)) e := by
  unfold k0_pay1
  simp only [← hv]
  pointwise [normRow]

/-- A column's query without the factor of the scores. -/
def plain (x : Fin 512 → Fin 128 → ℝ) (g : Fin 128 → ℝ) (h : Fin 2) (y : Fin 512) (d : Fin 128) : ℝ :=
  if y.val / 256 = d.val / 64 then scaled (x ⟨256 * h.val + y.val % 256, by omega⟩) g d else 0

theorem score_column (kn : ℕ → Fin 128 → ℝ) (x : Fin 512 → Fin 128 → ℝ) (g : Fin 128 → ℝ) (h : Fin 2) (y : Fin 512) (k : ℕ) :
    score kn (column x g) h y k = (1 / 8 * (Real.log 2)⁻¹) * score kn (plain x g) h y k := by
  unfold score
  rw [Finset.mul_sum]
  refine Finset.sum_congr rfl fun d _ => ?_
  unfold column plain factor
  split_ifs
  · ring
  · ring

/-- A column's softmax over the keys it sees, applied to the values. -/
def soft (kn : ℕ → Fin 128 → ℝ) (x : Fin 512 → Fin 128 → ℝ) (g : Fin 128 → ℝ) (w : Fin 144 → ℕ → ℝ) (L : Fin 2 → Fin 512 → ℕ) (h : Fin 2) (y : Fin 512) (e : Fin 128) : ℝ :=
  (∑ k ∈ Finset.range (L h y), Real.exp (score kn (plain x g) h y k / 8) * w ⟨e.val, by omega⟩ k) / ∑ k ∈ Finset.range (L h y), Real.exp (score kn (plain x g) h y k / 8)

/-- The difference of the two softmaxes of a row. -/
def mixed (kn : ℕ → Fin 128 → ℝ) (x : Fin 512 → Fin 128 → ℝ) (g : Fin 128 → ℝ) (w : Fin 144 → ℕ → ℝ) (L : Fin 2 → Fin 512 → ℕ) (lam : ℝ) (q : Fin 512) (e : Fin 128) : ℝ :=
  soft kn x g w L ⟨q.val / 256, by omega⟩ ⟨q.val % 256, by omega⟩ e - lam * soft kn x g w L ⟨q.val / 256, by omega⟩ ⟨q.val % 256 + 256, by omega⟩ e

section Finish
variable {κ3 κ4 : Kind} {sp3 sp4 : Space} {v3 : View sig κ3 sp3 S1x1024 .f32} {v4 : View sig κ4 sp4 S144x1024 .f32}
    {L3 : List (View.Piece (Elt Ideal) S1x1024 .f32)} {L4 : List (View.Piece (Elt Ideal) S144x1024 .f32)}
    {L : Fin 2 → Fin 512 → ℕ} {kn : ℕ → Fin 128 → ℝ} {x : Fin 512 → Fin 128 → ℝ} {g : Fin 128 → ℝ} {w : Fin 144 → ℕ → ℝ}

abbrev sums (v4 : View sig κ4 sp4 S144x1024 .f32) (L4 : List (View.Piece (Elt Ideal) S144x1024 .f32)) : FVec Ideal S128x1024 .f32 :=
  v4.readCov L4 (Rect.unit (s := S144x1024) ![0, 0] S128x1024.size inb_S144x1024_S128x1024_0_0).toLoadRect

abbrev totals (v4 : View sig κ4 sp4 S144x1024 .f32) (L4 : List (View.Piece (Elt Ideal) S144x1024 .f32)) : FVec Ideal S1x1024 .f32 :=
  v4.readCov L4 (Rect.unit (s := S144x1024) ![128, 0] S1x1024.size inb_S144x1024_S1x1024_128_0).toLoadRect

theorem quotients_apply (hB : Both v3 v4 L3 L4 L (score kn (column x g)) w) (hL : ∀ h y, 0 < L h y) (hw : ∀ k, w ⟨128, by omega⟩ k = 1)
    (e : Fin 128) (j : Fin 1024) (h : Fin 2) (y : Fin 512) (hj : j.val = 512 * h.val + y.val) :
    k0_pay648 (F := Ideal) (sums v4 L4) (totals v4 L4) (ix2 e j) = ((soft kn x g w L h y e : ℝ) : EReal) := by
  have hd : k0_pay648 (F := Ideal) (sums v4 L4) (totals v4 L4) (ix2 e j) = Ideal.div (sums v4 L4 (ix2 e j)) (totals v4 L4 (ix2 0 j)) := by
    pointwise [k0_pay648]
  have key : ∀ (o : ℕ) (h3 : Fits3 o) (h4 : Fits4 o), o = 512 * h.val → At v3 v4 L3 L4 o h3 h4 (L h) (score kn (column x g) h) w →
      Ideal.div (sums v4 L4 (ix2 e j)) (totals v4 L4 (ix2 0 j)) = ((soft kn x g w L h y e : ℝ) : EReal) := by
    intro o h3 h4 ho hA
    rcases hA y with ⟨h0, _⟩ | ⟨μ, _, hs⟩
    · exact absurd h0 (hL h y).ne'
    have e1 : sums v4 L4 (ix2 e j) = v4.readCov L4 (cols4 o h4).toLoadRect (ix2 ⟨e.val, by omega⟩ y) := by
      unfold sums
      rw [View.readCov_eq_canon', View.readCov_eq_canon']
      refine congrArg (View.canon L4) (funext fun a => ?_)
      match a with
      | ⟨0, _⟩ => exact Fin.ext rfl
      | ⟨1, _⟩ => exact Fin.ext (show 0 + 1 * j.val = o + 1 * y.val by omega)
    have e2 : totals v4 L4 (ix2 0 j) = v4.readCov L4 (cols4 o h4).toLoadRect (ix2 ⟨128, by omega⟩ y) := by
      unfold totals
      rw [View.readCov_eq_canon', View.readCov_eq_canon']
      refine congrArg (View.canon L4) (funext fun a => ?_)
      match a with
      | ⟨0, _⟩ => exact Fin.ext rfl
      | ⟨1, _⟩ => exact Fin.ext (show 0 + 1 * j.val = o + 1 * y.val by omega)
    dsimp only at hs
    rw [e1, e2, hs, hs]
    simp only [hw, score_column]
    exact quotient (L h y) (hL h y) (fun k => score kn (plain x g) h y k) (fun k => w ⟨e.val, by omega⟩ k) μ
  rw [hd]
  match h, hj, key with
  | ⟨0, _⟩, hj, key => exact key 0 _ _ rfl hB.1
  | ⟨1, _⟩, hj, key => exact key 512 _ _ rfl hB.2

theorem pay649_apply (V : FVec Ideal S128x1024 .f32) (D : FVec Ideal S1x1024 .f32) (l : Ideal .f32) (d : Fin 128) (c : Fin 256) :
    k0_pay649 (F := Ideal) V D l (ix2 d c) = k0_pay648 (F := Ideal) V D (ix2 d ⟨c.val, by omega⟩) - l * k0_pay648 (F := Ideal) V D (ix2 d ⟨256 + c.val, by omega⟩) := by
  unfold k0_pay649
  generalize k0_pay648 (F := Ideal) V D = z
  pointwise

/-- What a point stores. -/
theorem finish (hB : Both v3 v4 L3 L4 L (score kn (column x g)) w) (hL : ∀ h y, 0 < L h y) (hw : ∀ k, w ⟨128, by omega⟩ k = 1)
    (lam : ℝ) (l l' : Ideal .f32) (hl : l = ((lam : ℝ) : EReal)) (hl' : l' = ((lam : ℝ) : EReal)) (X6 : FVec Ideal S1x128 .f32) (q : Fin 512) (e : Fin 128) :
    k0_pay1 (F := Ideal) (k0_pay648 (F := Ideal) (sums v4 L4) (totals v4 L4)) (k0_pay649 (F := Ideal) (sums v4 L4) (totals v4 L4) l) (k0_pay650 (F := Ideal) (sums v4 L4) (totals v4 L4)) l' X6 (ix3 0 q e)
      = normRow (fun d => ((mixed kn x g w L lam q d : ℝ) : EReal)) (fun d => X6 (ix2 0 d)) e := by
  refine (rowNorm_apply _ X6 q e (k0_pay649 (F := Ideal) (sums v4 L4) (totals v4 L4) l) (k0_pay650 (F := Ideal) (sums v4 L4) (totals v4 L4)) (k0_pay648 (F := Ideal) (sums v4 L4) (totals v4 L4)) l' rfl).trans ?_
  refine congrArg (fun O => normRow O (fun d => X6 (ix2 0 d)) e) (funext fun d => ?_)
  rw [sides_apply]
  unfold mixed
  by_cases h : q.val < 256
  · rw [dif_pos h]
    have e1 : k0_pay649 (F := Ideal) (sums v4 L4) (totals v4 L4) l (ix2 d ⟨q.val, h⟩)
        = k0_pay648 (F := Ideal) (sums v4 L4) (totals v4 L4) (ix2 d ⟨q.val, by omega⟩) - l * k0_pay648 (F := Ideal) (sums v4 L4) (totals v4 L4) (ix2 d ⟨256 + q.val, by omega⟩) := pay649_apply _ _ l d ⟨q.val, h⟩
    rw [e1, quotients_apply hB hL hw d _ ⟨q.val / 256, by omega⟩ ⟨q.val % 256, by omega⟩ (by show q.val = 512 * (q.val / 256) + q.val % 256; omega),
      quotients_apply hB hL hw d _ ⟨q.val / 256, by omega⟩ ⟨q.val % 256 + 256, by omega⟩ (by show 256 + q.val = 512 * (q.val / 256) + (q.val % 256 + 256); omega), hl, ← EReal.coe_mul, ← EReal.coe_sub]
  · rw [dif_neg h]
    have e1 : subf (k0_pay650 (F := Ideal) (sums v4 L4) (totals v4 L4)) (mulf (broadcast S128x256 l') (extractStridedSlice S128x256 ![0, 768] (k0_pay648 (F := Ideal) (sums v4 L4) (totals v4 L4)) slices_S128x1024_o0_768_S128x256))
          (ix2 d ⟨q.val - 256, by omega⟩)
        = k0_pay648 (F := Ideal) (sums v4 L4) (totals v4 L4) (ix2 d ⟨512 + (q.val - 256), by omega⟩) - l' * k0_pay648 (F := Ideal) (sums v4 L4) (totals v4 L4) (ix2 d ⟨768 + (q.val - 256), by omega⟩) := by
      unfold k0_pay650
      generalize hz : k0_pay648 (F := Ideal) (sums v4 L4) (totals v4 L4) = z
      pointwise
    rw [e1, quotients_apply hB hL hw d _ ⟨q.val / 256, by omega⟩ ⟨q.val % 256, by omega⟩ (by show 512 + (q.val - 256) = 512 * (q.val / 256) + q.val % 256; omega),
      quotients_apply hB hL hw d _ ⟨q.val / 256, by omega⟩ ⟨q.val % 256 + 256, by omega⟩ (by show 768 + (q.val - 256) = 512 * (q.val / 256) + (q.val % 256 + 256); omega), hl', ← EReal.coe_mul, ← EReal.coe_sub]

end Finish

end Cert.AttnIdeal.Hand
-- ==== Proof.AttnBlocks.lean ====
/- A block of keys read back from the scratch buffers, and the two blocks of queries that meet it: each item of a point, stated once for every block. -/
module

public import proofs.«01_k».proof.Proof.AttnOut

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem

/-- Two blocks of 512 query rows hold the columns `Q`. -/
def Queries (q0 q1 : FVec Ideal S512x128 .bf16) (Q : Fin 2 → Fin 512 → Fin 128 → ℝ) : Prop :=
  (∀ y d, q0 (ix2 y d) = ((Q 0 y d : ℝ) : EReal)) ∧ ∀ y d, q1 (ix2 y d) = ((Q 1 y d : ℝ) : EReal)

section Items
variable {κ3 κ4 : Kind} {sp3 sp4 sp11 sp12 : Space} {v3 : View sig κ3 sp3 S1x1024 .f32} {v4 : View sig κ4 sp4 S144x1024 .f32}
    {L3 : List (View.Piece (Elt Ideal) S1x1024 .f32)} {L4 : List (View.Piece (Elt Ideal) S144x1024 .f32)}
    {hr : S512x512.Reduces [0] S512} {hr' : S256x512.Reduces [0] S512} {e1 : FKind.Formats .f32} {e2 : 0xFF800000#32 = FKind.maximumf.neutral .f32 e1}
    {hc : S512.ShapeCasts S1x512} {hb : S1x512.Broadcasts S144x512} {hb' : S1x512.Broadcasts S512x512} {hb'' : S1x512.Broadcasts S256x512}
    {hlt : FTy.bits .bf16 < FTy.bits .f32} {c3 : S1x512.ShapeCasts S1x512} {c4 : S144x512.ShapeCasts S144x512}
    {m11 : Memref sig .tc sp11 S4096x128 .bf16} {h11 : m11.IsWhole} {m12 : Memref sig .tc sp12 S8x144x512 .bf16} {h12 : m12.IsWhole}
    {kn : ℕ → Fin 128 → ℝ} {w : Fin 144 → ℕ → ℝ} {Q : Fin 2 → Fin 512 → Fin 128 → ℝ} {q0 q1 : FVec Ideal S512x128 .bf16}
    {offk : Fin 2 → ℕ} {ink : ∀ a, offk a + S512x128.size a ≤ S4096x128.size a}
    {offv : Fin 3 → ℕ} {inv : ∀ a, offv a + S1x144x512.size a ≤ S8x144x512.size a} {hs : S1x144x512.ShapeCasts S144x512}

/-- Block `b` of the keys, for a point whose diagonal lies further down. -/
theorem Both.next (b : ℕ) (hk : offk = ![512 * b, 0]) (hv : offv = ![b, 0, 0]) (hQ : Queries q0 q1 Q)
    (h : Both v3 v4 L3 L4 (fun _ _ => 512 * b) (score kn Q) w) :
    Both v3 v4
      (put3 v3 (put3 v3 L3 0 fits3_0 (dots (View.readAt (Elt Ideal) m11.view (Rect.unit (s := S4096x128) offk S512x128.size ink).toLoadRect (h11.unread (keysAt kn))) q0) hr e1 e2 hc c3) 512 fits3_1
        (dots (View.readAt (Elt Ideal) m11.view (Rect.unit (s := S4096x128) offk S512x128.size ink).toLoadRect (h11.unread (keysAt kn))) q1) hr e1 e2 hc c3)
      (put4 v3 v4
        (put3 v3 L3 0 fits3_0 (dots (View.readAt (Elt Ideal) m11.view (Rect.unit (s := S4096x128) offk S512x128.size ink).toLoadRect (h11.unread (keysAt kn))) q0) hr e1 e2 hc c3)
        (put4 v3 v4 L3 L4 0 fits3_0 fits4_0 (shapeCast S144x512 (View.readAt (Elt Ideal) m12.view (Rect.unit (s := S8x144x512) offv S1x144x512.size inv).toLoadRect (h12.unread (valsAt w))) hs)
          (dots (View.readAt (Elt Ideal) m11.view (Rect.unit (s := S4096x128) offk S512x128.size ink).toLoadRect (h11.unread (keysAt kn))) q0) hr e1 e2 hc hb hb' hlt c4) 512 fits3_1 fits4_1
        (shapeCast S144x512 (View.readAt (Elt Ideal) m12.view (Rect.unit (s := S8x144x512) offv S1x144x512.size inv).toLoadRect (h12.unread (valsAt w))) hs)
        (dots (View.readAt (Elt Ideal) m11.view (Rect.unit (s := S4096x128) offk S512x128.size ink).toLoadRect (h11.unread (keysAt kn))) q1) hr e1 e2 hc hb hb' hlt c4)
      (fun _ _ => 512 * (b + 1)) (score kn Q) w := by
  subst hk hv
  exact Both.full (base := 512 * b) (keys_read h11 kn rfl rfl) hQ.1 hQ.2 (vals_read h12 w (b := b) rfl rfl rfl rfl _) h

/-- Where the keys of the diagonal block come from, whole and halved. -/
theorem Both.last (b : ℕ) (hk : offk = ![512 * b, 0]) (hv : offv = ![b, 0, 0]) (hQ : Queries q0 q1 Q)
    {s4 : S512x128.Slices ![0, 0] S256x128} {s5 : S144x512.Slices ![0, 0] S144x256} {hlt1 : 1 < 32} {hbs : S512x512.Broadcasts S512x512} {hbs' : S256x512.Broadcasts S256x512}
    {kb : FVec Ideal S512x128 .bf16} {vt : FVec Ideal S144x512 .bf16} {t0 : FVec Ideal S256x512 .f32} {t1 : FVec Ideal S512x512 .f32}
    (hkb : kb = View.readAt (Elt Ideal) m11.view (Rect.unit (s := S4096x128) offk S512x128.size ink).toLoadRect (h11.unread (keysAt kn)))
    (hvt : vt = shapeCast S144x512 (View.readAt (Elt Ideal) m12.view (Rect.unit (s := S8x144x512) offv S1x144x512.size inv).toLoadRect (h12.unread (valsAt w))) hs)
    (ht0 : t0 = select (sees S256x512 0#32 (iota .tc S256x512 32 [0] iota_S256x512_d0_w32) (iota .tc S256x512 32 [1] iota_S256x512_d1_w32) hlt1 hbs')
      (dots' (extractStridedSlice S256x128 ![0, 0] kb s4) q0) (broadcast S256x512 (FloatOps.ofBits (F := Ideal) .f32 0xFF800000#32)))
    (ht1 : t1 = select (sees S512x512 256#32 (iota .tc S512x512 32 [0] iota_S512x512_d0_w32) (iota .tc S512x512 32 [1] iota_S512x512_d1_w32) hlt1 hbs) (dots kb q1)
      (broadcast S512x512 (FloatOps.ofBits (F := Ideal) .f32 0xFF800000#32)))
    (h : Both v3 v4 L3 L4 (fun _ _ => 512 * b) (score kn Q) w) :
    Both v3 v4
      (put3 v3 (⟨cols3 0 fits3_0, shapeCast S1x512 (newMax t0 hr' e1 e2 hc (v3.readCov L3 (cols3 0 fits3_0).toLoadRect)) c3⟩ :: L3) 512 fits3_1 t1 hr e1 e2 hc c3)
      (put4 v3 v4 (⟨cols3 0 fits3_0, shapeCast S1x512 (newMax t0 hr' e1 e2 hc (v3.readCov L3 (cols3 0 fits3_0).toLoadRect)) c3⟩ :: L3)
        (⟨cols4 0 fits4_0, shapeCast S144x512 (newAcc256 hb hb'' hlt (v3.readCov L3 (cols3 0 fits3_0).toLoadRect)
          (newMax t0 hr' e1 e2 hc (v3.readCov L3 (cols3 0 fits3_0).toLoadRect)) (v4.readCov L4 (cols4 0 fits4_0).toLoadRect)
          (extractStridedSlice S144x256 ![0, 0] vt s5) t0) c4⟩ :: L4)
        512 fits3_1 fits4_1 vt t1 hr e1 e2 hc hb hb' hlt c4) (seen (512 * b)) (score kn Q) w := by
  subst hk hv hkb hvt
  exact Both.diagonal (base := 512 * b) (half_keys (keys_read h11 kn rfl rfl) _) (keys_read h11 kn rfl rfl) hQ.1 hQ.2
    (half_vals (vals_read h12 w (b := b) rfl rfl rfl rfl _) _) (vals_read h12 w (b := b) rfl rfl rfl rfl _) h ht0 ht1

end Items

/-- What a point writes, its two lists known. -/
theorem shown {κ3 κ4 : Kind} {sp3 sp4 s0 : Space} {v3 : View sig κ3 sp3 S1x1024 .f32} {v4 : View sig κ4 sp4 S144x1024 .f32}
    {L3 : List (View.Piece (Elt Ideal) S1x1024 .f32)} {L4 : List (View.Piece (Elt Ideal) S144x1024 .f32)}
    {x : Fin 512 → Fin 128 → ℝ} {g : Fin 128 → ℝ} {kn : ℕ → Fin 128 → ℝ} {w : Fin 144 → ℕ → ℝ} {base : ℕ}
    (hB : Both v3 v4 L3 L4 (seen base) (score kn (column x g)) w) (hw : ∀ k, w ⟨128, by omega⟩ k = 1)
    {m3 : Memref sig .tc s0 S1 .f32} {h3 : m3.IsWhole} {x0 : Vec Ideal S1 .f32} {lam : ℝ} (h0 : ∀ j, x0 j = ((lam : ℝ) : EReal))
    {r r' : Rect S1} {j : r.shape.Idx} {j' : r'.shape.Idx} (X6 : FVec Ideal S1x128 .f32) (q : Fin 512) (e : Fin 128) :
    k0_pay1 (F := Ideal) (k0_pay648 (F := Ideal) (sums v4 L4) (totals v4 L4))
        (k0_pay649 (F := Ideal) (sums v4 L4) (totals v4 L4) (View.readAt (Elt Ideal) m3.view r.toLoadRect (h3.unread x0) j)) (k0_pay650 (F := Ideal) (sums v4 L4) (totals v4 L4))
        (View.readAt (Elt Ideal) m3.view r'.toLoadRect (h3.unread x0) j') X6 (ix3 0 q e)
      = normRow (fun d => ((mixed kn x g w (seen base) lam q d : ℝ) : EReal)) (fun d => X6 (ix2 0 d)) e :=
  finish hB (fun h y => by unfold seen; omega) hw lam _ _ (whole_read h3 x0 _ h0 _ _) (whole_read h3 x0 _ h0 _ _) X6 q e

end Cert.AttnIdeal.Hand
-- ==== Proof.AttnCases.lean ====
/- What each point of a head writes, from the keys and the values its head left in the scratch buffers. -/
module

public import proofs.«01_k».proof.Proof.AttnBlocks

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem

theorem zero3 : (![0, 0, 0] : Fin 3 → ℕ) = fun _ => 0 := by funext a; fin_cases a <;> rfl

/-- The two blocks of query columns as a point reads them back. -/
theorem queries {x1 : Vec Ideal S1x512x128 .f32} {x4 : Vec Ideal S1x128 .f32} {x : Fin 512 → Fin 128 → ℝ} {g : Fin 128 → ℝ}
    (e1 : ∀ r d, x1 (ix3 0 r d) = ((x r d : ℝ) : EReal)) (e4 : ∀ d, x4 (ix2 0 d) = ((g d : ℝ) : EReal)) {s4 s7 : Space} {m4 : Memref sig .tc s4 S1x512x128 .f32} (h4 : m4.IsWhole)
    {m7 : Memref sig .tc s7 S1x128 .f32} (h7 : m7.IsWhole) {κ : Kind} {sp : Space} (v : View sig κ sp S1024x128 .bf16)
    {P : List (View.Piece (Elt Ideal) S1024x128 .bf16)}
    (hP : P = qPieces (View.readAt (Elt Ideal) m4.view (Rect.unit (s := S1x512x128) ![0, 0, 0] S1x512x128.size inb_S1x512x128_S1x512x128_0_0_0).toLoadRect (h4.unread x1))
      (View.readAt (Elt Ideal) m7.view (Rect.unit (s := S1x128) ![0, 0] S1x128.size inb_S1x128_S1x128_0_0).toLoadRect (h7.unread x4)))
    {i0 : ∀ a, (![0, 0] : Fin 2 → ℕ) a + S512x128.size a ≤ S1024x128.size a} {i1 : ∀ a, (![512, 0] : Fin 2 → ℕ) a + S512x128.size a ≤ S1024x128.size a} :
    Queries (v.readCov P (Rect.unit (s := S1024x128) ![0, 0] S512x128.size i0).toLoadRect) (v.readCov P (Rect.unit (s := S1024x128) ![512, 0] S512x128.size i1).toLoadRect) (column x g) := by
  subst hP
  exact ⟨q_read h4 h7 v x1 x4 x g e1 e4 0 rfl rfl, q_read h4 h7 v x1 x4 x g e1 e4 1 rfl rfl⟩

section Points
variable (c : Dev nD) (i : grid0.Coords) (a3 : Memref sig .tc .smem S1 .f32) (h3 : a3.IsWhole) (a4 : Memref sig .tc .vmem S1x512x128 .f32) (h4 : a4.IsWhole)
    (a5 : Memref sig .tc .vmem S1x4096x128 .f32) (h5 : a5.IsWhole) (a6 : Memref sig .tc .vmem S1x4096x128 .f32) (h6 : a6.IsWhole)
    (a7 : Memref sig .tc .vmem S1x128 .f32) (h7 : a7.IsWhole) (a8 : Memref sig .tc .vmem S1x128 .f32) (h8 : a8.IsWhole) (a9 : Memref sig .tc .vmem S1x128 .f32) (h9 : a9.IsWhole)
    (a10 : Memref sig .tc .vmem S1x512x128 .bf16) (h10 : a10.IsWhole) (a11 : Memref sig .tc .vmem S4096x128 .bf16) (h11 : a11.IsWhole)
    (a12 : Memref sig .tc .vmem S8x144x512 .bf16) (h12 : a12.IsWhole) (a13 : Memref sig .tc .vmem S1024x128 .bf16) (h13 : a13.IsWhole)
    (a14 : Memref sig .tc .vmem S1x1024 .f32) (h14 : a14.IsWhole) (a15 : Memref sig .tc .vmem S144x1024 .f32) (h15 : a15.IsWhole)
    (x0 : Vec Ideal S1 .f32) (x1 : Vec Ideal S1x512x128 .f32) (x2 : Vec Ideal S1x4096x128 .f32) (x3 : Vec Ideal S1x4096x128 .f32)
    (x4 : Vec Ideal S1x128 .f32) (x5 : Vec Ideal S1x128 .f32) (x6 : Vec Ideal S1x128 .f32)
    (x : Fin 512 → Fin 128 → ℝ) (g : Fin 128 → ℝ) (kn : ℕ → Fin 128 → ℝ) (w : Fin 144 → ℕ → ℝ) (lam : ℝ)
    (e0 : ∀ j, x0 j = ((lam : ℝ) : EReal)) (e1 : ∀ r d, x1 (ix3 0 r d) = ((x r d : ℝ) : EReal)) (e4 : ∀ d, x4 (ix2 0 d) = ((g d : ℝ) : EReal))
    (hw : ∀ k, w ⟨128, of_decide_eq_true (Eq.refl true)⟩ k = 1) (q : Fin 512) (e : Fin 128)

include e0 e1 e4 hw in
theorem out_B (hi : (i 2).val = 1) : ∀ c0 c1 c2 c3 c4 c5 c6 c7 c8,
    out0_B_7 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6 (keysAt kn) (valsAt w) (ix3 0 q e)
      = normRow (fun d => ((mixed kn x g w (seen (512 * 1)) lam q d : ℝ) : EReal)) (fun d => x6 (ix2 0 d)) e := by
  intro c0 c1 c2 c3 c4 c5 c6 c7 c8
  have k0 : k0_off7 i = ![512 * 0, 0] := by unfold k0_off7; simp only [hi]; decide +kernel
  have k1 : k0_off8 i = ![512 * 1, 0] := by unfold k0_off8; simp only [hi]; decide +kernel
  have v0 : k0_off9 i = ![0, 0, 0] := by unfold k0_off9; simp only [hi]; decide +kernel
  have v1 : k0_off10 i = ![1, 0, 0] := by unfold k0_off10; simp only [hi]; decide +kernel
  unfold out0_B_7
  rw [View.read_writes_eq_canon]
  swap
  · apply cover0_B_7 <;> assumption
  unfold kernelRun0_B
  dsimp only
  rw [View.canon_unit_zero (S := S1x512x128) zero3, gain_read h9 x6]
  refine shown (v3 := a14.view) (L3 := ?l) ?b hw e0 x6 q e
  case b => refine Both.last 1 k1 v1 (queries e1 e4 h4 h7 a13.view rfl) rfl rfl rfl rfl ?_
            refine Both.next 0 k0 v0 (queries e1 e4 h4 h7 a13.view rfl) ?_
            exact Both.init (by rw [trips1]; rfl) (by rw [trips2]; rfl) _ _

include e0 e1 e4 hw in
theorem out_C (hi : (i 2).val = 2) : ∀ c0 c1 c2 c3 c4 c5 c6 c7 c8,
    out0_C_7 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6 (keysAt kn) (valsAt w) (ix3 0 q e)
      = normRow (fun d => ((mixed kn x g w (seen (512 * 2)) lam q d : ℝ) : EReal)) (fun d => x6 (ix2 0 d)) e := by
  intro c0 c1 c2 c3 c4 c5 c6 c7 c8
  have k : ∀ j : Fin 2, k0_off11 i (BitVec.ofNat 32 j.val) = ![512 * j.val, 0] := by unfold k0_off11; simp only [hi]; decide +kernel
  have v : ∀ j : Fin 2, k0_off13 i (BitVec.ofNat 32 j.val) = ![j.val, 0, 0] := by unfold k0_off13; simp only [hi]; decide +kernel
  have kd : k0_off12 i = ![512 * 2, 0] := by unfold k0_off12; simp only [hi]; decide +kernel
  have vd : k0_off14 i = ![2, 0, 0] := by unfold k0_off14; simp only [hi]; decide +kernel
  unfold out0_C_7
  rw [View.read_writes_eq_canon]
  swap
  · apply cover0_C_7 <;> assumption
  unfold kernelRun0_C
  dsimp only
  rw [View.canon_unit_zero (S := S1x512x128) zero3, gain_read h9 x6]
  refine shown (v3 := a14.view) (L3 := ?l) ?b hw e0 x6 q e
  case b => refine Both.last 2 kd vd (queries e1 e4 h4 h7 a13.view rfl) rfl rfl rfl rfl ?_
            refine Both.next 1 (k 1) (v 1) (queries e1 e4 h4 h7 a13.view rfl) ?_
            refine Both.next 0 (k 0) (v 0) (queries e1 e4 h4 h7 a13.view rfl) ?_
            exact Both.init (by rw [trips1]; rfl) (by rw [trips2]; rfl) _ _

include e0 e1 e4 hw in
theorem out_D (hi : (i 2).val = 3) : ∀ c0 c1 c2 c3 c4 c5 c6 c7 c8,
    out0_D_7 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6 (keysAt kn) (valsAt w) (ix3 0 q e)
      = normRow (fun d => ((mixed kn x g w (seen (512 * 3)) lam q d : ℝ) : EReal)) (fun d => x6 (ix2 0 d)) e := by
  intro c0 c1 c2 c3 c4 c5 c6 c7 c8
  have k : ∀ j : Fin 3, k0_off15 i (BitVec.ofNat 32 j.val) = ![512 * j.val, 0] := by unfold k0_off15; simp only [hi]; decide +kernel
  have v : ∀ j : Fin 3, k0_off17 i (BitVec.ofNat 32 j.val) = ![j.val, 0, 0] := by unfold k0_off17; simp only [hi]; decide +kernel
  have kd : k0_off16 i = ![512 * 3, 0] := by unfold k0_off16; simp only [hi]; decide +kernel
  have vd : k0_off18 i = ![3, 0, 0] := by unfold k0_off18; simp only [hi]; decide +kernel
  unfold out0_D_7
  rw [View.read_writes_eq_canon]
  swap
  · apply cover0_D_7 <;> assumption
  unfold kernelRun0_D
  dsimp only
  rw [View.canon_unit_zero (S := S1x512x128) zero3, gain_read h9 x6]
  refine shown (v3 := a14.view) (L3 := ?l) ?b hw e0 x6 q e
  case b => refine Both.last 3 kd vd (queries e1 e4 h4 h7 a13.view rfl) rfl rfl rfl rfl ?_
            refine Both.next 2 (k 2) (v 2) (queries e1 e4 h4 h7 a13.view rfl) ?_
            refine Both.next 1 (k 1) (v 1) (queries e1 e4 h4 h7 a13.view rfl) ?_
            refine Both.next 0 (k 0) (v 0) (queries e1 e4 h4 h7 a13.view rfl) ?_
            exact Both.init (by rw [trips1]; rfl) (by rw [trips2]; rfl) _ _

include e0 e1 e4 hw in
theorem out_E (hi : (i 2).val = 4) : ∀ c0 c1 c2 c3 c4 c5 c6 c7 c8,
    out0_E_7 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6 (keysAt kn) (valsAt w) (ix3 0 q e)
      = normRow (fun d => ((mixed kn x g w (seen (512 * 4)) lam q d : ℝ) : EReal)) (fun d => x6 (ix2 0 d)) e := by
  intro c0 c1 c2 c3 c4 c5 c6 c7 c8
  have k : ∀ j : Fin 4, k0_off19 i (BitVec.ofNat 32 j.val) = ![512 * j.val, 0] := by unfold k0_off19; simp only [hi]; decide +kernel
  have v : ∀ j : Fin 4, k0_off21 i (BitVec.ofNat 32 j.val) = ![j.val, 0, 0] := by unfold k0_off21; simp only [hi]; decide +kernel
  have kd : k0_off20 i = ![512 * 4, 0] := by unfold k0_off20; simp only [hi]; decide +kernel
  have vd : k0_off22 i = ![4, 0, 0] := by unfold k0_off22; simp only [hi]; decide +kernel
  unfold out0_E_7
  rw [View.read_writes_eq_canon]
  swap
  · apply cover0_E_7 <;> assumption
  unfold kernelRun0_E
  dsimp only
  rw [View.canon_unit_zero (S := S1x512x128) zero3, gain_read h9 x6]
  refine shown (v3 := a14.view) (L3 := ?l) ?b hw e0 x6 q e
  case b => refine Both.last 4 kd vd (queries e1 e4 h4 h7 a13.view rfl) rfl rfl rfl rfl ?_
            refine Both.next 3 (k 3) (v 3) (queries e1 e4 h4 h7 a13.view rfl) ?_
            refine Both.next 2 (k 2) (v 2) (queries e1 e4 h4 h7 a13.view rfl) ?_
            refine Both.next 1 (k 1) (v 1) (queries e1 e4 h4 h7 a13.view rfl) ?_
            refine Both.next 0 (k 0) (v 0) (queries e1 e4 h4 h7 a13.view rfl) ?_
            exact Both.init (by rw [trips1]; rfl) (by rw [trips2]; rfl) _ _

include e0 e1 e4 hw in
theorem out_F (hi : (i 2).val = 5) : ∀ c0 c1 c2 c3 c4 c5 c6 c7 c8,
    out0_F_7 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6 (keysAt kn) (valsAt w) (ix3 0 q e)
      = normRow (fun d => ((mixed kn x g w (seen (512 * 5)) lam q d : ℝ) : EReal)) (fun d => x6 (ix2 0 d)) e := by
  intro c0 c1 c2 c3 c4 c5 c6 c7 c8
  have k : ∀ j : Fin 5, k0_off23 i (BitVec.ofNat 32 j.val) = ![512 * j.val, 0] := by unfold k0_off23; simp only [hi]; decide +kernel
  have v : ∀ j : Fin 5, k0_off25 i (BitVec.ofNat 32 j.val) = ![j.val, 0, 0] := by unfold k0_off25; simp only [hi]; decide +kernel
  have kd : k0_off24 i = ![512 * 5, 0] := by unfold k0_off24; simp only [hi]; decide +kernel
  have vd : k0_off26 i = ![5, 0, 0] := by unfold k0_off26; simp only [hi]; decide +kernel
  unfold out0_F_7
  rw [View.read_writes_eq_canon]
  swap
  · apply cover0_F_7 <;> assumption
  unfold kernelRun0_F
  dsimp only
  rw [View.canon_unit_zero (S := S1x512x128) zero3, gain_read h9 x6]
  refine shown (v3 := a14.view) (L3 := ?l) ?b hw e0 x6 q e
  case b => refine Both.last 5 kd vd (queries e1 e4 h4 h7 a13.view rfl) rfl rfl rfl rfl ?_
            refine Both.next 4 (k 4) (v 4) (queries e1 e4 h4 h7 a13.view rfl) ?_
            refine Both.next 3 (k 3) (v 3) (queries e1 e4 h4 h7 a13.view rfl) ?_
            refine Both.next 2 (k 2) (v 2) (queries e1 e4 h4 h7 a13.view rfl) ?_
            refine Both.next 1 (k 1) (v 1) (queries e1 e4 h4 h7 a13.view rfl) ?_
            refine Both.next 0 (k 0) (v 0) (queries e1 e4 h4 h7 a13.view rfl) ?_
            exact Both.init (by rw [trips1]; rfl) (by rw [trips2]; rfl) _ _

include e0 e1 e4 hw in
theorem out_G (hi : (i 2).val = 6) : ∀ c0 c1 c2 c3 c4 c5 c6 c7 c8,
    out0_G_7 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6 (keysAt kn) (valsAt w) (ix3 0 q e)
      = normRow (fun d => ((mixed kn x g w (seen (512 * 6)) lam q d : ℝ) : EReal)) (fun d => x6 (ix2 0 d)) e := by
  intro c0 c1 c2 c3 c4 c5 c6 c7 c8
  have k : ∀ j : Fin 6, k0_off27 i (BitVec.ofNat 32 j.val) = ![512 * j.val, 0] := by unfold k0_off27; simp only [hi]; decide +kernel
  have v : ∀ j : Fin 6, k0_off29 i (BitVec.ofNat 32 j.val) = ![j.val, 0, 0] := by unfold k0_off29; simp only [hi]; decide +kernel
  have kd : k0_off28 i = ![512 * 6, 0] := by unfold k0_off28; simp only [hi]; decide +kernel
  have vd : k0_off30 i = ![6, 0, 0] := by unfold k0_off30; simp only [hi]; decide +kernel
  unfold out0_G_7
  rw [View.read_writes_eq_canon]
  swap
  · apply cover0_G_7 <;> assumption
  unfold kernelRun0_G
  dsimp only
  rw [View.canon_unit_zero (S := S1x512x128) zero3, gain_read h9 x6]
  refine shown (v3 := a14.view) (L3 := ?l) ?b hw e0 x6 q e
  case b => refine Both.last 6 kd vd (queries e1 e4 h4 h7 a13.view rfl) rfl rfl rfl rfl ?_
            refine Both.next 5 (k 5) (v 5) (queries e1 e4 h4 h7 a13.view rfl) ?_
            refine Both.next 4 (k 4) (v 4) (queries e1 e4 h4 h7 a13.view rfl) ?_
            refine Both.next 3 (k 3) (v 3) (queries e1 e4 h4 h7 a13.view rfl) ?_
            refine Both.next 2 (k 2) (v 2) (queries e1 e4 h4 h7 a13.view rfl) ?_
            refine Both.next 1 (k 1) (v 1) (queries e1 e4 h4 h7 a13.view rfl) ?_
            refine Both.next 0 (k 0) (v 0) (queries e1 e4 h4 h7 a13.view rfl) ?_
            exact Both.init (by rw [trips1]; rfl) (by rw [trips2]; rfl) _ _

include e0 e1 e4 hw in
theorem out_H (hi : (i 2).val = 7) : ∀ c0 c1 c2 c3 c4 c5 c6 c7 c8,
    out0_H_7 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6 (keysAt kn) (valsAt w) (ix3 0 q e)
      = normRow (fun d => ((mixed kn x g w (seen (512 * 7)) lam q d : ℝ) : EReal)) (fun d => x6 (ix2 0 d)) e := by
  intro c0 c1 c2 c3 c4 c5 c6 c7 c8
  have k : ∀ j : Fin 7, k0_off31 i (BitVec.ofNat 32 j.val) = ![512 * j.val, 0] := by unfold k0_off31; simp only [hi]; decide +kernel
  have v : ∀ j : Fin 7, k0_off33 i (BitVec.ofNat 32 j.val) = ![j.val, 0, 0] := by unfold k0_off33; simp only [hi]; decide +kernel
  have kd : k0_off32 i = ![512 * 7, 0] := by unfold k0_off32; simp only [hi]; decide +kernel
  have vd : k0_off34 i = ![7, 0, 0] := by unfold k0_off34; simp only [hi]; decide +kernel
  unfold out0_H_7
  rw [View.read_writes_eq_canon]
  swap
  · apply cover0_H_7 <;> assumption
  unfold kernelRun0_H
  dsimp only
  rw [View.canon_unit_zero (S := S1x512x128) zero3, gain_read h9 x6]
  refine shown (v3 := a14.view) (L3 := ?l) ?b hw e0 x6 q e
  case b => refine Both.last 7 kd vd (queries e1 e4 h4 h7 a13.view rfl) rfl rfl rfl rfl ?_
            refine Both.next 6 (k 6) (v 6) (queries e1 e4 h4 h7 a13.view rfl) ?_
            refine Both.next 5 (k 5) (v 5) (queries e1 e4 h4 h7 a13.view rfl) ?_
            refine Both.next 4 (k 4) (v 4) (queries e1 e4 h4 h7 a13.view rfl) ?_
            refine Both.next 3 (k 3) (v 3) (queries e1 e4 h4 h7 a13.view rfl) ?_
            refine Both.next 2 (k 2) (v 2) (queries e1 e4 h4 h7 a13.view rfl) ?_
            refine Both.next 1 (k 1) (v 1) (queries e1 e4 h4 h7 a13.view rfl) ?_
            refine Both.next 0 (k 0) (v 0) (queries e1 e4 h4 h7 a13.view rfl) ?_
            exact Both.init (by rw [trips1]; rfl) (by rw [trips2]; rfl) _ _

end Points

end Cert.AttnIdeal.Hand
-- ==== Proof.AttnFirst.lean ====
/- The first point of a head: it scales its head's keys, lays its values out beside a row of ones, and leaves both for the points that follow. -/
module

public import proofs.«01_k».proof.Proof.AttnCases

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem

/-- The keys of a head, scaled. -/
def keysOf (xk : ℕ → Fin 128 → ℝ) (gk : Fin 128 → ℝ) (k : ℕ) (d : Fin 128) : ℝ := scaled (xk k) gk d

/-- The values of a head above rows of ones. -/
def valsOf (xv : ℕ → Fin 128 → ℝ) (r : Fin 144) (k : ℕ) : ℝ := if h : r.val < 128 then xv k ⟨r.val, h⟩ else 1

theorem valsOf_one (xv : ℕ → Fin 128 → ℝ) (k : ℕ) : valsOf xv ⟨128, of_decide_eq_true (Eq.refl true)⟩ k = 1 := dif_neg (by simp)

/-- Rows of a head's block, read 512 at a time. -/
theorem part_read {sp : Space} {m : Memref sig .tc sp S1x4096x128 .f32} (hm : m.IsWhole) (X : FVec Ideal S1x4096x128 .f32) (x : ℕ → Fin 128 → ℝ)
    (hX : ∀ (r : Fin 4096) d, X (ix3 0 r d) = ((x r.val d : ℝ) : EReal)) (b : ℕ) {hin : ∀ a, (![0, 512 * b, 0] : Fin 3 → ℕ) a + S1x512x128.size a ≤ S1x4096x128.size a}
    (hc : S1x512x128.ShapeCasts S512x128) (r : Fin 512) (d : Fin 128) :
    shapeCast S512x128 (View.readAt (Elt Ideal) m.view (Rect.unit (s := S1x4096x128) ![0, 512 * b, 0] S1x512x128.size hin).toLoadRect (hm.unread X)) hc (ix2 r d) = ((x (512 * b + r.val) d : ℝ) : EReal) := by
  rw [View.readAt_eq_ld, hm.read_unread]
  have hb : 512 * b + 512 ≤ 4096 := hin 1
  have e : ∀ v : FVec Ideal S1x512x128 .f32, shapeCast S512x128 v hc (ix2 r d) = v (ix3 0 r d) := fun v => by pointwise
  refine (e _).trans ?_
  rw [← hX ⟨512 * b + r.val, by omega⟩ d]
  refine congrArg X ?_
  funext a
  match a with
  | ⟨0, _⟩ => rfl
  | ⟨1, _⟩ => exact Fin.ext (by show 512 * b + 1 * r.val = 512 * b + r.val; omega)
  | ⟨2, _⟩ => exact Fin.ext (by show 0 + 1 * d.val = d.val; omega)

section Pieces
variable {s5 s6 s8 : Space} {m5 : Memref sig .tc s5 S1x4096x128 .f32} {h5 : m5.IsWhole} {m6 : Memref sig .tc s6 S1x4096x128 .f32} {h6 : m6.IsWhole}
    {m8 : Memref sig .tc s8 S1x128 .f32} {h8 : m8.IsWhole} {x2 x3 : FVec Ideal S1x4096x128 .f32} {x5 : FVec Ideal S1x128 .f32} {xk xv : ℕ → Fin 128 → ℝ} {gk : Fin 128 → ℝ}

/-- One block of scaled keys is its part of the whole. -/
theorem keys_piece (e2 : ∀ (r : Fin 4096) d, x2 (ix3 0 r d) = ((xk r.val d : ℝ) : EReal)) (e5 : ∀ d, x5 (ix2 0 d) = ((gk d : ℝ) : EReal)) (b : ℕ)
    {hin : ∀ a, (![0, 512 * b, 0] : Fin 3 → ℕ) a + S1x512x128.size a ≤ S1x4096x128.size a} {hin' : ∀ a, (![512 * b, 0] : Fin 2 → ℕ) a + S512x128.size a ≤ S4096x128.size a}
    {hc : S1x512x128.ShapeCasts S512x128} {hg : S1x128.ShapeCasts S1x128} {hs : S512x128.ShapeCasts S512x128} {hl : FTy.bits .bf16 < FTy.bits .f32} {hb : S1x128.Broadcasts S512x128} (z : S512x128.Idx) :
    shapeCast S512x128 (truncf .bf16 (rowsScaled
        (shapeCast S512x128 (View.readAt (Elt Ideal) m5.view (Rect.unit (s := S1x4096x128) ![0, 512 * b, 0] S1x512x128.size hin).toLoadRect (h5.unread x2)) hc)
        (shapeCast S1x128 (View.readAt (Elt Ideal) m8.view (Rect.unit (s := S1x128) ![0, 0] S1x128.size inb_S1x128_S1x128_0_0).toLoadRect (h8.unread x5)) hg) hl hb) hl) hs z
      = keysAt (keysOf xk gk) ((Rect.unit (s := S4096x128) ![512 * b, 0] S512x128.size hin').emb z) := by
  obtain ⟨r, d, rfl⟩ : ∃ (r : Fin 512) (d : Fin 128), z = ix2 r d := ⟨z 0, z 1, eq_ix2 z⟩
  rw [shapeCast_self, gain_read h8 x5]
  refine (rowsScaled_apply _ _ _ _ r d (xk (512 * b + r.val)) gk (fun e => part_read h5 x2 xk e2 b hc r e)
    (fun e => (congrFun (shapeCast_self x5 hg) (ix2 0 e)).trans (e5 e))).trans ?_
  show _ = ((keysOf xk gk (512 * b + 1 * r.val) ⟨0 + 1 * d.val, _⟩ : ℝ) : EReal)
  have h1 : 512 * b + 1 * r.val = 512 * b + r.val := by omega
  have h2 : ∀ hp, (⟨0 + 1 * d.val, hp⟩ : Fin 128) = d := fun hp => Fin.ext (by show 0 + 1 * d.val = d.val; omega)
  rw [h1]
  exact (congrArg (fun z => ((keysOf xk gk (512 * b + r.val) z : ℝ) : EReal)) (h2 _)).symm

/-- One block of values, laid out by columns. -/
theorem vals_piece (e3 : ∀ (r : Fin 4096) d, x3 (ix3 0 r d) = ((xv r.val d : ℝ) : EReal)) (b : ℕ)
    {hin : ∀ a, (![0, 512 * b, 0] : Fin 3 → ℕ) a + S1x512x128.size a ≤ S1x4096x128.size a} {hin' : ∀ a, (![b, 0, 0] : Fin 3 → ℕ) a + S1x128x512.size a ≤ S8x144x512.size a}
    {hc : S1x512x128.ShapeCasts S512x128} {ht : S512x128.Transposes [1, 0] S128x512} {hs : S128x512.ShapeCasts S1x128x512} {hl : FTy.bits .bf16 < FTy.bits .f32} (z : S1x128x512.Idx) :
    shapeCast S1x128x512 (truncf (F := Ideal) .bf16 (transpose S128x512 [1, 0]
        (shapeCast S512x128 (View.readAt (Elt Ideal) m6.view (Rect.unit (s := S1x4096x128) ![0, 512 * b, 0] S1x512x128.size hin).toLoadRect (h6.unread x3)) hc) ht) hl) hs z
      = valsAt (valsOf xv) ((Rect.unit (s := S8x144x512) ![b, 0, 0] S1x128x512.size hin').emb z) := by
  obtain ⟨d, k, rfl⟩ : ∃ (d : Fin 128) (k : Fin 512), z = ix3 0 d k := ⟨z 1, z 2, by rw [eq_ix3 z]; congr 1; exact Subsingleton.elim _ _⟩
  have e := part_read h6 x3 xv e3 b (hin := hin) hc k d
  generalize shapeCast S512x128 (View.readAt (Elt Ideal) m6.view (Rect.unit (s := S1x4096x128) ![0, 512 * b, 0] S1x512x128.size hin).toLoadRect (h6.unread x3)) hc = V at e ⊢
  have e' : shapeCast S1x128x512 (truncf (F := Ideal) .bf16 (transpose S128x512 [1, 0] V ht) hl) hs (ix3 0 d k) = V (ix2 k d) := by pointwise
  rw [e', e]
  show _ = ((valsOf xv ⟨0 + 1 * d.val, _⟩ (512 * (b + 1 * 0) + (0 + 1 * k.val)) : ℝ) : EReal)
  have h1 : 512 * (b + 1 * 0) + (0 + 1 * k.val) = 512 * b + k.val := by omega
  have h2 : ∀ hp, (⟨0 + 1 * d.val, hp⟩ : Fin 144) = ⟨d.val, by omega⟩ := fun hp => Fin.ext (by show 0 + 1 * d.val = d.val; omega)
  rw [h1]
  refine Eq.trans ?_ (congrArg (fun z => ((valsOf xv z (512 * b + k.val) : ℝ) : EReal)) (h2 _)).symm
  unfold valsOf
  rw [dif_pos d.isLt]

/-- The rows of ones under a block of values. -/
theorem ones_piece (b : ℕ) {hin' : ∀ a, (![b, 128, 0] : Fin 3 → ℕ) a + S1x16x512.size a ≤ S8x144x512.size a} (z : S1x16x512.Idx) :
    k0_pay615 (F := Ideal) z = valsAt (valsOf xv) ((Rect.unit (s := S8x144x512) ![b, 128, 0] S1x16x512.size hin').emb z) := by
  have h1 : FloatOps.ofBits (F := Ideal) .bf16 0x3F80#16 = (1 : EReal) := by simp [Ideal.ofBits, Ideal.ieee, -EReal.coe_mul]; norm_num
  refine Eq.trans (b := FloatOps.ofBits (F := Ideal) .bf16 0x3F80#16) rfl (h1.trans ?_)
  show _ = ((valsOf xv ⟨128 + 1 * (z 1).val, _⟩ _ : ℝ) : EReal)
  unfold valsOf
  rw [dif_neg (by show ¬ 128 + 1 * (z 1).val < 128; omega)]
  rfl

end Pieces

theorem written_keys {κ : Kind} {sp : Space} (v : View sig κ sp S4096x128 .bf16) {f : v.ty.Contents (Elt Ideal)} {P : List (View.Piece (Elt Ideal) S4096x128 .bf16)} {kn : ℕ → Fin 128 → ℝ}
    (hP : View.canon P = keysAt kn) (hc : ∀ y, ∃ p ∈ P, y ∈ p.1.set) {off : Fin 2 → ℕ} {h : ∀ a, off a + S512x128.size a ≤ S4096x128.size a} (ho : off = ![0, 0]) (k : Fin 512) (d : Fin 128) :
    View.readAt (Elt Ideal) v (Rect.unit (s := S4096x128) off S512x128.size h).toLoadRect (v.writes (Elt Ideal) f P) (ix2 k d) = ((kn (0 + k.val) d : ℝ) : EReal) := by
  rw [View.readAt_eq_ld, View.read_writes_eq_canon _ _ _ hc, hP]
  exact keys_block kn (congrFun ho 0) (congrFun ho 1) k d

theorem written_vals {κ : Kind} {sp : Space} (v : View sig κ sp S8x144x512 .bf16) {f : v.ty.Contents (Elt Ideal)} {P : List (View.Piece (Elt Ideal) S8x144x512 .bf16)} {w : Fin 144 → ℕ → ℝ}
    (hP : View.canon P = valsAt w) (hc : ∀ y, ∃ p ∈ P, y ∈ p.1.set) {off : Fin 3 → ℕ} {h : ∀ a, off a + S1x144x512.size a ≤ S8x144x512.size a} (ho : off = ![0, 0, 0])
    (hs : S1x144x512.ShapeCasts S144x512) (r : Fin 144) (k : Fin 512) :
    shapeCast S144x512 (View.readAt (Elt Ideal) v (Rect.unit (s := S8x144x512) off S1x144x512.size h).toLoadRect (v.writes (Elt Ideal) f P)) hs (ix2 r k) = ((w r (0 + k.val) : ℝ) : EReal) := by
  rw [View.readAt_eq_ld, View.read_writes_eq_canon _ _ _ hc, hP]
  exact vals_block w (b := 0) rfl (congrFun ho 0) (congrFun ho 1) (congrFun ho 2) hs r k

section Point
variable (c : Dev nD) (i : grid0.Coords) (a3 : Memref sig .tc .smem S1 .f32) (h3 : a3.IsWhole) (a4 : Memref sig .tc .vmem S1x512x128 .f32) (h4 : a4.IsWhole)
    (a5 : Memref sig .tc .vmem S1x4096x128 .f32) (h5 : a5.IsWhole) (a6 : Memref sig .tc .vmem S1x4096x128 .f32) (h6 : a6.IsWhole)
    (a7 : Memref sig .tc .vmem S1x128 .f32) (h7 : a7.IsWhole) (a8 : Memref sig .tc .vmem S1x128 .f32) (h8 : a8.IsWhole) (a9 : Memref sig .tc .vmem S1x128 .f32) (h9 : a9.IsWhole)
    (a10 : Memref sig .tc .vmem S1x512x128 .bf16) (h10 : a10.IsWhole) (a11 : Memref sig .tc .vmem S4096x128 .bf16) (h11 : a11.IsWhole)
    (a12 : Memref sig .tc .vmem S8x144x512 .bf16) (h12 : a12.IsWhole) (a13 : Memref sig .tc .vmem S1024x128 .bf16) (h13 : a13.IsWhole)
    (a14 : Memref sig .tc .vmem S1x1024 .f32) (h14 : a14.IsWhole) (a15 : Memref sig .tc .vmem S144x1024 .f32) (h15 : a15.IsWhole)
    (x0 : Vec Ideal S1 .f32) (x1 : Vec Ideal S1x512x128 .f32) (x2 : Vec Ideal S1x4096x128 .f32) (x3 : Vec Ideal S1x4096x128 .f32)
    (x4 : Vec Ideal S1x128 .f32) (x5 : Vec Ideal S1x128 .f32) (x6 : Vec Ideal S1x128 .f32)
    (x : Fin 512 → Fin 128 → ℝ) (g gk : Fin 128 → ℝ) (xk xv : ℕ → Fin 128 → ℝ) (lam : ℝ)
    (e0 : ∀ j, x0 j = ((lam : ℝ) : EReal)) (e1 : ∀ r d, x1 (ix3 0 r d) = ((x r d : ℝ) : EReal)) (e4 : ∀ d, x4 (ix2 0 d) = ((g d : ℝ) : EReal))
    (e2 : ∀ (r : Fin 4096) d, x2 (ix3 0 r d) = ((xk r.val d : ℝ) : EReal)) (e3 : ∀ (r : Fin 4096) d, x3 (ix3 0 r d) = ((xv r.val d : ℝ) : EReal))
    (e5 : ∀ d, x5 (ix2 0 d) = ((gk d : ℝ) : EReal)) (q : Fin 512) (e : Fin 128)

include e2 e5 in
theorem keys_left : ∀ c0 c1 c2 c3 c4 c5 c6 c7 c8,
    View.canon (kernelRun0_A (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6).2.1
      = keysAt (keysOf xk gk) := by
  intro c0 c1 c2 c3 c4 c5 c6 c7 c8
  funext y
  refine View.canon_apply_of_pieces (Val := Elt Ideal) (e := .bf16) (keysAt (keysOf xk gk)) _ ?_ y ?_
  · unfold kernelRun0_A
    dsimp only
    unfold kernelRun0_A.sl.HS0_8
    simp only [List.forall_mem_cons]
    exact ⟨keys_piece e2 e5 7, keys_piece e2 e5 6, keys_piece e2 e5 5, keys_piece e2 e5 4, keys_piece e2 e5 3, keys_piece e2 e5 2, keys_piece e2 e5 1, keys_piece e2 e5 0,
      fun _ h => absurd h List.not_mem_nil⟩
  · apply scover0_A_0 <;> assumption

include e3 in
theorem vals_left : ∀ c0 c1 c2 c3 c4 c5 c6 c7 c8,
    View.canon (kernelRun0_A (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6).2.2.1
      = valsAt (valsOf xv) := by
  intro c0 c1 c2 c3 c4 c5 c6 c7 c8
  funext y
  refine View.canon_apply_of_pieces (Val := Elt Ideal) (e := .bf16) (valsAt (valsOf xv)) _ ?_ y ?_
  · unfold kernelRun0_A
    dsimp only
    unfold kernelRun0_A.sl.HS1_16
    simp only [List.forall_mem_cons]
    exact ⟨ones_piece 7, vals_piece e3 7, ones_piece 6, vals_piece e3 6, ones_piece 5, vals_piece e3 5, ones_piece 4, vals_piece e3 4,
      ones_piece 3, vals_piece e3 3, ones_piece 2, vals_piece e3 2, ones_piece 1, vals_piece e3 1, ones_piece 0, vals_piece e3 0, fun _ h => absurd h List.not_mem_nil⟩
  · apply scover0_A_1 <;> assumption

include e0 e1 e2 e3 e4 e5 in
theorem out_A (hi : (i 2).val = 0) : ∀ c0 c1 c2 c3 c4 c5 c6 c7 c8,
    out0_A_7 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6 (ix3 0 q e)
      = normRow (fun d => ((mixed (keysOf xk gk) x g (valsOf xv) (seen (512 * 0)) lam q d : ℝ) : EReal)) (fun d => x6 (ix2 0 d)) e := by
  intro c0 c1 c2 c3 c4 c5 c6 c7 c8
  have k0 : k0_off5 i = ![0, 0] := by unfold k0_off5; simp only [hi]; decide +kernel
  have v0 : k0_off6 i = ![0, 0, 0] := by unfold k0_off6; simp only [hi]; decide +kernel
  have kl := keys_left c i a3 h3 a4 h4 a5 h5 a6 h6 a7 h7 a8 h8 a9 h9 a10 h10 a11 h11 a12 h12 a13 h13 a14 h14 a15 h15 x0 x1 x2 x3 x4 x5 x6 gk xk e2 e5 c0 c1 c2 c3 c4 c5 c6 c7 c8
  have vl := vals_left c i a3 h3 a4 h4 a5 h5 a6 h6 a7 h7 a8 h8 a9 h9 a10 h10 a11 h11 a12 h12 a13 h13 a14 h14 a15 h15 x0 x1 x2 x3 x4 x5 x6 xv e3 c0 c1 c2 c3 c4 c5 c6 c7 c8
  have kc := scover0_A_0 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6
  have vc := scover0_A_1 (F := Ideal) c i a3 h3 a4 h4 a5 h5 a6 h6 a7 h7 a8 h8 a9 h9 a10 h10 a11 h11 a12 h12 a13 h13 a14 h14 a15 h15 c0 c1 c2 c3 c4 c5 c6 c7 c8 x0 x1 x2 x3 x4 x5 x6
  unfold kernelRun0_A at kl vl kc vc
  dsimp only at kl vl kc vc
  unfold out0_A_7
  rw [View.read_writes_eq_canon]
  swap
  · apply cover0_A_7 <;> assumption
  unfold kernelRun0_A
  dsimp only
  rw [View.canon_unit_zero (S := S1x512x128) zero3, gain_read h9 x6]
  have Q := queries e1 e4 h4 h7 a13.view rfl (i0 := by decide) (i1 := by decide)
  refine shown (v3 := a14.view) (L3 := ?l) ?b (valsOf_one xv) e0 x6 q e
  case b => refine Both.diagonal (base := 0) (half_keys (written_keys a11.view kl kc k0) _) (written_keys a11.view kl kc k0) Q.1 Q.2
              (half_vals (written_vals a12.view vl vc v0 _) _) (written_vals a12.view vl vc v0 _) ?_ rfl rfl
            exact Both.init (by rw [trips1]; rfl) (by rw [trips2]; rfl) _ _

end Point

end Cert.AttnIdeal.Hand
-- ==== Proof.AttnPoints.lean ====
/- Every point of every head: the blocks it meets, what it finds in the scratch buffers, and the block it writes back. -/
module

public import proofs.«01_k».proof.Proof.AttnFirst

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem
open Idealize.ShloMosaic.Pipeline (Dat)

/-- Where each window's block lies at point `t`: batch `t / 8 / 16`, head `t / 8 % 16`, block of queries `t % 8`. -/
theorem index_at : ∀ t : Fin cfg0.N, win0_0.index t (0 : Fin 1) = 0
    ∧ win0_1.index t (0 : Fin 3) = t.val / 8 / 16 ∧ win0_1.index t (1 : Fin 3) = t.val % 8 ∧ win0_1.index t (2 : Fin 3) = 48 + t.val / 8 % 16
    ∧ win0_2.index t (0 : Fin 3) = t.val / 8 / 16 ∧ win0_2.index t (1 : Fin 3) = 0 ∧ win0_2.index t (2 : Fin 3) = 64 + t.val / 8 % 16
    ∧ win0_3.index t (0 : Fin 3) = t.val / 8 / 16 ∧ win0_3.index t (1 : Fin 3) = 0 ∧ win0_3.index t (2 : Fin 3) = 80 + t.val / 8 % 16
    ∧ win0_7.index t (0 : Fin 3) = t.val / 8 / 16 ∧ win0_7.index t (1 : Fin 3) = t.val % 8 ∧ win0_7.index t (2 : Fin 3) = t.val / 8 % 16 :=
  (by decide +kernel : ∀ t : Fin grid0.N, _)

theorem gains_at : ∀ t : Fin cfg0.N, win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 := (by decide +kernel : ∀ t : Fin grid0.N, _)

theorem coord_at : ∀ t : Fin cfg0.N, ((grid0.coords t) 2).val = t.val % 8 := (by decide +kernel : ∀ t : Fin grid0.N, _)

theorem flush_at : ∀ t : Fin cfg0.N, (cfg0.win 7).flush t = true :=
  (by decide +kernel : ∀ t : Fin grid0.N, win0_7.flush t = true)

theorem points (t : Fin cfg0.N) : t.val < 512 := lt_of_lt_of_eq t.isLt N_0

/-- Columns `o …` of batch `b` of the projected input. -/
def part (a : S4x4096x20480.Idx → ℝ) (b o k : ℕ) (d : Fin 128) : ℝ :=
  if h : b < 4 ∧ k < 4096 ∧ o + d.val < 20480 then a (ix3 ⟨b, h.1⟩ ⟨k, h.2.1⟩ ⟨o + d.val, h.2.2⟩) else 0

/-- The queries, the keys and the values of head `n`, heads counted across the batches. -/
abbrev qOf (a : S4x4096x20480.Idx → ℝ) (n : ℕ) : ℕ → Fin 128 → ℝ := part a (n / 16) (6144 + 128 * (n % 16))
abbrev kOf (a : S4x4096x20480.Idx → ℝ) (n : ℕ) : ℕ → Fin 128 → ℝ := part a (n / 16) (8192 + 128 * (n % 16))
abbrev vOf (a : S4x4096x20480.Idx → ℝ) (n : ℕ) : ℕ → Fin 128 → ℝ := part a (n / 16) (10240 + 128 * (n % 16))

section Points
variable (m : (ℓ : Loc nD τ sig) → Buf (Elt Ideal) ℓ) (c : Dev nD) (a : S4x4096x20480.Idx → ℝ) (g gk : Fin 128 → ℝ) (lam : ℝ)
    (ha : ∀ i, 6144 ≤ (i 2).val → (i 2).val < 12288 → m ((c : Thread nD τ).loc main_arg0) i = ((a i : ℝ) : EReal))
    (hl : ∀ j, V m c main_v8 j = ((lam : ℝ) : EReal)) (hg : ∀ d, V m c main_v12 (ix2 0 d) = ((g d : ℝ) : EReal)) (hk : ∀ d, V m c main_v16 (ix2 0 d) = ((gk d : ℝ) : EReal))

/-- An entry of the projected input, as a block holds it. -/
theorem part_at (ha : ∀ i, 6144 ≤ (i 2).val → (i 2).val < 12288 → m ((c : Thread nD τ).loc main_arg0) i = ((a i : ℝ) : EReal)) (i : S4x4096x20480.Idx) (b o k : ℕ) (d : Fin 128)
    (h0 : (i 0).val = b) (h1 : (i 1).val = k) (h2 : (i 2).val = o + d.val) (hr : 6144 ≤ o ∧ o + d.val < 12288) : V m c main_arg0 i = ((part a b o k d : ℝ) : EReal) := by
  rw [V_main_arg0, ha i (by omega) (by omega)]
  have b0 : (i 0).val < 4 := (i 0).isLt
  have b1 : (i 1).val < 4096 := (i 1).isLt
  have b2 : (i 2).val < 20480 := (i 2).isLt
  unfold part
  rw [dif_pos ⟨by omega, by omega, by omega⟩]
  refine congrArg (fun z => ((a z : ℝ) : EReal)) ?_
  refine (eq_ix3 i).trans ?_
  subst h0 h1
  congr 1
  exact Fin.ext h2

include ha in
theorem queries_at (t : Fin cfg0.N) (r : Fin 512) (d : Fin 128) : iblk m c 1 t (ix3 0 r d) = ((qOf a (t.val / 8) (512 * (t.val % 8) + r.val) d : ℝ) : EReal) := by
  obtain ⟨-, e0, e1, e2, -⟩ := index_at t
  refine part_at m c a ha (((cfg0.win 1).blk t).view.emb (ix3 0 r d)) _ _ _ _ ?_ ?_ ?_ ⟨by omega, by omega⟩
  · show win0_1.index t (0 : Fin 3) * 1 + 1 * 0 = _; rw [e0]; omega
  · show win0_1.index t (1 : Fin 3) * 512 + 1 * r.val = _; rw [e1]; omega
  · show win0_1.index t (2 : Fin 3) * 128 + 1 * d.val = _; rw [e2]; omega

include ha in
theorem keys_at (t : Fin cfg0.N) (r : Fin 4096) (d : Fin 128) : iblk m c 2 t (ix3 0 r d) = ((kOf a (t.val / 8) r.val d : ℝ) : EReal) := by
  obtain ⟨-, -, -, -, e0, e1, e2, -⟩ := index_at t
  refine part_at m c a ha (((cfg0.win 2).blk t).view.emb (ix3 0 r d)) _ _ _ _ ?_ ?_ ?_ ⟨by omega, by omega⟩
  · show win0_2.index t (0 : Fin 3) * 1 + 1 * 0 = _; rw [e0]; omega
  · show win0_2.index t (1 : Fin 3) * 4096 + 1 * r.val = _; rw [e1]; omega
  · show win0_2.index t (2 : Fin 3) * 128 + 1 * d.val = _; rw [e2]; omega

include ha in
theorem values_at (t : Fin cfg0.N) (r : Fin 4096) (d : Fin 128) : iblk m c 3 t (ix3 0 r d) = ((vOf a (t.val / 8) r.val d : ℝ) : EReal) := by
  obtain ⟨-, -, -, -, -, -, -, e0, e1, e2, -⟩ := index_at t
  refine part_at m c a ha (((cfg0.win 3).blk t).view.emb (ix3 0 r d)) _ _ _ _ ?_ ?_ ?_ ⟨by omega, by omega⟩
  · show win0_3.index t (0 : Fin 3) * 1 + 1 * 0 = _; rw [e0]; omega
  · show win0_3.index t (1 : Fin 3) * 4096 + 1 * r.val = _; rw [e1]; omega
  · show win0_3.index t (2 : Fin 3) * 128 + 1 * d.val = _; rw [e2]; omega

/-- A gain's one block is the whole of it. -/
theorem gain_at (t : Fin cfg0.N) (d : Fin 128) : iblk m c 4 t (ix2 0 d) = V m c main_v12 (ix2 0 d) ∧ iblk m c 5 t (ix2 0 d) = V m c main_v16 (ix2 0 d) ∧ iblk m c 6 t (ix2 0 d) = V m c main_v17 (ix2 0 d) := by
  obtain ⟨e0, e1, e2, e3, e4, e5⟩ := gains_at t
  refine ⟨congrArg (V m c main_v12) (funext fun a => Fin.ext ?_), congrArg (V m c main_v16) (funext fun a => Fin.ext ?_), congrArg (V m c main_v17) (funext fun a => Fin.ext ?_)⟩
  · match a with
    | ⟨0, _⟩ => show win0_4.index t (0 : Fin 2) * 1 + 1 * 0 = 0; rw [e0]
    | ⟨1, _⟩ => show win0_4.index t (1 : Fin 2) * 128 + 1 * d.val = d.val; rw [e1]; omega
  · match a with
    | ⟨0, _⟩ => show win0_5.index t (0 : Fin 2) * 1 + 1 * 0 = 0; rw [e2]
    | ⟨1, _⟩ => show win0_5.index t (1 : Fin 2) * 128 + 1 * d.val = d.val; rw [e3]; omega
  · match a with
    | ⟨0, _⟩ => show win0_6.index t (0 : Fin 2) * 1 + 1 * 0 = 0; rw [e4]
    | ⟨1, _⟩ => show win0_6.index t (1 : Fin 2) * 128 + 1 * d.val = d.val; rw [e5]; omega

include ha hk in
/-- The first point of a head leaves its keys and values in the scratch buffers. -/
theorem fresh (t : Fin cfg0.N) (h : t.val % 8 = 0) :
    (outsAt0 m c t.val t.isLt).2.1 = keysAt (keysOf (kOf a (t.val / 8)) gk) ∧ (outsAt0 m c t.val t.isLt).2.2 = valsAt (valsOf (vOf a (t.val / 8))) := by
  rw [outsAt0_A m c t h h (by omega) (by omega) (by omega) (by omega) (by omega) (by omega) (by omega)]
  dsimp only
  unfold sout0_A_0 sout0_A_1
  constructor
  · rw [View.read_writes_eq_canon]
    · exact keys_left (xk := kOf a (t.val / 8)) (gk := gk) (e2 := keys_at m c a ha t) (e5 := fun d => (gain_at m c t d).2.1.trans (hk d)) ..
    · apply scover0_A_0
  · rw [View.read_writes_eq_canon]
    · exact vals_left (xv := vOf a (t.val / 8)) (e3 := values_at m c a ha t) ..
    · apply scover0_A_1

/-- The other points leave the scratch buffers as they were. -/
theorem kept (t : Fin cfg0.N) (h : t.val % 8 ≠ 0) :
    (outsAt0 m c t.val t.isLt).2 = (outsAt0 m c (t.val - 1) (Nat.lt_of_le_of_lt (Nat.sub_le _ _) t.isLt)).2 := by
  obtain h1 | h1 | h1 | h1 | h1 | h1 | h1 : t.val % 8 = 1 ∨ t.val % 8 = 2 ∨ t.val % 8 = 3 ∨ t.val % 8 = 4 ∨ t.val % 8 = 5 ∨ t.val % 8 = 6 ∨ t.val % 8 = 7 := by omega
  · rw [outsAt0_B m c t (by omega) (by omega) (by omega) (by omega) (by omega) (by omega) (by omega) (by omega) (by omega)]; rfl
  · rw [outsAt0_C m c t (by omega) (by omega) (by omega) (by omega) (by omega) (by omega) (by omega) (by omega) (by omega)]; rfl
  · rw [outsAt0_D m c t (by omega) (by omega) (by omega) (by omega) (by omega) (by omega) (by omega) (by omega) (by omega)]; rfl
  · rw [outsAt0_E m c t (by omega) (by omega) (by omega) (by omega) (by omega) (by omega) (by omega) (by omega) (by omega)]; rfl
  · rw [outsAt0_F m c t (by omega) (by omega) (by omega) (by omega) (by omega) (by omega) (by omega) (by omega) (by omega)]; rfl
  · rw [outsAt0_G m c t (by omega) (by omega) (by omega) (by omega) (by omega) (by omega) (by omega) (by omega) (by omega)]; rfl
  · rw [outsAt0_H m c t (by omega) (by omega) (by omega) (by omega) (by omega) (by omega) (by omega) (by omega) (by omega)]; rfl

include ha hk in
/-- After every point the scratch buffers hold its head's keys and values. -/
theorem scratch (n : ℕ) : ∀ hn : n < cfg0.N, (outsAt0 m c n hn).2.1 = keysAt (keysOf (kOf a (n / 8)) gk) ∧ (outsAt0 m c n hn).2.2 = valsAt (valsOf (vOf a (n / 8))) := by
  induction n with
  | zero => exact fun hn => fresh m c a gk ha hk ⟨0, hn⟩ (Nat.zero_mod 8)
  | succ n ih =>
    intro hn
    by_cases h : (n + 1) % 8 = 0
    · exact fresh m c a gk ha hk ⟨n + 1, hn⟩ h
    · rw [kept m c ⟨n + 1, hn⟩ h, show (n + 1) / 8 = n / 8 by omega]
      exact ih _

/-- The block a point writes. -/
abbrev block (X : Vec Ideal S1x128 .f32) (t : ℕ) (q : Fin 512) (e : Fin 128) : Ideal .f32 :=
  normRow (fun d => ((mixed (keysOf (kOf a (t / 8)) gk) (fun r => qOf a (t / 8) (512 * (t % 8) + r.val)) g (valsOf (vOf a (t / 8))) (seen (512 * (t % 8))) lam q d : ℝ) : EReal)) (fun d => X (ix2 0 d)) e

include ha hk in
/-- What a point after its head's first finds in the scratch buffers. -/
theorem found (t : Fin cfg0.N) {n : ℕ} (hn : t.val % 8 = n + 1) :
    (outsAt0 m c (t.val - 1) (Nat.lt_of_le_of_lt (Nat.sub_le _ _) t.isLt)).2.1 = keysAt (keysOf (kOf a (t.val / 8)) gk)
      ∧ (outsAt0 m c (t.val - 1) (Nat.lt_of_le_of_lt (Nat.sub_le _ _) t.isLt)).2.2 = valsAt (valsOf (vOf a (t.val / 8))) := by
  rw [show t.val / 8 = (t.val - 1) / 8 by omega]
  exact scratch m c a gk ha hk _ _

/-- A point's block, its place in its head known. -/
theorem block_of (X : Vec Ideal S1x128 .f32) {t n : ℕ} (h : t % 8 = n) (q : Fin 512) (e : Fin 128) :
    normRow (fun d => ((mixed (keysOf (kOf a (t / 8)) gk) (fun r => qOf a (t / 8) (512 * (t % 8) + r.val)) g (valsOf (vOf a (t / 8))) (seen (512 * n)) lam q d : ℝ) : EReal)) (fun d => X (ix2 0 d)) e
      = block a g gk lam X t q e := by
  subst h; rfl

include ha hl hg hk in
theorem block_at (t : Fin cfg0.N) (q : Fin 512) (e : Fin 128) : (outsAt0 m c t.val t.isLt).1 (ix3 0 q e) = block a g gk lam (V m c main_v17) t.val q e := by
  have hi := coord_at t
  have e0 : ∀ j, iblk m c 0 t j = ((lam : ℝ) : EReal) := fun j => hl _
  have e1 := queries_at m c a ha t
  have e4 : ∀ d, iblk m c 4 t (ix2 0 d) = ((g d : ℝ) : EReal) := fun d => (gain_at m c t d).1.trans (hg d)
  have hw := valsOf_one (vOf a (t.val / 8))
  have e6 : block a g gk lam (V m c main_v17) t.val q e = block a g gk lam (iblk m c 6 t) t.val q e :=
    congrArg (fun X => normRow _ X e) (funext fun d => (gain_at m c t d).2.2.symm)
  rw [e6]
  have n8 : t.val % 8 < 8 := Nat.mod_lt _ (by decide)
  obtain h | h | h | h | h | h | h | h : t.val % 8 = 0 ∨ t.val % 8 = 1 ∨ t.val % 8 = 2 ∨ t.val % 8 = 3 ∨ t.val % 8 = 4 ∨ t.val % 8 = 5 ∨ t.val % 8 = 6 ∨ t.val % 8 = 7 := by omega
  · have ho := outsAt0_A m c t h h (by omega) (by omega) (by omega) (by omega) (by omega) (by omega) (by omega)
    refine (congrFun (congrArg Prod.fst ho) _).trans ?_
    dsimp only
    refine (out_A (x := fun r => qOf a (t.val / 8) (512 * (t.val % 8) + r.val)) (g := g) (gk := gk) (xk := kOf a (t.val / 8)) (xv := vOf a (t.val / 8)) (lam := lam) (e0 := e0) (e1 := e1) (e4 := e4)
      (e2 := keys_at m c a ha t) (e3 := values_at m c a ha t) (e5 := fun d => (gain_at m c t d).2.1.trans (hk d)) (hi := hi.trans h) ..).trans ?_
    exact block_of a g gk lam _ h q e
  · refine (congrFun (congrArg Prod.fst (outsAt0_B m c t (by omega) (by omega) h (by omega) (by omega) (by omega) (by omega) (by omega) (by omega))) _).trans ?_
    dsimp only
    rw [(found m c a gk ha hk t h).1, (found m c a gk ha hk t h).2]
    exact (out_B (x := fun r => qOf a (t.val / 8) (512 * (t.val % 8) + r.val)) (g := g) (kn := keysOf (kOf a (t.val / 8)) gk) (w := valsOf (vOf a (t.val / 8))) (lam := lam) (e0 := e0) (e1 := e1) (e4 := e4) (hw := hw) (hi := hi.trans h) ..).trans (block_of a g gk lam _ h q e)
  · refine (congrFun (congrArg Prod.fst (outsAt0_C m c t (by omega) (by omega) (by omega) h (by omega) (by omega) (by omega) (by omega) (by omega))) _).trans ?_
    dsimp only
    rw [(found m c a gk ha hk t h).1, (found m c a gk ha hk t h).2]
    exact (out_C (x := fun r => qOf a (t.val / 8) (512 * (t.val % 8) + r.val)) (g := g) (kn := keysOf (kOf a (t.val / 8)) gk) (w := valsOf (vOf a (t.val / 8))) (lam := lam) (e0 := e0) (e1 := e1) (e4 := e4) (hw := hw) (hi := hi.trans h) ..).trans (block_of a g gk lam _ h q e)
  · refine (congrFun (congrArg Prod.fst (outsAt0_D m c t (by omega) (by omega) (by omega) (by omega) h (by omega) (by omega) (by omega) (by omega))) _).trans ?_
    dsimp only
    rw [(found m c a gk ha hk t h).1, (found m c a gk ha hk t h).2]
    exact (out_D (x := fun r => qOf a (t.val / 8) (512 * (t.val % 8) + r.val)) (g := g) (kn := keysOf (kOf a (t.val / 8)) gk) (w := valsOf (vOf a (t.val / 8))) (lam := lam) (e0 := e0) (e1 := e1) (e4 := e4) (hw := hw) (hi := hi.trans h) ..).trans (block_of a g gk lam _ h q e)
  · refine (congrFun (congrArg Prod.fst (outsAt0_E m c t (by omega) (by omega) (by omega) (by omega) (by omega) h (by omega) (by omega) (by omega))) _).trans ?_
    dsimp only
    rw [(found m c a gk ha hk t h).1, (found m c a gk ha hk t h).2]
    exact (out_E (x := fun r => qOf a (t.val / 8) (512 * (t.val % 8) + r.val)) (g := g) (kn := keysOf (kOf a (t.val / 8)) gk) (w := valsOf (vOf a (t.val / 8))) (lam := lam) (e0 := e0) (e1 := e1) (e4 := e4) (hw := hw) (hi := hi.trans h) ..).trans (block_of a g gk lam _ h q e)
  · refine (congrFun (congrArg Prod.fst (outsAt0_F m c t (by omega) (by omega) (by omega) (by omega) (by omega) (by omega) h (by omega) (by omega))) _).trans ?_
    dsimp only
    rw [(found m c a gk ha hk t h).1, (found m c a gk ha hk t h).2]
    exact (out_F (x := fun r => qOf a (t.val / 8) (512 * (t.val % 8) + r.val)) (g := g) (kn := keysOf (kOf a (t.val / 8)) gk) (w := valsOf (vOf a (t.val / 8))) (lam := lam) (e0 := e0) (e1 := e1) (e4 := e4) (hw := hw) (hi := hi.trans h) ..).trans (block_of a g gk lam _ h q e)
  · refine (congrFun (congrArg Prod.fst (outsAt0_G m c t (by omega) (by omega) (by omega) (by omega) (by omega) (by omega) (by omega) h (by omega))) _).trans ?_
    dsimp only
    rw [(found m c a gk ha hk t h).1, (found m c a gk ha hk t h).2]
    exact (out_G (x := fun r => qOf a (t.val / 8) (512 * (t.val % 8) + r.val)) (g := g) (kn := keysOf (kOf a (t.val / 8)) gk) (w := valsOf (vOf a (t.val / 8))) (lam := lam) (e0 := e0) (e1 := e1) (e4 := e4) (hw := hw) (hi := hi.trans h) ..).trans (block_of a g gk lam _ h q e)
  · refine (congrFun (congrArg Prod.fst (outsAt0_H m c t (by omega) (by omega) (by omega) (by omega) (by omega) (by omega) (by omega) (by omega) h)) _).trans ?_
    dsimp only
    rw [(found m c a gk ha hk t h).1, (found m c a gk ha hk t h).2]
    exact (out_H (x := fun r => qOf a (t.val / 8) (512 * (t.val % 8) + r.val)) (g := g) (kn := keysOf (kOf a (t.val / 8)) gk) (w := valsOf (vOf a (t.val / 8))) (lam := lam) (e0 := e0) (e1 := e1) (e4 := e4) (hw := hw) (hi := hi.trans h) ..).trans (block_of a g gk lam _ h q e)

/-- The array of results, entry by entry. -/
def results (X : Vec Ideal S1x128 .f32) : Vec Ideal S4x4096x2048 .bf16 := fun i =>
  block a g gk lam X (((i 0).val * 16 + (i 2).val / 128) * 8 + (i 1).val / 512) ⟨(i 1).val % 512, Nat.mod_lt _ (by decide)⟩ ⟨(i 2).val % 128, Nat.mod_lt _ (by decide)⟩

include ha hl hg hk in
/-- What point `t` writes back is its block of the results. -/
theorem written (t : Fin cfg0.N) (_ : (cfg0.win 7).flush t = true) :
    (dats m 0 c).flushed 7 t = ((cfg0.win 7).blk t).view.read (Elt Ideal) (results a g gk lam (V m c main_v17)) := by
  rw [Value.flushed7]
  funext y
  obtain ⟨-, -, -, -, -, -, -, -, -, -, e0, e1, e2⟩ := index_at t
  have hp := points t
  show (outsAt0 m c t.val t.isLt).1 ((cfg0.win 7).xinj (grid0.coords t) y) = results a g gk lam (V m c main_v17) (((cfg0.win 7).blk t).view.emb y)
  have hy : (cfg0.win 7).xinj (grid0.coords t) y = y := rfl
  rw [hy]
  clear hy
  change S1x512x128.Idx at y
  obtain ⟨q, e, rfl⟩ : ∃ (q : Fin 512) (e : Fin 128), y = ix3 0 q e := ⟨y 1, y 2, by rw [eq_ix3 y]; congr 1; exact Subsingleton.elim _ _⟩
  rw [block_at m c a g gk lam ha hl hg hk]
  have z0 : ((((cfg0.win 7).blk t).view.emb (ix3 0 q e) : S4x4096x2048.Idx) 0).val = t.val / 8 / 16 := by
    show win0_7.index t (0 : Fin 3) * 1 + 1 * 0 = _; rw [e0]; omega
  have z1 : ((((cfg0.win 7).blk t).view.emb (ix3 0 q e) : S4x4096x2048.Idx) 1).val = t.val % 8 * 512 + q.val := by
    show win0_7.index t (1 : Fin 3) * 512 + 1 * q.val = _; rw [e1]; omega
  have z2 : ((((cfg0.win 7).blk t).view.emb (ix3 0 q e) : S4x4096x2048.Idx) 2).val = t.val / 8 % 16 * 128 + e.val := by
    show win0_7.index t (2 : Fin 3) * 128 + 1 * e.val = _; rw [e2]; omega
  unfold results
  congr 1
  · rw [z0, z1, z2]; omega
  · exact Fin.ext (by show q.val = ((((cfg0.win 7).blk t).view.emb (ix3 0 q e) : S4x4096x2048.Idx) 1).val % 512; rw [z1]; omega)
  · exact Fin.ext (by show e.val = ((((cfg0.win 7).blk t).view.emb (ix3 0 q e) : S4x4096x2048.Idx) 2).val % 128; rw [z2]; omega)

/-- Every index of the result lies in some point's block. -/
theorem covered (i : S4x4096x2048.Idx) : ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 2048 := (i 2).isLt
  have hN : cfg0.N = 512 := N_0
  let t : Fin cfg0.N := ⟨((i 0).val * 16 + (i 2).val / 128) * 8 + (i 1).val / 512, by omega⟩
  have ht : t.val = ((i 0).val * 16 + (i 2).val / 128) * 8 + (i 1).val / 512 := rfl
  refine ⟨t, flush_at t, ?_⟩
  obtain ⟨-, -, -, -, -, -, -, -, -, -, e0, e1, e2⟩ := index_at t
  show i ∈ ((View.whole main_v18).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    rw [e0, ht]; omega
  | ⟨1, _⟩ =>
    show win0_7.index t (1 : Fin 3) * 512 ≤ (i 1).val ∧ (i 1).val < win0_7.index t (1 : Fin 3) * 512 + 512
    rw [e1, ht]; omega
  | ⟨2, _⟩ =>
    show win0_7.index t (2 : Fin 3) * 128 ≤ (i 2).val ∧ (i 2).val < win0_7.index t (2 : Fin 3) * 128 + 128
    rw [e2, ht]; omega

include ha hl hg hk in
/-- The result array ends at the results. -/
theorem result : (dats m 0 c).arrAt 7 cfg0.N = results a g gk lam (V m c main_v17) :=
  (dats m 0 c).arrAt_eq_of_cover 7 _ (written m c a g gk lam ha hl hg hk) covered

end Points

end Cert.AttnIdeal.Hand
-- ==== Proof.AttnHost.lean ====
/- Attention: what the host leaves for the region. -/
module

public import proofs.«01_k».proof.Proof.AttnPoints

@[expose] public section

set_option maxRecDepth 16384

noncomputable section

namespace Cert.AttnIdeal.Hand

open Cert.AttnIdeal Cert.AttnIdeal.Gen Cert.Attn.Hand Idealize.ShloMosaic Idealize.ShloMosaic.TcCoe Idealize.SL.Sem

variable (m : (ℓ : Loc nD τ sig) → Buf (Elt Ideal) ℓ) (c : Dev nD)

/-- A gain of one component, for both components of a head. -/
abbrev doubled (x : Vec Ideal S64 .f32) : Vec Ideal S1x128 .f32 :=
  shapeCast _ (shapeCast S128 (broadcastInDim S2x64 ![0, 1] bcast_S1x64_S2x64_0_1 (shapeCast S1x64 x shapeCasts_S64_S1x64)) shapeCasts_S2x64_S128) shapeCasts_S128_S1x128

theorem doubled_read (x : Vec Ideal S64 .f32) (d : Fin 128) : doubled x (ix2 0 d) = x (ix1 ⟨d.val % 64, Nat.mod_lt _ (by decide)⟩) := by
  pointwise [doubled]

theorem gain_left : V m c main_v12 = doubled (m ((c : Thread nD τ).loc main_arg1)) := by
  show StableHlo.after hostOps0 (fun b => m (c, b)) (Proc.devRef .tc main_v12) = _
  after_results
  rfl

theorem gain_right : V m c main_v16 = doubled (m ((c : Thread nD τ).loc main_arg2)) := by
  show StableHlo.after hostOps0 (fun b => m (c, b)) (Proc.devRef .tc main_v16) = _
  after_results
  rfl

theorem gain_last (d : Fin 128) : V m c main_v17 (ix2 0 d) = (m ((c : Thread nD τ).loc main_arg7) : Vec Ideal S128 .f32) (ix1 d) := by
  have e : V m c main_v17 = shapeCast S1x128 (m ((c : Thread nD τ).loc main_arg7) : Vec Ideal S128 .f32) shapeCasts_S128_S1x128 := by
    show StableHlo.after hostOps0 (fun b => m (c, b)) (Proc.devRef .tc main_v17) = _
    after_results
    rfl
  rw [e]
  generalize (m ((c : Thread nD τ).loc main_arg7) : Vec Ideal S128 .f32) = x
  pointwise

/-- The weight of the second softmax, of four vectors. -/
abbrev weight (x3 x4 x5 x6 : Vec Ideal S64 .f32) : Vec Ideal S_ .f32 :=
  addf (F := Ideal) (φ := .f32) (subf (Host.exp (Host.reduceAdd (F := Ideal) (φ := .f32) (mulf (F := Ideal) (φ := .f32) x3 x4) (constant S_ .f32 0x00000000#32) reducesTo_S64_S_d0 h_S_))
    (Host.exp (Host.reduceAdd (F := Ideal) (φ := .f32) (mulf (F := Ideal) (φ := .f32) x5 x6) (constant S_ .f32 0x00000000#32) reducesTo_S64_S_d0 h_S_))) (constant S_ .f32 0x3E4CCCCD#32)

theorem weight_entry (j : S1.Idx) : V m c main_v8 j = weight (m ((c : Thread nD τ).loc main_arg3)) (m ((c : Thread nD τ).loc main_arg4)) (m ((c : Thread nD τ).loc main_arg5)) (m ((c : Thread nD τ).loc main_arg6)) ix0 := by
  have e : V m c main_v8 = shapeCast S1 (weight (m ((c : Thread nD τ).loc main_arg3)) (m ((c : Thread nD τ).loc main_arg4)) (m ((c : Thread nD τ).loc main_arg5)) (m ((c : Thread nD τ).loc main_arg6))) shapeCasts_S_S1 := by
    show StableHlo.after hostOps0 (fun b => m (c, b)) (Proc.devRef .tc main_v8) = _
    after_results
    rfl
  rw [e]
  generalize weight (m ((c : Thread nD τ).loc main_arg3)) (m ((c : Thread nD τ).loc main_arg4)) (m ((c : Thread nD τ).loc main_arg5)) (m ((c : Thread nD τ).loc main_arg6)) = x
  idx_vars j
  pointwise

/-- Of real vectors, the weight is real. -/
theorem weight_real (x3 x4 x5 x6 : Vec Ideal S64 .f32) (y3 y4 y5 y6 : S64.Idx → ℝ) (h3 : ∀ i, x3 i = ((y3 i : ℝ) : EReal)) (h4 : ∀ i, x4 i = ((y4 i : ℝ) : EReal))
    (h5 : ∀ i, x5 i = ((y5 i : ℝ) : EReal)) (h6 : ∀ i, x6 i = ((y6 i : ℝ) : EReal)) : ∃ l : ℝ, weight x3 x4 x5 x6 ix0 = (l : EReal) := by
  have e : weight x3 x4 x5 x6 ix0 = Ideal.exp (∑ d : Fin 64, x3 (ix1 d) * x4 (ix1 d)) - Ideal.exp (∑ d : Fin 64, x5 (ix1 d) * x6 (ix1 d)) + Ideal.ofBits .f32 0x3E4CCCCD#32 := by
    pointwise [weight]
  have hc : ∃ r : ℝ, Ideal.ofBits .f32 0x3E4CCCCD#32 = (r : EReal) := by
    refine ⟨13421773 / 67108864, ?_⟩
    simp [Ideal.ofBits, Ideal.ieee, -EReal.coe_mul]
    norm_num
  obtain ⟨r, hr⟩ := hc
  rw [e, hr]
  simp only [h3, h4, h5, h6, ← EReal.coe_mul, ← coe_sum, Ideal.exp_coe, ← EReal.coe_sub, ← EReal.coe_add]
  exact ⟨_, rfl⟩

end Cert.AttnIdeal.Hand
-- ==== Proof.AttnRefRead.lean ====
/- Attention: the reference's arrays read at an index. -/
module

public import proofs.«01_k».proof.Proof.Gen.AttnRefIdeal.Run
public import Idealize.ShloMosaic.Lib.Pointwise
public import Idealize.ShloMosaic.Lib.KernelVsHost
public import Idealize.ShloMosaic.Lib.WordCmp

@[expose] public section

set_option maxRecDepth 16384

noncomputable section

namespace Cert.AttnRefIdeal.Hand

open Cert.AttnRefIdeal Cert.AttnRefIdeal.Gen Idealize.ShloMosaic Idealize.ShloMosaic.TcCoe Idealize.SL.Sem

attribute [local instance] Cert.AttnRefIdeal.Gen.facts

variable (V : Valuation τ sig (Elt Ideal))

/-- A column of one component of a head, counted from a third's first column. -/
def col (o : ℕ) (ho : o ≤ 10240) (h : Fin 16) (c : Fin 2) (d : Fin 64) : Fin 20480 :=
  ⟨o + (h.val * 128 + c.val * 64 + d.val), by have := h.isLt; have := c.isLt; have := d.isLt; omega⟩

abbrev masked : Vec Ideal S4x16x2x4096x4096 .f32 := Value.res_main_v52 V
abbrev exps : Vec Ideal S4x16x2x4096x4096 .f32 := Value.res_main_v59 V
abbrev probs : Vec Ideal S4x16x2x4096x4096 .f32 := Value.res_main_v63 V
abbrev heads : Vec Ideal S4x4096x16x128 .f32 := Value.res_main_v72 V

theorem queries_read (b : Fin 4) (s : Fin 4096) (h : Fin 16) (c : Fin 2) (d : Fin 64) :
    Value.res_main_v4 V (ix5 b s h c d) = (V (Proc.devRef .tc main_arg0) : Vec Ideal S4x4096x20480 .f32) (ix3 b s (col 6144 (by omega) h c d)) := by
  pointwise [Value.res_main_v4, Value.res_main_v0]
  rfl

theorem keys_read (b : Fin 4) (s : Fin 4096) (h : Fin 16) (c : Fin 2) (d : Fin 64) :
    Value.res_main_v18 V (ix5 b s h c d) = (V (Proc.devRef .tc main_arg0) : Vec Ideal S4x4096x20480 .f32) (ix3 b s (col 8192 (by omega) h c d)) := by
  pointwise [Value.res_main_v18, Value.res_main_v0]
  refine congrArg (fun j : Fin 20480 => (V (Proc.devRef .tc main_arg0) : Vec Ideal S4x4096x20480 .f32) (ix3 b s j)) (Fin.ext ?_)
  show 6144 + (2048 + (h.val * 128 + c.val * 64 + d.val)) = 8192 + (h.val * 128 + c.val * 64 + d.val)
  omega

/-- The values of the reference. -/
abbrev values : Vec Ideal S4x4096x16x128 .f32 :=
  shapeCast _ (extractStridedSlice S4x4096x2048 ![0, 0, 4096] (Value.res_main_v0 V) slices_S4x4096x6144_S4x4096x2048_0_0_4096) shapeCasts_S4x4096x2048_S4x4096x16x128

theorem values_read (b : Fin 4) (s : Fin 4096) (h : Fin 16) (e : Fin 128) :
    values V (ix4 b s h e) = (V (Proc.devRef .tc main_arg0) : Vec Ideal S4x4096x20480 .f32) (ix3 b s ⟨10240 + (h.val * 128 + e.val), by omega⟩) := by
  pointwise [values, Value.res_main_v0]
  refine congrArg (fun j : Fin 20480 => (V (Proc.devRef .tc main_arg0) : Vec Ideal S4x4096x20480 .f32) (ix3 b s j)) (Fin.ext ?_)
  show 6144 + (4096 + (h.val * 128 + e.val)) = 10240 + (h.val * 128 + e.val)
  omega

/-- Components scaled by their root mean square and by a gain. -/
def normed (X : Vec Ideal S4x4096x16x2x64 .f32) (G : Vec Ideal S64 .f32) : Vec Ideal S4x4096x16x2x64 .f32 :=
  mulf (F := Ideal) (φ := .f32) (mulf X (broadcastInDim S4x4096x16x2x64 ![0, 1, 2, 3, 4] bcast_S4x4096x16x2x1_S4x4096x16x2x64_0_1_2_3_4 (Host.rsqrt (addf (Host.divf (broadcastInDim S4x4096x16x2x1 ![0, 1, 2, 3] bcast_S4x4096x16x2_S4x4096x16x2x1_0_1_2_3 (Host.reduceAdd (mulf X X) (constant S_ .f32 0x00000000#32) reducesTo_S4x4096x16x2x64_S4x4096x16x2_d4 h_S_)) (broadcastInDim S4x4096x16x2x1 ![] bcast_S_S4x4096x16x2x1 (constant S_ .f32 0x42800000#32))) (broadcastInDim S4x4096x16x2x1 ![] bcast_S_S4x4096x16x2x1 (constant S_ .f32 0x358637BD#32)))))) (broadcastInDim S4x4096x16x2x64 ![0, 1, 2, 3, 4] bcast_S1x1x1x1x64_S4x4096x16x2x64_0_1_2_3_4 (broadcastInDim S1x1x1x1x64 ![4] bcast_S64_S1x1x1x1x64_4 G))

theorem normed_read (X : Vec Ideal S4x4096x16x2x64 .f32) (G : Vec Ideal S64 .f32) (b : Fin 4) (s : Fin 4096) (h : Fin 16) (c : Fin 2) (d : Fin 64) :
    normed X G (ix5 b s h c d) = X (ix5 b s h c d) * Ideal.rsqrt (Ideal.div (∑ e : Fin 64, X (ix5 b s h c e) * X (ix5 b s h c e)) (Ideal.ofBits .f32 0x42800000#32)
      + Ideal.ofBits .f32 0x358637BD#32) * G (ix1 d) := by
  pointwise [normed]

/-- The scaled products of the queries and the keys. -/
abbrev scores (X Y : Vec Ideal S4x4096x16x2x64 .f32) : Vec Ideal S4x16x2x4096x4096 .f32 :=
  mulf (F := Ideal) (φ := .f32) (Host.dotGeneral (F := Ideal) (φ₁ := .f32) (φ₂ := .f32) dot_S4x4096x16x2x64_S4x4096x16x2x64_S4x16x2x4096x4096_4_4_1_1_023_023 none X Y)
    (broadcastInDim S4x16x2x4096x4096 ![] bcast_S_S4x16x2x4096x4096 (constant S_ .f32 0x3E000000#32))

theorem scores_read (X Y : Vec Ideal S4x4096x16x2x64 .f32) (b : Fin 4) (h : Fin 16) (c : Fin 2) (q k : Fin 4096) :
    scores X Y (ix5 b h c q k) = (∑ d : Fin 64, X (ix5 b q h c d) * Y (ix5 b k h c d)) * Ideal.ofBits .f32 0x3E000000#32 := by
  pointwise [scores]

theorem chunk_word : ∀ n : Fin 4096, IntOp.divsi .host (BitVec.ofNat 32 n.val) 64#32 = BitVec.ofNat 32 (n.val / 64) := by
  decide +kernel

/-- The keys a query sees: those of its own chunk and of the chunks before. -/
abbrev mask : IVec S4096x4096 1 :=
  cmpi .sle (broadcastInDim S4096x4096 ![0, 1] bcast_S1x4096_S4096x4096_0_1 (broadcastInDim S1x4096 ![1] bcast_S4096_S1x4096_1 (Value.res_main_v43 V)))
    (broadcastInDim S4096x4096 ![0, 1] bcast_S4096x1_S4096x4096_0_1 (broadcastInDim S4096x1 ![0] bcast_S4096_S4096x1_0 (Value.res_main_v43 V)))

theorem mask_read (q k : Fin 4096) : mask V (ix2 q k) = BitVec.ofBool (decide (k.val / 64 ≤ q.val / 64)) := by
  have e : mask V (ix2 q k) = IntOp.cmpi .sle (IntOp.divsi .host (BitVec.ofNat 32 k.val) 64#32) (IntOp.divsi .host (BitVec.ofNat 32 q.val) 64#32) := by
    pointwise [mask, Value.res_main_v43]
  rw [e, chunk_word, chunk_word, WordCmp.cmpi_sle_ofNat (by have := k.isLt; omega) (by have := q.isLt; omega)]

abbrev queries : Vec Ideal S4x4096x16x2x64 .f32 := normed (Value.res_main_v4 V) (V (Proc.devRef .tc main_arg1))
abbrev keys : Vec Ideal S4x4096x16x2x64 .f32 := normed (Value.res_main_v18 V) (V (Proc.devRef .tc main_arg2))

theorem masked_read (b : Fin 4) (h : Fin 16) (c : Fin 2) (q k : Fin 4096) :
    masked V (ix5 b h c q k) = if k.val / 64 ≤ q.val / 64 then scores (queries V) (keys V) (ix5 b h c q k) else Ideal.ofBits .f32 0xFF800000#32 := by
  have e : masked V (ix5 b h c q k) = Scalar.select (mask V (ix2 q k)) (scores (queries V) (keys V) (ix5 b h c q k)) (Ideal.ofBits .f32 0xFF800000#32) := by
    have e1 : masked V = select (broadcastInDim S4x16x2x4096x4096 ![3, 4] bcast_S4096x4096_S4x16x2x4096x4096_3_4 (mask V)) (scores (queries V) (keys V))
        (broadcastInDim S4x16x2x4096x4096 ![] bcast_S_S4x16x2x4096x4096 (constant (F := Ideal) S_ .f32 0xFF800000#32)) := rfl
    rw [e1]
    generalize scores (queries V) (keys V) = S
    generalize mask V = M
    pointwise
  rw [e, mask_read]
  by_cases hk : k.val / 64 ≤ q.val / 64
  · rw [if_pos hk, decide_eq_true hk]; rfl
  · rw [if_neg hk, decide_eq_false hk]; rfl

/-- The largest entry of each row. -/
abbrev tops (X : Vec Ideal S4x16x2x4096x4096 .f32) : Vec Ideal S4x16x2x4096 .f32 :=
  Host.reduce (FloatOps.maximumf (F := Ideal) (φ := .f32)) X (constant (F := Ideal) S_ .f32 0xFF800000#32) reducesTo_S4x16x2x4096x4096_S4x16x2x4096_d4 h_S_

theorem tops_read (X : Vec Ideal S4x16x2x4096x4096 .f32) (b : Fin 4) (h : Fin 16) (c : Fin 2) (q : Fin 4096) :
    tops X (ix4 b h c q) = Finset.univ.fold (FloatOps.maximumf (F := Ideal) (φ := .f32)) (Ideal.ofBits .f32 0xFF800000#32) (fun k => X (ix5 b h c q k)) :=
  (Host.reduce_eq_fold _ _ _ _ _ _).trans (Shape.ReducesTo.fold_fiber_r5_a4 _ _ _ _ _)

/-- One number per row, at every entry of the row. -/
abbrev spread (T : Vec Ideal S4x16x2x4096 .f32) : Vec Ideal S4x16x2x4096x4096 .f32 :=
  broadcastInDim S4x16x2x4096x4096 ![0, 1, 2, 3, 4] bcast_S4x16x2x4096x1_S4x16x2x4096x4096_0_1_2_3_4 (broadcastInDim S4x16x2x4096x1 ![0, 1, 2, 3] bcast_S4x16x2x4096_S4x16x2x4096x1_0_1_2_3 T)

theorem spread_read (T : Vec Ideal S4x16x2x4096 .f32) (b : Fin 4) (h : Fin 16) (c : Fin 2) (q k : Fin 4096) : spread T (ix5 b h c q k) = T (ix4 b h c q) := by
  pointwise [spread]

/-- The largest entries, compared with the least number. -/
abbrev bounded (T : Vec Ideal S4x16x2x4096 .f32) : Vec Ideal S4x16x2x4096 .f32 :=
  maximumf (F := Ideal) (φ := .f32) (broadcastInDim S4x16x2x4096 ![] bcast_S_S4x16x2x4096 (constant (F := Ideal) S_ .f32 0xFF800000#32)) T

theorem bounded_read (T : Vec Ideal S4x16x2x4096 .f32) (b : Fin 4) (h : Fin 16) (c : Fin 2) (q : Fin 4096) :
    bounded T (ix4 b h c q) = max (Ideal.ofBits .f32 0xFF800000#32) (T (ix4 b h c q)) := by
  pointwise [bounded]

theorem exp_sub_read (S T : Vec Ideal S4x16x2x4096x4096 .f32) (i : S4x16x2x4096x4096.Idx) :
    (Host.exp (subf (F := Ideal) (φ := .f32) S T) : Vec Ideal S4x16x2x4096x4096 .f32) i = Ideal.exp (S i - T i) := rfl

theorem exps_eq : exps V = Host.exp (subf (F := Ideal) (φ := .f32) (masked V) (spread (bounded (tops (masked V))))) := rfl

theorem exps_read (b : Fin 4) (h : Fin 16) (c : Fin 2) (q k : Fin 4096) :
    exps V (ix5 b h c q k) = Ideal.exp (masked V (ix5 b h c q k) - max (Ideal.ofBits .f32 0xFF800000#32) (tops (masked V) (ix4 b h c q))) := by
  rw [exps_eq, exp_sub_read, spread_read, bounded_read]

theorem probs_read (b : Fin 4) (h : Fin 16) (c : Fin 2) (q k : Fin 4096) :
    probs V (ix5 b h c q k) = Ideal.div (exps V (ix5 b h c q k)) (∑ j : Fin 4096, exps V (ix5 b h c q j)) := by
  unfold probs Value.res_main_v63
  pointwise

/-- The weight of the second softmax. -/
abbrev weight : Vec Ideal S_ .f32 :=
  addf (F := Ideal) (φ := .f32) (subf (Host.exp (Host.reduceAdd (F := Ideal) (φ := .f32) (mulf (F := Ideal) (φ := .f32) (V (Proc.devRef .tc main_arg3)) (V (Proc.devRef .tc main_arg4))) (constant S_ .f32 0x00000000#32) reducesTo_S64_S_d0 h_S_)) (Host.exp (Host.reduceAdd (F := Ideal) (φ := .f32) (mulf (F := Ideal) (φ := .f32) (V (Proc.devRef .tc main_arg5)) (V (Proc.devRef .tc main_arg6))) (constant S_ .f32 0x00000000#32) reducesTo_S64_S_d0 h_S_))) (constant S_ .f32 0x3E4CCCCD#32)

/-- The difference of the two softmaxes. -/
abbrev difference (P : Vec Ideal S4x16x2x4096x4096 .f32) (l : Vec Ideal S_ .f32) : Vec Ideal S4x16x4096x4096 .f32 :=
  subf (F := Ideal) (φ := .f32) (shapeCast _ (extractStridedSlice S4x16x1x4096x4096 ![0, 0, 0, 0, 0] P slices_S4x16x2x4096x4096_S4x16x1x4096x4096_0_0_0_0_0) shapeCasts_S4x16x1x4096x4096_S4x16x4096x4096) (mulf (F := Ideal) (φ := .f32) (broadcastInDim S4x16x4096x4096 ![] bcast_S_S4x16x4096x4096 l) (shapeCast _ (extractStridedSlice S4x16x1x4096x4096 ![0, 0, 1, 0, 0] P slices_S4x16x2x4096x4096_S4x16x1x4096x4096_0_0_1_0_0) shapeCasts_S4x16x1x4096x4096_S4x16x4096x4096))

theorem difference_read (P : Vec Ideal S4x16x2x4096x4096 .f32) (l : Vec Ideal S_ .f32) (b : Fin 4) (h : Fin 16) (q k : Fin 4096) :
    difference P l (ix4 b h q k) = P (ix5 b h 0 q k) - l ix0 * P (ix5 b h 1 q k) := by
  pointwise [difference]

theorem products_read (W : Vec Ideal S4x4096x16x128 .f32) (D : Vec Ideal S4x16x4096x4096 .f32) (b : Fin 4) (q : Fin 4096) (h : Fin 16) (e : Fin 128) :
    (transpose S4x4096x16x128 [0, 3, 1, 2] (Host.dotGeneral (F := Ideal) (φ₁ := .f32) (φ₂ := .f32) dot_S4x4096x16x128_S4x16x4096x4096_S4x16x128x4096_1_3_3_2_02_01 none W D) transposes_S4x16x128x4096_S4x4096x16x128_0_3_1_2 : Vec Ideal S4x4096x16x128 .f32) (ix4 b q h e)
      = ∑ k : Fin 4096, W (ix4 b k h e) * D (ix4 b h q k) := by
  pointwise

theorem heads_eq : heads V = transpose S4x4096x16x128 [0, 3, 1, 2] (Host.dotGeneral (F := Ideal) (φ₁ := .f32) (φ₂ := .f32) dot_S4x4096x16x128_S4x16x4096x4096_S4x16x128x4096_1_3_3_2_02_01 none (values V) (difference (probs V) (weight V))) transposes_S4x16x128x4096_S4x4096x16x128_0_3_1_2 := rfl

theorem heads_read (b : Fin 4) (q : Fin 4096) (h : Fin 16) (e : Fin 128) :
    heads V (ix4 b q h e) = ∑ k : Fin 4096, values V (ix4 b k h e) * (probs V (ix5 b h 0 q k) - weight V ix0 * probs V (ix5 b h 1 q k)) := by
  rw [heads_eq, products_read]
  exact Finset.sum_congr rfl fun k _ => congrArg (fun x => values V (ix4 b k h e) * x) (difference_read (probs V) (weight V) b h q k)

/-- The rows of a head scaled by their root mean square, a gain and a constant. -/
abbrev finish (O : Vec Ideal S4x4096x16x128 .f32) (G : Vec Ideal S128 .f32) : Vec Ideal S4x4096x2048 .bf16 :=
  truncf (F := Ideal) .bf16 (shapeCast _ (mulf (F := Ideal) (φ := .f32) (mulf (mulf O (broadcastInDim S4x4096x16x128 ![0, 1, 2, 3] bcast_S4x4096x16x1_S4x4096x16x128_0_1_2_3 (Host.rsqrt (addf (Host.divf (broadcastInDim S4x4096x16x1 ![0, 1, 2] bcast_S4x4096x16_S4x4096x16x1_0_1_2 (Host.reduceAdd (mulf O O) (constant S_ .f32 0x00000000#32) reducesTo_S4x4096x16x128_S4x4096x16_d3 h_S_)) (broadcastInDim S4x4096x16x1 ![] bcast_S_S4x4096x16x1 (constant S_ .f32 0x43000000#32))) (broadcastInDim S4x4096x16x1 ![] bcast_S_S4x4096x16x1 (constant S_ .f32 0x358637BD#32)))))) (broadcastInDim S4x4096x16x128 ![0, 1, 2, 3] bcast_S1x1x1x128_S4x4096x16x128_0_1_2_3 (broadcastInDim S1x1x1x128 ![3] bcast_S128_S1x1x1x128_3 G))) (broadcastInDim S4x4096x16x128 ![] bcast_S_S4x4096x16x128 (constant S_ .f32 0x3F4CCCCD#32))) shapeCasts_S4x4096x16x128_S4x4096x2048) bitsLt_bf16_f32

theorem finish_read (O : Vec Ideal S4x4096x16x128 .f32) (G : Vec Ideal S128 .f32) (b : Fin 4) (s : Fin 4096) (h : Fin 16) (e : Fin 128) :
    finish O G (ix3 b s ⟨h.val * 128 + e.val, by omega⟩) = O (ix4 b s h e) * Ideal.rsqrt (Ideal.div (∑ d : Fin 128, O (ix4 b s h d) * O (ix4 b s h d)) (Ideal.ofBits .f32 0x43000000#32)
      + Ideal.ofBits .f32 0x358637BD#32) * G (ix1 e) * Ideal.ofBits .f32 0x3F4CCCCD#32 := by
  pointwise [finish]

end Cert.AttnRefIdeal.Hand
-- ==== Proof.AttnSoft.lean ====
/- Attention: a softmax with some entries left out, and sums over the keys a query sees. -/
module

public import proofs.«01_k».proof.Proof.AttnOut

@[expose] public section

set_option maxRecDepth 16384

noncomputable section

namespace Cert.AttnRefIdeal.Hand

open Idealize.ShloMosaic Idealize.ShloMosaic.TcCoe Idealize.SL.Sem

theorem top_real {n : ℕ} (f : Fin n → EReal) (hf : ∀ k, f k ≠ ⊤) (j : Fin n) (hj : f j ≠ ⊥) :
    ∃ M : ℝ, max ⊥ (Finset.univ.fold (FloatOps.maximumf (F := Ideal) (φ := .f32)) (⊥ : EReal) f) = (M : EReal) := by
  have h1 : Finset.univ.fold (FloatOps.maximumf (F := Ideal) (φ := .f32)) (⊥ : EReal) f = Finset.univ.sup f := rfl
  rw [h1, max_eq_right bot_le]
  have h2 : Finset.univ.sup f ≠ ⊤ := ((Finset.sup_lt_iff (by exact bot_lt_top)).mpr fun k _ => lt_top_iff_ne_top.mpr (hf k)).ne
  have h3 : Finset.univ.sup f ≠ ⊥ := fun h => hj (le_bot_iff.mp (h ▸ Finset.le_sup (Finset.mem_univ j)))
  exact ⟨_, (EReal.coe_toReal h2 h3).symm⟩

/-- A softmax over the entries that are shown. -/
def share {n : ℕ} (s : Fin n → ℝ) (p : Fin n → Prop) [DecidablePred p] (k : Fin n) : ℝ :=
  (if p k then Real.exp (s k) else 0) / ∑ j, if p j then Real.exp (s j) else 0

theorem share_eq {n : ℕ} (s : Fin n → ℝ) (p : Fin n → Prop) [DecidablePred p] (i : Fin n) (hi : p i) (f x : Fin n → EReal)
    (hf : ∀ k, f k = if p k then (s k : EReal) else ⊥)
    (hx : ∀ k, x k = Ideal.exp (f k - max ⊥ (Finset.univ.fold (FloatOps.maximumf (F := Ideal) (φ := .f32)) (⊥ : EReal) f))) (k : Fin n) :
    Ideal.div (x k) (∑ j, x j) = ((share s p k : ℝ) : EReal) := by
  obtain ⟨M, hM⟩ := top_real f (fun k => by rw [hf]; split_ifs <;> simp) i (by rw [hf, if_pos hi]; simp)
  have h1 : ∀ k, x k = (((if p k then Real.exp (s k) else 0) / Real.exp M : ℝ) : EReal) := by
    intro k
    rw [hx, hM, hf]
    split_ifs
    · rw [← EReal.coe_sub, Ideal.exp_coe, Real.exp_sub]
    · rw [EReal.bot_sub, Ideal.exp_bot, zero_div, EReal.coe_zero]
  simp only [h1]
  rw [← Cert.Attn.Hand.coe_sum, ← Finset.sum_div]
  have hp : 0 < ∑ j, if p j then Real.exp (s j) else 0 :=
    Finset.sum_pos' (fun j _ => by split_ifs <;> positivity) ⟨i, Finset.mem_univ i, by rw [if_pos hi]; positivity⟩
  have hM := Real.exp_pos M
  rw [Ideal.div_coe (by positivity), ← EReal.coe_mul]
  unfold share
  congr 1
  field_simp

/-- The sum over the keys a query sees. -/
theorem seen_sum (F : ℕ → ℝ) (s : ℕ) (hs : s < 4096) :
    ∑ k ∈ Finset.range (64 * (s / 64 + 1)), F k = ∑ k : Fin 4096, if k.val / 64 ≤ s / 64 then F k.val else 0 := by
  rw [Fin.sum_univ_eq_sum_range (fun k => if k / 64 ≤ s / 64 then F k else 0) 4096, ← Finset.sum_filter]
  refine Finset.sum_congr (Finset.ext fun k => ?_) fun _ _ => rfl
  simp only [Finset.mem_range, Finset.mem_filter]
  omega

/-- The sum over one component of a head. -/
theorem half_sum (F : Fin 128 → ℝ) (c : Fin 2) :
    ∑ d : Fin 128, (if d.val / 64 = c.val then F d else 0) = ∑ d : Fin 64, F ⟨64 * c.val + d.val, by omega⟩ := by
  rw [← Finset.sum_filter]
  refine (Finset.sum_bij (fun (d : Fin 64) _ => (⟨64 * c.val + d.val, by omega⟩ : Fin 128)) ?_ ?_ ?_ ?_).symm
  · intro d _
    simp only [Finset.mem_filter, Finset.mem_univ, true_and]
    omega
  · intro d _ e _ h
    have := congrArg Fin.val h
    exact Fin.ext (by dsimp only at this; omega)
  · intro d hd
    simp only [Finset.mem_filter, Finset.mem_univ, true_and] at hd
    exact ⟨⟨d.val % 64, by omega⟩, Finset.mem_univ _, Fin.ext (by dsimp only; omega)⟩
  · intro d _
    rfl

end Cert.AttnRefIdeal.Hand
-- ==== Proof.AttnRefValue.lean ====
/- Attention: the reference's values as real numbers, of real arguments. -/
module

public import proofs.«01_k».proof.Proof.AttnRefRead
public import proofs.«01_k».proof.Proof.AttnSoft

@[expose] public section

set_option maxRecDepth 16384

noncomputable section

namespace Cert.AttnRefIdeal.Hand

open Cert.AttnRefIdeal Cert.AttnRefIdeal.Gen Idealize.ShloMosaic Idealize.ShloMosaic.TcCoe Idealize.SL.Sem
open Cert.AttnIdeal.Hand (eps eps_coe eps_pos)

attribute [local instance] Cert.AttnRefIdeal.Gen.facts

theorem least : Ideal.ofBits .f32 0xFF800000#32 = (⊥ : EReal) := by
  simp [Ideal.ofBits, Ideal.ieee]

theorem eighth : Ideal.ofBits .f32 0x3E000000#32 = ((1 / 8 : ℝ) : EReal) := by
  simp [Ideal.ofBits, Ideal.ieee, -EReal.coe_mul]
  norm_num

theorem width : Ideal.ofBits .f32 0x42800000#32 = ((64 : ℝ) : EReal) := by
  simp [Ideal.ofBits, Ideal.ieee, -EReal.coe_mul]
  norm_num

/-- A component scaled by the reciprocal of its root mean square and by a gain. -/
def unit (x g : Fin 64 → ℝ) (d : Fin 64) : ℝ := x d * (√((∑ e : Fin 64, x e * x e) * (1 / 64) + eps))⁻¹ * g d

theorem normed_real (X : Vec Ideal S4x4096x16x2x64 .f32) (G : Vec Ideal S64 .f32) (b : Fin 4) (s : Fin 4096) (h : Fin 16) (c : Fin 2) (x g : Fin 64 → ℝ)
    (hx : ∀ d, X (ix5 b s h c d) = ((x d : ℝ) : EReal)) (hg : ∀ d, G (ix1 d) = ((g d : ℝ) : EReal)) (d : Fin 64) :
    normed X G (ix5 b s h c d) = ((unit x g d : ℝ) : EReal) := by
  have he : Ideal.ofBits .f32 0x358637BD#32 = ((eps : ℝ) : EReal) := eps_coe
  have hp : 0 < (∑ e : Fin 64, x e * x e) * (1 / 64) + eps := by
    have h0 : 0 ≤ ∑ e : Fin 64, x e * x e := Finset.sum_nonneg fun e _ => mul_self_nonneg _
    have := eps_pos
    positivity
  rw [normed_read, he, width]
  simp only [hx, hg, ← EReal.coe_mul]
  rw [← Cert.Attn.Hand.coe_sum, Ideal.div_coe (by norm_num), ← EReal.coe_mul, ← EReal.coe_add, Ideal.rsqrt_coe, if_neg (not_lt.mpr hp.le), if_neg hp.ne', ← EReal.coe_mul, ← EReal.coe_mul]
  rfl

/-- The columns of the queries and of the keys lie among those the attention reads. -/
theorem col_least {o : ℕ} (ho : o ≤ 10240) (h : Fin 16) (c : Fin 2) (d : Fin 64) (hl : 6144 ≤ o) : 6144 ≤ (col o ho h c d).val :=
  hl.trans (Nat.le_add_right _ _)

theorem col_below {o : ℕ} (ho : o ≤ 10240) (h : Fin 16) (c : Fin 2) (d : Fin 64) (hl : o ≤ 8192) : (col o ho h c d).val < 12288 := by
  show o + (h.val * 128 + c.val * 64 + d.val) < 12288
  omega

section Real
variable (V : Valuation τ sig (Elt Ideal)) (a : S4x4096x20480.Idx → ℝ) (gq gk : Fin 64 → ℝ) (lam : ℝ)
    (hz : ∀ i, 6144 ≤ (i 2).val → (i 2).val < 12288 → (V (Proc.devRef .tc main_arg0) : Vec Ideal S4x4096x20480 .f32) i = ((a i : ℝ) : EReal))
    (hq : ∀ d, (V (Proc.devRef .tc main_arg1) : Vec Ideal S64 .f32) (ix1 d) = ((gq d : ℝ) : EReal))
    (hk : ∀ d, (V (Proc.devRef .tc main_arg2) : Vec Ideal S64 .f32) (ix1 d) = ((gk d : ℝ) : EReal))
    (hl : weight V ix0 = ((lam : ℝ) : EReal))

/-- One component of a head's query, key and value at a position. -/
abbrev qx (b : Fin 4) (h : Fin 16) (c : Fin 2) (s : Fin 4096) (d : Fin 64) : ℝ := a (ix3 b s (col 6144 (by omega) h c d))
abbrev kx (b : Fin 4) (h : Fin 16) (c : Fin 2) (s : Fin 4096) (d : Fin 64) : ℝ := a (ix3 b s (col 8192 (by omega) h c d))
abbrev vx (b : Fin 4) (h : Fin 16) (s : Fin 4096) (e : Fin 128) : ℝ := a (ix3 b s ⟨10240 + (h.val * 128 + e.val), by omega⟩)

/-- The score of a query and a key. -/
def dots (b : Fin 4) (h : Fin 16) (c : Fin 2) (q k : Fin 4096) : ℝ := (∑ d : Fin 64, unit (qx a b h c q) gq d * unit (kx a b h c k) gk d) * (1 / 8)

/-- The output of a head before its normalisation. -/
def output (b : Fin 4) (h : Fin 16) (q : Fin 4096) (e : Fin 128) : ℝ :=
  ∑ k : Fin 4096, vx a b h k e * (share (dots a gq gk b h 0 q) (fun k => k.val / 64 ≤ q.val / 64) k - lam * share (dots a gq gk b h 1 q) (fun k => k.val / 64 ≤ q.val / 64) k)

include hz hq hk in
theorem scores_real (b : Fin 4) (h : Fin 16) (c : Fin 2) (q k : Fin 4096) : scores (queries V) (keys V) (ix5 b h c q k) = ((dots a gq gk b h c q k : ℝ) : EReal) := by
  have e1 := normed_real (Value.res_main_v4 V) (V (Proc.devRef .tc main_arg1)) b q h c (qx a b h c q) gq (fun d => (queries_read V b q h c d).trans (hz _ (col_least (by norm_num) h c d (by norm_num)) (col_below (by norm_num) h c d (by norm_num)))) hq
  have e2 := normed_real (Value.res_main_v18 V) (V (Proc.devRef .tc main_arg2)) b k h c (kx a b h c k) gk (fun d => (keys_read V b k h c d).trans (hz _ (col_least (by norm_num) h c d (by norm_num)) (col_below (by norm_num) h c d (by norm_num)))) hk
  rw [scores_read, eighth]
  simp only [e1, e2, ← EReal.coe_mul]
  rw [← Cert.Attn.Hand.coe_sum, ← EReal.coe_mul]
  rfl

include hz hq hk in
theorem probs_real (b : Fin 4) (h : Fin 16) (c : Fin 2) (q k : Fin 4096) :
    probs V (ix5 b h c q k) = ((share (dots a gq gk b h c q) (fun k => k.val / 64 ≤ q.val / 64) k : ℝ) : EReal) := by
  rw [probs_read]
  refine share_eq (dots a gq gk b h c q) (fun k => k.val / 64 ≤ q.val / 64) q le_rfl (fun k => masked V (ix5 b h c q k)) (fun k => exps V (ix5 b h c q k)) ?_ ?_ k
  · intro k
    rw [masked_read, scores_real V a gq gk hz hq hk, least]
  · intro k
    rw [exps_read, tops_read, least]

include hz hq hk hl in
theorem heads_real (b : Fin 4) (h : Fin 16) (q : Fin 4096) (e : Fin 128) : heads V (ix4 b q h e) = ((output a gq gk lam b h q e : ℝ) : EReal) := by
  have ev : ∀ k, values V (ix4 b k h e) = ((vx a b h k e : ℝ) : EReal) := fun k => (values_read V b k h e).trans (hz _
    (by show 6144 ≤ 10240 + (h.val * 128 + e.val); omega) (by show 10240 + (h.val * 128 + e.val) < 12288; omega))
  rw [heads_read, hl]
  simp only [ev, probs_real V a gq gk hz hq hk, ← EReal.coe_mul, ← EReal.coe_sub]
  rw [← Cert.Attn.Hand.coe_sum]
  rfl

end Real

end Cert.AttnRefIdeal.Hand
-- ==== Proof.AttnAgree.lean ====
/- Attention: the kernel's rows and the reference's rows are one array. -/
module

public import proofs.«01_k».proof.Proof.AttnHost
public import proofs.«01_k».proof.Proof.AttnRefValue

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnRefIdeal.Hand (share seen_sum half_sum output)

/-- A softmax of the kernel, over the keys its row sees. -/
theorem soft_eq (kn : ℕ → Fin 128 → ℝ) (x : Fin 512 → Fin 128 → ℝ) (g : Fin 128 → ℝ) (w : Fin 144 → ℕ → ℝ) (L : Fin 2 → Fin 512 → ℕ) (h : Fin 2) (y : Fin 512) (e : Fin 128)
    (s : ℕ) (hs : s < 4096) (hL : L h y = 64 * (s / 64 + 1)) (D W : Fin 4096 → ℝ) (hD : ∀ k : Fin 4096, score kn (plain x g) h y k.val / 8 = D k)
    (hW : ∀ k : Fin 4096, w ⟨e.val, by omega⟩ k.val = W k) :
    soft kn x g w L h y e = ∑ k : Fin 4096, W k * share D (fun k => k.val / 64 ≤ s / 64) k := by
  unfold soft
  rw [hL, seen_sum _ s hs, seen_sum _ s hs]
  simp only [hD, hW]
  unfold share
  rw [Finset.sum_div]
  refine Finset.sum_congr rfl fun k _ => ?_
  split_ifs <;> ring

/-- A scaled row, read in one of its components. -/
theorem scaled_half (x g : Fin 128 → ℝ) (c : Fin 2) (d : Fin 64) :
    scaled x g ⟨64 * c.val + d.val, by omega⟩ = Cert.AttnRefIdeal.Hand.unit (fun e => x ⟨64 * c.val + e.val, by omega⟩) (fun e => g ⟨64 * c.val + e.val, by omega⟩) d := by
  have hs : squares x ⟨64 * c.val + d.val, by omega⟩ = ∑ e : Fin 64, x ⟨64 * c.val + e.val, by omega⟩ * x ⟨64 * c.val + e.val, by omega⟩ := by
    rw [← half_sum (fun e => x e * x e) c]
    unfold squares
    refine Finset.sum_congr rfl fun e _ => ?_
    have hc : (64 * c.val + d.val) / 64 = c.val := by omega
    dsimp only
    rw [hc]
    split_ifs <;> ring
  unfold scaled Cert.AttnRefIdeal.Hand.unit
  rw [hs]

/-- The score of a column: the component it stands for. -/
theorem score_half (kn : ℕ → Fin 128 → ℝ) (x : Fin 512 → Fin 128 → ℝ) (g : Fin 128 → ℝ) (h : Fin 2) (y : Fin 512) (k : ℕ) (c : Fin 2) (hc : y.val / 256 = c.val)
    (r : Fin 512) (hr : r.val = 256 * h.val + y.val % 256) (xk gk : Fin 128 → ℝ) (hk : ∀ d, kn k d = scaled xk gk d) :
    score kn (plain x g) h y k = ∑ d : Fin 64, Cert.AttnRefIdeal.Hand.unit (fun e => x r ⟨64 * c.val + e.val, by omega⟩) (fun e => g ⟨64 * c.val + e.val, by omega⟩) d
      * Cert.AttnRefIdeal.Hand.unit (fun e => xk ⟨64 * c.val + e.val, by omega⟩) (fun e => gk ⟨64 * c.val + e.val, by omega⟩) d := by
  simp only [← scaled_half]
  rw [← half_sum (fun d => scaled (x r) g d * scaled xk gk d) c]
  unfold score plain
  refine Finset.sum_congr rfl fun d _ => ?_
  have e : (⟨256 * h.val + y.val % 256, by omega⟩ : Fin 512) = r := Fin.ext hr.symm
  rw [hk, e, hc]
  by_cases hd : d.val / 64 = c.val
  · rw [if_pos hd, if_pos hd.symm]; ring
  · rw [if_neg hd, if_neg (fun h => hd h.symm)]; ring

section Rows
variable (a : S4x4096x20480.Idx → ℝ) (gq gk : Fin 64 → ℝ) (lam : ℝ)

/-- The gain of one component, for both. -/
abbrev twice (g : Fin 64 → ℝ) (d : Fin 128) : ℝ := g ⟨d.val % 64, Nat.mod_lt _ (by decide)⟩

theorem twice_half (g : Fin 64 → ℝ) (c : Fin 2) : (fun e : Fin 64 => twice g ⟨64 * c.val + e.val, by omega⟩) = g :=
  funext fun e => congrArg g (Fin.ext (by show (64 * c.val + e.val) % 64 = e.val; omega))

theorem part_eq (b : Fin 4) (o k : ℕ) (d : Fin 128) (s : Fin 4096) (hk : k = s.val) (j : Fin 20480) (hj : o + d.val = j.val) : part a b.val o k d = a (ix3 b s j) := by
  subst hk
  have h : b.val < 4 ∧ s.val < 4096 ∧ o + d.val < 20480 := ⟨b.isLt, s.isLt, by omega⟩
  unfold part
  rw [dif_pos h]
  exact congrArg (fun j => a (ix3 b s j)) (Fin.ext hj)

/-- The row a point computes is the reference's row. -/
theorem mixed_eq (b : Fin 4) (h : Fin 16) (s : Fin 4096) (e : Fin 128) (n o : ℕ) (hn : n = b.val * 16 + h.val) (q : Fin 512) (ho : o = 512 * (s.val / 512)) (hq : q.val = s.val % 512) :
    mixed (keysOf (kOf a n) (twice gk)) (fun r => qOf a n (o + r.val)) (twice gq) (valsOf (vOf a n)) (seen o) lam q e = output a gq gk lam b h s e := by
  have n1 : n / 16 = b.val := by omega
  have n2 : n % 16 = h.val := by omega
  have half : ∀ c : Fin 2, ∀ y : Fin 512, y.val = q.val % 256 + 256 * c.val →
      soft (keysOf (kOf a n) (twice gk)) (fun r => qOf a n (o + r.val)) (twice gq) (valsOf (vOf a n)) (seen o) ⟨q.val / 256, by omega⟩ y e
        = ∑ k : Fin 4096, Cert.AttnRefIdeal.Hand.vx a b h k e * share (Cert.AttnRefIdeal.Hand.dots a gq gk b h c s) (fun k => k.val / 64 ≤ s.val / 64) k := by
    intro c y hy
    refine soft_eq _ _ _ _ _ _ _ _ s.val s.isLt ?_ _ _ (fun k => ?_) fun k => ?_
    · show o + 64 * ((y.val % 256 + 256 * (q.val / 256)) / 64 + 1) = _
      omega
    · rw [score_half (keysOf (kOf a n) (twice gk)) _ _ _ _ k.val c (by omega) q (by show q.val = 256 * (q.val / 256) + y.val % 256; omega) (kOf a n k.val) (twice gk) (fun d => rfl), twice_half, twice_half]
      unfold Cert.AttnRefIdeal.Hand.dots
      have eq : (fun e : Fin 64 => qOf a n (o + q.val) ⟨64 * c.val + e.val, by omega⟩) = Cert.AttnRefIdeal.Hand.qx a b h c s := funext fun d => by
        unfold qOf
        rw [n1, n2]
        exact part_eq a b _ _ _ s (by omega) _ (by show 6144 + 128 * h.val + (64 * c.val + d.val) = 6144 + (h.val * 128 + c.val * 64 + d.val); omega)
      have ek : (fun e : Fin 64 => kOf a n k.val ⟨64 * c.val + e.val, by omega⟩) = Cert.AttnRefIdeal.Hand.kx a b h c k := funext fun d => by
        unfold kOf
        rw [n1, n2]
        exact part_eq a b _ _ _ k rfl _ (by show 8192 + 128 * h.val + (64 * c.val + d.val) = 8192 + (h.val * 128 + c.val * 64 + d.val); omega)
      rw [eq, ek]
      ring
    · have hv : valsOf (vOf a n) ⟨e.val, by omega⟩ k.val = vOf a n k.val e := dif_pos e.isLt
      rw [hv]
      unfold vOf
      rw [n1, n2]
      exact part_eq a b _ _ _ k rfl _ (by show 10240 + 128 * h.val + e.val = 10240 + (h.val * 128 + e.val); omega)
  unfold mixed output
  rw [half 0 ⟨q.val % 256, by omega⟩ rfl, half 1 ⟨q.val % 256 + 256, by omega⟩ rfl, Finset.mul_sum, ← Finset.sum_sub_distrib]
  exact Finset.sum_congr rfl fun k _ => by ring

/-- The array of the kernel is the array of the reference. -/
theorem results_eq (X : Vec Ideal S1x128 .f32) (O : Vec Ideal Cert.AttnRefIdeal.S4x4096x16x128 .f32) (G : Vec Ideal Cert.AttnRefIdeal.S128 .f32)
    (hX : ∀ d, X (ix2 0 d) = G (ix1 d)) (hO : ∀ b h s e, O (ix4 b s h e) = ((output a gq gk lam b h s e : ℝ) : EReal)) :
    results a (twice gq) (twice gk) lam X = Cert.AttnRefIdeal.Hand.finish O G := by
  funext i
  change S4x4096x2048.Idx at i
  obtain ⟨b, s, j, rfl⟩ : ∃ (b : Fin 4) (s : Fin 4096) (j : Fin 2048), i = ix3 b s j := ⟨i 0, i 1, i 2, eq_ix3 i⟩
  obtain ⟨h, e, rfl⟩ : ∃ (h : Fin 16) (e : Fin 128), j = ⟨h.val * 128 + e.val, by omega⟩ :=
    ⟨⟨j.val / 128, by omega⟩, ⟨j.val % 128, by omega⟩, Fin.ext (by show j.val = j.val / 128 * 128 + j.val % 128; omega)⟩
  rw [Cert.AttnRefIdeal.Hand.finish_read]
  have ht : ((b.val * 16 + (h.val * 128 + e.val) / 128) * 8 + s.val / 512) / 8 = b.val * 16 + h.val := by omega
  have hm : ((b.val * 16 + (h.val * 128 + e.val) / 128) * 8 + s.val / 512) % 8 = s.val / 512 := by omega
  have he : (⟨(h.val * 128 + e.val) % 128, Nat.mod_lt _ (by decide)⟩ : Fin 128) = e := Fin.ext (by show (h.val * 128 + e.val) % 128 = e.val; omega)
  show block a (twice gq) (twice gk) lam X ((b.val * 16 + (h.val * 128 + e.val) / 128) * 8 + s.val / 512) ⟨s.val % 512, Nat.mod_lt _ (by decide)⟩ ⟨(h.val * 128 + e.val) % 128, Nat.mod_lt _ (by decide)⟩ = _
  rw [he]
  have key : ∀ d, ((mixed (keysOf (kOf a (((b.val * 16 + (h.val * 128 + e.val) / 128) * 8 + s.val / 512) / 8)) (twice gk))
      (fun r => qOf a (((b.val * 16 + (h.val * 128 + e.val) / 128) * 8 + s.val / 512) / 8) (512 * (((b.val * 16 + (h.val * 128 + e.val) / 128) * 8 + s.val / 512) % 8) + r.val)) (twice gq)
      (valsOf (vOf a (((b.val * 16 + (h.val * 128 + e.val) / 128) * 8 + s.val / 512) / 8))) (seen (512 * (((b.val * 16 + (h.val * 128 + e.val) / 128) * 8 + s.val / 512) % 8))) lam
      ⟨s.val % 512, Nat.mod_lt _ (by decide)⟩ d : ℝ) : EReal) = O (ix4 b s h d) := fun d => by
    rw [hO]
    exact congrArg (fun x : ℝ => (x : EReal)) (mixed_eq a gq gk lam b h s d _ _ ht _ (by rw [hm]) rfl)
  unfold block normRow
  simp only [key, hX]
  rfl

end Rows

end Cert.AttnIdeal.Hand
-- ==== Proof.AttnFinite.lean ====
/- Attention: an array all of whose entries are finite holds real numbers. -/
module

public import proofs.«01_k».proof.Defs
public import proofs.«01_k».proof.Proof.Gen.Pre_finite
public import Idealize.ShloMosaic.Lib.Pointwise

@[expose] public section

noncomputable section

namespace Cert.Pre_finite.Hand

open Cert.Pre_finite Cert.Pre_finite.Gen Idealize.ShloMosaic Idealize.ShloMosaic.TcCoe Idealize.SL.Sem

theorem both_bits {x y : BitVec 1} (h : x &&& y = 1#1) : x = 1#1 ∧ y = 1#1 := by
  revert x y; decide

/-- Entries strictly between the infinities are real. -/
theorem real_of {S : Shape} (x : Vec Ideal S .f32) (hb : S_.BroadcastsInDim S (![] : Fin 0 → Fin S.rank))
    (h : andi (cmpf .ogt x (broadcastInDim S ![] hb (constant (F := Ideal) S_ .f32 0xFF800000#32))) (cmpf .olt x (broadcastInDim S ![] hb (constant (F := Ideal) S_ .f32 0x7F800000#32))) = fun _ => 1#1) :
    ∃ y : S.Idx → ℝ, ∀ i, x i = ((y i : ℝ) : EReal) := by
  refine ⟨fun i => (x i : EReal).toReal, fun i => (EReal.coe_toReal ?_ ?_).symm⟩
  · intro ht
    have h2 : Ideal.cmp .olt (x i) (Ideal.ofBits .f32 0x7F800000#32) = 1#1 := (both_bits (congrFun h i)).2
    have e : Ideal.ofBits .f32 0x7F800000#32 = (⊤ : EReal) := by simp [Ideal.ofBits, Ideal.ieee]
    rw [ht, e] at h2
    simp [Ideal.cmp] at h2
  · intro ht
    have h2 : Ideal.cmp .ogt (x i) (Ideal.ofBits .f32 0xFF800000#32) = 1#1 := (both_bits (congrFun h i)).1
    have e : Ideal.ofBits .f32 0xFF800000#32 = (⊥ : EReal) := by simp [Ideal.ofBits, Ideal.ieee]
    rw [ht, e] at h2
    simp [Ideal.cmp] at h2

attribute [local instance] Cert.Pre_finite.Gen.facts

/-- The arguments that satisfy the precondition hold real numbers. -/
theorem arguments (m : (ℓ : Loc Cert.AttnIdeal.nD Cert.AttnIdeal.τ Cert.AttnIdeal.sig) → Buf (Elt Ideal) ℓ) (h : Cert.Pre_AttnIdeal_finite m) (c : Dev Cert.AttnIdeal.nD) :
    (∃ y : S4x4096x20480.Idx → ℝ, ∀ i, 6144 ≤ (i 2).val → (i 2).val < 12288 → m ((c.tc : Thread Cert.AttnIdeal.nD Cert.AttnIdeal.τ).loc Cert.AttnIdeal.main_arg0) i = ((y i : ℝ) : EReal))
    ∧ (∃ y : S64.Idx → ℝ, ∀ i, m ((c.tc : Thread Cert.AttnIdeal.nD Cert.AttnIdeal.τ).loc Cert.AttnIdeal.main_arg1) i = ((y i : ℝ) : EReal))
    ∧ (∃ y : S64.Idx → ℝ, ∀ i, m ((c.tc : Thread Cert.AttnIdeal.nD Cert.AttnIdeal.τ).loc Cert.AttnIdeal.main_arg2) i = ((y i : ℝ) : EReal))
    ∧ (∃ y : S64.Idx → ℝ, ∀ i, m ((c.tc : Thread Cert.AttnIdeal.nD Cert.AttnIdeal.τ).loc Cert.AttnIdeal.main_arg3) i = ((y i : ℝ) : EReal))
    ∧ (∃ y : S64.Idx → ℝ, ∀ i, m ((c.tc : Thread Cert.AttnIdeal.nD Cert.AttnIdeal.τ).loc Cert.AttnIdeal.main_arg4) i = ((y i : ℝ) : EReal))
    ∧ (∃ y : S64.Idx → ℝ, ∀ i, m ((c.tc : Thread Cert.AttnIdeal.nD Cert.AttnIdeal.τ).loc Cert.AttnIdeal.main_arg5) i = ((y i : ℝ) : EReal))
    ∧ (∃ y : S64.Idx → ℝ, ∀ i, m ((c.tc : Thread Cert.AttnIdeal.nD Cert.AttnIdeal.τ).loc Cert.AttnIdeal.main_arg6) i = ((y i : ℝ) : EReal)) := by
  obtain ⟨h0, h1, h2, h3, h4, h5, h6⟩ := h c
  obtain ⟨y, hy⟩ := real_of _ bcast_S_S4x4096x6144 h0
  refine ⟨⟨fun i => if hr : 6144 ≤ (i 2).val ∧ (i 2).val < 12288 then y (ix3 (i 0) (i 1) ⟨(i 2).val - 6144, by omega⟩) else 0, fun i hlo hhi => ?_⟩, real_of _ bcast_S_S64 h1, real_of _ bcast_S_S64 h2, real_of _ bcast_S_S64 h3, real_of _ bcast_S_S64 h4, real_of _ bcast_S_S64 h5, real_of _ bcast_S_S64 h6⟩
  refine Eq.trans ?_ (congrArg (fun z : ℝ => (z : EReal)) (dif_pos ⟨hlo, hhi⟩).symm)
  refine Eq.trans ?_ (hy _)
  refine congrArg (m ((c.tc : Thread Cert.AttnIdeal.nD Cert.AttnIdeal.τ).loc Cert.AttnIdeal.main_arg0)) (funext fun a => Fin.ext ?_)
  match a with
  | ⟨0, _⟩ => show (i 0).val = 0 + (i 0).val; omega
  | ⟨1, _⟩ => show (i 1).val = 0 + (i 1).val; omega
  | ⟨2, _⟩ => show (i 2).val = 6144 + ((i 2).val - 6144); omega

end Cert.Pre_finite.Hand
-- ==== Proof.AttnFinal.lean ====
/- Attention: of finite arguments, the kernel and the reference end with the same array. -/
module

public import proofs.«01_k».proof.Defs
public import proofs.«01_k».proof.Proof.AttnAgree
public import proofs.«01_k».proof.Proof.AttnFinite

@[expose] public section

noncomputable section

namespace Cert.Proof

open Idealize.ShloMosaic Idealize.SL.Sem

/-- Attention: of finite queries, keys, values, gains and weights the idealized kernel and the reference end with equal results. -/
theorem algebraic_Attn : Cert.algebraic_AttnIdeal_AttnRefIdeal_pre_finite (hAttnIdeal := Cert.AttnIdeal.Gen.facts)
    (hAttnRefIdeal := Cert.AttnRefIdeal.Gen.facts) (hPre_finite := Cert.Pre_finite.Gen.facts) := by
  intro m g m' g' hpre hargs
  have hreal := Cert.Pre_finite.Hand.arguments m hpre
  refine ⟨fun c => Cert.AttnRefIdeal.Hand.finish (Cert.AttnRefIdeal.Hand.heads (StableHlo.launchContents m' c)) (m' ((c.tc : Thread Cert.AttnRefIdeal.nD Cert.AttnRefIdeal.τ).loc Cert.AttnRefIdeal.main_arg7)), ?_, ?_⟩
  · refine (θ_run (Cert.AttnIdeal.defs (F := Ideal)) _ _).mono (fun r h c => ?_) (Cert.AttnIdeal.Value.run_blocks m g)
    refine ⟨(h c).1.trans ?_, (h c).2⟩
    obtain ⟨⟨a, ha⟩, ⟨y1, h1⟩, ⟨y2, h2⟩, ⟨y3, h3⟩, ⟨y4, h4⟩, ⟨y5, h5⟩, ⟨y6, h6⟩⟩ := hreal c
    obtain ⟨k0, k1, k2, k3, k4, k5, k6, k7⟩ := hargs c
    obtain ⟨lam, hlam⟩ := Cert.AttnIdeal.Hand.weight_real _ _ _ _ y3 y4 y5 y6 h3 h4 h5 h6
    have hl : Cert.AttnRefIdeal.Hand.weight (StableHlo.launchContents m' c) ix0 = ((lam : ℝ) : EReal) := by
      refine Eq.trans ?_ hlam
      rw [← k3, ← k4, ← k5, ← k6]
    refine (Cert.AttnIdeal.Hand.result m c a (Cert.AttnIdeal.Hand.twice fun d => y1 (ix1 d)) (Cert.AttnIdeal.Hand.twice fun d => y2 (ix1 d)) lam ha
      (fun j => (Cert.AttnIdeal.Hand.weight_entry m c j).trans hlam)
      (fun d => by rw [Cert.AttnIdeal.Hand.gain_left, Cert.AttnIdeal.Hand.doubled_read]; exact h1 _)
      (fun d => by rw [Cert.AttnIdeal.Hand.gain_right, Cert.AttnIdeal.Hand.doubled_read]; exact h2 _)).trans ?_
    refine Cert.AttnIdeal.Hand.results_eq a _ _ lam _ _ _ (fun d => ?_) fun b h s e => ?_
    · rw [Cert.AttnIdeal.Hand.gain_last, k7]
    · exact Cert.AttnRefIdeal.Hand.heads_real _ a _ _ lam (fun i hlo hhi => (congrFun k0 i).trans (ha i hlo hhi)) (fun d => (congrFun k1 _).trans (h1 _)) (fun d => (congrFun k2 _).trans (h2 _)) hl b h s e
  · refine (θ_run (Cert.AttnRefIdeal.defs (F := Ideal)) _ _).mono (fun r h c => ?_) (Cert.AttnRefIdeal.Value.run m' g')
    exact ⟨(h c).1, (h c).2⟩

end Cert.Proof
-- ==== Proof.lean ====
/- The claim: for each call of the layer the frames of the kernel, of its idealization and of the reference, the one
   named constant, and the equality of the idealized kernel's result with the reference's. -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.FfnIn
public import proofs.«01_k».proof.Proof.FfnInFrame.Frame
public import proofs.«01_k».proof.Proof.Gen.FfnInIdeal
public import proofs.«01_k».proof.Proof.FfnInIdealFrame.Frame
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.HostFrames
public import proofs.«01_k».proof.Proof.Agree
public import proofs.«01_k».proof.Proof.AttnFinal
public import proofs.«01_k».proof.Proof.Gen.Pre_finite
public import Idealize.ShloMosaic.Adequacy
public import Idealize.ShloMosaic.Init

@[expose] public section

noncomputable section

namespace Cert.Proof

open Idealize.ShloMosaic Idealize.SL.Sem

/-- The attention's named constant is the real the table gives it. -/
theorem preserves_Attn : Cert.preserves_Attn_AttnIdeal :=
  IdealRules.named_const.statement Cert.AttnIdeal.κ "score_scale" .f32 0x3E38AA3B#32 (((1 / 8) * (Real.log 2)⁻¹ : ℝ) : EReal) rfl

theorem claim : Cert.Claim := ⟨Cert.Attn.Gen.facts,
  Cert.AttnIdeal.Gen.facts,
  Cert.AttnRefIdeal.Gen.facts,
  Cert.InProj.Gen.facts,
  Cert.InProjIdeal.Gen.facts,
  Cert.InProjRefIdeal.Gen.facts,
  Cert.Merge.Gen.facts,
  Cert.MergeIdeal.Gen.facts,
  Cert.MergeRefIdeal.Gen.facts,
  Cert.OutProj.Gen.facts,
  Cert.OutProjIdeal.Gen.facts,
  Cert.OutProjRefIdeal.Gen.facts,
  Cert.FfnIn.Gen.facts,
  Cert.FfnInIdeal.Gen.facts,
  Cert.FfnInRefIdeal.Gen.facts,
  Cert.FfnOut.Gen.facts,
  Cert.FfnOutIdeal.Gen.facts,
  Cert.FfnOutRefIdeal.Gen.facts,
  Cert.Ple.Gen.facts,
  Cert.PleIdeal.Gen.facts,
  Cert.PleRefIdeal.Gen.facts,
  Cert.Pre_finite.Gen.facts,
  fun m g _ => Cert.Attn.Gen.frame m g,
  fun m g _ => Cert.AttnIdeal.Gen.frame m g,
  fun m g _ => Cert.AttnIdeal.Gen.frame m g,
  frame_AttnRef,
  fun m g _ => frame_AttnRef m g trivial,
  fun m g _ => Cert.InProj.Gen.frame m g,
  fun m g _ => Cert.InProjIdeal.Gen.frame m g,
  frame_InProjRef,
  fun m g _ => Cert.Merge.Gen.frame m g,
  fun m g _ => Cert.MergeIdeal.Gen.frame m g,
  frame_MergeRef,
  fun m g _ => Cert.OutProj.Gen.frame m g,
  fun m g _ => Cert.OutProjIdeal.Gen.frame m g,
  frame_OutProjRef,
  fun m g _ => Cert.FfnIn.Hand.frame m g,
  fun m g _ => Cert.FfnInIdeal.Hand.frame m g,
  frame_FfnInRef,
  fun m g _ => Cert.FfnOut.Gen.frame m g,
  fun m g _ => Cert.FfnOutIdeal.Gen.frame m g,
  frame_FfnOutRef,
  fun m g _ => Cert.Ple.Gen.frame m g,
  fun m g _ => Cert.PleIdeal.Gen.frame m g,
  frame_PleRef,
  preserves_Attn,
  algebraic_Attn,
  trivial,
  algebraic_InProj,
  trivial,
  algebraic_Merge,
  trivial,
  algebraic_OutProj,
  trivial,
  algebraic_FfnIn,
  trivial,
  algebraic_FfnOut,
  trivial,
  algebraic_Ple⟩

end Cert.Proof

end
